-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_args [hPre_finite_args : Cert.Pre_finite_args.Facts] (m : (ℓ : Loc Cert.KernelIdeal.nD Cert.KernelIdeal.τ Cert.KernelIdeal.sig) → Buf (Elt Ideal) ℓ) : Prop :=
  ∀ c : Dev Cert.KernelIdeal.nD,
    (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_args [hPre_finite_args : Cert.Pre_finite_args.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_gate_args [hPre_finite_gate_args : Cert.Pre_finite_gate_args.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_gate_args.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).1 = (fun _ => 1#1)
    ∧ (Cert.Pre_finite_gate_args.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.1 = (fun _ => 1#1)
    ∧ (Cert.Pre_finite_gate_args.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.2.1 = (fun _ => 1#1)
    ∧ (Cert.Pre_finite_gate_args.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.2.2.1 = (fun _ => 1#1)
    ∧ (Cert.Pre_finite_gate_args.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.2.2.2.1 = (fun _ => 1#1)
    ∧ (Cert.Pre_finite_gate_args.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_gate_args [hPre_finite_gate_args : Cert.Pre_finite_gate_args.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_gate_args.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).1 = (fun _ => 1#1)
    ∧ (Cert.Pre_finite_gate_args.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.1 = (fun _ => 1#1)
    ∧ (Cert.Pre_finite_gate_args.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.2.1 = (fun _ => 1#1)
    ∧ (Cert.Pre_finite_gate_args.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.2.2.1 = (fun _ => 1#1)
    ∧ (Cert.Pre_finite_gate_args.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.2.2.2.1 = (fun _ => 1#1)
    ∧ (Cert.Pre_finite_gate_args.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_out_args [hPre_finite_out_args : Cert.Pre_finite_out_args.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_out_args.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).1 = (fun _ => 1#1)
    ∧ (Cert.Pre_finite_out_args.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).2.1 = (fun _ => 1#1)
    ∧ (Cert.Pre_finite_out_args.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).2.2.1 = (fun _ => 1#1)
    ∧ (Cert.Pre_finite_out_args.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).2.2.2.1 = (fun _ => 1#1)
    ∧ (Cert.Pre_finite_out_args.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).2.2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_out_args [hPre_finite_out_args : Cert.Pre_finite_out_args.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_out_args.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).1 = (fun _ => 1#1)
    ∧ (Cert.Pre_finite_out_args.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).2.1 = (fun _ => 1#1)
    ∧ (Cert.Pre_finite_out_args.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).2.2.1 = (fun _ => 1#1)
    ∧ (Cert.Pre_finite_out_args.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).2.2.2.1 = (fun _ => 1#1)
    ∧ (Cert.Pre_finite_out_args.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).2.2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_args [hKernelIdeal : Cert.KernelIdeal.Facts] [hPre_finite_args : Cert.Pre_finite_args.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_args m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_args [hReferenceIdeal : Cert.ReferenceIdeal.Facts] [hPre_finite_args : Cert.Pre_finite_args.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_args m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Kernel2Ideal_pre_finite_gate_args [hKernel2Ideal : Cert.Kernel2Ideal.Facts] [hPre_finite_gate_args : Cert.Pre_finite_gate_args.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_gate_args m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Reference2Ideal_pre_finite_gate_args [hReference2Ideal : Cert.Reference2Ideal.Facts] [hPre_finite_gate_args : Cert.Pre_finite_gate_args.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_gate_args m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Kernel3Ideal_pre_finite_out_args [hKernel3Ideal : Cert.Kernel3Ideal.Facts] [hPre_finite_out_args : Cert.Pre_finite_out_args.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_out_args m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Reference3Ideal_pre_finite_out_args [hReference3Ideal : Cert.Reference3Ideal.Facts] [hPre_finite_out_args : Cert.Pre_finite_out_args.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_out_args m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def preserves_Kernel_KernelIdeal : Prop :=
  True

def algebraic_KernelIdeal_ReferenceIdeal_pre_finite_args [hKernelIdeal : Cert.KernelIdeal.Facts] [hReferenceIdeal : Cert.ReferenceIdeal.Facts] [hPre_finite_args : Cert.Pre_finite_args.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_args m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v41) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  IdealRules.named_const.Statement Cert.Kernel2Ideal.κ "c" .f32 0x3D372713#32 ((8943 / 200000 : ℝ) : EReal)
  ∧ IdealRules.named_const.Statement Cert.Kernel2Ideal.κ "c3" .f32 0x3E095D4F#32 ((26829 / 200000 : ℝ) : EReal)

def algebraic_Kernel2Ideal_Reference2Ideal_pre_finite_gate_args [hKernel2Ideal : Cert.Kernel2Ideal.Facts] [hReference2Ideal : Cert.Reference2Ideal.Facts] [hPre_finite_gate_args : Cert.Pre_finite_gate_args.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_gate_args m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v3_0)) (v1 : (c : Dev Cert.Kernel2Ideal.nD) → Buf (Elt Ideal) ((c.tc : Thread Cert.Kernel2Ideal.nD Cert.Kernel2Ideal.τ).loc Cert.Kernel2Ideal.main_v3_1)) (v2 : (c : Dev Cert.Kernel2Ideal.nD) → Buf (Elt Ideal) ((c.tc : Thread Cert.Kernel2Ideal.nD Cert.Kernel2Ideal.τ).loc Cert.Kernel2Ideal.main_v3_2)) (v3 : (c : Dev Cert.Kernel2Ideal.nD) → Buf (Elt Ideal) ((c.tc : Thread Cert.Kernel2Ideal.nD Cert.Kernel2Ideal.τ).loc Cert.Kernel2Ideal.main_v3_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3_0) = v0 c
          ∧ r.2.mem ((c.tc : Thread Cert.Kernel2Ideal.nD Cert.Kernel2Ideal.τ).loc Cert.Kernel2Ideal.main_v3_1) = v1 c
          ∧ r.2.mem ((c.tc : Thread Cert.Kernel2Ideal.nD Cert.Kernel2Ideal.τ).loc Cert.Kernel2Ideal.main_v3_2) = v2 c
          ∧ r.2.mem ((c.tc : Thread Cert.Kernel2Ideal.nD Cert.Kernel2Ideal.τ).loc Cert.Kernel2Ideal.main_v3_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v151) = v0 c
          ∧ r.2.mem ((c.tc : Thread Cert.Reference2Ideal.nD Cert.Reference2Ideal.τ).loc Cert.Reference2Ideal.main_v104) = v1 c
          ∧ r.2.mem ((c.tc : Thread Cert.Reference2Ideal.nD Cert.Reference2Ideal.τ).loc Cert.Reference2Ideal.main_v150) = v2 c
          ∧ r.2.mem ((c.tc : Thread Cert.Reference2Ideal.nD Cert.Reference2Ideal.τ).loc Cert.Reference2Ideal.main_v90) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal_pre_finite_out_args [hKernel3Ideal : Cert.Kernel3Ideal.Facts] [hReference3Ideal : Cert.Reference3Ideal.Facts] [hPre_finite_out_args : Cert.Pre_finite_out_args.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_out_args m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v3_0)) (v1 : (c : Dev Cert.Kernel3Ideal.nD) → Buf (Elt Ideal) ((c.tc : Thread Cert.Kernel3Ideal.nD Cert.Kernel3Ideal.τ).loc Cert.Kernel3Ideal.main_v3_1)) (v2 : (c : Dev Cert.Kernel3Ideal.nD) → Buf (Elt Ideal) ((c.tc : Thread Cert.Kernel3Ideal.nD Cert.Kernel3Ideal.τ).loc Cert.Kernel3Ideal.main_v3_2)) (v3 : (c : Dev Cert.Kernel3Ideal.nD) → Buf (Elt Ideal) ((c.tc : Thread Cert.Kernel3Ideal.nD Cert.Kernel3Ideal.τ).loc Cert.Kernel3Ideal.main_v3_3)) (v4 : (c : Dev Cert.Kernel3Ideal.nD) → Buf (Elt Ideal) ((c.tc : Thread Cert.Kernel3Ideal.nD Cert.Kernel3Ideal.τ).loc Cert.Kernel3Ideal.main_v3_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3_0) = v0 c
          ∧ r.2.mem ((c.tc : Thread Cert.Kernel3Ideal.nD Cert.Kernel3Ideal.τ).loc Cert.Kernel3Ideal.main_v3_1) = v1 c
          ∧ r.2.mem ((c.tc : Thread Cert.Kernel3Ideal.nD Cert.Kernel3Ideal.τ).loc Cert.Kernel3Ideal.main_v3_2) = v2 c
          ∧ r.2.mem ((c.tc : Thread Cert.Kernel3Ideal.nD Cert.Kernel3Ideal.τ).loc Cert.Kernel3Ideal.main_v3_3) = v3 c
          ∧ r.2.mem ((c.tc : Thread Cert.Kernel3Ideal.nD Cert.Kernel3Ideal.τ).loc Cert.Kernel3Ideal.main_v3_4) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v54) = v0 c
          ∧ r.2.mem ((c.tc : Thread Cert.Reference3Ideal.nD Cert.Reference3Ideal.τ).loc Cert.Reference3Ideal.main_v32) = v1 c
          ∧ r.2.mem ((c.tc : Thread Cert.Reference3Ideal.nD Cert.Reference3Ideal.τ).loc Cert.Reference3Ideal.main_v55) = v2 c
          ∧ r.2.mem ((c.tc : Thread Cert.Reference3Ideal.nD Cert.Reference3Ideal.τ).loc Cert.Reference3Ideal.main_v53) = v3 c
          ∧ r.2.mem ((c.tc : Thread Cert.Reference3Ideal.nD Cert.Reference3Ideal.τ).loc Cert.Reference3Ideal.main_v58) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v13_0)) (v1 : (c : Dev Cert.Kernel4Ideal.nD) → Buf (Elt Ideal) ((c.tc : Thread Cert.Kernel4Ideal.nD Cert.Kernel4Ideal.τ).loc Cert.Kernel4Ideal.main_v13_1)) (v2 : (c : Dev Cert.Kernel4Ideal.nD) → Buf (Elt Ideal) ((c.tc : Thread Cert.Kernel4Ideal.nD Cert.Kernel4Ideal.τ).loc Cert.Kernel4Ideal.main_v13_2)) (v3 : (c : Dev Cert.Kernel4Ideal.nD) → Buf (Elt Ideal) ((c.tc : Thread Cert.Kernel4Ideal.nD Cert.Kernel4Ideal.τ).loc Cert.Kernel4Ideal.main_v13_3)) (v4 : (c : Dev Cert.Kernel4Ideal.nD) → Buf (Elt Ideal) ((c.tc : Thread Cert.Kernel4Ideal.nD Cert.Kernel4Ideal.τ).loc Cert.Kernel4Ideal.main_v13_4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v13_0) = v0 c
          ∧ r.2.mem ((c.tc : Thread Cert.Kernel4Ideal.nD Cert.Kernel4Ideal.τ).loc Cert.Kernel4Ideal.main_v13_1) = v1 c
          ∧ r.2.mem ((c.tc : Thread Cert.Kernel4Ideal.nD Cert.Kernel4Ideal.τ).loc Cert.Kernel4Ideal.main_v13_2) = v2 c
          ∧ r.2.mem ((c.tc : Thread Cert.Kernel4Ideal.nD Cert.Kernel4Ideal.τ).loc Cert.Kernel4Ideal.main_v13_3) = v3 c
          ∧ r.2.mem ((c.tc : Thread Cert.Kernel4Ideal.nD Cert.Kernel4Ideal.τ).loc Cert.Kernel4Ideal.main_v13_4) = v4 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v140) = v0 c
          ∧ r.2.mem ((c.tc : Thread Cert.Reference4Ideal.nD Cert.Reference4Ideal.τ).loc Cert.Reference4Ideal.main_v132) = v1 c
          ∧ r.2.mem ((c.tc : Thread Cert.Reference4Ideal.nD Cert.Reference4Ideal.τ).loc Cert.Reference4Ideal.main_v143) = v2 c
          ∧ r.2.mem ((c.tc : Thread Cert.Reference4Ideal.nD Cert.Reference4Ideal.τ).loc Cert.Reference4Ideal.main_v144) = v3 c
          ∧ r.2.mem ((c.tc : Thread Cert.Reference4Ideal.nD Cert.Reference4Ideal.τ).loc Cert.Reference4Ideal.main_v145) = v4 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v13) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v11_0)) (v1 : (c : Dev Cert.Kernel6Ideal.nD) → Buf (Elt Ideal) ((c.tc : Thread Cert.Kernel6Ideal.nD Cert.Kernel6Ideal.τ).loc Cert.Kernel6Ideal.main_v11_1)) (v2 : (c : Dev Cert.Kernel6Ideal.nD) → Buf (Elt Ideal) ((c.tc : Thread Cert.Kernel6Ideal.nD Cert.Kernel6Ideal.τ).loc Cert.Kernel6Ideal.main_v11_2)) (v3 : (c : Dev Cert.Kernel6Ideal.nD) → Buf (Elt Ideal) ((c.tc : Thread Cert.Kernel6Ideal.nD Cert.Kernel6Ideal.τ).loc Cert.Kernel6Ideal.main_v11_3)) (v4 : (c : Dev Cert.Kernel6Ideal.nD) → Buf (Elt Ideal) ((c.tc : Thread Cert.Kernel6Ideal.nD Cert.Kernel6Ideal.τ).loc Cert.Kernel6Ideal.main_v11_4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v11_0) = v0 c
          ∧ r.2.mem ((c.tc : Thread Cert.Kernel6Ideal.nD Cert.Kernel6Ideal.τ).loc Cert.Kernel6Ideal.main_v11_1) = v1 c
          ∧ r.2.mem ((c.tc : Thread Cert.Kernel6Ideal.nD Cert.Kernel6Ideal.τ).loc Cert.Kernel6Ideal.main_v11_2) = v2 c
          ∧ r.2.mem ((c.tc : Thread Cert.Kernel6Ideal.nD Cert.Kernel6Ideal.τ).loc Cert.Kernel6Ideal.main_v11_3) = v3 c
          ∧ r.2.mem ((c.tc : Thread Cert.Kernel6Ideal.nD Cert.Kernel6Ideal.τ).loc Cert.Kernel6Ideal.main_v11_4) = v4 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v8) = v0 c
          ∧ r.2.mem ((c.tc : Thread Cert.Reference6Ideal.nD Cert.Reference6Ideal.τ).loc Cert.Reference6Ideal.main_v12) = v1 c
          ∧ r.2.mem ((c.tc : Thread Cert.Reference6Ideal.nD Cert.Reference6Ideal.τ).loc Cert.Reference6Ideal.main_v58) = v2 c
          ∧ r.2.mem ((c.tc : Thread Cert.Reference6Ideal.nD Cert.Reference6Ideal.τ).loc Cert.Reference6Ideal.main_v59) = v3 c
          ∧ r.2.mem ((c.tc : Thread Cert.Reference6Ideal.nD Cert.Reference6Ideal.τ).loc Cert.Reference6Ideal.main_v57) = v4 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  IdealRules.named_const.Statement Cert.Kernel7Ideal.κ "c" .f32 0x3D372713#32 ((8943 / 200000 : ℝ) : EReal)

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)) →
    ∃ (v0 : (c : Dev Cert.Kernel7Ideal.nD) → Buf (Elt Ideal) ((c.tc : Thread Cert.Kernel7Ideal.nD Cert.Kernel7Ideal.τ).loc Cert.Kernel7Ideal.main_v3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v64) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v2_0)) (v1 : (c : Dev Cert.Kernel8Ideal.nD) → Buf (Elt Ideal) ((c.tc : Thread Cert.Kernel8Ideal.nD Cert.Kernel8Ideal.τ).loc Cert.Kernel8Ideal.main_v2_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2_0) = v0 c
          ∧ r.2.mem ((c.tc : Thread Cert.Kernel8Ideal.nD Cert.Kernel8Ideal.τ).loc Cert.Kernel8Ideal.main_v2_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_v4) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v23) = v0 c
          ∧ r.2.mem ((c.tc : Thread Cert.Reference9Ideal.nD Cert.Reference9Ideal.τ).loc Cert.Reference9Ideal.main_v4) = v1 c
          ∧ r.2.mem ((c.tc : Thread Cert.Reference9Ideal.nD Cert.Reference9Ideal.τ).loc Cert.Reference9Ideal.main_v10) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_finite_args : Cert.Pre_finite_args.Facts) (hPre_finite_gate_args : Cert.Pre_finite_gate_args.Facts) (hPre_finite_out_args : Cert.Pre_finite_out_args.Facts),
    quiescent_Kernel (hKernel := hKernel)
    ∧ quiescent_KernelIdeal (hKernelIdeal := hKernelIdeal)
    ∧ quiescent_KernelIdeal_pre_finite_args (hKernelIdeal := hKernelIdeal) (hPre_finite_args := hPre_finite_args)
    ∧ quiescent_ReferenceIdeal (hReferenceIdeal := hReferenceIdeal)
    ∧ quiescent_ReferenceIdeal_pre_finite_args (hReferenceIdeal := hReferenceIdeal) (hPre_finite_args := hPre_finite_args)
    ∧ quiescent_Kernel2 (hKernel2 := hKernel2)
    ∧ quiescent_Kernel2Ideal (hKernel2Ideal := hKernel2Ideal)
    ∧ quiescent_Kernel2Ideal_pre_finite_gate_args (hKernel2Ideal := hKernel2Ideal) (hPre_finite_gate_args := hPre_finite_gate_args)
    ∧ quiescent_Reference2Ideal (hReference2Ideal := hReference2Ideal)
    ∧ quiescent_Reference2Ideal_pre_finite_gate_args (hReference2Ideal := hReference2Ideal) (hPre_finite_gate_args := hPre_finite_gate_args)
    ∧ quiescent_Kernel3 (hKernel3 := hKernel3)
    ∧ quiescent_Kernel3Ideal (hKernel3Ideal := hKernel3Ideal)
    ∧ quiescent_Kernel3Ideal_pre_finite_out_args (hKernel3Ideal := hKernel3Ideal) (hPre_finite_out_args := hPre_finite_out_args)
    ∧ quiescent_Reference3Ideal (hReference3Ideal := hReference3Ideal)
    ∧ quiescent_Reference3Ideal_pre_finite_out_args (hReference3Ideal := hReference3Ideal) (hPre_finite_out_args := hPre_finite_out_args)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal_pre_finite_args (hKernelIdeal := hKernelIdeal) (hReferenceIdeal := hReferenceIdeal) (hPre_finite_args := hPre_finite_args)
    ∧ preserves_Kernel2_Kernel2Ideal
    ∧ algebraic_Kernel2Ideal_Reference2Ideal_pre_finite_gate_args (hKernel2Ideal := hKernel2Ideal) (hReference2Ideal := hReference2Ideal) (hPre_finite_gate_args := hPre_finite_gate_args)
    ∧ preserves_Kernel3_Kernel3Ideal
    ∧ algebraic_Kernel3Ideal_Reference3Ideal_pre_finite_out_args (hKernel3Ideal := hKernel3Ideal) (hReference3Ideal := hReference3Ideal) (hPre_finite_out_args := hPre_finite_out_args)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== Pre_finite_args.lean ====
abbrev S4096x2048 : Shape := ⟨2, ![4096, 2048]⟩
abbrev S2048 : Shape := ⟨1, ![2048]⟩
abbrev S2048x6144 : Shape := ⟨2, ![2048, 6144]⟩
abbrev S4096x6144 : Shape := ⟨2, ![4096, 6144]⟩
abbrev S_ : Shape := ⟨0, ![]⟩

class Facts : Prop where
  bcast_S_S4096x2048 : S_.BroadcastsInDim S4096x2048 (![] : Fin 0 → Fin S4096x2048.rank)
  bcast_S_S2048 : S_.BroadcastsInDim S2048 (![] : Fin 0 → Fin S2048.rank)
  bcast_S_S2048x6144 : S_.BroadcastsInDim S2048x6144 (![] : Fin 0 → Fin S2048x6144.rank)
  bcast_S_S4096x6144 : S_.BroadcastsInDim S4096x6144 (![] : Fin 0 → Fin S4096x6144.rank)

variable [Facts]

def fn {F : FTy → Type} [FloatOps F] (main_arg0 : FVec F S4096x2048 .f32) (main_arg1 : FVec F S2048 .f32) (main_arg2 : FVec F S2048x6144 .f32) (main_arg3 : FVec F S4096x6144 .f32) (main_arg4 : FVec F S4096x2048 .f32) : IVec S4096x2048 1 × IVec S2048 1 × IVec S2048x6144 1 × IVec S4096x6144 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_v3 : FVec F S2048 .f32 := Host.absf main_arg1
  let main_cst_0 : FVec F S_ .f32 := constant S_ .f32 0x7F800000#32
  let main_v4 : FVec F S2048 .f32 := broadcastInDim S2048 ![] bcast_S_S2048 main_cst_0
  let main_v5 : IVec S2048 1 := cmpf .olt main_v3 main_v4
  let main_v6 : FVec F S2048x6144 .f32 := Host.absf main_arg2
  let main_cst_1 : FVec F S_ .f32 := constant S_ .f32 0x7F800000#32
  let main_v7 : FVec F S2048x6144 .f32 := broadcastInDim S2048x6144 ![] bcast_S_S2048x6144 main_cst_1
  let main_v8 : IVec S2048x6144 1 := cmpf .olt main_v6 main_v7
  let main_v9 : FVec F S4096x6144 .f32 := Host.absf main_arg3
  let main_cst_2 : FVec F S_ .f32 := constant S_ .f32 0x7F800000#32
  let main_v10 : FVec F S4096x6144 .f32 := broadcastInDim S4096x6144 ![] bcast_S_S4096x6144 main_cst_2
  let main_v11 : IVec S4096x6144 1 := cmpf .olt main_v9 main_v10
  (main_v2, main_v5, main_v8, main_v11)
-- ==== Pre_finite_gate_args.lean ====
abbrev S4096x6144 : Shape := ⟨2, ![4096, 6144]⟩
abbrev S4096x1024 : Shape := ⟨2, ![4096, 1024]⟩
abbrev S4096x2048 : Shape := ⟨2, ![4096, 2048]⟩
abbrev S3x1024 : Shape := ⟨2, ![3, 1024]⟩
abbrev S1024 : Shape := ⟨1, ![1024]⟩
abbrev S1024x1024 : Shape := ⟨2, ![1024, 1024]⟩
abbrev S_ : Shape := ⟨0, ![]⟩

class Facts : Prop where
  bcast_S_S4096x6144 : S_.BroadcastsInDim S4096x6144 (![] : Fin 0 → Fin S4096x6144.rank)
  bcast_S_S4096x1024 : S_.BroadcastsInDim S4096x1024 (![] : Fin 0 → Fin S4096x1024.rank)
  bcast_S_S4096x2048 : S_.BroadcastsInDim S4096x2048 (![] : Fin 0 → Fin S4096x2048.rank)
  bcast_S_S3x1024 : S_.BroadcastsInDim S3x1024 (![] : Fin 0 → Fin S3x1024.rank)
  bcast_S_S1024 : S_.BroadcastsInDim S1024 (![] : Fin 0 → Fin S1024.rank)
  bcast_S_S1024x1024 : S_.BroadcastsInDim S1024x1024 (![] : Fin 0 → Fin S1024x1024.rank)

variable [Facts]

def fn {F : FTy → Type} [FloatOps F] (main_arg0 : FVec F S4096x6144 .f32) (main_arg1 : FVec F S4096x1024 .f32) (main_arg2 : FVec F S4096x2048 .f32) (main_arg3 : FVec F S3x1024 .f32) (main_arg4 : FVec F S1024 .f32) (main_arg5 : FVec F S1024x1024 .f32) (main_arg6 : FVec F S1024 .f32) : IVec S4096x6144 1 × IVec S4096x1024 1 × IVec S4096x2048 1 × IVec S3x1024 1 × IVec S1024 1 × IVec S1024x1024 1 :=
  let main_v0 : FVec F S4096x6144 .f32 := Host.absf main_arg0
  let main_cst : FVec F S_ .f32 := constant S_ .f32 0x7F800000#32
  let main_v1 : FVec F S4096x6144 .f32 := broadcastInDim S4096x6144 ![] bcast_S_S4096x6144 main_cst
  let main_v2 : IVec S4096x6144 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S4096x2048 .f32 := Host.absf main_arg2
  let main_cst_1 : FVec F S_ .f32 := constant S_ .f32 0x7F800000#32
  let main_v7 : FVec F S4096x2048 .f32 := broadcastInDim S4096x2048 ![] bcast_S_S4096x2048 main_cst_1
  let main_v8 : IVec S4096x2048 1 := cmpf .olt main_v6 main_v7
  let main_v9 : FVec F S3x1024 .f32 := Host.absf main_arg3
  let main_cst_2 : FVec F S_ .f32 := constant S_ .f32 0x7F800000#32
  let main_v10 : FVec F S3x1024 .f32 := broadcastInDim S3x1024 ![] bcast_S_S3x1024 main_cst_2
  let main_v11 : IVec S3x1024 1 := cmpf .olt main_v9 main_v10
  let main_v12 : FVec F S1024 .f32 := Host.absf main_arg4
  let main_cst_3 : FVec F S_ .f32 := constant S_ .f32 0x7F800000#32
  let main_v13 : FVec F S1024 .f32 := broadcastInDim S1024 ![] bcast_S_S1024 main_cst_3
  let main_v14 : IVec S1024 1 := cmpf .olt main_v12 main_v13
  let main_v15 : FVec F S1024x1024 .f32 := Host.absf main_arg5
  let main_cst_4 : FVec F S_ .f32 := constant S_ .f32 0x7F800000#32
  let main_v16 : FVec F S1024x1024 .f32 := broadcastInDim S1024x1024 ![] bcast_S_S1024x1024 main_cst_4
  let main_v17 : IVec S1024x1024 1 := cmpf .olt main_v15 main_v16
  (main_v2, main_v5, main_v8, main_v11, main_v14, main_v17)
-- ==== Pre_finite_out_args.lean ====
abbrev S4096x2048 : Shape := ⟨2, ![4096, 2048]⟩
abbrev S2048x2048 : Shape := ⟨2, ![2048, 2048]⟩
abbrev S2048 : Shape := ⟨1, ![2048]⟩
abbrev S_ : Shape := ⟨0, ![]⟩

class Facts : Prop where
  bcast_S_S4096x2048 : S_.BroadcastsInDim S4096x2048 (![] : Fin 0 → Fin S4096x2048.rank)
  bcast_S_S2048x2048 : S_.BroadcastsInDim S2048x2048 (![] : Fin 0 → Fin S2048x2048.rank)
  bcast_S_S2048 : S_.BroadcastsInDim S2048 (![] : Fin 0 → Fin S2048.rank)

variable [Facts]

def fn {F : FTy → Type} [FloatOps F] (main_arg0 : FVec F S4096x2048 .f32) (main_arg1 : FVec F S2048x2048 .f32) (main_arg2 : FVec F S4096x2048 .f32) (main_arg3 : FVec F S4096x2048 .f32) (main_arg4 : FVec F S2048 .f32) : IVec S4096x2048 1 × IVec S2048x2048 1 × IVec S4096x2048 1 × IVec S4096x2048 1 × IVec S2048 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_v3 : FVec F S2048x2048 .f32 := Host.absf main_arg1
  let main_cst_0 : FVec F S_ .f32 := constant S_ .f32 0x7F800000#32
  let main_v4 : FVec F S2048x2048 .f32 := broadcastInDim S2048x2048 ![] bcast_S_S2048x2048 main_cst_0
  let main_v5 : IVec S2048x2048 1 := cmpf .olt main_v3 main_v4
  let main_v6 : FVec F S4096x2048 .f32 := Host.absf main_arg2
  let main_cst_1 : FVec F S_ .f32 := constant S_ .f32 0x7F800000#32
  let main_v7 : FVec F S4096x2048 .f32 := broadcastInDim S4096x2048 ![] bcast_S_S4096x2048 main_cst_1
  let main_v8 : IVec S4096x2048 1 := cmpf .olt main_v6 main_v7
  let main_v9 : FVec F S4096x2048 .f32 := Host.absf main_arg3
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_v12 : FVec F S2048 .f32 := Host.absf main_arg4
  let main_cst_3 : FVec F S_ .f32 := constant S_ .f32 0x7F800000#32
  let main_v13 : FVec F S2048 .f32 := broadcastInDim S2048 ![] bcast_S_S2048 main_cst_3
  let main_v14 : IVec S2048 1 := cmpf .olt main_v12 main_v13
  (main_v2, main_v5, main_v8, main_v11, main_v14)
-- ==== Kernel.lean ====
abbrev S4096x2048 : Shape := ⟨2, ![4096, 2048]⟩
abbrev S2048 : Shape := ⟨1, ![2048]⟩
abbrev S2048x6144 : Shape := ⟨2, ![2048, 6144]⟩
abbrev S4096x6144 : Shape := ⟨2, ![4096, 6144]⟩
abbrev S2048x4x1536 : Shape := ⟨3, ![2048, 4, 1536]⟩
abbrev S4x2048x1536 : Shape := ⟨3, ![4, 2048, 1536]⟩
abbrev S1x2048 : Shape := ⟨2, ![1, 2048]⟩
abbrev S8x2048 : Shape := ⟨2, ![8, 2048]⟩
abbrev S256x6144 : Shape := ⟨2, ![256, 6144]⟩
abbrev S256x2048 : Shape := ⟨2, ![256, 2048]⟩
abbrev S256x1536 : Shape := ⟨2, ![256, 1536]⟩
abbrev S1x2048x1536 : Shape := ⟨3, ![1, 2048, 1536]⟩
abbrev S2048x1536 : Shape := ⟨2, ![2048, 1536]⟩
abbrev S256 : Shape := ⟨1, ![256]⟩
abbrev S256x1 : Shape := ⟨2, ![256, 1]⟩

abbrev nBuf : Space → Nat
  | .hbm => 12
  | .vmem => 11
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S2048x6144, .f32⟩
  | .hbm, ⟨3, _⟩ => ⟨S4096x6144, .f32⟩
  | .hbm, ⟨4, _⟩ => ⟨S4096x2048, .f32⟩
  | .hbm, ⟨5, _⟩ => ⟨S2048x4x1536, .f32⟩
  | .hbm, ⟨6, _⟩ => ⟨S4x2048x1536, .f32⟩
  | .hbm, ⟨7, _⟩ => ⟨S4x2048x1536, .bf16⟩
  | .hbm, ⟨8, _⟩ => ⟨S4096x6144, .bf16⟩
  | .hbm, ⟨9, _⟩ => ⟨S1x2048, .f32⟩
  | .hbm, ⟨10, _⟩ => ⟨S4096x2048, .f32⟩
  | .hbm, ⟨11, _⟩ => ⟨S8x2048, .f32⟩
  | .local _ .vmem, ⟨0, _⟩ => ⟨S256x6144, .bf16⟩
  | .local _ .vmem, ⟨1, _⟩ => ⟨S256x6144, .bf16⟩
  | .local _ .vmem, ⟨2, _⟩ => ⟨S4x2048x1536, .bf16⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S1x2048, .f32⟩
  | .local _ .vmem, ⟨8, _⟩ => ⟨S256x2048, .f32⟩
  | .local _ .vmem, ⟨9, _⟩ => ⟨S256x2048, .f32⟩
  | .local _ .vmem, ⟨10, _⟩ => ⟨S8x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x2048x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S4096x2048 : Shape := ⟨2, ![4096, 2048]⟩
abbrev S2048 : Shape := ⟨1, ![2048]⟩
abbrev S2048x6144 : Shape := ⟨2, ![2048, 6144]⟩
abbrev S4096x6144 : Shape := ⟨2, ![4096, 6144]⟩
abbrev S_ : Shape := ⟨0, ![]⟩
abbrev S4096 : Shape := ⟨1, ![4096]⟩
abbrev S4096x1 : Shape := ⟨2, ![4096, 1]⟩
abbrev S1x2048 : Shape := ⟨2, ![1, 2048]⟩
abbrev S7x2048 : Shape := ⟨2, ![7, 2048]⟩
abbrev S8x2048 : Shape := ⟨2, ![8, 2048]⟩

abbrev nBuf : Space → Nat
  | .hbm => 57
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S2048x6144, .f32⟩
  | .hbm, ⟨3, _⟩ => ⟨S4096x6144, .f32⟩
  | .hbm, ⟨4, _⟩ => ⟨S4096x2048, .f32⟩
  | .hbm, ⟨5, _⟩ => ⟨S4096x2048, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x2048, .f32⟩
  | .hbm, ⟨21, _⟩ => ⟨S4096x2048, .f32⟩
  | .hbm, ⟨22, _⟩ => ⟨S1x2048, .f32⟩
  | .hbm, ⟨23, _⟩ => ⟨S4096x2048, .f32⟩
  | .hbm, ⟨24, _⟩ => ⟨S4096x2048, .f32⟩
  | .hbm, ⟨25, _⟩ => ⟨S4096x6144, .f32⟩
  | .hbm, ⟨26, _⟩ => ⟨S4096x2048, .f32⟩
  | .hbm, ⟨27, _⟩ => ⟨S4096x2048, .f32⟩
  | .hbm, ⟨28, _⟩ => ⟨S_, .f32⟩
  | .hbm, ⟨29, _⟩ => ⟨S2048, .f32⟩
  | .hbm, ⟨30, _⟩ => ⟨S1x2048, .f32⟩
  | .hbm, ⟨31, _⟩ => ⟨S4096x2048, .f32⟩
  | .hbm, ⟨32, _⟩ => ⟨S4096x2048, .f32⟩
  | .hbm, ⟨33, _⟩ => ⟨S_, .f32⟩
  | .hbm, ⟨34, _⟩ => ⟨S2048, .f32⟩
  | .hbm, ⟨35, _⟩ => ⟨S4096x2048, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x2048, .f32⟩
  | .hbm, ⟨40, _⟩ => ⟨S4096x2048, .f32⟩
  | .hbm, ⟨41, _⟩ => ⟨S4096x2048, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S4096x2048, .f32⟩
  | .hbm, ⟨52, _⟩ => ⟨S4096x2048, .f32⟩
  | .hbm, ⟨53, _⟩ => ⟨S1x2048, .f32⟩
  | .hbm, ⟨54, _⟩ => ⟨S_, .f32⟩
  | .hbm, ⟨55, _⟩ => ⟨S7x2048, .f32⟩
  | .hbm, ⟨56, _⟩ => ⟨S8x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_8 : Ref sig .tc := ⟨.hbm, 54, rfl⟩
abbrev main_v40 : Ref sig .tc := ⟨.hbm, 55, rfl⟩
abbrev main_v41 : Ref sig .tc := ⟨.hbm, 56, rfl⟩

abbrev nD : Nat := 1
abbrev τ : Topo := Topo.v7x

variable {F : FTy → Type} [FloatOps F]
-- ==== Kernel2.lean ====
abbrev S4096x6144 : Shape := ⟨2, ![4096, 6144]⟩
abbrev S4096x1024 : Shape := ⟨2, ![4096, 1024]⟩
abbrev S4096x2048 : Shape := ⟨2, ![4096, 2048]⟩
abbrev S3x1024 : Shape := ⟨2, ![3, 1024]⟩
abbrev S1024 : Shape := ⟨1, ![1024]⟩
abbrev S1024x1024 : Shape := ⟨2, ![1024, 1024]⟩
abbrev S1x1024 : Shape := ⟨2, ![1, 1024]⟩
abbrev S16x1024 : Shape := ⟨2, ![16, 1024]⟩
abbrev S256x1024 : Shape := ⟨2, ![256, 1024]⟩
abbrev S8x1024 : Shape := ⟨2, ![8, 1024]⟩
abbrev S256x2048 : Shape := ⟨2, ![256, 2048]⟩
abbrev S256x6144 : Shape := ⟨2, ![256, 6144]⟩
abbrev S264x1024 : Shape := ⟨2, ![264, 1024]⟩

abbrev nBuf : Space → Nat
  | .hbm => 14
  | .vmem => 30
  | .smem => 0
  | _ => 0

abbrev bufTy : (tb : Table) → Fin (tcTables nBuf tb) → BufTy
  | .hbm, ⟨0, _⟩ => ⟨S4096x6144, .f32⟩
  | .hbm, ⟨1, _⟩ => ⟨S4096x1024, .f32⟩
  | .hbm, ⟨2, _⟩ => ⟨S4096x2048, .f32⟩
  | .hbm, ⟨3, _⟩ => ⟨S3x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1x1024, .f32⟩
  | .hbm, ⟨8, _⟩ => ⟨S1024x1024, .bf16⟩
  | .hbm, ⟨9, _⟩ => ⟨S1x1024, .f32⟩
  | .hbm, ⟨10, _⟩ => ⟨S4096x6144, .bf16⟩
  | .hbm, ⟨11, _⟩ => ⟨S4096x1024, .f32⟩
  | .hbm, ⟨12, _⟩ => ⟨S16x1024, .f32⟩
  | .hbm, ⟨13, _⟩ => ⟨S1024x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S8x1024, .f32⟩
  | .local _ .vmem, ⟨11, _⟩ => ⟨S8x1024, .f32⟩
  | .local _ .vmem, ⟨12, _⟩ => ⟨S8x1024, .f32⟩
  | .local _ .vmem, ⟨13, _⟩ => ⟨S8x1024, .f32⟩
  | .local _ .vmem, ⟨14, _⟩ => ⟨S256x1024, .f32⟩
  | .local _ .vmem, ⟨15, _⟩ => ⟨S256x1024, .f32⟩
  | .local _ .vmem, ⟨16, _⟩ => ⟨S256x2048, .f32⟩
  | .local _ .vmem, ⟨17, _⟩ => ⟨S256x2048, .f32⟩
  | .local _ .vmem, ⟨18, _⟩ => ⟨S3x1024, .f32⟩
  | .local _ .vmem, ⟨19, _⟩ => ⟨S1x1024, .f32⟩
  | .local _ .vmem, ⟨20, _⟩ => ⟨S1024x1024, .bf16⟩
  | .local _ .vmem, ⟨21, _⟩ => ⟨S1x1024, .f32⟩
  | .local _ .vmem, ⟨22, _⟩ => ⟨S256x6144, .bf16⟩
  | .local _ .vmem, ⟨23, _⟩ => ⟨S256x6144, .bf16⟩
  | .local _ .vmem, ⟨24, _⟩ => ⟨S256x1024, .f32⟩
  | .local _ .vmem, ⟨25, _⟩ => ⟨S256x1024, .f32⟩
  | .local _ .vmem, ⟨26, _⟩ => ⟨S16x1024, .f32⟩
  | .local _ .vmem, ⟨27, _⟩ => ⟨S1024x1024, .f32⟩
  | .local _ .vmem, ⟨28, _⟩ => ⟨S264x1024, .f32⟩
  | .local _ .vmem, ⟨29, _⟩ => ⟨S264x1024, .f32⟩
  | _, _ => ⟨S4096x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg16_0 : Ref sig .tc := ⟨.vmem, 27, rfl⟩
abbrev cc0_scratch0 : Ref sig .tc := ⟨.vmem, 28, rfl⟩
abbrev cc0_scratch1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem16_0 : DmaSem sig := 27

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c1_i32 : BitVec 32 := 1#32
  let c0_i32 : BitVec 32 := 0#32
  ![v0.toNat, c1_i32.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c2_i32 : BitVec 32 := 2#32
  let c0_i32 : BitVec 32 := 0#32
  ![v0.toNat, c2_i32.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c3_i32 : BitVec 32 := 3#32
  let c0_i32 : BitVec 32 := 0#32
  ![v0.toNat, c3_i32.toNat]

def cc0_transform_4 (i : grid0.Coords) : Fin 2 → Nat :=
  let arg0 : BitVec 32 := BitVec.ofNat 32 (i 0).val
  let c15_i32 : BitVec 32 := 15#32
  let v0 : BitVec 32 := Scalar.subi c15_i32 arg0
  let c5_i32 : BitVec 32 := 5#32
  let c0_i32 : BitVec 32 := 0#32
  ![v0.toNat, c5_i32.toNat]

def cc0_transform_5 (i : grid0.Coords) : Fin 2 → Nat :=
  let arg0 : BitVec 32 := BitVec.ofNat 32 (i 0).val
  let c15_i32 : BitVec 32 := 15#32
  let v0 : BitVec 32 := Scalar.subi c15_i32 arg0
  let c32_i32 : BitVec 32 := 32#32
  let v1 : BitVec 32 := Scalar.muli v0 c32_i32
  let c1_i32 : BitVec 32 := 1#32
  let v2 : BitVec 32 := Scalar.subi v1 c1_i32
  let c0_i32 : BitVec 32 := 0#32
  let v3 : BitVec 32 := Scalar.maxsi v2 c0_i32
  let c1_i32_0 : BitVec 32 := 1#32
  let c0_i32_1 : BitVec 32 := 0#32
  ![v3.toNat, c1_i32_0.toNat]

def cc0_transform_6 (i : grid0.Coords) : Fin 2 → Nat :=
  let arg0 : BitVec 32 := BitVec.ofNat 32 (i 0).val
  let c15_i32 : BitVec 32 := 15#32
  let v0 : BitVec 32 := Scalar.subi c15_i32 arg0
  let c32_i32 : BitVec 32 := 32#32
  let v1 : BitVec 32 := Scalar.muli v0 c32_i32
  let c1_i32 : BitVec 32 := 1#32
  let v2 : BitVec 32 := Scalar.subi v1 c1_i32
  let c0_i32 : BitVec 32 := 0#32
  let v3 : BitVec 32 := Scalar.maxsi v2 c0_i32
  let c2_i32 : BitVec 32 := 2#32
  let c0_i32_0 : BitVec 32 := 0#32
  ![v3.toNat, c2_i32.toNat]

def cc0_transform_7 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_14 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S3x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x6144 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S16x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1024x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== Kernel2Ideal.lean ====
variable {F : FTy → Type} [FloatOps F] [Named F]
def κ : String → Option EReal := fun
  | "c" => some ((8943 / 200000 : ℝ) : EReal)
  | "c3" => some ((26829 / 200000 : ℝ) : EReal)
  | _ => none
-- ==== Reference2Ideal.lean ====
abbrev S4096x6144 : Shape := ⟨2, ![4096, 6144]⟩
abbrev S4096x1024 : Shape := ⟨2, ![4096, 1024]⟩
abbrev S4096x2048 : Shape := ⟨2, ![4096, 2048]⟩
abbrev S3x1024 : Shape := ⟨2, ![3, 1024]⟩
abbrev S1024 : Shape := ⟨1, ![1024]⟩
abbrev S1024x1024 : Shape := ⟨2, ![1024, 1024]⟩
abbrev S1x1024 : Shape := ⟨2, ![1, 1024]⟩
abbrev S_ : Shape := ⟨0, ![]⟩
abbrev S4095x1024 : Shape := ⟨2, ![4095, 1024]⟩
abbrev S11x1024 : Shape := ⟨2, ![11, 1024]⟩
abbrev S16x1024 : Shape := ⟨2, ![16, 1024]⟩

abbrev nBuf : Space → Nat
  | .hbm => 220
  | .vmem => 0
  | .smem => 0
  | _ => 0

abbrev hbmTy0_0 (i : Nat) : BufTy := match i % 128 with
  | 0 => ⟨S4096x6144, .f32⟩
  | 1 => ⟨S4096x1024, .f32⟩
  | 2 => ⟨S4096x2048, .f32⟩
  | 3 => ⟨S3x1024, .f32⟩
  | 4 => ⟨S1024, .f32⟩
  | 5 => ⟨S1024x1024, .f32⟩
  | 6 => ⟨S1024, .f32⟩
  | 7 => ⟨S4096x1024, .f32⟩
  | 8 => ⟨S4096x1024, .f32⟩
  | 9 => ⟨S4096x1024, .f32⟩
  | 10 => ⟨S4096x1024, .f32⟩
  | 11 => ⟨S4096x1024, .f32⟩
  | 12 => ⟨S4096x1024, .f32⟩
  | 13 => ⟨S4096x1024, .f32⟩
  | 14 => ⟨S1x1024, .f32⟩
  | 15 => ⟨S1x1024, .f32⟩
  | 16 => ⟨S1x1024, .f32⟩
  | 17 => ⟨S_, .f32⟩
  | 18 => ⟨S1x1024, .f32⟩
  | 19 => ⟨S4095x1024, .f32⟩
  | 20 => ⟨S1x1024, .f32⟩
  | 21 => ⟨S4096x1024, .f32⟩
  | 22 => ⟨S_, .f32⟩
  | 23 => ⟨S1x1024, .f32⟩
  | 24 => ⟨S_, .f32⟩
  | 25 => ⟨S1x1024, .f32⟩
  | 26 => ⟨S4095x1024, .f32⟩
  | 27 => ⟨S1x1024, .f32⟩
  | 28 => ⟨S4096x1024, .f32⟩
  | 29 => ⟨S_, .f32⟩
  | 30 => ⟨S1x1024, .f32⟩
  | 31 => ⟨S4096x1024, .f32⟩
  | 32 => ⟨S4096x1024, .f32⟩
  | 33 => ⟨S1x1024, .f32⟩
  | 34 => ⟨S4096x1024, .f32⟩
  | 35 => ⟨S4096x1024, .f32⟩
  | 36 => ⟨S_, .f32⟩
  | 37 => ⟨S1x1024, .f32⟩
  | 38 => ⟨S4095x1024, .f32⟩
  | 39 => ⟨S1x1024, .f32⟩
  | 40 => ⟨S4096x1024, .f32⟩
  | 41 => ⟨S_, .f32⟩
  | 42 => ⟨S1x1024, .f32⟩
  | 43 => ⟨S4096x1024, .f32⟩
  | 44 => ⟨S4096x1024, .f32⟩
  | 45 => ⟨S4096x1024, .f32⟩
  | 46 => ⟨S4096x1024, .f32⟩
  | 47 => ⟨S4096x1024, .f32⟩
  | 48 => ⟨S4096x1024, .f32⟩
  | 49 => ⟨S4096x1024, .f32⟩
  | 50 => ⟨S4096x1024, .f32⟩
  | 51 => ⟨S4096x1024, .f32⟩
  | 52 => ⟨S_, .f32⟩
  | 53 => ⟨S4096x1024, .f32⟩
  | 54 => ⟨S4096x1024, .f32⟩
  | 55 => ⟨S_, .f32⟩
  | 56 => ⟨S4096x1024, .f32⟩
  | 57 => ⟨S4096x1024, .f32⟩
  | 58 => ⟨S_, .f32⟩
  | 59 => ⟨S4096x1024, .f32⟩
  | 60 => ⟨S4096x1024, .f32⟩
  | 61 => ⟨S4096x1024, .f32⟩
  | 62 => ⟨S4096x1024, .f32⟩
  | 63 => ⟨S4096x1024, .f32⟩
  | 64 => ⟨S_, .f32⟩
  | 65 => ⟨S_, .f32⟩
  | 66 => ⟨S_, .f32⟩
  | 67 => ⟨S4096x1024, .f32⟩
  | 68 => ⟨S4096x1024, .f32⟩
  | 69 => ⟨S4096x1024, .f32⟩
  | 70 => ⟨S_, .f32⟩
  | 71 => ⟨S4096x1024, .f32⟩
  | 72 => ⟨S4096x1024, .f32⟩
  | 73 => ⟨S4096x1024, .f32⟩
  | 74 => ⟨S4096x1024, .f32⟩
  | 75 => ⟨S4096x1024, .f32⟩
  | 76 => ⟨S_, .f32⟩
  | 77 => ⟨S4096x1024, .f32⟩
  | 78 => ⟨S4096x1024, .f32⟩
  | 79 => ⟨S4096x1024, .f32⟩
  | 80 => ⟨S_, .f32⟩
  | 81 => ⟨S4096x1024, .f32⟩
  | 82 => ⟨S4096x1024, .f32⟩
  | 83 => ⟨S_, .f32⟩
  | 84 => ⟨S4096x1024, .f32⟩
  | 85 => ⟨S4096x1024, .f32⟩
  | 86 => ⟨S4096x1024, .f32⟩
  | 87 => ⟨S_, .f32⟩
  | 88 => ⟨S4096x1024, .f32⟩
  | 89 => ⟨S4096x1024, .f32⟩
  | 90 => ⟨S_, .f32⟩
  | 91 => ⟨S4096x1024, .f32⟩
  | 92 => ⟨S4096x1024, .f32⟩
  | 93 => ⟨S4096x1024, .f32⟩
  | 94 => ⟨S4096x1024, .f32⟩
  | 95 => ⟨S1x1024, .f32⟩
  | 96 => ⟨S4096x1024, .f32⟩
  | 97 => ⟨S4096x1024, .f32⟩
  | 98 => ⟨S4096x1024, .f32⟩
  | 99 => ⟨S4096x1024, .f32⟩
  | 100 => ⟨S_, .f32⟩
  | 101 => ⟨S4096x1024, .f32⟩
  | 102 => ⟨S4096x1024, .f32⟩
  | 103 => ⟨S_, .f32⟩
  | 104 => ⟨S4096x1024, .f32⟩
  | 105 => ⟨S4096x1024, .f32⟩
  | 106 => ⟨S_, .f32⟩
  | 107 => ⟨S4096x1024, .f32⟩
  | 108 => ⟨S4096x1024, .f32⟩
  | 109 => ⟨S4096x1024, .f32⟩
  | 110 => ⟨S4096x1024, .f32⟩
  | 111 => ⟨S4096x1024, .f32⟩
  | 112 => ⟨S4096x1024, .f32⟩
  | 113 => ⟨S_, .f32⟩
  | 114 => ⟨S4096x1024, .f32⟩
  | 115 => ⟨S4096x1024, .f32⟩
  | 116 => ⟨S_, .f32⟩
  | 117 => ⟨S4096x1024, .f32⟩
  | 118 => ⟨S4096x1024, .f32⟩
  | 119 => ⟨S_, .f32⟩
  | 120 => ⟨S4096x1024, .f32⟩
  | 121 => ⟨S4096x1024, .f32⟩
  | 122 => ⟨S4096x1024, .f32⟩
  | 123 => ⟨S4096x1024, .f32⟩
  | 124 => ⟨S4096x1024, .f32⟩
  | 125 => ⟨S4096x2048, .f32⟩
  | 126 => ⟨S4096x1024, .f32⟩
  | 127 => ⟨S4096x1024, .f32⟩
  | _ => ⟨S4096x6144, .f32⟩

abbrev hbmTy0_1 (i : Nat) : BufTy := match i % 128 with
  | 0 => ⟨S4096x1024, .f32⟩
  | 1 => ⟨S4096x1024, .f32⟩
  | 2 => ⟨S4096x1024, .f32⟩
  | 3 => ⟨S4096x1024, .f32⟩
  | 4 => ⟨S4096x1024, .f32⟩
  | 5 => ⟨S4096x1024, .f32⟩
  | 6 => ⟨S4096x1024, .f32⟩
  | 7 => ⟨S4096x1024, .f32⟩
  | 8 => ⟨S4096x1024, .f32⟩
  | 9 => ⟨S_, .f32⟩
  | 10 => ⟨S1024, .f32⟩
  | 11 => ⟨S1x1024, .f32⟩
  | 12 => ⟨S_, .f32⟩
  | 13 => ⟨S1024, .f32⟩
  | 14 => ⟨S1024x1024, .f32⟩
  | 15 => ⟨S1024x1024, .f32⟩
  | 16 => ⟨S4096x1024, .f32⟩
  | 17 => ⟨S4096x1024, .f32⟩
  | 18 => ⟨S4096x1024, .f32⟩
  | 19 => ⟨S4096x1024, .f32⟩
  | 20 => ⟨S_, .f32⟩
  | 21 => ⟨S4096x1024, .f32⟩
  | 22 => ⟨S4096x1024, .f32⟩
  | 23 => ⟨S4096x1024, .f32⟩
  | 24 => ⟨S_, .f32⟩
  | 25 => ⟨S4096x1024, .f32⟩
  | 26 => ⟨S4096x1024, .f32⟩
  | 27 => ⟨S4096x1024, .f32⟩
  | 28 => ⟨S4096x1024, .f32⟩
  | 29 => ⟨S4096x1024, .f32⟩
  | 30 => ⟨S4096x1024, .f32⟩
  | 31 => ⟨S4096x1024, .f32⟩
  | 32 => ⟨S4096x1024, .f32⟩
  | 33 => ⟨S4096x1024, .f32⟩
  | 34 => ⟨S4096x1024, .f32⟩
  | 35 => ⟨S4096x1024, .f32⟩
  | 36 => ⟨S4096x1024, .f32⟩
  | 37 => ⟨S4096x1024, .f32⟩
  | 38 => ⟨S4096x1024, .f32⟩
  | 39 => ⟨S4096x1024, .f32⟩
  | 40 => ⟨S4096x1024, .f32⟩
  | 41 => ⟨S4096x1024, .f32⟩
  | 42 => ⟨S4096x1024, .f32⟩
  | 43 => ⟨S_, .f32⟩
  | 44 => ⟨S1024, .f32⟩
  | 45 => ⟨S1x1024, .f32⟩
  | 46 => ⟨S4096x1024, .f32⟩
  | 47 => ⟨S4096x1024, .f32⟩
  | 48 => ⟨S4096x1024, .f32⟩
  | 49 => ⟨S_, .f32⟩
  | 50 => ⟨S1024, .f32⟩
  | 51 => ⟨S1x1024, .f32⟩
  | 52 => ⟨S1x1024, .f32⟩
  | 53 => ⟨S4095x1024, .f32⟩
  | 54 => ⟨S_, .f32⟩
  | 55 => ⟨S1x1024, .f32⟩
  | 56 => ⟨S4096x1024, .f32⟩
  | 57 => ⟨S4096x1024, .f32⟩
  | 58 => ⟨S_, .f32⟩
  | 59 => ⟨S1024, .f32⟩
  | 60 => ⟨S1x1024, .f32⟩
  | 61 => ⟨S_, .f32⟩
  | 62 => ⟨S1024, .f32⟩
  | 63 => ⟨S4096x1024, .f32⟩
  | 64 => ⟨S4096x1024, .f32⟩
  | 65 => ⟨S4096x1024, .f32⟩
  | 66 => ⟨S_, .f32⟩
  | 67 => ⟨S1024, .f32⟩
  | 68 => ⟨S1x1024, .f32⟩
  | 69 => ⟨S1x1024, .f32⟩
  | 70 => ⟨S4095x1024, .f32⟩
  | 71 => ⟨S_, .f32⟩
  | 72 => ⟨S1x1024, .f32⟩
  | 73 => ⟨S4096x1024, .f32⟩
  | 74 => ⟨S1x1024, .f32⟩
  | 75 => ⟨S4095x1024, .f32⟩
  | 76 => ⟨S_, .f32⟩
  | 77 => ⟨S1x1024, .f32⟩
  | 78 => ⟨S4096x1024, .f32⟩
  | 79 => ⟨S4096x1024, .f32⟩
  | 80 => ⟨S3x1024, .f32⟩
  | 81 => ⟨S4096x1024, .f32⟩
  | 82 => ⟨S4096x1024, .f32⟩
  | 83 => ⟨S_, .f32⟩
  | 84 => ⟨S4096x1024, .f32⟩
  | 85 => ⟨S4096x6144, .f32⟩
  | 86 => ⟨S1x1024, .f32⟩
  | 87 => ⟨S1x1024, .f32⟩
  | 88 => ⟨S_, .f32⟩
  | 89 => ⟨S11x1024, .f32⟩
  | 90 => ⟨S16x1024, .f32⟩
  | 91 => ⟨S4096x6144, .bf16⟩
  | _ => ⟨S4096x6144, .f32⟩

abbrev hbmTy (i : Nat) : BufTy := match i / 128 with
  | 0 => hbmTy0_0 i
  | 1 => hbmTy0_1 i
  | _ => ⟨S4096x6144, .f32⟩

abbrev bufTy : (tb : Table) → Fin (tcTables nBuf tb) → BufTy
  | .hbm, ⟨i, _⟩ => hbmTy i
  | _, _ => ⟨S4096x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_call0_v0 : Ref sig .tc := ⟨.hbm, 50, rfl⟩
abbrev main_call0_v1 : Ref sig .tc := ⟨.hbm, 51, rfl⟩
abbrev main_call0_cst : Ref sig .tc := ⟨.hbm, 52, rfl⟩
abbrev main_call0_v2 : Ref sig .tc := ⟨.hbm, 53, rfl⟩
abbrev main_call0_v3 : Ref sig .tc := ⟨.hbm, 54, rfl⟩
abbrev main_call0_cst_0 : Ref sig .tc := ⟨.hbm, 55, rfl⟩
abbrev main_call0_v4 : Ref sig .tc := ⟨.hbm, 56, rfl⟩
abbrev main_v37_2 : Ref sig .tc := ⟨.hbm, 57, rfl⟩
abbrev main_call0_cst_1 : Ref sig .tc := ⟨.hbm, 58, rfl⟩
abbrev main_call0_v6 : Ref sig .tc := ⟨.hbm, 59, rfl⟩
abbrev main_call0_v7 : Ref sig .tc := ⟨.hbm, 60, rfl⟩
abbrev main_v37_1 : Ref sig .tc := ⟨.hbm, 61, rfl⟩
abbrev main_v37_0 : Ref sig .tc := ⟨.hbm, 62, rfl⟩
abbrev main_v38 : Ref sig .tc := ⟨.hbm, 63, rfl⟩
abbrev main_cst_5 : Ref sig .tc := ⟨.hbm, 64, rfl⟩
abbrev main_cst_6 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_cst_7 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_cst_8 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_cst_9 : Ref sig .tc := ⟨.hbm, 80, rfl⟩
abbrev main_v51 : Ref sig .tc := ⟨.hbm, 81, rfl⟩
abbrev main_v52 : Ref sig .tc := ⟨.hbm, 82, rfl⟩
abbrev main_cst_10 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_cst_11 : Ref sig .tc := ⟨.hbm, 87, rfl⟩
abbrev main_v56 : Ref sig .tc := ⟨.hbm, 88, rfl⟩
abbrev main_v57 : Ref sig .tc := ⟨.hbm, 89, rfl⟩
abbrev main_cst_12 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_cst_13 : Ref sig .tc := ⟨.hbm, 100, rfl⟩
abbrev main_v67 : Ref sig .tc := ⟨.hbm, 101, rfl⟩
abbrev main_v68 : Ref sig .tc := ⟨.hbm, 102, rfl⟩
abbrev main_cst_14 : Ref sig .tc := ⟨.hbm, 103, rfl⟩
abbrev main_v69 : Ref sig .tc := ⟨.hbm, 104, rfl⟩
abbrev main_v70 : Ref sig .tc := ⟨.hbm, 105, rfl⟩
abbrev main_cst_15 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_call1_v0 : Ref sig .tc := ⟨.hbm, 111, rfl⟩
abbrev main_call1_v1 : Ref sig .tc := ⟨.hbm, 112, rfl⟩
abbrev main_call1_cst : Ref sig .tc := ⟨.hbm, 113, rfl⟩
abbrev main_call1_v2 : Ref sig .tc := ⟨.hbm, 114, rfl⟩
abbrev main_call1_v3 : Ref sig .tc := ⟨.hbm, 115, rfl⟩
abbrev main_call1_cst_0 : Ref sig .tc := ⟨.hbm, 116, rfl⟩
abbrev main_call1_v4 : Ref sig .tc := ⟨.hbm, 117, rfl⟩
abbrev main_v75_2 : Ref sig .tc := ⟨.hbm, 118, rfl⟩
abbrev main_call1_cst_1 : Ref sig .tc := ⟨.hbm, 119, rfl⟩
abbrev main_call1_v6 : Ref sig .tc := ⟨.hbm, 120, rfl⟩
abbrev main_call1_v7 : Ref sig .tc := ⟨.hbm, 121, rfl⟩
abbrev main_v75_1 : Ref sig .tc := ⟨.hbm, 122, rfl⟩
abbrev main_v75_0 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_call2_v0 : Ref sig .tc := ⟨.hbm, 130, rfl⟩
abbrev main_call2_v1 : Ref sig .tc := ⟨.hbm, 131, rfl⟩
abbrev main_call2_v2 : Ref sig .tc := ⟨.hbm, 132, rfl⟩
abbrev main_v82 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_cst_16 : Ref sig .tc := ⟨.hbm, 137, rfl⟩
abbrev main_v86 : Ref sig .tc := ⟨.hbm, 138, rfl⟩
abbrev main_v87 : Ref sig .tc := ⟨.hbm, 139, rfl⟩
abbrev main_cst_17 : Ref sig .tc := ⟨.hbm, 140, rfl⟩
abbrev main_v88 : Ref sig .tc := ⟨.hbm, 141, rfl⟩
abbrev main_v89 : Ref sig .tc := ⟨.hbm, 142, rfl⟩
abbrev main_v90 : Ref sig .tc := ⟨.hbm, 143, rfl⟩
abbrev main_v91 : Ref sig .tc := ⟨.hbm, 144, rfl⟩
abbrev main_v92 : Ref sig .tc := ⟨.hbm, 145, rfl⟩
abbrev main_v93 : Ref sig .tc := ⟨.hbm, 146, rfl⟩
abbrev main_v94 : Ref sig .tc := ⟨.hbm, 147, rfl⟩
abbrev main_cst_18 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩
abbrev main_cst_19 : Ref sig .tc := ⟨.hbm, 152, rfl⟩
abbrev main_v98 : Ref sig .tc := ⟨.hbm, 153, rfl⟩
abbrev main_v99 : Ref sig .tc := ⟨.hbm, 154, rfl⟩
abbrev main_v100 : Ref sig .tc := ⟨.hbm, 155, rfl⟩
abbrev main_v101 : Ref sig .tc := ⟨.hbm, 156, rfl⟩
abbrev main_v102 : Ref sig .tc := ⟨.hbm, 157, rfl⟩
abbrev main_v103 : Ref sig .tc := ⟨.hbm, 158, rfl⟩
abbrev main_v104 : Ref sig .tc := ⟨.hbm, 159, rfl⟩
abbrev main_v105 : Ref sig .tc := ⟨.hbm, 160, rfl⟩
abbrev main_v106 : Ref sig .tc := ⟨.hbm, 161, rfl⟩
abbrev main_call3_v0 : Ref sig .tc := ⟨.hbm, 162, rfl⟩
abbrev main_call3_v1 : Ref sig .tc := ⟨.hbm, 163, rfl⟩
abbrev main_call3_v2 : Ref sig .tc := ⟨.hbm, 164, rfl⟩
abbrev main_v107 : Ref sig .tc := ⟨.hbm, 165, rfl⟩
abbrev main_v108 : Ref sig .tc := ⟨.hbm, 166, rfl⟩
abbrev main_v109 : Ref sig .tc := ⟨.hbm, 167, rfl⟩
abbrev main_v110 : Ref sig .tc := ⟨.hbm, 168, rfl⟩
abbrev main_v111 : Ref sig .tc := ⟨.hbm, 169, rfl⟩
abbrev main_v112 : Ref sig .tc := ⟨.hbm, 170, rfl⟩
abbrev main_cst_20 : Ref sig .tc := ⟨.hbm, 171, rfl⟩
abbrev main_v113 : Ref sig .tc := ⟨.hbm, 172, rfl⟩
abbrev main_v114 : Ref sig .tc := ⟨.hbm, 173, rfl⟩
abbrev main_v115 : Ref sig .tc := ⟨.hbm, 174, rfl⟩
abbrev main_v116 : Ref sig .tc := ⟨.hbm, 175, rfl⟩
abbrev main_v117 : Ref sig .tc := ⟨.hbm, 176, rfl⟩
abbrev main_cst_21 : Ref sig .tc := ⟨.hbm, 177, rfl⟩
abbrev main_v118 : Ref sig .tc := ⟨.hbm, 178, rfl⟩
abbrev main_v119 : Ref sig .tc := ⟨.hbm, 179, rfl⟩
abbrev main_v120 : Ref sig .tc := ⟨.hbm, 180, rfl⟩
abbrev main_v121 : Ref sig .tc := ⟨.hbm, 181, rfl⟩
abbrev main_cst_22 : Ref sig .tc := ⟨.hbm, 182, rfl⟩
abbrev main_v122 : Ref sig .tc := ⟨.hbm, 183, rfl⟩
abbrev main_v123 : Ref sig .tc := ⟨.hbm, 184, rfl⟩
abbrev main_v124 : Ref sig .tc := ⟨.hbm, 185, rfl⟩
abbrev main_cst_23 : Ref sig .tc := ⟨.hbm, 186, rfl⟩
abbrev main_v125 : Ref sig .tc := ⟨.hbm, 187, rfl⟩
abbrev main_v126 : Ref sig .tc := ⟨.hbm, 188, rfl⟩
abbrev main_cst_24 : Ref sig .tc := ⟨.hbm, 189, rfl⟩
abbrev main_v127 : Ref sig .tc := ⟨.hbm, 190, rfl⟩
abbrev main_v128 : Ref sig .tc := ⟨.hbm, 191, rfl⟩
abbrev main_v129 : Ref sig .tc := ⟨.hbm, 192, rfl⟩
abbrev main_v130 : Ref sig .tc := ⟨.hbm, 193, rfl⟩
abbrev main_cst_25 : Ref sig .tc := ⟨.hbm, 194, rfl⟩
abbrev main_v131 : Ref sig .tc := ⟨.hbm, 195, rfl⟩
abbrev main_v132 : Ref sig .tc := ⟨.hbm, 196, rfl⟩
abbrev main_v133 : Ref sig .tc := ⟨.hbm, 197, rfl⟩
abbrev main_v134 : Ref sig .tc := ⟨.hbm, 198, rfl⟩
abbrev main_cst_26 : Ref sig .tc := ⟨.hbm, 199, rfl⟩
abbrev main_v135 : Ref sig .tc := ⟨.hbm, 200, rfl⟩
abbrev main_v136 : Ref sig .tc := ⟨.hbm, 201, rfl⟩
abbrev main_v137 : Ref sig .tc := ⟨.hbm, 202, rfl⟩
abbrev main_v138 : Ref sig .tc := ⟨.hbm, 203, rfl⟩
abbrev main_cst_27 : Ref sig .tc := ⟨.hbm, 204, rfl⟩
abbrev main_v139 : Ref sig .tc := ⟨.hbm, 205, rfl⟩
abbrev main_v140 : Ref sig .tc := ⟨.hbm, 206, rfl⟩
abbrev main_v141 : Ref sig .tc := ⟨.hbm, 207, rfl⟩
abbrev main_v142 : Ref sig .tc := ⟨.hbm, 208, rfl⟩
abbrev main_v143 : Ref sig .tc := ⟨.hbm, 209, rfl⟩
abbrev main_v144 : Ref sig .tc := ⟨.hbm, 210, rfl⟩
abbrev main_cst_28 : Ref sig .tc := ⟨.hbm, 211, rfl⟩
abbrev main_v145 : Ref sig .tc := ⟨.hbm, 212, rfl⟩
abbrev main_v146 : Ref sig .tc := ⟨.hbm, 213, rfl⟩
abbrev main_v147 : Ref sig .tc := ⟨.hbm, 214, rfl⟩
abbrev main_v148 : Ref sig .tc := ⟨.hbm, 215, rfl⟩
abbrev main_cst_29 : Ref sig .tc := ⟨.hbm, 216, rfl⟩
abbrev main_v149 : Ref sig .tc := ⟨.hbm, 217, rfl⟩
abbrev main_v150 : Ref sig .tc := ⟨.hbm, 218, rfl⟩
abbrev main_v151 : Ref sig .tc := ⟨.hbm, 219, rfl⟩

abbrev nD : Nat := 1
abbrev τ : Topo := Topo.v7x

variable {F : FTy → Type} [FloatOps F]
-- ==== Kernel3.lean ====
abbrev S4096x2048 : Shape := ⟨2, ![4096, 2048]⟩
abbrev S2048x2048 : Shape := ⟨2, ![2048, 2048]⟩
abbrev S2048 : Shape := ⟨1, ![2048]⟩
abbrev S1x2048 : Shape := ⟨2, ![1, 2048]⟩
abbrev S8x128 : Shape := ⟨2, ![8, 128]⟩
abbrev S8x2048 : Shape := ⟨2, ![8, 2048]⟩
abbrev S256x2048 : Shape := ⟨2, ![256, 2048]⟩
abbrev S256 : Shape := ⟨1, ![256]⟩
abbrev S256x1 : Shape := ⟨2, ![256, 1]⟩
abbrev S1x256x2048 : Shape := ⟨3, ![1, 256, 2048]⟩
abbrev S1 : Shape := ⟨1, ![1]⟩
abbrev S1x1x1 : Shape := ⟨3, ![1, 1, 1]⟩

abbrev nBuf : Space → Nat
  | .hbm => 13
  | .vmem => 16
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S4096x2048, .f32⟩
  | .hbm, ⟨4, _⟩ => ⟨S2048, .f32⟩
  | .hbm, ⟨5, _⟩ => ⟨S4096x2048, .bf16⟩
  | .hbm, ⟨6, _⟩ => ⟨S2048x2048, .bf16⟩
  | .hbm, ⟨7, _⟩ => ⟨S1x2048, .f32⟩
  | .hbm, ⟨8, _⟩ => ⟨S8x128, .f32⟩
  | .hbm, ⟨9, _⟩ => ⟨S4096x2048, .f32⟩
  | .hbm, ⟨10, _⟩ => ⟨S4096x2048, .bf16⟩
  | .hbm, ⟨11, _⟩ => ⟨S4096x2048, .f32⟩
  | .hbm, ⟨12, _⟩ => ⟨S8x2048, .f32⟩
  | .local _ .vmem, ⟨0, _⟩ => ⟨S256x2048, .bf16⟩
  | .local _ .vmem, ⟨1, _⟩ => ⟨S256x2048, .bf16⟩
  | .local _ .vmem, ⟨2, _⟩ => ⟨S2048x2048, .bf16⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S1x2048, .f32⟩
  | .local _ .vmem, ⟨8, _⟩ => ⟨S8x128, .f32⟩
  | .local _ .vmem, ⟨9, _⟩ => ⟨S256x2048, .f32⟩
  | .local _ .vmem, ⟨10, _⟩ => ⟨S256x2048, .f32⟩
  | .local _ .vmem, ⟨11, _⟩ => ⟨S256x2048, .bf16⟩
  | .local _ .vmem, ⟨12, _⟩ => ⟨S256x2048, .bf16⟩
  | .local _ .vmem, ⟨13, _⟩ => ⟨S256x2048, .f32⟩
  | .local _ .vmem, ⟨14, _⟩ => ⟨S256x2048, .f32⟩
  | .local _ .vmem, ⟨15, _⟩ => ⟨S8x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v3_4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference3Ideal.lean ====
abbrev S4096x2048 : Shape := ⟨2, ![4096, 2048]⟩
abbrev S2048x2048 : Shape := ⟨2, ![2048, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩
abbrev S8x128 : Shape := ⟨2, ![8, 128]⟩
abbrev S7x2048 : Shape := ⟨2, ![7, 2048]⟩
abbrev S8x2048 : Shape := ⟨2, ![8, 2048]⟩

abbrev nBuf : Space → Nat
  | .hbm => 82
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S4096x2048, .f32⟩
  | .hbm, ⟨4, _⟩ => ⟨S2048, .f32⟩
  | .hbm, ⟨5, _⟩ => ⟨S4096x2048, .f32⟩
  | .hbm, ⟨6, _⟩ => ⟨S4096x2048, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x2048, .f32⟩
  | .hbm, ⟨22, _⟩ => ⟨S4096x2048, .f32⟩
  | .hbm, ⟨23, _⟩ => ⟨S1x2048, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S_, .f32⟩
  | .hbm, ⟨30, _⟩ => ⟨S4096x2048, .f32⟩
  | .hbm, ⟨31, _⟩ => ⟨S4096x2048, .f32⟩
  | .hbm, ⟨32, _⟩ => ⟨S_, .f32⟩
  | .hbm, ⟨33, _⟩ => ⟨S4096, .f32⟩
  | .hbm, ⟨34, _⟩ => ⟨S_, .f32⟩
  | .hbm, ⟨35, _⟩ => ⟨S4096, .f32⟩
  | .hbm, ⟨36, _⟩ => ⟨S4096, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S4096, .f32⟩
  | .hbm, ⟨45, _⟩ => ⟨S_, .f32⟩
  | .hbm, ⟨46, _⟩ => ⟨S4096, .f32⟩
  | .hbm, ⟨47, _⟩ => ⟨S4096, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S_, .f32⟩
  | .hbm, ⟨52, _⟩ => ⟨S2048, .f32⟩
  | .hbm, ⟨53, _⟩ => ⟨S1x2048, .f32⟩
  | .hbm, ⟨54, _⟩ => ⟨S4096x2048, .f32⟩
  | .hbm, ⟨55, _⟩ => ⟨S4096x2048, .f32⟩
  | .hbm, ⟨56, _⟩ => ⟨S_, .f32⟩
  | .hbm, ⟨57, _⟩ => ⟨S2048, .f32⟩
  | .hbm, ⟨58, _⟩ => ⟨S4096x2048, .f32⟩
  | .hbm, ⟨59, _⟩ => ⟨S_, .f32⟩
  | .hbm, ⟨60, _⟩ => ⟨S4096, .f32⟩
  | .hbm, ⟨61, _⟩ => ⟨S4096x1, .f32⟩
  | .hbm, ⟨62, _⟩ => ⟨S4096x2048, .f32⟩
  | .hbm, ⟨63, _⟩ => ⟨S4096x2048, .f32⟩
  | .hbm, ⟨64, _⟩ => ⟨S4096x1, .f32⟩
  | .hbm, ⟨65, _⟩ => ⟨S_, .f32⟩
  | .hbm, ⟨66, _⟩ => ⟨S4096x1, .f32⟩
  | .hbm, ⟨67, _⟩ => ⟨S4096x1, .f32⟩
  | .hbm, ⟨68, _⟩ => ⟨S_, .f32⟩
  | .hbm, ⟨69, _⟩ => ⟨S4096, .f32⟩
  | .hbm, ⟨70, _⟩ => ⟨S4096x2048, .f32⟩
  | .hbm, ⟨71, _⟩ => ⟨S4096x2048, .f32⟩
  | .hbm, ⟨72, _⟩ => ⟨S4096x2048, .f32⟩
  | .hbm, ⟨73, _⟩ => ⟨S4096x2048, .f32⟩
  | .hbm, ⟨74, _⟩ => ⟨S4096x2048, .f32⟩
  | .hbm, ⟨75, _⟩ => ⟨S4096x2048, .f32⟩
  | .hbm, ⟨76, _⟩ => ⟨S8x128, .f32⟩
  | .hbm, ⟨77, _⟩ => ⟨S4096x2048, .bf16⟩
  | .hbm, ⟨78, _⟩ => ⟨S1x2048, .f32⟩
  | .hbm, ⟨79, _⟩ => ⟨S_, .f32⟩
  | .hbm, ⟨80, _⟩ => ⟨S7x2048, .f32⟩
  | .hbm, ⟨81, _⟩ => ⟨S8x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_cst_8 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩
abbrev main_cst_10 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_11 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_12 : Ref sig .tc := ⟨.hbm, 56, rfl⟩
abbrev main_v38 : Ref sig .tc := ⟨.hbm, 57, rfl⟩
abbrev main_v39 : Ref sig .tc := ⟨.hbm, 58, rfl⟩
abbrev main_cst_13 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_14 : Ref sig .tc := ⟨.hbm, 65, rfl⟩
abbrev main_v45 : Ref sig .tc := ⟨.hbm, 66, rfl⟩
abbrev main_v46 : Ref sig .tc := ⟨.hbm, 67, rfl⟩
abbrev main_cst_15 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_16 : Ref sig .tc := ⟨.hbm, 79, rfl⟩
abbrev main_v57 : Ref sig .tc := ⟨.hbm, 80, rfl⟩
abbrev main_v58 : Ref sig .tc := ⟨.hbm, 81, rfl⟩

abbrev nD : Nat := 1
abbrev τ : Topo := Topo.v7x

variable {F : FTy → Type} [FloatOps F]
-- ==== Kernel4.lean ====
abbrev S64x64 : Shape := ⟨2, ![64, 64]⟩
abbrev S64 : Shape := ⟨1, ![64]⟩
abbrev S64x64x16 : Shape := ⟨3, ![64, 64, 16]⟩
abbrev S_ : Shape := ⟨0, ![]⟩
abbrev S64x1024 : Shape := ⟨2, ![64, 1024]⟩
abbrev S64x1 : Shape := ⟨2, ![64, 1]⟩

abbrev nBuf : Space → Nat
  | .hbm => 28
  | .vmem => 15
  | .smem => 0
  | _ => 0

abbrev bufTy : (tb : Table) → Fin (tcTables nBuf tb) → BufTy
  | .hbm, ⟨0, _⟩ => ⟨S64x64, .f32⟩
  | .hbm, ⟨1, _⟩ => ⟨S64x64, .f32⟩
  | .hbm, ⟨2, _⟩ => ⟨S64, .f32⟩
  | .hbm, ⟨3, _⟩ => ⟨S64x64x16, .f32⟩
  | .hbm, ⟨4, _⟩ => ⟨S64x64x16, .f32⟩
  | .hbm, ⟨5, _⟩ => ⟨S64x64, .f32⟩
  | .hbm, ⟨6, _⟩ => ⟨S64x64, .f32⟩
  | .hbm, ⟨7, _⟩ => ⟨S64x64x16, .f32⟩
  | .hbm, ⟨8, _⟩ => ⟨S64x64x16, .f32⟩
  | .hbm, ⟨9, _⟩ => ⟨S64x64, .i32⟩
  | .hbm, ⟨10, _⟩ => ⟨S64x64, .i32⟩
  | .hbm, ⟨11, _⟩ => ⟨S_, .i32⟩
  | .hbm, ⟨12, _⟩ => ⟨S64x64, .i32⟩
  | .hbm, ⟨13, _⟩ => ⟨S64x64, .i32⟩
  | .hbm, ⟨14, _⟩ => ⟨S64x64, .i1⟩
  | .hbm, ⟨15, _⟩ => ⟨S64x64, .f32⟩
  | .hbm, ⟨16, _⟩ => ⟨S64x64x16, .f32⟩
  | .hbm, ⟨17, _⟩ => ⟨S64x1024, .f32⟩
  | .hbm, ⟨18, _⟩ => ⟨S64x1, .f32⟩
  | .hbm, ⟨19, _⟩ => ⟨S64x1024, .f32⟩
  | .hbm, ⟨20, _⟩ => ⟨S64x1024, .f32⟩
  | .hbm, ⟨21, _⟩ => ⟨S64x1024, .f32⟩
  | .hbm, ⟨22, _⟩ => ⟨S64x1024, .f32⟩
  | .hbm, ⟨23, _⟩ => ⟨S64x64, .f32⟩
  | .hbm, ⟨24, _⟩ => ⟨S64x64, .f32⟩
  | .hbm, ⟨25, _⟩ => ⟨S64x1, .f32⟩
  | .hbm, ⟨26, _⟩ => ⟨S64x1024, .f32⟩
  | .hbm, ⟨27, _⟩ => ⟨S64x1024, .f32⟩
  | .local _ .vmem, ⟨0, _⟩ => ⟨S64x64, .f32⟩
  | .local _ .vmem, ⟨1, _⟩ => ⟨S64x64, .f32⟩
  | .local _ .vmem, ⟨2, _⟩ => ⟨S64x1, .f32⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | .local _ .vmem, ⟨6, _⟩ => ⟨S64x64, .f32⟩
  | .local _ .vmem, ⟨7, _⟩ => ⟨S64x64, .f32⟩
  | .local _ .vmem, ⟨8, _⟩ => ⟨S64x1024, .f32⟩
  | .local _ .vmem, ⟨9, _⟩ => ⟨S64x1024, .f32⟩
  | .local _ .vmem, ⟨10, _⟩ => ⟨S64x64, .f32⟩
  | .local _ .vmem, ⟨11, _⟩ => ⟨S64x64, .f32⟩
  | .local _ .vmem, ⟨12, _⟩ => ⟨S64x1, .f32⟩
  | .local _ .vmem, ⟨13, _⟩ => ⟨S64x1024, .f32⟩
  | .local _ .vmem, ⟨14, _⟩ => ⟨S64x1024, .f32⟩
  | _, _ => ⟨S64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13_0 : Ref sig .tc := ⟨.hbm, 23, rfl⟩
abbrev main_v13_1 : Ref sig .tc := ⟨.hbm, 24, rfl⟩
abbrev main_v13_2 : Ref sig .tc := ⟨.hbm, 25, rfl⟩
abbrev main_v13_3 : Ref sig .tc := ⟨.hbm, 26, rfl⟩
abbrev main_v13_4 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := .none

abbrev stage0_0 : Fin 1 → Memref sig .tc .vmem S64x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S64x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S64x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S64x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S64x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S64x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S64x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S64x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
-- ==== Reference4Ideal.lean ====
abbrev S64x64 : Shape := ⟨2, ![64, 64]⟩
abbrev S64 : Shape := ⟨1, ![64]⟩
abbrev S64x64x16 : Shape := ⟨3, ![64, 64, 16]⟩
abbrev S64x1 : Shape := ⟨2, ![64, 1]⟩
abbrev S_ : Shape := ⟨0, ![]⟩
abbrev S64x64x1 : Shape := ⟨3, ![64, 64, 1]⟩
abbrev S64x1024 : Shape := ⟨2, ![64, 1024]⟩

abbrev nBuf : Space → Nat
  | .hbm => 170
  | .vmem => 0
  | .smem => 0
  | _ => 0

abbrev hbmTy0_0 (i : Nat) : BufTy := match i % 128 with
  | 0 => ⟨S64x64, .f32⟩
  | 1 => ⟨S64x64, .f32⟩
  | 2 => ⟨S64, .f32⟩
  | 3 => ⟨S64x64x16, .f32⟩
  | 4 => ⟨S64x64x16, .f32⟩
  | 5 => ⟨S64x64, .f32⟩
  | 6 => ⟨S64x64, .f32⟩
  | 7 => ⟨S64x64x16, .f32⟩
  | 8 => ⟨S64x64x16, .f32⟩
  | 9 => ⟨S64, .f32⟩
  | 10 => ⟨S64x1, .f32⟩
  | 11 => ⟨S64x64, .f32⟩
  | 12 => ⟨S64x64, .f32⟩
  | 13 => ⟨S64x64, .f32⟩
  | 14 => ⟨S64x64, .f32⟩
  | 15 => ⟨S64x64, .f32⟩
  | 16 => ⟨S64x64, .f32⟩
  | 17 => ⟨S64x64, .f32⟩
  | 18 => ⟨S64x64, .f32⟩
  | 19 => ⟨S64x64, .f32⟩
  | 20 => ⟨S64x64, .f32⟩
  | 21 => ⟨S64x64, .f32⟩
  | 22 => ⟨S64x64, .f32⟩
  | 23 => ⟨S64x64, .f32⟩
  | 24 => ⟨S_, .f32⟩
  | 25 => ⟨S64x64, .f32⟩
  | 26 => ⟨S64x64, .f32⟩
  | 27 => ⟨S64x64, .f32⟩
  | 28 => ⟨S64x64, .f32⟩
  | 29 => ⟨S64x64, .f32⟩
  | 30 => ⟨S64x64, .f32⟩
  | 31 => ⟨S64x64, .f32⟩
  | 32 => ⟨S64x64, .f32⟩
  | 33 => ⟨S64x64, .f32⟩
  | 34 => ⟨S64x64, .f32⟩
  | 35 => ⟨S_, .f32⟩
  | 36 => ⟨S64x64, .f32⟩
  | 37 => ⟨S64x64, .f32⟩
  | 38 => ⟨S64x64, .f32⟩
  | 39 => ⟨S64x64, .f32⟩
  | 40 => ⟨S64x64, .f32⟩
  | 41 => ⟨S64x64, .f32⟩
  | 42 => ⟨S64x64, .f32⟩
  | 43 => ⟨S_, .f32⟩
  | 44 => ⟨S64x64, .f32⟩
  | 45 => ⟨S64x64, .f32⟩
  | 46 => ⟨S64x64x1, .f32⟩
  | 47 => ⟨S64x64x16, .f32⟩
  | 48 => ⟨S64x64x16, .f32⟩
  | 49 => ⟨S64x64x1, .f32⟩
  | 50 => ⟨S64x64x16, .f32⟩
  | 51 => ⟨S64x64x16, .f32⟩
  | 52 => ⟨S64x64x16, .f32⟩
  | 53 => ⟨S64x64x1, .f32⟩
  | 54 => ⟨S64x64x16, .f32⟩
  | 55 => ⟨S64x64x16, .f32⟩
  | 56 => ⟨S64x64x1, .f32⟩
  | 57 => ⟨S64x64x16, .f32⟩
  | 58 => ⟨S64x64x16, .f32⟩
  | 59 => ⟨S64x64x16, .f32⟩
  | 60 => ⟨S64x64x16, .f32⟩
  | 61 => ⟨S64x64x16, .f32⟩
  | 62 => ⟨S64x64x16, .f32⟩
  | 63 => ⟨S64x64x16, .f32⟩
  | 64 => ⟨S64x64x16, .f32⟩
  | 65 => ⟨S_, .f32⟩
  | 66 => ⟨S64x64, .f32⟩
  | 67 => ⟨S64x64x1, .f32⟩
  | 68 => ⟨S_, .f32⟩
  | 69 => ⟨S64x64, .f32⟩
  | 70 => ⟨S64x64x16, .f32⟩
  | 71 => ⟨S64x64x16, .f32⟩
  | 72 => ⟨S64x64x16, .f32⟩
  | 73 => ⟨S_, .f32⟩
  | 74 => ⟨S64x64, .f32⟩
  | 75 => ⟨S64x64x1, .f32⟩
  | 76 => ⟨S_, .f32⟩
  | 77 => ⟨S64x64, .f32⟩
  | 78 => ⟨S64x64x16, .f32⟩
  | 79 => ⟨S64x64x16, .f32⟩
  | 80 => ⟨S64x64x16, .f32⟩
  | 81 => ⟨S64x64x16, .f32⟩
  | 82 => ⟨S64x64x16, .f32⟩
  | 83 => ⟨S64x64x16, .f32⟩
  | 84 => ⟨S_, .f32⟩
  | 85 => ⟨S64x64, .f32⟩
  | 86 => ⟨S64x64x1, .f32⟩
  | 87 => ⟨S_, .f32⟩
  | 88 => ⟨S64x64, .f32⟩
  | 89 => ⟨S64x64, .f32⟩
  | 90 => ⟨S64x64x16, .f32⟩
  | 91 => ⟨S64x64x16, .f32⟩
  | 92 => ⟨S64x64x16, .f32⟩
  | 93 => ⟨S64x64x16, .f32⟩
  | 94 => ⟨S_, .f32⟩
  | 95 => ⟨S64x64, .f32⟩
  | 96 => ⟨S64x64x1, .f32⟩
  | 97 => ⟨S_, .f32⟩
  | 98 => ⟨S64x64, .f32⟩
  | 99 => ⟨S64x64, .f32⟩
  | 100 => ⟨S64x64, .f32⟩
  | 101 => ⟨S64x64, .f32⟩
  | 102 => ⟨S64x64, .f32⟩
  | 103 => ⟨S64x64, .f32⟩
  | 104 => ⟨S64x64, .f32⟩
  | 105 => ⟨S64x64, .f32⟩
  | 106 => ⟨S64x64, .f32⟩
  | 107 => ⟨S64x64, .f32⟩
  | 108 => ⟨S64x64, .f32⟩
  | 109 => ⟨S64x64, .f32⟩
  | 110 => ⟨S64x64, .f32⟩
  | 111 => ⟨S64x64, .f32⟩
  | 112 => ⟨S64x64, .f32⟩
  | 113 => ⟨S64x64, .f32⟩
  | 114 => ⟨S64x64, .f32⟩
  | 115 => ⟨S64x64, .f32⟩
  | 116 => ⟨S64x64, .f32⟩
  | 117 => ⟨S64x64, .f32⟩
  | 118 => ⟨S64x64, .f32⟩
  | 119 => ⟨S64x64, .f32⟩
  | 120 => ⟨S64x64, .f32⟩
  | 121 => ⟨S64x64, .f32⟩
  | 122 => ⟨S64x64, .f32⟩
  | 123 => ⟨S64x64, .f32⟩
  | 124 => ⟨S64x64, .f32⟩
  | 125 => ⟨S64x64, .f32⟩
  | 126 => ⟨S64x64, .f32⟩
  | 127 => ⟨S64x64, .f32⟩
  | _ => ⟨S64x64, .f32⟩

abbrev hbmTy0_1 (i : Nat) : BufTy := match i % 128 with
  | 0 => ⟨S64x64, .f32⟩
  | 1 => ⟨S64x64, .f32⟩
  | 2 => ⟨S64x64, .f32⟩
  | 3 => ⟨S64x64, .f32⟩
  | 4 => ⟨S64x64, .f32⟩
  | 5 => ⟨S64x64, .f32⟩
  | 6 => ⟨S64x64, .f32⟩
  | 7 => ⟨S64x64, .f32⟩
  | 8 => ⟨S_, .f32⟩
  | 9 => ⟨S64, .f32⟩
  | 10 => ⟨S64x1, .f32⟩
  | 11 => ⟨S64x64, .f32⟩
  | 12 => ⟨S64x64, .f32⟩
  | 13 => ⟨S64x64, .f32⟩
  | 14 => ⟨S64x64, .f32⟩
  | 15 => ⟨S64x64, .f32⟩
  | 16 => ⟨S64x64, .f32⟩
  | 17 => ⟨S64x64, .f32⟩
  | 18 => ⟨S64x64, .f32⟩
  | 19 => ⟨S64x64, .f32⟩
  | 20 => ⟨S_, .f32⟩
  | 21 => ⟨S64, .f32⟩
  | 22 => ⟨S64x1, .f32⟩
  | 23 => ⟨S64x1, .f32⟩
  | 24 => ⟨S64x64, .f32⟩
  | 25 => ⟨S64x64, .f32⟩
  | 26 => ⟨S64x64, .f32⟩
  | 27 => ⟨S64x64, .f32⟩
  | 28 => ⟨S64x64, .f32⟩
  | 29 => ⟨S_, .f32⟩
  | 30 => ⟨S64, .f32⟩
  | 31 => ⟨S64x1, .f32⟩
  | 32 => ⟨S64x1, .f32⟩
  | 33 => ⟨S64x64, .f32⟩
  | 34 => ⟨S64x64, .f32⟩
  | 35 => ⟨S64x64, .f32⟩
  | 36 => ⟨S_, .f32⟩
  | 37 => ⟨S64, .f32⟩
  | 38 => ⟨S64, .f32⟩
  | 39 => ⟨S64x1, .f32⟩
  | 40 => ⟨S64x1024, .f32⟩
  | 41 => ⟨S64x1024, .f32⟩
  | _ => ⟨S64x64, .f32⟩

abbrev hbmTy (i : Nat) : BufTy := match i / 128 with
  | 0 => hbmTy0_0 i
  | 1 => hbmTy0_1 i
  | _ => ⟨S64x64, .f32⟩

abbrev bufTy : (tb : Table) → Fin (tcTables nBuf tb) → BufTy
  | .hbm, ⟨i, _⟩ => hbmTy i
  | _, _ => ⟨S64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_0 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_1 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_cst_2 : Ref sig .tc := ⟨.hbm, 65, rfl⟩
abbrev main_v53 : Ref sig .tc := ⟨.hbm, 66, rfl⟩
abbrev main_v54 : Ref sig .tc := ⟨.hbm, 67, rfl⟩
abbrev main_cst_3 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_cst_4 : Ref sig .tc := ⟨.hbm, 73, rfl⟩
abbrev main_v59 : Ref sig .tc := ⟨.hbm, 74, rfl⟩
abbrev main_v60 : Ref sig .tc := ⟨.hbm, 75, rfl⟩
abbrev main_cst_5 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_cst_6 : Ref sig .tc := ⟨.hbm, 84, rfl⟩
abbrev main_v68 : Ref sig .tc := ⟨.hbm, 85, rfl⟩
abbrev main_v69 : Ref sig .tc := ⟨.hbm, 86, rfl⟩
abbrev main_cst_7 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_cst_8 : Ref sig .tc := ⟨.hbm, 94, rfl⟩
abbrev main_v76 : Ref sig .tc := ⟨.hbm, 95, rfl⟩
abbrev main_v77 : Ref sig .tc := ⟨.hbm, 96, rfl⟩
abbrev main_cst_9 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_cst_10 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_cst_11 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_v132 : Ref sig .tc := ⟨.hbm, 154, rfl⟩
abbrev main_v133 : Ref sig .tc := ⟨.hbm, 155, rfl⟩
abbrev main_v134 : Ref sig .tc := ⟨.hbm, 156, rfl⟩
abbrev main_cst_12 : Ref sig .tc := ⟨.hbm, 157, rfl⟩
abbrev main_v135 : Ref sig .tc := ⟨.hbm, 158, rfl⟩
abbrev main_v136 : Ref sig .tc := ⟨.hbm, 159, rfl⟩
abbrev main_v137 : Ref sig .tc := ⟨.hbm, 160, rfl⟩
abbrev main_v138 : Ref sig .tc := ⟨.hbm, 161, rfl⟩
abbrev main_v139 : Ref sig .tc := ⟨.hbm, 162, rfl⟩
abbrev main_v140 : Ref sig .tc := ⟨.hbm, 163, rfl⟩
abbrev main_cst_13 : Ref sig .tc := ⟨.hbm, 164, rfl⟩
abbrev main_v141 : Ref sig .tc := ⟨.hbm, 165, rfl⟩
abbrev main_v142 : Ref sig .tc := ⟨.hbm, 166, rfl⟩
abbrev main_v143 : Ref sig .tc := ⟨.hbm, 167, rfl⟩
abbrev main_v144 : Ref sig .tc := ⟨.hbm, 168, rfl⟩
abbrev main_v145 : Ref sig .tc := ⟨.hbm, 169, rfl⟩

abbrev nD : Nat := 1
abbrev τ : Topo := Topo.v7x

variable {F : FTy → Type} [FloatOps F]
-- ==== Kernel5.lean ====
abbrev S4096x2048 : Shape := ⟨2, ![4096, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S1x2048, .f32⟩
  | .hbm, ⟨3, _⟩ => ⟨S4096x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference5Ideal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x2048, .f32⟩
  | .hbm, ⟨14, _⟩ => ⟨S4096x2048, .f32⟩
  | .hbm, ⟨15, _⟩ => ⟨S1x2048, .f32⟩
  | .hbm, ⟨16, _⟩ => ⟨S4096x2048, .f32⟩
  | .hbm, ⟨17, _⟩ => ⟨S4096x2048, .f32⟩
  | .hbm, ⟨18, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel6.lean ====
abbrev S64x64 : Shape := ⟨2, ![64, 64]⟩
abbrev S64 : Shape := ⟨1, ![64]⟩
abbrev S64x64x16 : Shape := ⟨3, ![64, 64, 16]⟩
abbrev S_ : Shape := ⟨0, ![]⟩
abbrev S64x1024 : Shape := ⟨2, ![64, 1024]⟩
abbrev S64x1 : Shape := ⟨2, ![64, 1]⟩
abbrev S2x64x64 : Shape := ⟨3, ![2, 64, 64]⟩
abbrev S1x64x64 : Shape := ⟨3, ![1, 64, 64]⟩

abbrev nBuf : Space → Nat
  | .hbm => 22
  | .vmem => 11
  | .smem => 0
  | _ => 0

abbrev bufTy : (tb : Table) → Fin (tcTables nBuf tb) → BufTy
  | .hbm, ⟨0, _⟩ => ⟨S64x64, .f32⟩
  | .hbm, ⟨1, _⟩ => ⟨S64x64, .f32⟩
  | .hbm, ⟨2, _⟩ => ⟨S64, .f32⟩
  | .hbm, ⟨3, _⟩ => ⟨S64x64x16, .f32⟩
  | .hbm, ⟨4, _⟩ => ⟨S64x64x16, .f32⟩
  | .hbm, ⟨5, _⟩ => ⟨S64x64, .i32⟩
  | .hbm, ⟨6, _⟩ => ⟨S64x64, .i32⟩
  | .hbm, ⟨7, _⟩ => ⟨S_, .i32⟩
  | .hbm, ⟨8, _⟩ => ⟨S64x64, .i32⟩
  | .hbm, ⟨9, _⟩ => ⟨S64x64, .i32⟩
  | .hbm, ⟨10, _⟩ => ⟨S64x64, .i1⟩
  | .hbm, ⟨11, _⟩ => ⟨S64x64, .f32⟩
  | .hbm, ⟨12, _⟩ => ⟨S64x64x16, .f32⟩
  | .hbm, ⟨13, _⟩ => ⟨S64x1024, .f32⟩
  | .hbm, ⟨14, _⟩ => ⟨S64x1, .f32⟩
  | .hbm, ⟨15, _⟩ => ⟨S64x1024, .f32⟩
  | .hbm, ⟨16, _⟩ => ⟨S64x1024, .f32⟩
  | .hbm, ⟨17, _⟩ => ⟨S64x64, .f32⟩
  | .hbm, ⟨18, _⟩ => ⟨S64x64, .f32⟩
  | .hbm, ⟨19, _⟩ => ⟨S64x1024, .f32⟩
  | .hbm, ⟨20, _⟩ => ⟨S64x1024, .f32⟩
  | .hbm, ⟨21, _⟩ => ⟨S2x64x64, .f32⟩
  | .local _ .vmem, ⟨0, _⟩ => ⟨S64x64, .f32⟩
  | .local _ .vmem, ⟨1, _⟩ => ⟨S64x64, .f32⟩
  | .local _ .vmem, ⟨2, _⟩ => ⟨S64x1, .f32⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | .local _ .vmem, ⟨6, _⟩ => ⟨S64x64, .f32⟩
  | .local _ .vmem, ⟨7, _⟩ => ⟨S64x64, .f32⟩
  | .local _ .vmem, ⟨8, _⟩ => ⟨S64x1024, .f32⟩
  | .local _ .vmem, ⟨9, _⟩ => ⟨S64x1024, .f32⟩
  | .local _ .vmem, ⟨10, _⟩ => ⟨S2x64x64, .f32⟩
  | _, _ => ⟨S64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11_0 : Ref sig .tc := ⟨.hbm, 17, rfl⟩
abbrev main_v11_1 : Ref sig .tc := ⟨.hbm, 18, rfl⟩
abbrev main_v11_2 : Ref sig .tc := ⟨.hbm, 19, rfl⟩
abbrev main_v11_3 : Ref sig .tc := ⟨.hbm, 20, rfl⟩
abbrev main_v11_4 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S64x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S64x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S64x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x64x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Reference6Ideal.lean ====
abbrev S64x64 : Shape := ⟨2, ![64, 64]⟩
abbrev S64 : Shape := ⟨1, ![64]⟩
abbrev S64x64x16 : Shape := ⟨3, ![64, 64, 16]⟩
abbrev S64x1 : Shape := ⟨2, ![64, 1]⟩
abbrev S_ : Shape := ⟨0, ![]⟩
abbrev S64x64x1 : Shape := ⟨3, ![64, 64, 1]⟩
abbrev S1x64x64 : Shape := ⟨3, ![1, 64, 64]⟩
abbrev S2x64x64 : Shape := ⟨3, ![2, 64, 64]⟩
abbrev S64x1024 : Shape := ⟨2, ![64, 1024]⟩

abbrev nBuf : Space → Nat
  | .hbm => 67
  | .vmem => 0
  | .smem => 0
  | _ => 0

abbrev bufTy : (tb : Table) → Fin (tcTables nBuf tb) → BufTy
  | .hbm, ⟨0, _⟩ => ⟨S64x64, .f32⟩
  | .hbm, ⟨1, _⟩ => ⟨S64x64, .f32⟩
  | .hbm, ⟨2, _⟩ => ⟨S64, .f32⟩
  | .hbm, ⟨3, _⟩ => ⟨S64x64x16, .f32⟩
  | .hbm, ⟨4, _⟩ => ⟨S64x64x16, .f32⟩
  | .hbm, ⟨5, _⟩ => ⟨S64, .f32⟩
  | .hbm, ⟨6, _⟩ => ⟨S64x1, .f32⟩
  | .hbm, ⟨7, _⟩ => ⟨S64x64, .f32⟩
  | .hbm, ⟨8, _⟩ => ⟨S64x64, .f32⟩
  | .hbm, ⟨9, _⟩ => ⟨S64x64, .f32⟩
  | .hbm, ⟨10, _⟩ => ⟨S64x64, .f32⟩
  | .hbm, ⟨11, _⟩ => ⟨S64x64, .f32⟩
  | .hbm, ⟨12, _⟩ => ⟨S64x64, .f32⟩
  | .hbm, ⟨13, _⟩ => ⟨S64x64, .f32⟩
  | .hbm, ⟨14, _⟩ => ⟨S64x64, .f32⟩
  | .hbm, ⟨15, _⟩ => ⟨S64x64, .f32⟩
  | .hbm, ⟨16, _⟩ => ⟨S64x64, .f32⟩
  | .hbm, ⟨17, _⟩ => ⟨S64x64, .f32⟩
  | .hbm, ⟨18, _⟩ => ⟨S_, .f32⟩
  | .hbm, ⟨19, _⟩ => ⟨S64x64, .f32⟩
  | .hbm, ⟨20, _⟩ => ⟨S64x64, .f32⟩
  | .hbm, ⟨21, _⟩ => ⟨S64x64, .f32⟩
  | .hbm, ⟨22, _⟩ => ⟨S64x64, .f32⟩
  | .hbm, ⟨23, _⟩ => ⟨S64x64, .f32⟩
  | .hbm, ⟨24, _⟩ => ⟨S64x64, .f32⟩
  | .hbm, ⟨25, _⟩ => ⟨S64x64, .f32⟩
  | .hbm, ⟨26, _⟩ => ⟨S64x64, .f32⟩
  | .hbm, ⟨27, _⟩ => ⟨S64x64, .f32⟩
  | .hbm, ⟨28, _⟩ => ⟨S64x64, .f32⟩
  | .hbm, ⟨29, _⟩ => ⟨S64x64, .f32⟩
  | .hbm, ⟨30, _⟩ => ⟨S64x64, .f32⟩
  | .hbm, ⟨31, _⟩ => ⟨S64x64, .f32⟩
  | .hbm, ⟨32, _⟩ => ⟨S64x64x1, .f32⟩
  | .hbm, ⟨33, _⟩ => ⟨S64x64x16, .f32⟩
  | .hbm, ⟨34, _⟩ => ⟨S64x64x16, .f32⟩
  | .hbm, ⟨35, _⟩ => ⟨S64x64x1, .f32⟩
  | .hbm, ⟨36, _⟩ => ⟨S64x64x16, .f32⟩
  | .hbm, ⟨37, _⟩ => ⟨S64x64x16, .f32⟩
  | .hbm, ⟨38, _⟩ => ⟨S64x64x16, .f32⟩
  | .hbm, ⟨39, _⟩ => ⟨S64x64x1, .f32⟩
  | .hbm, ⟨40, _⟩ => ⟨S64x64x16, .f32⟩
  | .hbm, ⟨41, _⟩ => ⟨S64x64x16, .f32⟩
  | .hbm, ⟨42, _⟩ => ⟨S64x64x1, .f32⟩
  | .hbm, ⟨43, _⟩ => ⟨S64x64x16, .f32⟩
  | .hbm, ⟨44, _⟩ => ⟨S64x64x16, .f32⟩
  | .hbm, ⟨45, _⟩ => ⟨S64x64x16, .f32⟩
  | .hbm, ⟨46, _⟩ => ⟨S64, .f32⟩
  | .hbm, ⟨47, _⟩ => ⟨S64x1, .f32⟩
  | .hbm, ⟨48, _⟩ => ⟨S_, .f32⟩
  | .hbm, ⟨49, _⟩ => ⟨S64x1, .f32⟩
  | .hbm, ⟨50, _⟩ => ⟨S64x1, .f32⟩
  | .hbm, ⟨51, _⟩ => ⟨S64x64, .f32⟩
  | .hbm, ⟨52, _⟩ => ⟨S64x64, .f32⟩
  | .hbm, ⟨53, _⟩ => ⟨S64x64, .f32⟩
  | .hbm, ⟨54, _⟩ => ⟨S64x64, .f32⟩
  | .hbm, ⟨55, _⟩ => ⟨S64x64, .f32⟩
  | .hbm, ⟨56, _⟩ => ⟨S64x64, .f32⟩
  | .hbm, ⟨57, _⟩ => ⟨S64x64, .f32⟩
  | .hbm, ⟨58, _⟩ => ⟨S64x64, .f32⟩
  | .hbm, ⟨59, _⟩ => ⟨S64x64, .f32⟩
  | .hbm, ⟨60, _⟩ => ⟨S64x64, .f32⟩
  | .hbm, ⟨61, _⟩ => ⟨S64x64, .f32⟩
  | .hbm, ⟨62, _⟩ => ⟨S1x64x64, .f32⟩
  | .hbm, ⟨63, _⟩ => ⟨S1x64x64, .f32⟩
  | .hbm, ⟨64, _⟩ => ⟨S2x64x64, .f32⟩
  | .hbm, ⟨65, _⟩ => ⟨S64x1024, .f32⟩
  | .hbm, ⟨66, _⟩ => ⟨S64x1024, .f32⟩
  | _, _ => ⟨S64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_cst_0 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩

abbrev nD : Nat := 1
abbrev τ : Topo := Topo.v7x

variable {F : FTy → Type} [FloatOps F]
-- ==== Kernel7.lean ====
abbrev S4096x6144 : Shape := ⟨2, ![4096, 6144]⟩
abbrev S4096x1024 : Shape := ⟨2, ![4096, 1024]⟩
abbrev S3x1024 : Shape := ⟨2, ![3, 1024]⟩
abbrev S1024 : Shape := ⟨1, ![1024]⟩
abbrev S1024x1024 : Shape := ⟨2, ![1024, 1024]⟩
abbrev S1x1024 : Shape := ⟨2, ![1, 1024]⟩
abbrev S4096x2048 : Shape := ⟨2, ![4096, 2048]⟩
abbrev S256x1024 : Shape := ⟨2, ![256, 1024]⟩
abbrev S256x2048 : Shape := ⟨2, ![256, 2048]⟩
abbrev S264x1024 : Shape := ⟨2, ![264, 1024]⟩
abbrev S8x1024 : Shape := ⟨2, ![8, 1024]⟩

abbrev nBuf : Space → Nat
  | .hbm => 10
  | .vmem => 19
  | .smem => 0
  | _ => 0

abbrev bufTy : (tb : Table) → Fin (tcTables nBuf tb) → BufTy
  | .hbm, ⟨0, _⟩ => ⟨S4096x6144, .f32⟩
  | .hbm, ⟨1, _⟩ => ⟨S4096x1024, .f32⟩
  | .hbm, ⟨2, _⟩ => ⟨S3x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1x1024, .f32⟩
  | .hbm, ⟨7, _⟩ => ⟨S1024x1024, .bf16⟩
  | .hbm, ⟨8, _⟩ => ⟨S1x1024, .f32⟩
  | .hbm, ⟨9, _⟩ => ⟨S4096x2048, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S3x1024, .f32⟩
  | .local _ .vmem, ⟨13, _⟩ => ⟨S1x1024, .f32⟩
  | .local _ .vmem, ⟨14, _⟩ => ⟨S1024x1024, .bf16⟩
  | .local _ .vmem, ⟨15, _⟩ => ⟨S1x1024, .f32⟩
  | .local _ .vmem, ⟨16, _⟩ => ⟨S256x2048, .bf16⟩
  | .local _ .vmem, ⟨17, _⟩ => ⟨S256x2048, .bf16⟩
  | .local _ .vmem, ⟨18, _⟩ => ⟨S264x1024, .f32⟩
  | _, _ => ⟨S4096x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S3x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Kernel7Ideal.lean ====
variable {F : FTy → Type} [FloatOps F] [Named F]
def κ : String → Option EReal := fun
  | "c" => some ((8943 / 200000 : ℝ) : EReal)
  | _ => none
-- ==== Reference7Ideal.lean ====
abbrev S4096x6144 : Shape := ⟨2, ![4096, 6144]⟩
abbrev S4096x1024 : Shape := ⟨2, ![4096, 1024]⟩
abbrev S3x1024 : Shape := ⟨2, ![3, 1024]⟩
abbrev S1024 : Shape := ⟨1, ![1024]⟩
abbrev S1024x1024 : Shape := ⟨2, ![1024, 1024]⟩
abbrev S1x1024 : Shape := ⟨2, ![1, 1024]⟩
abbrev S_ : Shape := ⟨0, ![]⟩
abbrev S4095x1024 : Shape := ⟨2, ![4095, 1024]⟩
abbrev S4096x2048 : Shape := ⟨2, ![4096, 2048]⟩

abbrev nBuf : Space → Nat
  | .hbm => 97
  | .vmem => 0
  | .smem => 0
  | _ => 0

abbrev bufTy : (tb : Table) → Fin (tcTables nBuf tb) → BufTy
  | .hbm, ⟨0, _⟩ => ⟨S4096x6144, .f32⟩
  | .hbm, ⟨1, _⟩ => ⟨S4096x1024, .f32⟩
  | .hbm, ⟨2, _⟩ => ⟨S3x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S_, .f32⟩
  | .hbm, ⟨17, _⟩ => ⟨S1x1024, .f32⟩
  | .hbm, ⟨18, _⟩ => ⟨S4095x1024, .f32⟩
  | .hbm, ⟨19, _⟩ => ⟨S1x1024, .f32⟩
  | .hbm, ⟨20, _⟩ => ⟨S4096x1024, .f32⟩
  | .hbm, ⟨21, _⟩ => ⟨S_, .f32⟩
  | .hbm, ⟨22, _⟩ => ⟨S1x1024, .f32⟩
  | .hbm, ⟨23, _⟩ => ⟨S4095x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S1x1024, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S1x1024, .f32⟩
  | .hbm, ⟨33, _⟩ => ⟨S4095x1024, .f32⟩
  | .hbm, ⟨34, _⟩ => ⟨S1x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S_, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S_, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S_, .f32⟩
  | .hbm, ⟨66, _⟩ => ⟨S4096x1024, .f32⟩
  | .hbm, ⟨67, _⟩ => ⟨S4096x1024, .f32⟩
  | .hbm, ⟨68, _⟩ => ⟨S_, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S1x1024, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S_, .f32⟩
  | .hbm, ⟨79, _⟩ => ⟨S4096x1024, .f32⟩
  | .hbm, ⟨80, _⟩ => ⟨S4096x1024, .f32⟩
  | .hbm, ⟨81, _⟩ => ⟨S_, .f32⟩
  | .hbm, ⟨82, _⟩ => ⟨S4096x1024, .f32⟩
  | .hbm, ⟨83, _⟩ => ⟨S4096x1024, .f32⟩
  | .hbm, ⟨84, _⟩ => ⟨S4096x1024, .f32⟩
  | .hbm, ⟨85, _⟩ => ⟨S4096x1024, .f32⟩
  | .hbm, ⟨86, _⟩ => ⟨S4096x1024, .f32⟩
  | .hbm, ⟨87, _⟩ => ⟨S_, .f32⟩
  | .hbm, ⟨88, _⟩ => ⟨S4096x1024, .f32⟩
  | .hbm, ⟨89, _⟩ => ⟨S4096x1024, .f32⟩
  | .hbm, ⟨90, _⟩ => ⟨S_, .f32⟩
  | .hbm, ⟨91, _⟩ => ⟨S4096x1024, .f32⟩
  | .hbm, ⟨92, _⟩ => ⟨S4096x1024, .f32⟩
  | .hbm, ⟨93, _⟩ => ⟨S4096x1024, .f32⟩
  | .hbm, ⟨94, _⟩ => ⟨S4096x1024, .f32⟩
  | .hbm, ⟨95, _⟩ => ⟨S4096x2048, .f32⟩
  | .hbm, ⟨96, _⟩ => ⟨S4096x2048, .bf16⟩
  | _, _ => ⟨S4096x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_1 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_call0_v0 : Ref sig .tc := ⟨.hbm, 43, rfl⟩
abbrev main_call0_v1 : Ref sig .tc := ⟨.hbm, 44, rfl⟩
abbrev main_call0_cst : Ref sig .tc := ⟨.hbm, 45, rfl⟩
abbrev main_call0_v2 : Ref sig .tc := ⟨.hbm, 46, rfl⟩
abbrev main_call0_v3 : Ref sig .tc := ⟨.hbm, 47, rfl⟩
abbrev main_call0_cst_0 : Ref sig .tc := ⟨.hbm, 48, rfl⟩
abbrev main_call0_v4 : Ref sig .tc := ⟨.hbm, 49, rfl⟩
abbrev main_call0_v5 : Ref sig .tc := ⟨.hbm, 50, rfl⟩
abbrev main_v34 : Ref sig .tc := ⟨.hbm, 51, rfl⟩
abbrev main_v35 : Ref sig .tc := ⟨.hbm, 52, rfl⟩
abbrev main_cst_2 : Ref sig .tc := ⟨.hbm, 53, rfl⟩
abbrev main_cst_3 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_4 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_5 : Ref sig .tc := ⟨.hbm, 65, rfl⟩
abbrev main_v45 : Ref sig .tc := ⟨.hbm, 66, rfl⟩
abbrev main_v46 : Ref sig .tc := ⟨.hbm, 67, rfl⟩
abbrev main_cst_6 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_7 : Ref sig .tc := ⟨.hbm, 78, rfl⟩
abbrev main_v56 : Ref sig .tc := ⟨.hbm, 79, rfl⟩
abbrev main_v57 : Ref sig .tc := ⟨.hbm, 80, rfl⟩
abbrev main_cst_8 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_call1_v0 : Ref sig .tc := ⟨.hbm, 85, rfl⟩
abbrev main_call1_v1 : Ref sig .tc := ⟨.hbm, 86, rfl⟩
abbrev main_call1_cst : Ref sig .tc := ⟨.hbm, 87, rfl⟩
abbrev main_call1_v2 : Ref sig .tc := ⟨.hbm, 88, rfl⟩
abbrev main_call1_v3 : Ref sig .tc := ⟨.hbm, 89, rfl⟩
abbrev main_call1_cst_0 : Ref sig .tc := ⟨.hbm, 90, rfl⟩
abbrev main_call1_v4 : Ref sig .tc := ⟨.hbm, 91, rfl⟩
abbrev main_call1_v5 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩

abbrev nD : Nat := 1
abbrev τ : Topo := Topo.v7x

variable {F : FTy → Type} [FloatOps F]
-- ==== Kernel8.lean ====
abbrev S4096x2048 : Shape := ⟨2, ![4096, 2048]⟩
abbrev S4096x6144 : Shape := ⟨2, ![4096, 6144]⟩
abbrev S4x2048x1536 : Shape := ⟨3, ![4, 2048, 1536]⟩
abbrev S512x1024 : Shape := ⟨2, ![512, 1024]⟩
abbrev S512x1536 : Shape := ⟨2, ![512, 1536]⟩
abbrev S1x1024x1536 : Shape := ⟨3, ![1, 1024, 1536]⟩
abbrev S1024x1536 : Shape := ⟨2, ![1024, 1536]⟩

abbrev nBuf : Space → Nat
  | .hbm => 6
  | .vmem => 8
  | .smem => 0
  | _ => 0

abbrev bufTy : (tb : Table) → Fin (tcTables nBuf tb) → BufTy
  | .hbm, ⟨0, _⟩ => ⟨S4096x2048, .f32⟩
  | .hbm, ⟨1, _⟩ => ⟨S4096x6144, .f32⟩
  | .hbm, ⟨2, _⟩ => ⟨S4096x2048, .bf16⟩
  | .hbm, ⟨3, _⟩ => ⟨S4096x6144, .bf16⟩
  | .hbm, ⟨4, _⟩ => ⟨S4x2048x1536, .f32⟩
  | .hbm, ⟨5, _⟩ => ⟨S4x2048x1536, .bf16⟩
  | .local _ .vmem, ⟨0, _⟩ => ⟨S512x1024, .bf16⟩
  | .local _ .vmem, ⟨1, _⟩ => ⟨S512x1024, .bf16⟩
  | .local _ .vmem, ⟨2, _⟩ => ⟨S512x1536, .bf16⟩
  | .local _ .vmem, ⟨3, _⟩ => ⟨S512x1536, .bf16⟩
  | .local _ .vmem, ⟨4, _⟩ => ⟨S1x1024x1536, .f32⟩
  | .local _ .vmem, ⟨5, _⟩ => ⟨S1x1024x1536, .f32⟩
  | .local _ .vmem, ⟨6, _⟩ => ⟨S1x1024x1536, .bf16⟩
  | .local _ .vmem, ⟨7, _⟩ => ⟨S1x1024x1536, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 8], ![false, false, false]⟩

def k0_cond2 (i : grid0.Coords) : BitVec 1 :=
  let arg2 : BitVec 32 := BitVec.ofNat 32 (i 2).val
  let c7_i32 : BitVec 32 := 7#32
  let v14 : BitVec 1 := Scalar.cmpi .eq arg2 c7_i32
  let v15 : BitVec 32 := Scalar.extui v14
  let c0_i32_10 : BitVec 32 := 0#32
  let v16 : BitVec 1 := Scalar.cmpi .ne v15 c0_i32_10
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S512x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference8Ideal.lean ====
abbrev S4096x2048 : Shape := ⟨2, ![4096, 2048]⟩
abbrev S4096x6144 : Shape := ⟨2, ![4096, 6144]⟩
abbrev S2048x4096 : Shape := ⟨2, ![2048, 4096]⟩
abbrev S2048x6144 : Shape := ⟨2, ![2048, 6144]⟩
abbrev S2048x4x1536 : Shape := ⟨3, ![2048, 4, 1536]⟩
abbrev S4x2048x1536 : Shape := ⟨3, ![4, 2048, 1536]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x6144, .f32⟩
  | .hbm, ⟨2, _⟩ => ⟨S2048x4096, .f32⟩
  | .hbm, ⟨3, _⟩ => ⟨S2048x6144, .f32⟩
  | .hbm, ⟨4, _⟩ => ⟨S2048x4x1536, .f32⟩
  | .hbm, ⟨5, _⟩ => ⟨S4x2048x1536, .f32⟩
  | .hbm, ⟨6, _⟩ => ⟨S4x2048x1536, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel9.lean ====
abbrev S2048x1536 : Shape := ⟨2, ![2048, 1536]⟩
abbrev S256x1536 : Shape := ⟨2, ![256, 1536]⟩

abbrev nBuf : Space → Nat
  | .hbm => 7
  | .vmem => 14
  | .smem => 0
  | _ => 0

abbrev bufTy : (tb : Table) → Fin (tcTables nBuf tb) → BufTy
  | .hbm, ⟨0, _⟩ => ⟨S2048x1536, .f32⟩
  | .hbm, ⟨1, _⟩ => ⟨S2048x1536, .f32⟩
  | .hbm, ⟨2, _⟩ => ⟨S2048x1536, .f32⟩
  | .hbm, ⟨3, _⟩ => ⟨S2048x1536, .f32⟩
  | .hbm, ⟨4, _⟩ => ⟨S2048x1536, .f32⟩
  | .hbm, ⟨5, _⟩ => ⟨S2048x1536, .f32⟩
  | .hbm, ⟨6, _⟩ => ⟨S2048x1536, .f32⟩
  | .local _ .vmem, ⟨0, _⟩ => ⟨S256x1536, .f32⟩
  | .local _ .vmem, ⟨1, _⟩ => ⟨S256x1536, .f32⟩
  | .local _ .vmem, ⟨2, _⟩ => ⟨S256x1536, .f32⟩
  | .local _ .vmem, ⟨3, _⟩ => ⟨S256x1536, .f32⟩
  | .local _ .vmem, ⟨4, _⟩ => ⟨S256x1536, .f32⟩
  | .local _ .vmem, ⟨5, _⟩ => ⟨S256x1536, .f32⟩
  | .local _ .vmem, ⟨6, _⟩ => ⟨S256x1536, .f32⟩
  | .local _ .vmem, ⟨7, _⟩ => ⟨S256x1536, .f32⟩
  | .local _ .vmem, ⟨8, _⟩ => ⟨S256x1536, .f32⟩
  | .local _ .vmem, ⟨9, _⟩ => ⟨S256x1536, .f32⟩
  | .local _ .vmem, ⟨10, _⟩ => ⟨S256x1536, .f32⟩
  | .local _ .vmem, ⟨11, _⟩ => ⟨S256x1536, .f32⟩
  | .local _ .vmem, ⟨12, _⟩ => ⟨S256x1536, .f32⟩
  | .local _ .vmem, ⟨13, _⟩ => ⟨S256x1536, .f32⟩
  | _, _ => ⟨S2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference9Ideal.lean ====
abbrev S2048x1536 : Shape := ⟨2, ![2048, 1536]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x1536, .f32⟩
  | .hbm, ⟨1, _⟩ => ⟨S2048x1536, .f32⟩
  | .hbm, ⟨2, _⟩ => ⟨S2048x1536, .f32⟩
  | .hbm, ⟨3, _⟩ => ⟨S2048x1536, .f32⟩
  | .hbm, ⟨4, _⟩ => ⟨S_, .f32⟩
  | .hbm, ⟨5, _⟩ => ⟨S2048x1536, .f32⟩
  | .hbm, ⟨6, _⟩ => ⟨S2048x1536, .f32⟩
  | .hbm, ⟨7, _⟩ => ⟨S_, .f32⟩
  | .hbm, ⟨8, _⟩ => ⟨S2048x1536, .f32⟩
  | .hbm, ⟨9, _⟩ => ⟨S2048x1536, .f32⟩
  | .hbm, ⟨10, _⟩ => ⟨S2048x1536, .f32⟩
  | .hbm, ⟨11, _⟩ => ⟨S_, .f32⟩
  | .hbm, ⟨12, _⟩ => ⟨S2048x1536, .f32⟩
  | .hbm, ⟨13, _⟩ => ⟨S2048x1536, .f32⟩
  | .hbm, ⟨14, _⟩ => ⟨S2048x1536, .f32⟩
  | .hbm, ⟨15, _⟩ => ⟨S_, .f32⟩
  | .hbm, ⟨16, _⟩ => ⟨S2048x1536, .f32⟩
  | .hbm, ⟨17, _⟩ => ⟨S2048x1536, .f32⟩
  | .hbm, ⟨18, _⟩ => ⟨S2048x1536, .f32⟩
  | .hbm, ⟨19, _⟩ => ⟨S_, .f32⟩
  | .hbm, ⟨20, _⟩ => ⟨S2048x1536, .f32⟩
  | .hbm, ⟨21, _⟩ => ⟨S2048x1536, .f32⟩
  | .hbm, ⟨22, _⟩ => ⟨S_, .f32⟩
  | .hbm, ⟨23, _⟩ => ⟨S2048x1536, .f32⟩
  | .hbm, ⟨24, _⟩ => ⟨S2048x1536, .f32⟩
  | .hbm, ⟨25, _⟩ => ⟨S2048x1536, .f32⟩
  | .hbm, ⟨26, _⟩ => ⟨S_, .f32⟩
  | .hbm, ⟨27, _⟩ => ⟨S2048x1536, .f32⟩
  | .hbm, ⟨28, _⟩ => ⟨S2048x1536, .f32⟩
  | .hbm, ⟨29, _⟩ => ⟨S2048x1536, .f32⟩
  | .hbm, ⟨30, _⟩ => ⟨S_, .f32⟩
  | .hbm, ⟨31, _⟩ => ⟨S2048x1536, .f32⟩
  | .hbm, ⟨32, _⟩ => ⟨S2048x1536, .f32⟩
  | .hbm, ⟨33, _⟩ => ⟨S2048x1536, .f32⟩
  | .hbm, ⟨34, _⟩ => ⟨S_, .f32⟩
  | .hbm, ⟨35, _⟩ => ⟨S2048x1536, .f32⟩
  | .hbm, ⟨36, _⟩ => ⟨S2048x1536, .f32⟩
  | _, _ => ⟨S2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.Common.lean ====
module

public import Idealize.ShloMosaic.Lib.ValueIdx
public import Idealize.ShloMosaic.PureOps.Ideal.Laws

@[expose] public section

noncomputable section

/-! # Sums taken block by block, and the literals both programs write -/

namespace Cert.Common

open Idealize.ShloMosaic

theorem hz2 : (![0, 0] : Fin 2 → Nat) = fun _ => 0 := funext fun a => by fin_cases a <;> rfl

/-- A function of the indices below `n`, zero from there on. -/
def ext {n : Nat} (f : Fin n → EReal) (k : Nat) : EReal := if h : k < n then f ⟨k, h⟩ else 0

theorem sum_ext {n : Nat} (f : Fin n → EReal) : ∑ k ∈ Finset.range n, ext f k = ∑ k, f k := by
  rw [Finset.sum_range]
  exact Finset.sum_congr rfl fun k _ => dif_pos k.isLt

/-- One more block of `b` indices added to a running sum. -/
theorem sum_ext_block {n : Nat} (f : Fin n → EReal) (a b : Nat) (h : a + b ≤ n) :
    ∑ k ∈ Finset.range a, ext f k + ∑ k : Fin b, f ⟨a + k.val, by omega⟩ = ∑ k ∈ Finset.range (a + b), ext f k := by
  rw [Finset.sum_range_add, Finset.sum_range (n := b)]
  congr 1
  exact Finset.sum_congr rfl fun k _ => by unfold ext; rw [dif_pos (by omega)]

/-! ## Literals -/

/-- The mean's divisor. -/
abbrev lit2048 : EReal := Ideal.ofBits .f32 1157627904#32
/-- The normalisation's epsilon. -/
abbrev litEps : EReal := Ideal.ofBits .f32 897988541#32
abbrev litNegHalf : EReal := Ideal.ofBits .f32 3204448256#32

theorem lit2048_eq : lit2048 = ((2048 : ℝ) : EReal) := by
  simp [lit2048, Ideal.ofBits, Ideal.ieee, -EReal.coe_mul]; norm_num

theorem litNegHalf_eq : litNegHalf = ((-1 / 2 : ℝ) : EReal) := by
  simp [litNegHalf, Ideal.ofBits, Ideal.ieee, -EReal.coe_mul]; norm_num

theorem litEps_eq : ∃ e : ℝ, 0 < e ∧ litEps = (e : EReal) :=
  ⟨8796093 / 2 ^ 43, by norm_num, by simp [litEps, Ideal.ofBits, Ideal.ieee, -EReal.coe_mul]; norm_num⟩

theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem div_real (x y : ℝ) (hy : y ≠ 0) : Ideal.div (x : EReal) (y : EReal) = ((x / y : ℝ) : EReal) := by
  rw [Ideal.div_coe hy, ← EReal.coe_mul]
  congr 1
  field_simp

/-! ## The gradient of a root-mean-square normalisation -/

/-- The mean square plus epsilon, and the reciprocal root mean square of a row, as the programs write them. -/
def ms (X : Fin 2048 → EReal) : EReal := Ideal.div (∑ x, X x * X x) lit2048 + litEps
def rr (X : Fin 2048 → EReal) : EReal := Ideal.rsqrt (ms X)

theorem ms_real (X : Fin 2048 → EReal) (x : Fin 2048 → ℝ) (hX : ∀ k, X k = (x k : EReal)) : ∃ s : ℝ, 0 < s ∧ ms X = (s : EReal) := by
  obtain ⟨e, he, hE⟩ := litEps_eq
  refine ⟨(∑ k, x k * x k) / 2048 + e, add_pos_of_nonneg_of_pos (div_nonneg (Finset.sum_nonneg fun k _ => mul_self_nonneg _) (by norm_num)) he, ?_⟩
  unfold ms
  rw [hE, lit2048_eq]
  simp only [hX, ← EReal.coe_mul, coe_sum]
  rw [div_real _ _ (by norm_num), ← EReal.coe_add]

theorem rsqrt_real (s : ℝ) (hs : 0 < s) : Ideal.rsqrt (s : EReal) = (((Real.sqrt s)⁻¹ : ℝ) : EReal) := by
  rw [Ideal.rsqrt_coe, if_neg (not_lt.mpr hs.le), if_neg hs.ne']

/-- The sum that the derivative of the mean square carries, as the derivative rules write it. -/
def msGrad (X A : Fin 2048 → EReal) : EReal :=
  Ideal.div ((∑ x, X x * A x) * (litNegHalf * Ideal.div (rr X) (ms X))) lit2048

/-- The gradient of a normalised row as written by hand is the one the derivative rules write, where the row and the gradient coming in are finite. -/
theorem rms_grad (X A : Fin 2048 → EReal) (hX : ∀ k, ∃ x : ℝ, X k = (x : EReal)) (hA : ∀ k, ∃ a : ℝ, A k = (a : EReal)) (q : Fin 2048) :
    rr X * (A q - X q * rr X * Ideal.div (∑ x, A x * (X x * rr X)) lit2048) = A q * rr X + X q * msGrad X A + msGrad X A * X q := by
  choose x hx using hX
  choose a ha using hA
  obtain ⟨s, hs, hS⟩ := ms_real X x hx
  have hR : rr X = (((Real.sqrt s)⁻¹ : ℝ) : EReal) := by rw [rr, hS, rsqrt_real s hs]
  unfold msGrad
  rw [hR, hS, lit2048_eq, litNegHalf_eq, div_real _ _ hs.ne']
  simp only [hx, ha, ← EReal.coe_mul, coe_sum]
  rw [div_real _ _ (by norm_num), div_real _ _ (by norm_num)]
  simp only [← EReal.coe_mul, ← EReal.coe_sub, ← EReal.coe_add]
  congr 1
  have hr : Real.sqrt s ≠ 0 := (Real.sqrt_pos.mpr hs).ne'
  have h1 : ∑ k, a k * (x k * (Real.sqrt s)⁻¹) = (∑ k, x k * a k) * (Real.sqrt s)⁻¹ := by
    rw [Finset.sum_mul]
    exact Finset.sum_congr rfl fun k _ => by ring
  rw [h1]
  generalize ∑ k, x k * a k = T
  have h2 : s = Real.sqrt s * Real.sqrt s := (Real.mul_self_sqrt hs.le).symm
  generalize hw : Real.sqrt s = w at *
  subst h2
  field_simp
  ring

/-! ## Finite arguments -/

/-- What the precondition says of one array: each element is a real number. -/
theorem finite_apply {s : Shape} (x : FVec Ideal s .f32) (bc : (⟨0, ![]⟩ : Shape).BroadcastsInDim s (![] : Fin 0 → Fin s.rank))
    (h : cmpf (F := Ideal) .olt (Host.absf x) (broadcastInDim s ![] bc (constant (F := Ideal) ⟨0, ![]⟩ .f32 0x7F800000#32)) = fun _ => 1#1) (i : s.Idx) :
    ∃ r : ℝ, x i = (r : EReal) := by
  have h1 := congrFun h i
  change Ideal.cmp .olt (max (x i : EReal) (-x i : EReal)) (Ideal.ofBits .f32 0x7F800000#32) = 1#1 at h1
  revert h1
  generalize (x i : EReal) = a
  intro h1
  induction a using EReal.rec
  · simp [Ideal.ofBits, Ideal.ieee, Ideal.cmp] at h1
  · exact ⟨_, rfl⟩
  · simp [Ideal.ofBits, Ideal.ieee, Ideal.cmp] at h1

end Cert.Common

end
-- ==== Proof.MatmulTn.lean ====
module

public import proofs.«01_k».proof.Proof.Common
public import proofs.«01_k».proof.Proof.Gen.Kernel8Ideal.Frame
public import proofs.«01_k».proof.Proof.Gen.Reference8Ideal.Read
public import Idealize.ShloMosaic.Lib.Pointwise
public import Idealize.ShloMosaic.Lib.WritesUnit
public import Idealize.ShloMosaic.Lib.Pipeline.ReadBack
public import Idealize.ShloMosaic.Lib.ValueLayout
public import Idealize.ShloMosaic.Lib.Pipeline.ValueKit.Geometry

@[expose] public section

noncomputable section

/-! # The product of a transposed array with another, summed over blocks of rows -/

namespace Cert.Tn

open Idealize.ShloMosaic Idealize.ShloMosaic.TcCoe Idealize.SL.Sem
open Idealize.ShloMosaic.Pipeline (Dat)
open Cert.Kernel8Ideal Cert.Kernel8Ideal.Gen Cert.Common
open Cert.Reference8Ideal.Read

theorem hz3 : (![0, 0, 0] : Fin 3 → Nat) = fun _ => 0 := funext fun a => by fin_cases a <;> rfl

/-! ## One point's arithmetic -/

theorem pay1_apply (r : Fin 1024) (q : Fin 1536) : k0_pay1 (F := Ideal) (ix3 0 r q) = 0 := by
  pointwise [k0_pay1]

theorem pay2_apply (v : Vec Ideal S1x1024x1536 .f32) (a : Vec Ideal S512x1024 .bf16) (b : Vec Ideal S512x1536 .bf16) (r : Fin 1024) (q : Fin 1536) :
    k0_pay2 (F := Ideal) v a b (ix3 0 r q) = v (ix3 0 r q) + ∑ k : Fin 512, a (ix2 k r) * b (ix2 k q) := by
  pointwise [k0_pay2]

theorem pay3_apply (v : Vec Ideal S1x1024x1536 .f32) (r : Fin 1024) (q : Fin 1536) : k0_pay3 (F := Ideal) v (ix3 0 r q) = v (ix3 0 r q) := by
  pointwise [k0_pay3]

section Point

variable (c : Dev nD) (i : grid0.Coords) (arg3 : Memref sig .tc .vmem S512x1024 .bf16) (harg3 : arg3.IsWhole) (arg4 : Memref sig .tc .vmem S512x1536 .bf16) (harg4 : arg4.IsWhole)
  (arg5 : Memref sig .tc .vmem S1x1024x1536 .f32) (harg5 : arg5.IsWhole) (arg6 : Memref sig .tc .vmem S1x1024x1536 .bf16) (harg6 : arg6.IsWhole)
  (x0 : Vec Ideal S512x1024 .bf16) (x1 : Vec Ideal S512x1536 .bf16) (xo2 : Vec Ideal S1x1024x1536 .f32)

/-- A block read back whole after it was stored whole. -/
theorem readCov_whole (p : Vec Ideal S1x1024x1536 .f32) (L : List (View.Piece (Elt Ideal) S1x1024x1536 .f32)) :
    (arg5.view.readCov (Val := Elt Ideal) (⟨Rect.unit ![0, 0, 0] ![1, 1024, 1536] inb_S1x1024x1536_S1x1024x1536_0_0_0, p⟩ :: L)
      (Rect.unit ![0, 0, 0] ![1, 1024, 1536] inb_S1x1024x1536_S1x1024x1536_0_0_0).toLoadRect) = p := by
  rw [View.readCov_eq_canon_ld _ _ _ (fun y => ⟨_, List.mem_cons_self, by
      show y ∈ (Rect.unit (s := S1x1024x1536) ![0, 0, 0] ![1, 1024, 1536] inb_S1x1024x1536_S1x1024x1536_0_0_0).set
      rw [Rect.mem_set_unit]
      intro a
      have := (y a).isLt
      fin_cases a <;> exact ⟨Nat.zero_le _, by simpa using this⟩⟩), View.canon_cons_unit_zero hz3]
  exact View.ld_unit_zero (S := S1x1024x1536) hz3 _ _

theorem out_A2 (hc0 : cond0_0 i) (hc1 : ¬cond0_1 i) :
    out0_A_2 c i arg3 harg3 arg4 harg4 arg5 harg5 arg6 harg6 hc0 hc1 x0 x1 = k0_pay2 k0_pay1 x0 x1 := by
  unfold out0_A_2
  rw [View.read_writes_eq_canon _ _ _ (cover0_A_2 c i arg3 harg3 arg4 harg4 arg5 harg5 arg6 harg6 hc0 hc1 x0 x1)]
  unfold kernelRun0_A
  dsimp only
  sl_unfold_words
  rw [View.canon_cons_unit_zero hz3]
  simp only [View.readAt_eq_ld, harg3.read_unread, harg4.read_unread, View.ld_unit_zero (S := S512x1024) hz2, View.ld_unit_zero (S := S512x1536) hz2, shapeCast_self]
  rw [readCov_whole]

theorem out_B2 (hc0 : ¬cond0_0 i) (hc1 : ¬cond0_1 i) :
    out0_B_2 c i arg3 harg3 arg4 harg4 arg5 harg5 arg6 harg6 hc0 hc1 x0 x1 xo2 = k0_pay2 xo2 x0 x1 := by
  unfold out0_B_2
  rw [View.read_writes_eq_canon _ _ _ (cover0_B_2 c i arg3 harg3 arg4 harg4 arg5 harg5 arg6 harg6 hc0 hc1 x0 x1 xo2)]
  unfold kernelRun0_B
  dsimp only
  sl_unfold_words
  rw [View.canon_cons_unit_zero hz3]
  simp only [View.readAt_eq_ld, harg3.read_unread, harg4.read_unread, harg5.read_unread, View.ld_unit_zero (S := S512x1024) hz2, View.ld_unit_zero (S := S512x1536) hz2, View.ld_unit_zero (S := S1x1024x1536) hz3, shapeCast_self]

theorem out_C2 (hc0 : ¬cond0_0 i) (hc1 : cond0_1 i) :
    out0_C_2 c i arg3 harg3 arg4 harg4 arg5 harg5 arg6 harg6 hc0 hc1 x0 x1 xo2 = k0_pay2 xo2 x0 x1 := by
  unfold out0_C_2
  rw [View.read_writes_eq_canon _ _ _ (cover0_C_2 c i arg3 harg3 arg4 harg4 arg5 harg5 arg6 harg6 hc0 hc1 x0 x1 xo2)]
  unfold kernelRun0_C
  dsimp only
  sl_unfold_words
  rw [View.canon_cons_unit_zero hz3]
  simp only [View.readAt_eq_ld, harg3.read_unread, harg4.read_unread, harg5.read_unread, View.ld_unit_zero (S := S512x1024) hz2, View.ld_unit_zero (S := S512x1536) hz2, View.ld_unit_zero (S := S1x1024x1536) hz3, shapeCast_self]

theorem out_C3 (hc0 : ¬cond0_0 i) (hc1 : cond0_1 i) :
    out0_C_3 c i arg3 harg3 arg4 harg4 arg5 harg5 arg6 harg6 hc0 hc1 x0 x1 xo2 = k0_pay3 (k0_pay2 xo2 x0 x1) := by
  unfold out0_C_3
  rw [View.read_writes_eq_canon _ _ _ (cover0_C_3 c i arg3 harg3 arg4 harg4 arg5 harg5 arg6 harg6 hc0 hc1 x0 x1 xo2)]
  unfold kernelRun0_C
  dsimp only
  sl_unfold_words
  rw [View.canon_cons_unit_zero hz3]
  simp only [View.readAt_eq_ld, harg3.read_unread, harg4.read_unread, harg5.read_unread, View.ld_unit_zero (S := S512x1024) hz2, View.ld_unit_zero (S := S512x1536) hz2, View.ld_unit_zero (S := S1x1024x1536) hz3, shapeCast_self]
  rw [readCov_whole]

end Point

/-! ## The arrays -/

variable (m : (ℓ : Loc nD τ sig) → Buf (Elt Ideal) ℓ) (c : Dev nD)

abbrev aA (k : Fin 4096) (p : Fin 2048) : EReal := m ((c : Thread nD τ).loc main_arg0) (ix2 k p)
abbrev aB (k : Fin 4096) (q : Fin 6144) : EReal := m ((c : Thread nD τ).loc main_arg1) (ix2 k q)

theorem V_v0 (k : Fin 4096) (p : Fin 2048) : V m c main_v0 (ix2 k p) = aA m c k p := by
  unfold V
  after_results
  rfl

theorem V_v1 (k : Fin 4096) (q : Fin 6144) : V m c main_v1 (ix2 k q) = aB m c k q := by
  unfold V
  after_results
  rfl

theorem ix_0 : ∀ t : Fin grid0.N, win0_0.index t 0 = t.val % 8 ∧ win0_0.index t 1 = t.val / 8 % 2 := by decide +kernel
theorem ix_1 : ∀ t : Fin grid0.N, win0_1.index t 0 = t.val % 8 ∧ win0_1.index t 1 = t.val / 16 := by decide +kernel
theorem ix_2 : ∀ t : Fin grid0.N, win0_2.index t 0 = t.val / 16 ∧ win0_2.index t 1 = t.val / 8 % 2 ∧ win0_2.index t 2 = 0 := by decide +kernel
theorem ix_3 : ∀ t : Fin grid0.N, win0_3.index t 0 = t.val / 16 ∧ win0_3.index t 1 = t.val / 8 % 2 ∧ win0_3.index t 2 = 0 := by decide +kernel

theorem pt (t : Fin cfg0.N) : t.val < 64 := lt_of_lt_of_eq t.isLt N_0

/-- Row `k` of the block of rows point `t` reads. -/
abbrev rowOf (t : Fin cfg0.N) (k : Fin 512) : Fin 4096 := ⟨512 * (t.val % 8) + k.val, by omega⟩
/-- Column `r` of the left array's block of columns at point `t`. -/
abbrev leftOf (t : Fin cfg0.N) (r : Fin 1024) : Fin 2048 := ⟨1024 * (t.val / 8 % 2) + r.val, by omega⟩
/-- The block of the result's first axis point `t` writes. -/
abbrev sliceOf (t : Fin cfg0.N) : Fin 4 := ⟨t.val / 16, by have := pt t; omega⟩
/-- Column `q` of slice `b` of the right array. -/
abbrev colOf (b : Fin 4) (q : Fin 1536) : Fin 6144 := ⟨1536 * b.val + q.val, by omega⟩

theorem iblk_0 (t : Fin cfg0.N) (k : Fin 512) (r : Fin 1024) : (iblk m c 0 t : Vec Ideal S512x1024 .bf16) (ix2 k r) = aA m c (rowOf t k) (leftOf t r) := by
  rw [← V_v0 m c]
  unfold iblk
  rw [View.read_apply]
  show V m c main_v0 _ = _
  congr 1
  funext a
  apply Fin.ext
  fin_cases a
  · show win0_0.index t 0 * 512 + 1 * k.val = 512 * (t.val % 8) + k.val
    rw [(ix_0 t).1]; omega
  · show win0_0.index t 1 * 1024 + 1 * r.val = 1024 * (t.val / 8 % 2) + r.val
    rw [(ix_0 t).2]; omega

theorem iblk_1 (t : Fin cfg0.N) (k : Fin 512) (q : Fin 1536) : (iblk m c 1 t : Vec Ideal S512x1536 .bf16) (ix2 k q) = aB m c (rowOf t k) (colOf (sliceOf t) q) := by
  rw [← V_v1 m c]
  unfold iblk
  rw [View.read_apply]
  show V m c main_v1 _ = _
  congr 1
  funext a
  apply Fin.ext
  fin_cases a
  · show win0_1.index t 0 * 512 + 1 * k.val = 512 * (t.val % 8) + k.val
    rw [(ix_1 t).1]; omega
  · show win0_1.index t 1 * 1536 + 1 * q.val = 1536 * (t.val / 16) + q.val
    rw [(ix_1 t).2]; omega

/-- One row's term of the product. -/
abbrev term (p : Fin 2048) (q : Fin 6144) (k : Fin 4096) : EReal := aA m c k p * aB m c k q

theorem step (t : Fin cfg0.N) (v : Vec Ideal S1x1024x1536 .f32) (r : Fin 1024) (q : Fin 1536)
    (hv : v (ix3 0 r q) = ∑ k ∈ Finset.range (512 * (t.val % 8)), ext (term m c (leftOf t r) (colOf (sliceOf t) q)) k) :
    k0_pay2 (F := Ideal) v (iblk m c 0 t) (iblk m c 1 t) (ix3 0 r q) = ∑ k ∈ Finset.range (512 * (t.val % 8) + 512), ext (term m c (leftOf t r) (colOf (sliceOf t) q)) k := by
  rw [pay2_apply, hv, ← sum_ext_block _ (512 * (t.val % 8)) 512 (by omega)]
  refine congrArg₂ (· + ·) rfl (Finset.sum_congr rfl fun k _ => ?_)
  rw [iblk_0, iblk_1]

/-- After point `n` the accumulator holds the terms of the rows read since the block of the result began. -/
theorem acc (n : Nat) (h : n < cfg0.N) (r : Fin 1024) (q : Fin 1536) :
    (outsAt0 m c n h).1 (ix3 0 r q) = ∑ k ∈ Finset.range (512 * (n % 8) + 512), ext (term m c (leftOf ⟨n, h⟩ r) (colOf (sliceOf ⟨n, h⟩) q)) k := by
  induction n with
  | zero =>
    rw [show (outsAt0 m c 0 h).1 = _ from congrArg Prod.fst (outsAt0_A m c ⟨0, h⟩ rfl (by dsimp only; omega))]
    dsimp only
    rw [out_A2]
    exact step m c ⟨0, h⟩ _ r q (pay1_apply r q)
  | succ n ih =>
    by_cases h0 : (n + 1) % 8 = 0
    · rw [show (outsAt0 m c (n + 1) h).1 = _ from congrArg Prod.fst (outsAt0_A m c ⟨n + 1, h⟩ h0 (by dsimp only; omega))]
      dsimp only
      rw [out_A2]
      refine step m c ⟨n + 1, h⟩ _ r q ((pay1_apply r q).trans ?_)
      dsimp only
      rw [h0]
      rfl
    · have hp := ih (Nat.lt_of_succ_lt h)
      have e1 : 512 * (n % 8) + 512 = 512 * ((n + 1) % 8) := by omega
      have e2 : leftOf ⟨n, Nat.lt_of_succ_lt h⟩ r = leftOf ⟨n + 1, h⟩ r := Fin.ext (by show 1024 * (n / 8 % 2) + r.val = 1024 * ((n + 1) / 8 % 2) + r.val; omega)
      have e3 : sliceOf ⟨n, Nat.lt_of_succ_lt h⟩ = sliceOf ⟨n + 1, h⟩ := Fin.ext (by show n / 16 = (n + 1) / 16; omega)
      rw [e1, e2, e3] at hp
      by_cases h1 : (n + 1) % 8 = 7
      · rw [show (outsAt0 m c (n + 1) h).1 = _ from congrArg Prod.fst (outsAt0_C m c ⟨n + 1, h⟩ h0 h1)]
        dsimp only
        rw [out_C2]
        exact step m c ⟨n + 1, h⟩ _ r q hp
      · rw [show (outsAt0 m c (n + 1) h).1 = _ from congrArg Prod.fst (outsAt0_B m c ⟨n + 1, h⟩ h0 h1)]
        dsimp only
        rw [out_B2]
        exact step m c ⟨n + 1, h⟩ _ r q hp

/-- The product, its columns taken in four slices. -/
def prod (b : Fin 4) (p : Fin 2048) (q : Fin 1536) : EReal := ∑ k, term m c p (colOf b q) k

theorem acc_last (t : Fin cfg0.N) (ht : t.val % 8 = 7) (r : Fin 1024) (q : Fin 1536) :
    (outsAt0 m c t.val t.isLt).1 (ix3 0 r q) = prod m c (sliceOf t) (leftOf t r) q := by
  rw [acc, show 512 * (t.val % 8) + 512 = 4096 by omega, sum_ext]
  rfl

/-- At the last block of rows the second result takes the accumulator. -/
theorem snd_last (t : Fin cfg0.N) (ht : t.val % 8 = 7) (r : Fin 1024) (q : Fin 1536) :
    (outsAt0 m c t.val t.isLt).2 (ix3 0 r q) = (outsAt0 m c t.val t.isLt).1 (ix3 0 r q) := by
  have h0 : ¬t.val % 8 = 0 := by omega
  rw [show (outsAt0 m c t.val t.isLt).2 = _ from congrArg Prod.snd (outsAt0_C m c t h0 ht), show (outsAt0 m c t.val t.isLt).1 = _ from congrArg Prod.fst (outsAt0_C m c t h0 ht)]
  dsimp only
  rw [out_C2, out_C3, pay3_apply]

/-- The two results: one array at two precisions. -/
def res : FVec Ideal S4x2048x1536 .f32 := fun i => prod m c (i 0) (i 1) (i 2)
def res' : FVec Ideal S4x2048x1536 .bf16 := fun i => prod m c (i 0) (i 1) (i 2)

theorem final2 : (dats m 0 c).arrAt 2 cfg0.N = res m c := by
  refine (dats m 0 c).arrAt_eq_of_covers 2 _ (by decide +kernel) fun t hf y => ?_
  have ht := (flush0_2 t).mp hf
  blk_simp
  rw [after0_2]
  obtain ⟨r, q, rfl⟩ : ∃ (r : Fin 1024) (q : Fin 1536), y = ix3 0 r q := ⟨y 1, y 2, funext fun a => by fin_cases a; exacts [Subsingleton.elim (α := Fin 1) _ _, rfl, rfl]⟩
  have e0 : (win0_2.blk t).view.emb (ix3 0 r q) = ix3 (sliceOf t) (leftOf t r) q := by
    blk_ext [ix_2]
  rw [e0, acc_last m c t ht]
  rfl

theorem final3 : (dats m 0 c).arrAt 3 cfg0.N = res' m c := by
  refine (dats m 0 c).arrAt_eq_of_covers 3 _ (by decide +kernel) fun t hf y => ?_
  have ht := (flush0_3 t).mp hf
  blk_simp
  rw [after0_3]
  obtain ⟨r, q, rfl⟩ : ∃ (r : Fin 1024) (q : Fin 1536), y = ix3 0 r q := ⟨y 1, y 2, funext fun a => by fin_cases a; exacts [Subsingleton.elim (α := Fin 1) _ _, rfl, rfl]⟩
  have e0 : (win0_3.blk t).view.emb (ix3 0 r q) = ix3 (sliceOf t) (leftOf t r) q := by
    blk_ext [ix_3]
  rw [e0, snd_last m c t ht, acc_last m c t ht]
  rfl

/-! ## The reference -/

theorem ref_res : val_main_v3 (F := Ideal) (m ((c : Thread nD τ).loc main_arg0)) (m ((c : Thread nD τ).loc main_arg1)) = res m c := funext fun i => by
  obtain ⟨b, p, q, rfl⟩ : ∃ (b : Fin 4) (p : Fin 2048) (q : Fin 1536), i = ix3 b p q := ⟨i 0, i 1, i 2, funext fun a => by fin_cases a <;> rfl⟩
  rw [val_main_v3_apply, val_main_v2_apply, val_main_v1_apply]
  refine Finset.sum_congr rfl fun k _ => ?_
  rw [val_main_v0_apply]
  refine congrArg₂ (· * ·) (congrArg _ (funext fun a => Fin.ext ?_)) (congrArg _ (funext fun a => Fin.ext ?_))
  · fin_cases a
    · rfl
    · show ((p.val * 4 + b.val) * 1536 + q.val) / 6144 = p.val
      omega
  · fin_cases a
    · rfl
    · show ((p.val * 4 + b.val) * 1536 + q.val) % 6144 = 1536 * b.val + q.val
      omega

theorem ref_res' : val_main_v4 (F := Ideal) (m ((c : Thread nD τ).loc main_arg0)) (m ((c : Thread nD τ).loc main_arg1)) = res' m c := funext fun i => by
  rw [val_main_v4_apply, ref_res]
  rfl

end Cert.Tn

end
-- ==== Proof.Adamw.lean ====
module

public import proofs.«01_k».proof.Proof.Common
public import proofs.«01_k».proof.Proof.Gen.Kernel9Ideal.Frame
public import proofs.«01_k».proof.Proof.Gen.Reference9Ideal.Read
public import Idealize.ShloMosaic.Lib.Pointwise
public import Idealize.ShloMosaic.Lib.WritesUnit
public import Idealize.ShloMosaic.Lib.Pipeline.ReadBack
public import Idealize.ShloMosaic.Lib.ValueLayout
public import Idealize.ShloMosaic.Lib.Pipeline.ValueKit.Geometry

@[expose] public section

noncomputable section

/-! # One step of the optimiser -/

namespace Cert.Adamw

open Idealize.ShloMosaic Idealize.ShloMosaic.TcCoe Idealize.SL.Sem
open Idealize.ShloMosaic.Pipeline (Dat)
open Cert.Kernel9Ideal Cert.Kernel9Ideal.Gen Cert.Common
open Cert.Reference9Ideal.Read

/-! ## One element -/

/-- The first moment after the step, from the gradient and the moment before. -/
def mom (g m : EReal) : EReal := Ideal.ofBits .f32 0x3F666666#32 * m + Ideal.ofBits .f32 0x3DCCCCCD#32 * g

/-- The second moment after the step. -/
def vel (g v : EReal) : EReal := Ideal.ofBits .f32 0x3F7FBE77#32 * v + Ideal.ofBits .f32 0x3A83126F#32 * (g * g)

/-- The change of the weight: both moments corrected for their start at zero, and the weight's own decay. -/
def delta (w g m v : EReal) : EReal :=
  Ideal.ofBits .f32 0xBA83126F#32 *
    (Ideal.div (Ideal.div (mom g m) (Ideal.ofBits .f32 0x3F26BD02#32))
        (Ideal.sqrt (Ideal.div (vel g v) (Ideal.ofBits .f32 0x3C231ACC#32)) + Ideal.ofBits .f32 0x322BCC77#32)
      + Ideal.ofBits .f32 0x3C23D70A#32 * w)

theorem pay4_apply (g m v w : Vec Ideal S256x1536 .f32) (r : Fin 256) (q : Fin 1536) :
    k0_pay4 (F := Ideal) g m v w (ix2 r q) = delta (w (ix2 r q)) (g (ix2 r q)) (m (ix2 r q)) (v (ix2 r q)) := by
  pointwise [k0_pay4, k0_pay3, k0_pay2]
  rfl

theorem pay5_apply (g m : Vec Ideal S256x1536 .f32) (r : Fin 256) (q : Fin 1536) :
    k0_pay5 (F := Ideal) g m (ix2 r q) = mom (g (ix2 r q)) (m (ix2 r q)) := by
  pointwise [k0_pay5, k0_pay2]
  rfl

theorem pay1_apply (g v : Vec Ideal S256x1536 .f32) (r : Fin 256) (q : Fin 1536) :
    k0_pay1 (F := Ideal) (k0_pay3 g v) (ix2 r q) = vel (g (ix2 r q)) (v (ix2 r q)) := by
  pointwise [k0_pay1, k0_pay3]
  rfl

/-! ## One point's blocks -/

theorem out4 (w g m v : Vec Ideal S256x1536 .f32) : out0_4 (F := Ideal) w g m v = k0_pay4 g m v w := by
  unfold out0_4
  rw [View.ld_unit_zero (S := S256x1536) hz2, View.ld_unit_zero (S := S256x1536) hz2, View.ld_unit_zero (S := S256x1536) hz2, View.ld_unit_zero (S := S256x1536) hz2, View.canon_unit_zero hz2]

theorem out5 (w g m v : Vec Ideal S256x1536 .f32) : out0_5 (F := Ideal) w g m v = k0_pay5 g m := by
  unfold out0_5
  rw [View.ld_unit_zero (S := S256x1536) hz2, View.ld_unit_zero (S := S256x1536) hz2, View.canon_unit_zero hz2]

theorem out6 (w g m v : Vec Ideal S256x1536 .f32) : out0_6 (F := Ideal) w g m v = k0_pay1 (k0_pay3 g v) := by
  unfold out0_6
  rw [View.ld_unit_zero (S := S256x1536) hz2, View.ld_unit_zero (S := S256x1536) hz2, View.canon_unit_zero hz2]

/-! ## The arrays -/

variable (m : (ℓ : Loc nD τ sig) → Buf (Elt Ideal) ℓ) (c : Dev nD)

abbrev aW : FVec Ideal S2048x1536 .f32 := m ((c : Thread nD τ).loc main_arg0)
abbrev aG : FVec Ideal S2048x1536 .f32 := m ((c : Thread nD τ).loc main_arg1)
abbrev aM : FVec Ideal S2048x1536 .f32 := m ((c : Thread nD τ).loc main_arg2)
abbrev aV : FVec Ideal S2048x1536 .f32 := m ((c : Thread nD τ).loc main_arg3)

/-- Row `r` of block `t` of the arrays taken 256 rows at a time. -/
abbrev rowOf (t : Fin grid0.N) (r : Fin 256) : Fin 2048 := ⟨256 * t.val + r.val, by have := t.isLt; have := N_0; omega⟩

theorem ix_0 : ∀ t : Fin grid0.N, win0_0.index t 0 = t.val ∧ win0_0.index t 1 = 0 := by decide +kernel
theorem ix_1 : ∀ t : Fin grid0.N, win0_1.index t 0 = t.val ∧ win0_1.index t 1 = 0 := by decide +kernel
theorem ix_2 : ∀ t : Fin grid0.N, win0_2.index t 0 = t.val ∧ win0_2.index t 1 = 0 := by decide +kernel
theorem ix_3 : ∀ t : Fin grid0.N, win0_3.index t 0 = t.val ∧ win0_3.index t 1 = 0 := by decide +kernel
theorem ix_4 : ∀ t : Fin grid0.N, win0_4.index t 0 = t.val ∧ win0_4.index t 1 = 0 := by decide +kernel
theorem ix_5 : ∀ t : Fin grid0.N, win0_5.index t 0 = t.val ∧ win0_5.index t 1 = 0 := by decide +kernel
theorem ix_6 : ∀ t : Fin grid0.N, win0_6.index t 0 = t.val ∧ win0_6.index t 1 = 0 := by decide +kernel

theorem iblk_0 (t : Fin cfg0.N) (r : Fin 256) (q : Fin 1536) : (iblk m c 0 t : Vec Ideal S256x1536 .f32) (ix2 r q) = aW m c (ix2 (rowOf t r) q) := by
  refine Eq.trans ?_ (congrFun (V_main_arg0 m c) (ix2 (rowOf t r) q))
  unfold iblk
  rw [View.read_apply]
  show V m c main_arg0 _ = _
  congr 1
  funext a
  apply Fin.ext
  fin_cases a
  · show win0_0.index t 0 * 256 + 1 * r.val = 256 * t.val + r.val
    rw [(ix_0 t).1]; omega
  · show win0_0.index t 1 * 1536 + 1 * q.val = q.val
    rw [(ix_0 t).2]; omega

theorem iblk_1 (t : Fin cfg0.N) (r : Fin 256) (q : Fin 1536) : (iblk m c 1 t : Vec Ideal S256x1536 .f32) (ix2 r q) = aG m c (ix2 (rowOf t r) q) := by
  refine Eq.trans ?_ (congrFun (V_main_arg1 m c) (ix2 (rowOf t r) q))
  unfold iblk
  rw [View.read_apply]
  show V m c main_arg1 _ = _
  congr 1
  funext a
  apply Fin.ext
  fin_cases a
  · show win0_1.index t 0 * 256 + 1 * r.val = 256 * t.val + r.val
    rw [(ix_1 t).1]; omega
  · show win0_1.index t 1 * 1536 + 1 * q.val = q.val
    rw [(ix_1 t).2]; omega

theorem iblk_2 (t : Fin cfg0.N) (r : Fin 256) (q : Fin 1536) : (iblk m c 2 t : Vec Ideal S256x1536 .f32) (ix2 r q) = aM m c (ix2 (rowOf t r) q) := by
  refine Eq.trans ?_ (congrFun (V_main_arg2 m c) (ix2 (rowOf t r) q))
  unfold iblk
  rw [View.read_apply]
  show V m c main_arg2 _ = _
  congr 1
  funext a
  apply Fin.ext
  fin_cases a
  · show win0_2.index t 0 * 256 + 1 * r.val = 256 * t.val + r.val
    rw [(ix_2 t).1]; omega
  · show win0_2.index t 1 * 1536 + 1 * q.val = q.val
    rw [(ix_2 t).2]; omega

theorem iblk_3 (t : Fin cfg0.N) (r : Fin 256) (q : Fin 1536) : (iblk m c 3 t : Vec Ideal S256x1536 .f32) (ix2 r q) = aV m c (ix2 (rowOf t r) q) := by
  refine Eq.trans ?_ (congrFun (V_main_arg3 m c) (ix2 (rowOf t r) q))
  unfold iblk
  rw [View.read_apply]
  show V m c main_arg3 _ = _
  congr 1
  funext a
  apply Fin.ext
  fin_cases a
  · show win0_3.index t 0 * 256 + 1 * r.val = 256 * t.val + r.val
    rw [(ix_3 t).1]; omega
  · show win0_3.index t 1 * 1536 + 1 * q.val = q.val
    rw [(ix_3 t).2]; omega

/-- The three results. -/
def resDelta : FVec Ideal S2048x1536 .f32 := fun i => delta (aW m c i) (aG m c i) (aM m c i) (aV m c i)
def resMom : FVec Ideal S2048x1536 .f32 := fun i => mom (aG m c i) (aM m c i)
def resVel : FVec Ideal S2048x1536 .f32 := fun i => vel (aG m c i) (aV m c i)

theorem final4 : (dats m 0 c).arrAt 4 cfg0.N = resDelta m c := by
  refine (dats m 0 c).arrAt_eq_of_covers 4 _ (by decide +kernel) fun t hf y => ?_
  blk_simp
  rw [after0_4, out4]
  obtain ⟨r, q, rfl⟩ : ∃ (r : Fin 256) (q : Fin 1536), y = ix2 r q := ⟨y 0, y 1, funext fun a => by fin_cases a <;> rfl⟩
  rw [pay4_apply]
  have e0 : (win0_4.blk t).view.emb (ix2 r q) = ix2 (rowOf t r) q := by
    blk_ext [ix_4]
  rw [e0, iblk_0, iblk_1, iblk_2, iblk_3]
  rfl

theorem final5 : (dats m 0 c).arrAt 5 cfg0.N = resMom m c := by
  refine (dats m 0 c).arrAt_eq_of_covers 5 _ (by decide +kernel) fun t hf y => ?_
  blk_simp
  rw [after0_5, out5]
  obtain ⟨r, q, rfl⟩ : ∃ (r : Fin 256) (q : Fin 1536), y = ix2 r q := ⟨y 0, y 1, funext fun a => by fin_cases a <;> rfl⟩
  rw [pay5_apply]
  have e0 : (win0_5.blk t).view.emb (ix2 r q) = ix2 (rowOf t r) q := by
    blk_ext [ix_5]
  rw [e0, iblk_1, iblk_2]
  rfl

theorem final6 : (dats m 0 c).arrAt 6 cfg0.N = resVel m c := by
  refine (dats m 0 c).arrAt_eq_of_covers 6 _ (by decide +kernel) fun t hf y => ?_
  blk_simp
  rw [after0_6, out6]
  obtain ⟨r, q, rfl⟩ : ∃ (r : Fin 256) (q : Fin 1536), y = ix2 r q := ⟨y 0, y 1, funext fun a => by fin_cases a <;> rfl⟩
  rw [pay1_apply]
  have e0 : (win0_6.blk t).view.emb (ix2 r q) = ix2 (rowOf t r) q := by
    blk_ext [ix_6]
  rw [e0, iblk_1, iblk_3]
  rfl

/-! ## The reference -/

theorem ref_mom (g m : FVec Ideal S2048x1536 .f32) (r : Fin 2048) (q : Fin 1536) :
    val_main_v4 (F := Ideal) g m (ix2 r q) = mom (g (ix2 r q)) (m (ix2 r q)) := by
  pointwise [val_main_v4, val_main_v3, val_main_v2, val_main_v1, val_main_v0, val_main_cst, val_main_cst_0]
  rfl

theorem ref_vel (g v : FVec Ideal S2048x1536 .f32) (r : Fin 2048) (q : Fin 1536) :
    val_main_v10 (F := Ideal) g v (ix2 r q) = vel (g (ix2 r q)) (v (ix2 r q)) := by
  pointwise [val_main_v10, val_main_v9, val_main_v8, val_main_v7, val_main_v6, val_main_v5, val_main_cst_1, val_main_cst_2]
  rfl

theorem ref_delta (w g m v : FVec Ideal S2048x1536 .f32) (r : Fin 2048) (q : Fin 1536) :
    val_main_v23 (F := Ideal) w g m v (ix2 r q) = delta (w (ix2 r q)) (g (ix2 r q)) (m (ix2 r q)) (v (ix2 r q)) := by
  pointwise [val_main_v23, val_main_v22, val_main_v21, val_main_v20, val_main_v19, val_main_v18, val_main_v17, val_main_v16, val_main_v15, val_main_v14, val_main_v13,
    val_main_v12, val_main_v11, val_main_v10, val_main_v9, val_main_v8, val_main_v7, val_main_v6, val_main_v5, val_main_v4, val_main_v3, val_main_v2, val_main_v1, val_main_v0,
    val_main_cst, val_main_cst_0, val_main_cst_1, val_main_cst_2, val_main_cst_3, val_main_cst_4, val_main_cst_5, val_main_cst_6, val_main_cst_7]
  rfl

theorem ref_res_delta : val_main_v23 (F := Ideal) (m ((c : Thread nD τ).loc main_arg0)) (m ((c : Thread nD τ).loc main_arg1)) (m ((c : Thread nD τ).loc main_arg2)) (m ((c : Thread nD τ).loc main_arg3)) = resDelta m c := funext fun i => by
  obtain ⟨r, q, rfl⟩ : ∃ (r : Fin 2048) (q : Fin 1536), i = ix2 r q := ⟨i 0, i 1, funext fun a => by fin_cases a <;> rfl⟩
  exact ref_delta _ _ _ _ r q

theorem ref_res_mom : val_main_v4 (F := Ideal) (m ((c : Thread nD τ).loc main_arg1)) (m ((c : Thread nD τ).loc main_arg2)) = resMom m c := funext fun i => by
  obtain ⟨r, q, rfl⟩ : ∃ (r : Fin 2048) (q : Fin 1536), i = ix2 r q := ⟨i 0, i 1, funext fun a => by fin_cases a <;> rfl⟩
  exact ref_mom _ _ r q

theorem ref_res_vel : val_main_v10 (F := Ideal) (m ((c : Thread nD τ).loc main_arg1)) (m ((c : Thread nD τ).loc main_arg3)) = resVel m c := funext fun i => by
  obtain ⟨r, q, rfl⟩ : ∃ (r : Fin 2048) (q : Fin 1536), i = ix2 r q := ⟨i 0, i 1, funext fun a => by fin_cases a <;> rfl⟩
  exact ref_vel _ _ r q

end Cert.Adamw

end
-- ==== Proof.DhKernel.lean ====
module

public import proofs.«01_k».proof.Proof.Gen.KernelIdeal.Value
public import proofs.«01_k».proof.Proof.Common
public import Idealize.ShloMosaic.Lib.Pointwise
public import Idealize.ShloMosaic.PureOps.Ideal.Laws

@[expose] public section

noncomputable section

/-! # What the norm-gradient call leaves in its two result arrays, index by index -/

namespace Cert.Dh

open Idealize.ShloMosaic Idealize.ShloMosaic.TcCoe Idealize.SL.Sem
open Idealize.ShloMosaic.Pipeline (Dat)
open Cert.KernelIdeal Cert.KernelIdeal.Gen Cert.Common

/-! ## What one point stores -/

section Point

variable (c : Dev nD) (i : grid0.Coords) (arg1 : Memref sig .tc .vmem S256x6144 .bf16) (harg1 : arg1.IsWhole) (arg2 : Memref sig .tc .vmem S4x2048x1536 .bf16) (harg2 : arg2.IsWhole) (arg3 : Memref sig .tc .vmem S256x2048 .f32) (harg3 : arg3.IsWhole) (arg4 : Memref sig .tc .vmem S256x2048 .f32) (harg4 : arg4.IsWhole) (arg5 : Memref sig .tc .vmem S1x2048 .f32) (harg5 : arg5.IsWhole) (arg6 : Memref sig .tc .vmem S256x2048 .f32) (harg6 : arg6.IsWhole) (arg7 : Memref sig .tc .vmem S8x2048 .f32) (harg7 : arg7.IsWhole)
  (x0 : Vec Ideal S256x6144 .bf16) (x1 : Vec Ideal S4x2048x1536 .bf16) (x2 : Vec Ideal S256x2048 .f32) (x3 : Vec Ideal S256x2048 .f32) (x4 : Vec Ideal S1x2048 .f32) (xo6 : Vec Ideal S8x2048 .f32)

/-- The gradient of the product's left factor: the four column blocks' products, summed. -/
abbrev dhBlk (x0 : Vec Ideal S256x6144 .bf16) (x1 : Vec Ideal S4x2048x1536 .bf16) : Vec Ideal S256x2048 .f32 :=
  k0_pay6 (View.ld x0 (Rect.unit ![0, 0] ![256, 1536] inb_S256x6144_S256x1536_0_0)) (View.ld x1 (Rect.unit ![0, 0, 0] ![1, 2048, 1536] inb_S4x2048x1536_S1x2048x1536_0_0_0))
    (View.ld x0 (Rect.unit ![0, 1536] ![256, 1536] inb_S256x6144_S256x1536_0_1536)) (View.ld x1 (Rect.unit ![1, 0, 0] ![1, 2048, 1536] inb_S4x2048x1536_S1x2048x1536_1_0_0))
    (View.ld x0 (Rect.unit ![0, 3072] ![256, 1536] inb_S256x6144_S256x1536_0_3072)) (View.ld x1 (Rect.unit ![2, 0, 0] ![1, 2048, 1536] inb_S4x2048x1536_S1x2048x1536_2_0_0))
    (View.ld x0 (Rect.unit ![0, 4608] ![256, 1536] inb_S256x6144_S256x1536_0_4608)) (View.ld x1 (Rect.unit ![3, 0, 0] ![1, 2048, 1536] inb_S4x2048x1536_S1x2048x1536_3_0_0))

/-- The block of the gradient of `x` a point stores. -/
abbrev dxBlk (x0 : Vec Ideal S256x6144 .bf16) (x1 : Vec Ideal S4x2048x1536 .bf16) (x2 x3 : Vec Ideal S256x2048 .f32) (x4 : Vec Ideal S1x2048 .f32) :
    Vec Ideal S256x2048 .f32 := k0_pay4 (dhBlk x0 x1) x2 (k0_pay7 x2) x4 x3

theorem out_B5 (hc0 : ¬cond0_0 i) :
    out0_B_5 c i arg1 harg1 arg2 harg2 arg3 harg3 arg4 harg4 arg5 harg5 arg6 harg6 arg7 harg7 hc0 x0 x1 x2 x3 x4 xo6 = dxBlk x0 x1 x2 x3 x4 := by
  unfold out0_B_5
  rw [View.read_writes_eq_canon _ _ _ (cover0_B_5 c i arg1 harg1 arg2 harg2 arg3 harg3 arg4 harg4 arg5 harg5 arg6 harg6 arg7 harg7 hc0 x0 x1 x2 x3 x4 xo6)]
  unfold kernelRun0_B
  dsimp only
  sl_unfold_words
  rw [View.canon_unit_zero hz2]
  simp only [View.readAt_eq_ld, harg1.read_unread, harg2.read_unread, harg3.read_unread, harg4.read_unread, harg5.read_unread, harg6.read_unread, harg7.read_unread, View.ld_unit_zero (S := S256x2048) hz2, View.ld_unit_zero (S := S1x2048) hz2, shapeCast_self]

theorem out_A5 (hc0 : cond0_0 i) :
    out0_A_5 c i arg1 harg1 arg2 harg2 arg3 harg3 arg4 harg4 arg5 harg5 arg6 harg6 arg7 harg7 hc0 x0 x1 x2 x3 x4 = dxBlk x0 x1 x2 x3 x4 := by
  unfold out0_A_5
  rw [View.read_writes_eq_canon _ _ _ (cover0_A_5 c i arg1 harg1 arg2 harg2 arg3 harg3 arg4 harg4 arg5 harg5 arg6 harg6 arg7 harg7 hc0 x0 x1 x2 x3 x4)]
  unfold kernelRun0_A
  dsimp only
  sl_unfold_words
  rw [View.canon_unit_zero hz2]
  simp only [View.readAt_eq_ld, harg1.read_unread, harg2.read_unread, harg3.read_unread, harg4.read_unread, harg5.read_unread, harg6.read_unread, harg7.read_unread, View.ld_unit_zero (S := S256x2048) hz2, View.ld_unit_zero (S := S1x2048) hz2, shapeCast_self]

/-- The rectangle of the accumulator's first row. -/
abbrev row0 : Rect S8x2048 := Rect.unit ![0, 0] ![1, 2048] inb_S8x2048_S1x2048_0_0

theorem out_B6 (hc0 : ¬cond0_0 i) (q : Fin 2048) :
    out0_B_6 c i arg1 harg1 arg2 harg2 arg3 harg3 arg4 harg4 arg5 harg5 arg6 harg6 arg7 harg7 hc0 x0 x1 x2 x3 x4 xo6 (ix2 0 q) = k0_pay3 (dhBlk x0 x1) x2 (k0_pay7 x2) (View.ld xo6 row0) (ix2 0 q) := by
  unfold out0_B_6
  unfold kernelRun0_B
  dsimp only
  sl_unfold_words
  simp only [View.readAt_eq_ld, harg1.read_unread, harg2.read_unread, harg3.read_unread, harg4.read_unread, harg5.read_unread, harg6.read_unread, harg7.read_unread, View.ld_unit_zero (S := S256x2048) hz2, View.ld_unit_zero (S := S1x2048) hz2, shapeCast_self]
  generalize k0_pay3 (F := Ideal) _ _ _ _ = w
  refine View.read_writes_cons_hit_of_coords _ _ row0 _ _ (ix2 (0 : Fin 1) q) _ fun a => ?_
  fin_cases a
  · rfl
  · show q.val = 0 + 1 * q.val
    omega

theorem out_B6' (hc0 : ¬cond0_0 i) (p : Fin 8) (hp : p ≠ 0) (q : Fin 2048) :
    out0_B_6 c i arg1 harg1 arg2 harg2 arg3 harg3 arg4 harg4 arg5 harg5 arg6 harg6 arg7 harg7 hc0 x0 x1 x2 x3 x4 xo6 (ix2 p q) = xo6 (ix2 p q) := by
  unfold out0_B_6
  unfold kernelRun0_B
  dsimp only
  sl_unfold_words
  simp only [View.readAt_eq_ld, harg1.read_unread, harg2.read_unread, harg3.read_unread, harg4.read_unread, harg5.read_unread, harg6.read_unread, harg7.read_unread, View.ld_unit_zero (S := S256x2048) hz2, View.ld_unit_zero (S := S1x2048) hz2, shapeCast_self]
  refine (View.read_writes_cons_miss_of_axis _ _ _ _ _ 0 0 1 rfl rfl rfl (Or.inr ?_)).trans (congrFun (harg7.read_unread xo6) _)
  show 0 + 1 ≤ p.val
  have := Fin.val_ne_of_ne hp
  simp only [Fin.val_zero] at this
  omega

theorem out_A6 (hc0 : cond0_0 i) (q : Fin 2048) :
    out0_A_6 c i arg1 harg1 arg2 harg2 arg3 harg3 arg4 harg4 arg5 harg5 arg6 harg6 arg7 harg7 hc0 x0 x1 x2 x3 x4 (ix2 0 q) = k0_pay3 (dhBlk x0 x1) x2 (k0_pay7 x2) (fun _ => (0 : EReal)) (ix2 0 q) := by
  unfold out0_A_6
  unfold kernelRun0_A
  dsimp only
  sl_unfold_words
  simp only [View.readAt_eq_ld, harg1.read_unread, harg2.read_unread, harg3.read_unread, harg4.read_unread, harg5.read_unread, harg6.read_unread, harg7.read_unread, View.ld_unit_zero (S := S256x2048) hz2, View.ld_unit_zero (S := S1x2048) hz2, shapeCast_self]
  have e : (arg7.view.readCov (Val := Elt Ideal) [⟨Rect.unit ![0, 0] ![8, 2048] inb_S8x2048_S8x2048_0_0, k0_pay5 (F := Ideal)⟩] row0.toLoadRect) = fun _ => (0 : EReal) := by
    rw [View.readCov_eq_canon_ld _ _ _ (fun y => ⟨_, List.mem_singleton_self _, by
      show y ∈ (Rect.unit (s := S8x2048) ![0, 0] ![8, 2048] inb_S8x2048_S8x2048_0_0).set
      rw [Rect.mem_set_unit]
      intro a
      have := (y a).isLt
      fin_cases a <;> exact ⟨Nat.zero_le _, by simpa using this⟩⟩), View.canon_unit_zero hz2]
    funext y
    exact Ideal.ofBits_zero .f32
  rw [e]
  generalize hw : k0_pay3 (F := Ideal) _ _ _ _ = w
  refine (View.read_writes_cons_hit_of_coords _ _ row0 _ _ (ix2 (0 : Fin 1) q) _ fun a => ?_).trans (congrFun hw.symm _)
  fin_cases a
  · rfl
  · show q.val = 0 + 1 * q.val
    omega

theorem out_A6' (hc0 : cond0_0 i) (p : Fin 8) (hp : p ≠ 0) (q : Fin 2048) :
    out0_A_6 c i arg1 harg1 arg2 harg2 arg3 harg3 arg4 harg4 arg5 harg5 arg6 harg6 arg7 harg7 hc0 x0 x1 x2 x3 x4 (ix2 p q) = (0 : EReal) := by
  unfold out0_A_6
  unfold kernelRun0_A
  dsimp only
  sl_unfold_words
  refine (View.read_writes_cons_miss_of_axis _ _ _ _ _ 0 0 1 rfl rfl rfl (Or.inr ?_)).trans ?_
  · show 0 + 1 ≤ p.val
    have := Fin.val_ne_of_ne hp
    simp only [Fin.val_zero] at this
    omega
  · refine (View.read_writes_cons_hit_of_coords _ _ _ _ _ (ix2 p q) _ fun a => ?_).trans (Ideal.ofBits_zero .f32)
    fin_cases a
    · show p.val = 0 + 1 * p.val
      omega
    · show q.val = 0 + 1 * q.val
      omega

end Point

end Cert.Dh

end
-- ==== Proof.DhArrays.lean ====
module

public import proofs.«01_k».proof.Proof.DhKernel
public import proofs.«01_k».proof.Proof.Common
public import Idealize.ShloMosaic.Lib.ValueLayout
public import Idealize.ShloMosaic.Lib.Pipeline.ValueKit.Geometry

@[expose] public section

noncomputable section

/-! # The norm-gradient call's arrays, index by index -/

namespace Cert.Dh

open Idealize.ShloMosaic Idealize.ShloMosaic.TcCoe Idealize.SL.Sem
open Idealize.ShloMosaic.Pipeline (Dat)
open Cert.KernelIdeal Cert.KernelIdeal.Gen Cert.Common

variable (m : (ℓ : Loc nD τ sig) → Buf (Elt Ideal) ℓ) (c : Dev nD)

/-! ## What the host hands over -/

theorem V_v3 (r : Fin 4096) (k : Fin 6144) : V m c main_v3 (ix2 r k) = m ((c : Thread nD τ).loc main_arg3) (ix2 r k) := by
  unfold V
  after_results
  rfl

theorem V_v4 (q : Fin 2048) : V m c main_v4 (ix2 0 q) = m ((c : Thread nD τ).loc main_arg1) (ix1 q) := by
  unfold V
  after_results
  pointwise

theorem V_v2 (b : Fin 4) (q : Fin 2048) (k : Fin 1536) : V m c main_v2 (ix3 b q k) = m ((c : Thread nD τ).loc main_arg2) (ix2 q ⟨1536 * b.val + k.val, by omega⟩) := by
  unfold V
  after_results
  show transpose (α := EReal) S4x2048x1536 [1, 0, 2] (shapeCast (α := EReal) S2048x4x1536 (m ((c : Thread nD τ).loc main_arg2)) shapeCasts_S2048x6144_S2048x4x1536) transposes_S2048x4x1536_S4x2048x1536_1_0_2 (ix3 b q k) = _
  refine (transpose_apply [1, 0, 2] _ transposes_S2048x4x1536_S4x2048x1536_1_0_2 (ix3 b q k) (ix3 q b k) fun a => ?_).trans ?_
  · fin_cases a <;> rfl
  · refine shapeCast_apply _ shapeCasts_S2048x6144_S2048x4x1536 (ix3 q b k) (ix2 q ⟨1536 * b.val + k.val, by omega⟩) ?_
    rw [Shape.rowMajor_val_three, Shape.rowMajor_val_two]
    show q.val * 6144 + (1536 * b.val + k.val) = (q.val * 4 + b.val) * 1536 + k.val
    omega

theorem ix_0 : ∀ t : Fin grid0.N, win0_0.index t 0 = t.val ∧ win0_0.index t 1 = 0 := by decide +kernel
theorem ix_1 : ∀ t : Fin grid0.N, win0_1.index t 0 = 0 ∧ win0_1.index t 1 = 0 ∧ win0_1.index t 2 = 0 := by decide +kernel
theorem ix_2 : ∀ t : Fin grid0.N, win0_2.index t 0 = t.val ∧ win0_2.index t 1 = 0 := by decide +kernel
theorem ix_3 : ∀ t : Fin grid0.N, win0_3.index t 0 = t.val ∧ win0_3.index t 1 = 0 := by decide +kernel
theorem ix_4 : ∀ t : Fin grid0.N, win0_4.index t 0 = 0 ∧ win0_4.index t 1 = 0 := by decide +kernel
theorem ix_5 : ∀ t : Fin grid0.N, win0_5.index t 0 = t.val ∧ win0_5.index t 1 = 0 := by decide +kernel
theorem ix_6 : ∀ t : Fin grid0.N, win0_6.index t 0 = 0 ∧ win0_6.index t 1 = 0 := by decide +kernel

/-- Row `r` of block `t` of the arrays taken 256 rows at a time. -/
abbrev rowOf (t : Fin grid0.N) (r : Fin 256) : Fin 4096 := ⟨256 * t.val + r.val, by have := t.isLt; have := N_0; omega⟩

theorem iblk_2 (t : Fin cfg0.N) (r : Fin 256) (q : Fin 2048) :
    (iblk m c 2 t : Vec Ideal S256x2048 .f32) (ix2 r q) = m ((c : Thread nD τ).loc main_arg0) (ix2 (rowOf t r) q) := by
  unfold iblk
  rw [View.read_apply]
  show V m c main_arg0 _ = _
  rw [V_main_arg0]
  congr 1
  funext a
  apply Fin.ext
  fin_cases a
  · show win0_2.index t 0 * 256 + 1 * r.val = 256 * t.val + r.val
    rw [(ix_2 t).1]; omega
  · show win0_2.index t 1 * 2048 + 1 * q.val = q.val
    rw [(ix_2 t).2]; omega

theorem iblk_1 (t : Fin cfg0.N) (b : Fin 4) (q : Fin 2048) (k : Fin 1536) :
    (iblk m c 1 t : Vec Ideal S4x2048x1536 .bf16) (ix3 b q k) = V m c main_v2 (ix3 b q k) := by
  unfold iblk
  rw [View.read_apply]
  show V m c main_v2 _ = _
  congr 1
  funext a
  apply Fin.ext
  fin_cases a
  · show win0_1.index t 0 * 4 + 1 * b.val = b.val
    rw [(ix_1 t).1]; omega
  · show win0_1.index t 1 * 2048 + 1 * q.val = q.val
    rw [(ix_1 t).2.1]; omega
  · show win0_1.index t 2 * 1536 + 1 * k.val = k.val
    rw [(ix_1 t).2.2]; omega

/-- A row of the gradient of `x`, of the row `X`, the gain `G`, the row `D` of the product's gradient and the row `O` of the residual's. -/
def dxRow (X G D O : Fin 2048 → EReal) (q : Fin 2048) : EReal :=
  O q + rr X * (D q * G q - X q * rr X * Ideal.div (∑ x, D x * G x * (X x * rr X)) (Ideal.ofBits .f32 1157627904#32))

section Pay
variable (x0 : Vec Ideal S256x6144 .bf16) (x1 : Vec Ideal S4x2048x1536 .bf16) (x2 x3 : Vec Ideal S256x2048 .f32) (x4 : Vec Ideal S1x2048 .f32) (a0 : Vec Ideal S1x2048 .f32)

theorem pay3_apply (d : Vec Ideal S256x2048 .f32) (q : Fin 2048) :
    k0_pay3 d x2 (k0_pay7 x2) a0 (ix2 0 q) = a0 (ix2 0 q) + ∑ x, d (ix2 x q) * (x2 (ix2 x q) * rr fun k => x2 (ix2 x k)) := by
  pointwise [k0_pay3, k0_pay7, k0_pay1, k0_pay2]
  rfl

theorem pay4_apply (d : Vec Ideal S256x2048 .f32) (r : Fin 256) (q : Fin 2048) :
    k0_pay4 d x2 (k0_pay7 x2) x4 x3 (ix2 r q)
      = dxRow (fun k => x2 (ix2 r k)) (fun k => x4 (ix2 0 k)) (fun k => d (ix2 r k)) (fun k => x3 (ix2 r k)) q := by
  pointwise [k0_pay4, k0_pay7, k0_pay1, k0_pay2]
  rfl

theorem sum_blocks (f : Fin 6144 → EReal) :
    ∑ k, f k = ∑ k : Fin 1536, f ⟨k, by omega⟩ + ∑ k : Fin 1536, f ⟨1536 + k, by omega⟩ + ∑ k : Fin 1536, f ⟨3072 + k, by omega⟩ + ∑ k : Fin 1536, f ⟨4608 + k, by omega⟩ := by
  have := Fin.sum_univ_add (a := 1536 + 1536 + 1536) (b := 1536) f
  rw [Fin.sum_univ_add (a := 1536 + 1536) (b := 1536), Fin.sum_univ_add (a := 1536) (b := 1536)] at this
  exact this

theorem dhBlk_apply (r : Fin 256) (q : Fin 2048) (C : Fin 6144 → EReal) (W : Fin 6144 → EReal)
    (hC : ∀ k, x0 (ix2 r k) = C k) (hW : ∀ (b : Fin 4) (k : Fin 1536), x1 (ix3 b q k) = W ⟨1536 * b.val + k.val, by omega⟩) :
    dhBlk x0 x1 (ix2 r q) = ∑ k, C k * W k := by
  rw [sum_blocks]
  pointwise [k0_pay6]
  simp only [hC, hW]
  congr 1
end Pay

theorem iblk_0 (t : Fin cfg0.N) (r : Fin 256) (k : Fin 6144) :
    (iblk m c 0 t : Vec Ideal S256x6144 .bf16) (ix2 r k) = m ((c : Thread nD τ).loc main_arg3) (ix2 (rowOf t r) k) := by
  rw [← V_v3 m c]
  unfold iblk
  rw [View.read_apply]
  show V m c main_v3 _ = _
  congr 1
  funext a
  apply Fin.ext
  fin_cases a
  · show win0_0.index t 0 * 256 + 1 * r.val = 256 * t.val + r.val
    rw [(ix_0 t).1]; omega
  · show win0_0.index t 1 * 6144 + 1 * k.val = k.val
    rw [(ix_0 t).2]; omega

theorem iblk_3 (t : Fin cfg0.N) (r : Fin 256) (q : Fin 2048) :
    (iblk m c 3 t : Vec Ideal S256x2048 .f32) (ix2 r q) = m ((c : Thread nD τ).loc main_arg4) (ix2 (rowOf t r) q) := by
  unfold iblk
  rw [View.read_apply]
  show V m c main_arg4 _ = _
  rw [V_main_arg4]
  congr 1
  funext a
  apply Fin.ext
  fin_cases a
  · show win0_3.index t 0 * 256 + 1 * r.val = 256 * t.val + r.val
    rw [(ix_3 t).1]; omega
  · show win0_3.index t 1 * 2048 + 1 * q.val = q.val
    rw [(ix_3 t).2]; omega

theorem iblk_4 (t : Fin cfg0.N) (q : Fin 2048) :
    (iblk m c 4 t : Vec Ideal S1x2048 .f32) (ix2 0 q) = m ((c : Thread nD τ).loc main_arg1) (ix1 q) := by
  rw [← V_v4 m c]
  unfold iblk
  rw [View.read_apply]
  show V m c main_v4 _ = _
  congr 1
  funext a
  apply Fin.ext
  fin_cases a
  · show win0_4.index t 0 * 1 + 1 * 0 = 0
    rw [(ix_4 t).1]
  · show win0_4.index t 1 * 2048 + 1 * q.val = q.val
    rw [(ix_4 t).2]; omega

/-! ## The result arrays -/

/-- A row of `x`, of the residual's gradient and of the product's gradient, and the gain. -/
abbrev xRow (R : Fin 4096) (q : Fin 2048) : EReal := m ((c : Thread nD τ).loc main_arg0) (ix2 R q)
abbrev oRow (R : Fin 4096) (q : Fin 2048) : EReal := m ((c : Thread nD τ).loc main_arg4) (ix2 R q)
abbrev gain (q : Fin 2048) : EReal := m ((c : Thread nD τ).loc main_arg1) (ix1 q)
abbrev cRow (R : Fin 4096) (k : Fin 6144) : EReal := m ((c : Thread nD τ).loc main_arg3) (ix2 R k)
abbrev wRow (q : Fin 2048) (k : Fin 6144) : EReal := m ((c : Thread nD τ).loc main_arg2) (ix2 q k)
def dRow (R : Fin 4096) (q : Fin 2048) : EReal := ∑ k : Fin 6144, cRow m c R k * wRow m c q k

/-- The term of the gain's gradient that row `R` adds. -/
def gTerm (q : Fin 2048) (R : Fin 4096) : EReal := dRow m c R q * (xRow m c R q * rr (xRow m c R))

/-- What the first result array ends at. -/
def dxArr : Buf (Elt Ideal) ((c : Thread nD τ).loc main_v5_0) :=
  fun i => dxRow (xRow m c (i 0)) (gain m c) (dRow m c (i 0)) (oRow m c (i 0)) (i 1)

/-- What the second ends at. -/
def ggArr : Buf (Elt Ideal) ((c : Thread nD τ).loc main_v5_1) :=
  fun i => if (i 0).val = 0 then (∑ R, gTerm m c (i 1) R : EReal) else (0 : EReal)

theorem dh_apply (t : Fin cfg0.N) (r : Fin 256) (q : Fin 2048) :
    dhBlk (iblk m c 0 t) (iblk m c 1 t) (ix2 r q) = dRow m c (rowOf t r) q :=
  dhBlk_apply _ _ r q (cRow m c (rowOf t r)) (wRow m c q)
    (fun k => iblk_0 m c t r k) (fun b k => (iblk_1 m c t b q k).trans (V_v2 m c b q k))

theorem dx_apply (t : Fin cfg0.N) (r : Fin 256) (q : Fin 2048) :
    dxBlk (iblk m c 0 t) (iblk m c 1 t) (iblk m c 2 t) (iblk m c 3 t) (iblk m c 4 t) (ix2 r q)
      = dxRow (xRow m c (rowOf t r)) (gain m c) (dRow m c (rowOf t r)) (oRow m c (rowOf t r)) q := by
  unfold dxBlk
  rw [pay4_apply]
  simp only [dh_apply, iblk_2, iblk_3, iblk_4]

theorem out_fst (t : Fin cfg0.N) : (outsAt0 m c t.val t.isLt).1 = dxBlk (iblk m c 0 t) (iblk m c 1 t) (iblk m c 2 t) (iblk m c 3 t) (iblk m c 4 t) := by
  by_cases h : t.val % 16 = 0
  · rw [outsAt0_A m c t h]
    dsimp only
    rw [out_A5]
  · rw [outsAt0_B m c t h]
    dsimp only
    rw [out_B5]

theorem final5 : (dats m 0 c).arrAt 5 cfg0.N = dxArr m c := by
  refine (dats m 0 c).arrAt_eq_of_covers 5 _ (by decide +kernel) fun t hf y => ?_
  blk_simp
  rw [after0_5, out_fst]
  obtain ⟨r, q, rfl⟩ : ∃ (r : Fin 256) (q : Fin 2048), y = ix2 r q := ⟨y 0, y 1, funext fun a => by fin_cases a <;> rfl⟩
  rw [dx_apply]
  have e0 : (win0_5.blk t).view.emb (ix2 r q) = ix2 (rowOf t r) q := by
    blk_ext [ix_5]
  rw [e0]
  rfl

theorem ld_row0 (v : Vec Ideal S8x2048 .f32) (q : Fin 2048) : View.ld v row0 (ix2 0 q) = v (ix2 0 q) := by
  show v _ = v _
  congr 1
  funext a
  fin_cases a
  · rfl
  · exact Fin.ext (by show 0 + 1 * q.val = q.val; omega)

theorem out_snd (n : Nat) (h : n < cfg0.N) (q : Fin 2048) :
    (outsAt0 m c n h).2 (ix2 0 q) = ∑ k ∈ Finset.range (256 * (n + 1)), ext (gTerm m c q) k := by
  have hN : cfg0.N = 16 := N_0
  induction n with
  | zero =>
    rw [show (outsAt0 m c 0 h).2 = _ from congrArg Prod.snd (outsAt0_A m c ⟨0, h⟩ rfl)]
    dsimp only
    rw [out_A6, pay3_apply, ← sum_ext_block (gTerm m c q) 0 256 (by omega)]
    refine congrArg₂ (· + ·) rfl (Finset.sum_congr rfl fun x _ => ?_)
    rw [dh_apply]
    simp only [iblk_2]
    rfl
  | succ n ih =>
    rw [show (outsAt0 m c (n + 1) h).2 = _ from congrArg Prod.snd (outsAt0_B m c ⟨n + 1, h⟩ (by dsimp only; omega))]
    dsimp only
    rw [out_B6, pay3_apply, show 256 * (n + 1 + 1) = 256 * (n + 1) + 256 by omega, ← sum_ext_block (gTerm m c q) (256 * (n + 1)) 256 (by omega)]
    refine congrArg₂ (· + ·) ((ld_row0 _ q).trans (ih _)) (Finset.sum_congr rfl fun x _ => ?_)
    rw [dh_apply]
    simp only [iblk_2]
    rfl

theorem out_snd' (n : Nat) (h : n < cfg0.N) (p : Fin 8) (hp : p ≠ 0) (q : Fin 2048) :
    (outsAt0 m c n h).2 (ix2 p q) = (0 : EReal) := by
  have hN : cfg0.N = 16 := N_0
  induction n with
  | zero =>
    rw [show (outsAt0 m c 0 h).2 = _ from congrArg Prod.snd (outsAt0_A m c ⟨0, h⟩ rfl)]
    dsimp only
    rw [out_A6' (hp := hp)]
  | succ n ih =>
    rw [show (outsAt0 m c (n + 1) h).2 = _ from congrArg Prod.snd (outsAt0_B m c ⟨n + 1, h⟩ (by dsimp only; omega))]
    dsimp only
    rw [out_B6' (hp := hp)]
    exact ih _

theorem final6 : (dats m 0 c).arrAt 6 cfg0.N = ggArr m c := by
  refine (dats m 0 c).arrAt_eq_of_covers 6 _ (by decide +kernel) fun t hf y => ?_
  have ht := (flush0_6 t).mp hf
  have hN : t.val < 16 := lt_of_lt_of_eq t.isLt N_0
  blk_simp
  rw [after0_6]
  obtain ⟨p, q, rfl⟩ : ∃ (p : Fin 8) (q : Fin 2048), y = ix2 p q := ⟨y 0, y 1, funext fun a => by fin_cases a <;> rfl⟩
  have e0 : (win0_6.blk t).view.emb (ix2 p q) = ix2 p q := by
    blk_ext [ix_6]
  rw [e0]
  by_cases hp : p = 0
  · subst hp
    rw [out_snd, show 256 * (t.val + 1) = 4096 by omega, sum_ext]
    rfl
  · rw [out_snd' m c _ _ p hp]
    exact (if_neg (Fin.val_ne_of_ne hp)).symm

end Cert.Dh

end
-- ==== Proof.DhReference.lean ====
module

public import proofs.«01_k».proof.Proof.Gen.ReferenceIdeal.Read
public import proofs.«01_k».proof.Proof.DhArrays
public import Idealize.ShloMosaic.Lib.Pointwise

@[expose] public section

noncomputable section

/-! # The reference of the norm-gradient call, index by index -/

namespace Cert.DhRef

open Idealize.ShloMosaic
open Cert.ReferenceIdeal Cert.ReferenceIdeal.Read Cert.Common Cert.Dh

variable (x0 : (⟨S4096x2048, .f32⟩ : BufTy).Contents (Elt Ideal)) (x1 : (⟨S2048, .f32⟩ : BufTy).Contents (Elt Ideal))
  (x2 : (⟨S2048x6144, .f32⟩ : BufTy).Contents (Elt Ideal)) (x3 : (⟨S4096x6144, .f32⟩ : BufTy).Contents (Elt Ideal))
  (x4 : (⟨S4096x2048, .f32⟩ : BufTy).Contents (Elt Ideal))

/-- The gradient of the product's left factor, at a row. -/
def dRef (r : Fin 4096) (q : Fin 2048) : EReal := ∑ k : Fin 6144, x3 (ix2 r k) * x2 (ix2 q k)

theorem ref_dx (r : Fin 4096) (q : Fin 2048) :
    val_main_v38 x0 x1 x2 x3 x4 (ix2 r q) = x4 (ix2 r q)
      + dRef x2 x3 r q * x1 (ix1 q) * rr (fun k => x0 (ix2 r k))
      + x0 (ix2 r q) * msGrad (fun k => x0 (ix2 r k)) (fun k => dRef x2 x3 r k * x1 (ix1 k))
      + msGrad (fun k => x0 (ix2 r k)) (fun k => dRef x2 x3 r k * x1 (ix1 k)) * x0 (ix2 r q) := by
  pointwise [val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0,
    val_main_cst, val_main_cst_0, val_main_cst_1, val_main_cst_2, val_main_cst_3, val_main_cst_4, val_main_cst_5, val_main_cst_6, val_main_cst_7, val_main_cst_8]
  rw [Fin.sum_univ_one]
  rfl

theorem ref_row (q : Fin 2048) :
    val_main_v39 x0 x2 x3 (ix2 0 q) = ∑ r : Fin 4096, x0 (ix2 r q) * rr (fun k => x0 (ix2 r k)) * dRef x2 x3 r q := by
  pointwise [val_main_v39, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0,
    val_main_cst, val_main_cst_0, val_main_cst_1, val_main_cst_2, val_main_cst_3, val_main_cst_4, val_main_cst_5, val_main_cst_6, val_main_cst_7, val_main_cst_8]
  rw [Fin.sum_univ_one]
  rfl

theorem ref_gg0 (q : Fin 2048) :
    val_main_v41 x0 x2 x3 (ix2 0 q) = ∑ r : Fin 4096, x0 (ix2 r q) * rr (fun k => x0 (ix2 r k)) * dRef x2 x3 r q := by
  rw [← ref_row]
  unfold val_main_v41
  pointwise

theorem ref_gg1 (p : Fin 8) (hp : p ≠ 0) (q : Fin 2048) : val_main_v41 x0 x2 x3 (ix2 p q) = (0 : EReal) := by
  unfold val_main_v41
  pointwise [val_main_v40, val_main_cst_8]
  exact dif_neg fun h => hp (Fin.ext (by omega))

/-! ## The kernel's arrays are the reference's -/

open Idealize.ShloMosaic.TcCoe

variable (m : (ℓ : Loc Cert.KernelIdeal.nD Cert.KernelIdeal.τ Cert.KernelIdeal.sig) → Buf (Elt Ideal) ℓ) (c : Dev Cert.KernelIdeal.nD)

/-- The launched arguments. -/
abbrev A0 : (⟨S4096x2048, .f32⟩ : BufTy).Contents (Elt Ideal) := m ((c.tc : Thread Cert.KernelIdeal.nD Cert.KernelIdeal.τ).loc Cert.KernelIdeal.main_arg0)
abbrev A1 : (⟨S2048, .f32⟩ : BufTy).Contents (Elt Ideal) := m ((c.tc : Thread Cert.KernelIdeal.nD Cert.KernelIdeal.τ).loc Cert.KernelIdeal.main_arg1)
abbrev A2 : (⟨S2048x6144, .f32⟩ : BufTy).Contents (Elt Ideal) := m ((c.tc : Thread Cert.KernelIdeal.nD Cert.KernelIdeal.τ).loc Cert.KernelIdeal.main_arg2)
abbrev A3 : (⟨S4096x6144, .f32⟩ : BufTy).Contents (Elt Ideal) := m ((c.tc : Thread Cert.KernelIdeal.nD Cert.KernelIdeal.τ).loc Cert.KernelIdeal.main_arg3)
abbrev A4 : (⟨S4096x2048, .f32⟩ : BufTy).Contents (Elt Ideal) := m ((c.tc : Thread Cert.KernelIdeal.nD Cert.KernelIdeal.τ).loc Cert.KernelIdeal.main_arg4)

theorem dx_eq (f0 : ∀ i, ∃ x : ℝ, A0 m c i = (x : EReal)) (f1 : ∀ i, ∃ x : ℝ, A1 m c i = (x : EReal))
    (f2 : ∀ i, ∃ x : ℝ, A2 m c i = (x : EReal)) (f3 : ∀ i, ∃ x : ℝ, A3 m c i = (x : EReal)) :
    val_main_v38 (A0 m c) (A1 m c) (A2 m c) (A3 m c) (A4 m c) = dxArr m c := by
  funext i
  obtain ⟨r, q, rfl⟩ : ∃ (r : Fin 4096) (q : Fin 2048), i = ix2 r q := ⟨i 0, i 1, funext fun a => by fin_cases a <;> rfl⟩
  rw [ref_dx]
  have key := rms_grad (fun k => A0 m c (ix2 r k)) (fun k => dRef (A2 m c) (A3 m c) r k * A1 m c (ix1 k)) (fun k => f0 _) (fun k => by
    choose y2 h2 using f2
    choose y3 h3 using f3
    obtain ⟨y1, h1⟩ := f1 (ix1 k)
    refine ⟨(∑ j : Fin 6144, y3 (ix2 r j) * y2 (ix2 k j)) * y1, ?_⟩
    simp only [dRef, h1, h2, h3, ← EReal.coe_mul, coe_sum]) q
  show _ = A4 m c (ix2 r q) + _
  rw [add_assoc, add_assoc, ← add_assoc (_ * _), ← key]
  rfl

theorem gg_eq : val_main_v41 (A0 m c) (A2 m c) (A3 m c) = ggArr m c := by
  funext i
  obtain ⟨p, q, rfl⟩ : ∃ (p : Fin 8) (q : Fin 2048), i = ix2 p q := ⟨i 0, i 1, funext fun a => by fin_cases a <;> rfl⟩
  by_cases hp : p = 0
  · subst hp
    rw [ref_gg0]
    show _ = ∑ R, gTerm m c q R
    exact Finset.sum_congr rfl fun R _ => mul_comm _ _
  · rw [ref_gg1 _ _ _ p hp]
    exact (if_neg (Fin.val_ne_of_ne hp)).symm

end Cert.DhRef

end
-- ==== Proof.GateFrame.lean ====
module

public import proofs.«01_k».proof.Proof.Gen.Kernel2Ideal.Frame.RunB
public import Idealize.ShloMosaic.Lib.Claim

@[expose] public section

set_option maxRecDepth 16384

noncomputable section

/-! # The run of the gates' gradient call: what each point leaves in its results and in the rows it carries -/

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
theorem cover0_A_13 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S8x1024 .f32) (harg6 : arg6.IsWhole) (arg7 : Memref sig .tc .vmem S8x1024 .f32) (harg7 : arg7.IsWhole) (arg8 : Memref sig .tc .vmem S256x1024 .f32) (harg8 : arg8.IsWhole) (arg9 : Memref sig .tc .vmem S256x2048 .f32) (harg9 : arg9.IsWhole) (arg10 : Memref sig .tc .vmem S3x1024 .f32) (harg10 : arg10.IsWhole) (arg11 : Memref sig .tc .vmem S1x1024 .f32) (harg11 : arg11.IsWhole) (arg12 : Memref sig .tc .vmem S1024x1024 .bf16) (harg12 : arg12.IsWhole) (arg13 : Memref sig .tc .vmem S1x1024 .f32) (harg13 : arg13.IsWhole) (arg14 : Memref sig .tc .vmem S256x6144 .bf16) (harg14 : arg14.IsWhole) (arg15 : Memref sig .tc .vmem S256x1024 .f32) (harg15 : arg15.IsWhole) (arg16 : Memref sig .tc .vmem S16x1024 .f32) (harg16 : arg16.IsWhole) (arg17 : Memref sig .tc .vmem S1024x1024 .f32) (harg17 : arg17.IsWhole) (arg18 : Memref sig .tc .vmem S264x1024 .f32) (harg18 : arg18.IsWhole) (arg19 : Memref sig .tc .vmem S264x1024 .f32) (harg19 : arg19.IsWhole) (hc0 : cond0_0 i)
    (x0 : Vec F S256x1024 .f32) (x1 : Vec F S256x1024 .f32) (x2 : Vec F S256x1024 .f32) (x3 : Vec F S256x1024 .f32) (x4 : Vec F S256x1024 .f32) (x5 : Vec F S8x1024 .f32) (x6 : Vec F S8x1024 .f32) (x7 : Vec F S256x1024 .f32) (x8 : Vec F S256x2048 .f32) (x9 : Vec F S3x1024 .f32) (x10 : Vec F S1x1024 .f32) (x11 : Vec F S1024x1024 .bf16) (x12 : Vec F S1x1024 .f32) (y : S256x6144.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12).1 S256x1024.size (by sl_kernel_rfl) y

def out0_A_13 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S8x1024 .f32) (harg6 : arg6.IsWhole) (arg7 : Memref sig .tc .vmem S8x1024 .f32) (harg7 : arg7.IsWhole) (arg8 : Memref sig .tc .vmem S256x1024 .f32) (harg8 : arg8.IsWhole) (arg9 : Memref sig .tc .vmem S256x2048 .f32) (harg9 : arg9.IsWhole) (arg10 : Memref sig .tc .vmem S3x1024 .f32) (harg10 : arg10.IsWhole) (arg11 : Memref sig .tc .vmem S1x1024 .f32) (harg11 : arg11.IsWhole) (arg12 : Memref sig .tc .vmem S1024x1024 .bf16) (harg12 : arg12.IsWhole) (arg13 : Memref sig .tc .vmem S1x1024 .f32) (harg13 : arg13.IsWhole) (arg14 : Memref sig .tc .vmem S256x6144 .bf16) (harg14 : arg14.IsWhole) (arg15 : Memref sig .tc .vmem S256x1024 .f32) (harg15 : arg15.IsWhole) (arg16 : Memref sig .tc .vmem S16x1024 .f32) (harg16 : arg16.IsWhole) (arg17 : Memref sig .tc .vmem S1024x1024 .f32) (harg17 : arg17.IsWhole) (arg18 : Memref sig .tc .vmem S264x1024 .f32) (harg18 : arg18.IsWhole) (arg19 : Memref sig .tc .vmem S264x1024 .f32) (harg19 : arg19.IsWhole) (hc0 : cond0_0 i)
    (x0 : Vec F S256x1024 .f32) (x1 : Vec F S256x1024 .f32) (x2 : Vec F S256x1024 .f32) (x3 : Vec F S256x1024 .f32) (x4 : Vec F S256x1024 .f32) (x5 : Vec F S8x1024 .f32) (x6 : Vec F S8x1024 .f32) (x7 : Vec F S256x1024 .f32) (x8 : Vec F S256x2048 .f32) (x9 : Vec F S3x1024 .f32) (x10 : Vec F S1x1024 .f32) (x11 : Vec F S1024x1024 .bf16) (x12 : Vec F S1x1024 .f32) : Vec F S256x6144 .bf16 :=
  VO0_13.read (Elt F) (VO0_13.writes (Elt F) VO0_13.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12).1)

theorem cover0_A_14 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S8x1024 .f32) (harg6 : arg6.IsWhole) (arg7 : Memref sig .tc .vmem S8x1024 .f32) (harg7 : arg7.IsWhole) (arg8 : Memref sig .tc .vmem S256x1024 .f32) (harg8 : arg8.IsWhole) (arg9 : Memref sig .tc .vmem S256x2048 .f32) (harg9 : arg9.IsWhole) (arg10 : Memref sig .tc .vmem S3x1024 .f32) (harg10 : arg10.IsWhole) (arg11 : Memref sig .tc .vmem S1x1024 .f32) (harg11 : arg11.IsWhole) (arg12 : Memref sig .tc .vmem S1024x1024 .bf16) (harg12 : arg12.IsWhole) (arg13 : Memref sig .tc .vmem S1x1024 .f32) (harg13 : arg13.IsWhole) (arg14 : Memref sig .tc .vmem S256x6144 .bf16) (harg14 : arg14.IsWhole) (arg15 : Memref sig .tc .vmem S256x1024 .f32) (harg15 : arg15.IsWhole) (arg16 : Memref sig .tc .vmem S16x1024 .f32) (harg16 : arg16.IsWhole) (arg17 : Memref sig .tc .vmem S1024x1024 .f32) (harg17 : arg17.IsWhole) (arg18 : Memref sig .tc .vmem S264x1024 .f32) (harg18 : arg18.IsWhole) (arg19 : Memref sig .tc .vmem S264x1024 .f32) (harg19 : arg19.IsWhole) (hc0 : cond0_0 i)
    (x0 : Vec F S256x1024 .f32) (x1 : Vec F S256x1024 .f32) (x2 : Vec F S256x1024 .f32) (x3 : Vec F S256x1024 .f32) (x4 : Vec F S256x1024 .f32) (x5 : Vec F S8x1024 .f32) (x6 : Vec F S8x1024 .f32) (x7 : Vec F S256x1024 .f32) (x8 : Vec F S256x2048 .f32) (x9 : Vec F S3x1024 .f32) (x10 : Vec F S1x1024 .f32) (x11 : Vec F S1024x1024 .bf16) (x12 : Vec F S1x1024 .f32) (y : S256x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12).2.1 S256x1024.size (by sl_kernel_rfl) y

def out0_A_14 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S8x1024 .f32) (harg6 : arg6.IsWhole) (arg7 : Memref sig .tc .vmem S8x1024 .f32) (harg7 : arg7.IsWhole) (arg8 : Memref sig .tc .vmem S256x1024 .f32) (harg8 : arg8.IsWhole) (arg9 : Memref sig .tc .vmem S256x2048 .f32) (harg9 : arg9.IsWhole) (arg10 : Memref sig .tc .vmem S3x1024 .f32) (harg10 : arg10.IsWhole) (arg11 : Memref sig .tc .vmem S1x1024 .f32) (harg11 : arg11.IsWhole) (arg12 : Memref sig .tc .vmem S1024x1024 .bf16) (harg12 : arg12.IsWhole) (arg13 : Memref sig .tc .vmem S1x1024 .f32) (harg13 : arg13.IsWhole) (arg14 : Memref sig .tc .vmem S256x6144 .bf16) (harg14 : arg14.IsWhole) (arg15 : Memref sig .tc .vmem S256x1024 .f32) (harg15 : arg15.IsWhole) (arg16 : Memref sig .tc .vmem S16x1024 .f32) (harg16 : arg16.IsWhole) (arg17 : Memref sig .tc .vmem S1024x1024 .f32) (harg17 : arg17.IsWhole) (arg18 : Memref sig .tc .vmem S264x1024 .f32) (harg18 : arg18.IsWhole) (arg19 : Memref sig .tc .vmem S264x1024 .f32) (harg19 : arg19.IsWhole) (hc0 : cond0_0 i)
    (x0 : Vec F S256x1024 .f32) (x1 : Vec F S256x1024 .f32) (x2 : Vec F S256x1024 .f32) (x3 : Vec F S256x1024 .f32) (x4 : Vec F S256x1024 .f32) (x5 : Vec F S8x1024 .f32) (x6 : Vec F S8x1024 .f32) (x7 : Vec F S256x1024 .f32) (x8 : Vec F S256x2048 .f32) (x9 : Vec F S3x1024 .f32) (x10 : Vec F S1x1024 .f32) (x11 : Vec F S1024x1024 .bf16) (x12 : Vec F S1x1024 .f32) : Vec F S256x1024 .f32 :=
  VO0_14.read (Elt F) (VO0_14.writes (Elt F) VO0_14.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12).2.1)

theorem cover0_A_15 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S8x1024 .f32) (harg6 : arg6.IsWhole) (arg7 : Memref sig .tc .vmem S8x1024 .f32) (harg7 : arg7.IsWhole) (arg8 : Memref sig .tc .vmem S256x1024 .f32) (harg8 : arg8.IsWhole) (arg9 : Memref sig .tc .vmem S256x2048 .f32) (harg9 : arg9.IsWhole) (arg10 : Memref sig .tc .vmem S3x1024 .f32) (harg10 : arg10.IsWhole) (arg11 : Memref sig .tc .vmem S1x1024 .f32) (harg11 : arg11.IsWhole) (arg12 : Memref sig .tc .vmem S1024x1024 .bf16) (harg12 : arg12.IsWhole) (arg13 : Memref sig .tc .vmem S1x1024 .f32) (harg13 : arg13.IsWhole) (arg14 : Memref sig .tc .vmem S256x6144 .bf16) (harg14 : arg14.IsWhole) (arg15 : Memref sig .tc .vmem S256x1024 .f32) (harg15 : arg15.IsWhole) (arg16 : Memref sig .tc .vmem S16x1024 .f32) (harg16 : arg16.IsWhole) (arg17 : Memref sig .tc .vmem S1024x1024 .f32) (harg17 : arg17.IsWhole) (arg18 : Memref sig .tc .vmem S264x1024 .f32) (harg18 : arg18.IsWhole) (arg19 : Memref sig .tc .vmem S264x1024 .f32) (harg19 : arg19.IsWhole) (hc0 : cond0_0 i)
    (x0 : Vec F S256x1024 .f32) (x1 : Vec F S256x1024 .f32) (x2 : Vec F S256x1024 .f32) (x3 : Vec F S256x1024 .f32) (x4 : Vec F S256x1024 .f32) (x5 : Vec F S8x1024 .f32) (x6 : Vec F S8x1024 .f32) (x7 : Vec F S256x1024 .f32) (x8 : Vec F S256x2048 .f32) (x9 : Vec F S3x1024 .f32) (x10 : Vec F S1x1024 .f32) (x11 : Vec F S1024x1024 .bf16) (x12 : Vec F S1x1024 .f32) (y : S16x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12).2.2.1, y ∈ pc.1.set :=
  View.cover_of_tiledBy (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12).2.2.1 ![1, 1024] (by sl_kernel_rfl) y

def out0_A_15 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S8x1024 .f32) (harg6 : arg6.IsWhole) (arg7 : Memref sig .tc .vmem S8x1024 .f32) (harg7 : arg7.IsWhole) (arg8 : Memref sig .tc .vmem S256x1024 .f32) (harg8 : arg8.IsWhole) (arg9 : Memref sig .tc .vmem S256x2048 .f32) (harg9 : arg9.IsWhole) (arg10 : Memref sig .tc .vmem S3x1024 .f32) (harg10 : arg10.IsWhole) (arg11 : Memref sig .tc .vmem S1x1024 .f32) (harg11 : arg11.IsWhole) (arg12 : Memref sig .tc .vmem S1024x1024 .bf16) (harg12 : arg12.IsWhole) (arg13 : Memref sig .tc .vmem S1x1024 .f32) (harg13 : arg13.IsWhole) (arg14 : Memref sig .tc .vmem S256x6144 .bf16) (harg14 : arg14.IsWhole) (arg15 : Memref sig .tc .vmem S256x1024 .f32) (harg15 : arg15.IsWhole) (arg16 : Memref sig .tc .vmem S16x1024 .f32) (harg16 : arg16.IsWhole) (arg17 : Memref sig .tc .vmem S1024x1024 .f32) (harg17 : arg17.IsWhole) (arg18 : Memref sig .tc .vmem S264x1024 .f32) (harg18 : arg18.IsWhole) (arg19 : Memref sig .tc .vmem S264x1024 .f32) (harg19 : arg19.IsWhole) (hc0 : cond0_0 i)
    (x0 : Vec F S256x1024 .f32) (x1 : Vec F S256x1024 .f32) (x2 : Vec F S256x1024 .f32) (x3 : Vec F S256x1024 .f32) (x4 : Vec F S256x1024 .f32) (x5 : Vec F S8x1024 .f32) (x6 : Vec F S8x1024 .f32) (x7 : Vec F S256x1024 .f32) (x8 : Vec F S256x2048 .f32) (x9 : Vec F S3x1024 .f32) (x10 : Vec F S1x1024 .f32) (x11 : Vec F S1024x1024 .bf16) (x12 : Vec F S1x1024 .f32) : Vec F S16x1024 .f32 :=
  VO0_15.read (Elt F) (VO0_15.writes (Elt F) VO0_15.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12).2.2.1)

theorem cover0_A_16 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S8x1024 .f32) (harg6 : arg6.IsWhole) (arg7 : Memref sig .tc .vmem S8x1024 .f32) (harg7 : arg7.IsWhole) (arg8 : Memref sig .tc .vmem S256x1024 .f32) (harg8 : arg8.IsWhole) (arg9 : Memref sig .tc .vmem S256x2048 .f32) (harg9 : arg9.IsWhole) (arg10 : Memref sig .tc .vmem S3x1024 .f32) (harg10 : arg10.IsWhole) (arg11 : Memref sig .tc .vmem S1x1024 .f32) (harg11 : arg11.IsWhole) (arg12 : Memref sig .tc .vmem S1024x1024 .bf16) (harg12 : arg12.IsWhole) (arg13 : Memref sig .tc .vmem S1x1024 .f32) (harg13 : arg13.IsWhole) (arg14 : Memref sig .tc .vmem S256x6144 .bf16) (harg14 : arg14.IsWhole) (arg15 : Memref sig .tc .vmem S256x1024 .f32) (harg15 : arg15.IsWhole) (arg16 : Memref sig .tc .vmem S16x1024 .f32) (harg16 : arg16.IsWhole) (arg17 : Memref sig .tc .vmem S1024x1024 .f32) (harg17 : arg17.IsWhole) (arg18 : Memref sig .tc .vmem S264x1024 .f32) (harg18 : arg18.IsWhole) (arg19 : Memref sig .tc .vmem S264x1024 .f32) (harg19 : arg19.IsWhole) (hc0 : cond0_0 i)
    (x0 : Vec F S256x1024 .f32) (x1 : Vec F S256x1024 .f32) (x2 : Vec F S256x1024 .f32) (x3 : Vec F S256x1024 .f32) (x4 : Vec F S256x1024 .f32) (x5 : Vec F S8x1024 .f32) (x6 : Vec F S8x1024 .f32) (x7 : Vec F S256x1024 .f32) (x8 : Vec F S256x2048 .f32) (x9 : Vec F S3x1024 .f32) (x10 : Vec F S1x1024 .f32) (x11 : Vec F S1024x1024 .bf16) (x12 : Vec F S1x1024 .f32) (y : S1024x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12).2.2.2.1 S1024x1024.size (by sl_kernel_rfl) y

def out0_A_16 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S8x1024 .f32) (harg6 : arg6.IsWhole) (arg7 : Memref sig .tc .vmem S8x1024 .f32) (harg7 : arg7.IsWhole) (arg8 : Memref sig .tc .vmem S256x1024 .f32) (harg8 : arg8.IsWhole) (arg9 : Memref sig .tc .vmem S256x2048 .f32) (harg9 : arg9.IsWhole) (arg10 : Memref sig .tc .vmem S3x1024 .f32) (harg10 : arg10.IsWhole) (arg11 : Memref sig .tc .vmem S1x1024 .f32) (harg11 : arg11.IsWhole) (arg12 : Memref sig .tc .vmem S1024x1024 .bf16) (harg12 : arg12.IsWhole) (arg13 : Memref sig .tc .vmem S1x1024 .f32) (harg13 : arg13.IsWhole) (arg14 : Memref sig .tc .vmem S256x6144 .bf16) (harg14 : arg14.IsWhole) (arg15 : Memref sig .tc .vmem S256x1024 .f32) (harg15 : arg15.IsWhole) (arg16 : Memref sig .tc .vmem S16x1024 .f32) (harg16 : arg16.IsWhole) (arg17 : Memref sig .tc .vmem S1024x1024 .f32) (harg17 : arg17.IsWhole) (arg18 : Memref sig .tc .vmem S264x1024 .f32) (harg18 : arg18.IsWhole) (arg19 : Memref sig .tc .vmem S264x1024 .f32) (harg19 : arg19.IsWhole) (hc0 : cond0_0 i)
    (x0 : Vec F S256x1024 .f32) (x1 : Vec F S256x1024 .f32) (x2 : Vec F S256x1024 .f32) (x3 : Vec F S256x1024 .f32) (x4 : Vec F S256x1024 .f32) (x5 : Vec F S8x1024 .f32) (x6 : Vec F S8x1024 .f32) (x7 : Vec F S256x1024 .f32) (x8 : Vec F S256x2048 .f32) (x9 : Vec F S3x1024 .f32) (x10 : Vec F S1x1024 .f32) (x11 : Vec F S1024x1024 .bf16) (x12 : Vec F S1x1024 .f32) : Vec F S1024x1024 .f32 :=
  VO0_16.read (Elt F) (VO0_16.writes (Elt F) VO0_16.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12).2.2.2.1)

theorem scover0_A_1 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S8x1024 .f32) (harg6 : arg6.IsWhole) (arg7 : Memref sig .tc .vmem S8x1024 .f32) (harg7 : arg7.IsWhole) (arg8 : Memref sig .tc .vmem S256x1024 .f32) (harg8 : arg8.IsWhole) (arg9 : Memref sig .tc .vmem S256x2048 .f32) (harg9 : arg9.IsWhole) (arg10 : Memref sig .tc .vmem S3x1024 .f32) (harg10 : arg10.IsWhole) (arg11 : Memref sig .tc .vmem S1x1024 .f32) (harg11 : arg11.IsWhole) (arg12 : Memref sig .tc .vmem S1024x1024 .bf16) (harg12 : arg12.IsWhole) (arg13 : Memref sig .tc .vmem S1x1024 .f32) (harg13 : arg13.IsWhole) (arg14 : Memref sig .tc .vmem S256x6144 .bf16) (harg14 : arg14.IsWhole) (arg15 : Memref sig .tc .vmem S256x1024 .f32) (harg15 : arg15.IsWhole) (arg16 : Memref sig .tc .vmem S16x1024 .f32) (harg16 : arg16.IsWhole) (arg17 : Memref sig .tc .vmem S1024x1024 .f32) (harg17 : arg17.IsWhole) (arg18 : Memref sig .tc .vmem S264x1024 .f32) (harg18 : arg18.IsWhole) (arg19 : Memref sig .tc .vmem S264x1024 .f32) (harg19 : arg19.IsWhole) (hc0 : cond0_0 i)
    (x0 : Vec F S256x1024 .f32) (x1 : Vec F S256x1024 .f32) (x2 : Vec F S256x1024 .f32) (x3 : Vec F S256x1024 .f32) (x4 : Vec F S256x1024 .f32) (x5 : Vec F S8x1024 .f32) (x6 : Vec F S8x1024 .f32) (x7 : Vec F S256x1024 .f32) (x8 : Vec F S256x2048 .f32) (x9 : Vec F S3x1024 .f32) (x10 : Vec F S1x1024 .f32) (x11 : Vec F S1024x1024 .bf16) (x12 : Vec F S1x1024 .f32) (y : S264x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12).2.2.2.2.1, y ∈ pc.1.set :=
  View.cover_of_tiledBy (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12).2.2.2.2.1 ![8, 1024] (by sl_kernel_rfl) y

def sout0_A_1 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S8x1024 .f32) (harg6 : arg6.IsWhole) (arg7 : Memref sig .tc .vmem S8x1024 .f32) (harg7 : arg7.IsWhole) (arg8 : Memref sig .tc .vmem S256x1024 .f32) (harg8 : arg8.IsWhole) (arg9 : Memref sig .tc .vmem S256x2048 .f32) (harg9 : arg9.IsWhole) (arg10 : Memref sig .tc .vmem S3x1024 .f32) (harg10 : arg10.IsWhole) (arg11 : Memref sig .tc .vmem S1x1024 .f32) (harg11 : arg11.IsWhole) (arg12 : Memref sig .tc .vmem S1024x1024 .bf16) (harg12 : arg12.IsWhole) (arg13 : Memref sig .tc .vmem S1x1024 .f32) (harg13 : arg13.IsWhole) (arg14 : Memref sig .tc .vmem S256x6144 .bf16) (harg14 : arg14.IsWhole) (arg15 : Memref sig .tc .vmem S256x1024 .f32) (harg15 : arg15.IsWhole) (arg16 : Memref sig .tc .vmem S16x1024 .f32) (harg16 : arg16.IsWhole) (arg17 : Memref sig .tc .vmem S1024x1024 .f32) (harg17 : arg17.IsWhole) (arg18 : Memref sig .tc .vmem S264x1024 .f32) (harg18 : arg18.IsWhole) (arg19 : Memref sig .tc .vmem S264x1024 .f32) (harg19 : arg19.IsWhole) (hc0 : cond0_0 i)
    (x0 : Vec F S256x1024 .f32) (x1 : Vec F S256x1024 .f32) (x2 : Vec F S256x1024 .f32) (x3 : Vec F S256x1024 .f32) (x4 : Vec F S256x1024 .f32) (x5 : Vec F S8x1024 .f32) (x6 : Vec F S8x1024 .f32) (x7 : Vec F S256x1024 .f32) (x8 : Vec F S256x2048 .f32) (x9 : Vec F S3x1024 .f32) (x10 : Vec F S1x1024 .f32) (x11 : Vec F S1024x1024 .bf16) (x12 : Vec F S1x1024 .f32) : Vec F S264x1024 .f32 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12).2.2.2.2.1)

theorem cover0_B_13 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S8x1024 .f32) (harg6 : arg6.IsWhole) (arg7 : Memref sig .tc .vmem S8x1024 .f32) (harg7 : arg7.IsWhole) (arg8 : Memref sig .tc .vmem S256x1024 .f32) (harg8 : arg8.IsWhole) (arg9 : Memref sig .tc .vmem S256x2048 .f32) (harg9 : arg9.IsWhole) (arg10 : Memref sig .tc .vmem S3x1024 .f32) (harg10 : arg10.IsWhole) (arg11 : Memref sig .tc .vmem S1x1024 .f32) (harg11 : arg11.IsWhole) (arg12 : Memref sig .tc .vmem S1024x1024 .bf16) (harg12 : arg12.IsWhole) (arg13 : Memref sig .tc .vmem S1x1024 .f32) (harg13 : arg13.IsWhole) (arg14 : Memref sig .tc .vmem S256x6144 .bf16) (harg14 : arg14.IsWhole) (arg15 : Memref sig .tc .vmem S256x1024 .f32) (harg15 : arg15.IsWhole) (arg16 : Memref sig .tc .vmem S16x1024 .f32) (harg16 : arg16.IsWhole) (arg17 : Memref sig .tc .vmem S1024x1024 .f32) (harg17 : arg17.IsWhole) (arg18 : Memref sig .tc .vmem S264x1024 .f32) (harg18 : arg18.IsWhole) (arg19 : Memref sig .tc .vmem S264x1024 .f32) (harg19 : arg19.IsWhole) (hc0 : ¬cond0_0 i)
    (x0 : Vec F S256x1024 .f32) (x1 : Vec F S256x1024 .f32) (x2 : Vec F S256x1024 .f32) (x3 : Vec F S256x1024 .f32) (x4 : Vec F S256x1024 .f32) (x5 : Vec F S8x1024 .f32) (x6 : Vec F S8x1024 .f32) (x7 : Vec F S256x1024 .f32) (x8 : Vec F S256x2048 .f32) (x9 : Vec F S3x1024 .f32) (x10 : Vec F S1x1024 .f32) (x11 : Vec F S1024x1024 .bf16) (x12 : Vec F S1x1024 .f32) (xo15 : Vec F S16x1024 .f32) (xo16 : Vec F S1024x1024 .f32) (xs1 : Vec F S264x1024 .f32) (y : S256x6144.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 xo15 xo16 xs1).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 xo15 xo16 xs1).1 S256x1024.size (by sl_kernel_rfl) y

def out0_B_13 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S8x1024 .f32) (harg6 : arg6.IsWhole) (arg7 : Memref sig .tc .vmem S8x1024 .f32) (harg7 : arg7.IsWhole) (arg8 : Memref sig .tc .vmem S256x1024 .f32) (harg8 : arg8.IsWhole) (arg9 : Memref sig .tc .vmem S256x2048 .f32) (harg9 : arg9.IsWhole) (arg10 : Memref sig .tc .vmem S3x1024 .f32) (harg10 : arg10.IsWhole) (arg11 : Memref sig .tc .vmem S1x1024 .f32) (harg11 : arg11.IsWhole) (arg12 : Memref sig .tc .vmem S1024x1024 .bf16) (harg12 : arg12.IsWhole) (arg13 : Memref sig .tc .vmem S1x1024 .f32) (harg13 : arg13.IsWhole) (arg14 : Memref sig .tc .vmem S256x6144 .bf16) (harg14 : arg14.IsWhole) (arg15 : Memref sig .tc .vmem S256x1024 .f32) (harg15 : arg15.IsWhole) (arg16 : Memref sig .tc .vmem S16x1024 .f32) (harg16 : arg16.IsWhole) (arg17 : Memref sig .tc .vmem S1024x1024 .f32) (harg17 : arg17.IsWhole) (arg18 : Memref sig .tc .vmem S264x1024 .f32) (harg18 : arg18.IsWhole) (arg19 : Memref sig .tc .vmem S264x1024 .f32) (harg19 : arg19.IsWhole) (hc0 : ¬cond0_0 i)
    (x0 : Vec F S256x1024 .f32) (x1 : Vec F S256x1024 .f32) (x2 : Vec F S256x1024 .f32) (x3 : Vec F S256x1024 .f32) (x4 : Vec F S256x1024 .f32) (x5 : Vec F S8x1024 .f32) (x6 : Vec F S8x1024 .f32) (x7 : Vec F S256x1024 .f32) (x8 : Vec F S256x2048 .f32) (x9 : Vec F S3x1024 .f32) (x10 : Vec F S1x1024 .f32) (x11 : Vec F S1024x1024 .bf16) (x12 : Vec F S1x1024 .f32) (xo15 : Vec F S16x1024 .f32) (xo16 : Vec F S1024x1024 .f32) (xs1 : Vec F S264x1024 .f32) : Vec F S256x6144 .bf16 :=
  VO0_13.read (Elt F) (VO0_13.writes (Elt F) VO0_13.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 xo15 xo16 xs1).1)

theorem cover0_B_14 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S8x1024 .f32) (harg6 : arg6.IsWhole) (arg7 : Memref sig .tc .vmem S8x1024 .f32) (harg7 : arg7.IsWhole) (arg8 : Memref sig .tc .vmem S256x1024 .f32) (harg8 : arg8.IsWhole) (arg9 : Memref sig .tc .vmem S256x2048 .f32) (harg9 : arg9.IsWhole) (arg10 : Memref sig .tc .vmem S3x1024 .f32) (harg10 : arg10.IsWhole) (arg11 : Memref sig .tc .vmem S1x1024 .f32) (harg11 : arg11.IsWhole) (arg12 : Memref sig .tc .vmem S1024x1024 .bf16) (harg12 : arg12.IsWhole) (arg13 : Memref sig .tc .vmem S1x1024 .f32) (harg13 : arg13.IsWhole) (arg14 : Memref sig .tc .vmem S256x6144 .bf16) (harg14 : arg14.IsWhole) (arg15 : Memref sig .tc .vmem S256x1024 .f32) (harg15 : arg15.IsWhole) (arg16 : Memref sig .tc .vmem S16x1024 .f32) (harg16 : arg16.IsWhole) (arg17 : Memref sig .tc .vmem S1024x1024 .f32) (harg17 : arg17.IsWhole) (arg18 : Memref sig .tc .vmem S264x1024 .f32) (harg18 : arg18.IsWhole) (arg19 : Memref sig .tc .vmem S264x1024 .f32) (harg19 : arg19.IsWhole) (hc0 : ¬cond0_0 i)
    (x0 : Vec F S256x1024 .f32) (x1 : Vec F S256x1024 .f32) (x2 : Vec F S256x1024 .f32) (x3 : Vec F S256x1024 .f32) (x4 : Vec F S256x1024 .f32) (x5 : Vec F S8x1024 .f32) (x6 : Vec F S8x1024 .f32) (x7 : Vec F S256x1024 .f32) (x8 : Vec F S256x2048 .f32) (x9 : Vec F S3x1024 .f32) (x10 : Vec F S1x1024 .f32) (x11 : Vec F S1024x1024 .bf16) (x12 : Vec F S1x1024 .f32) (xo15 : Vec F S16x1024 .f32) (xo16 : Vec F S1024x1024 .f32) (xs1 : Vec F S264x1024 .f32) (y : S256x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 xo15 xo16 xs1).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 xo15 xo16 xs1).2.1 S256x1024.size (by sl_kernel_rfl) y

def out0_B_14 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S8x1024 .f32) (harg6 : arg6.IsWhole) (arg7 : Memref sig .tc .vmem S8x1024 .f32) (harg7 : arg7.IsWhole) (arg8 : Memref sig .tc .vmem S256x1024 .f32) (harg8 : arg8.IsWhole) (arg9 : Memref sig .tc .vmem S256x2048 .f32) (harg9 : arg9.IsWhole) (arg10 : Memref sig .tc .vmem S3x1024 .f32) (harg10 : arg10.IsWhole) (arg11 : Memref sig .tc .vmem S1x1024 .f32) (harg11 : arg11.IsWhole) (arg12 : Memref sig .tc .vmem S1024x1024 .bf16) (harg12 : arg12.IsWhole) (arg13 : Memref sig .tc .vmem S1x1024 .f32) (harg13 : arg13.IsWhole) (arg14 : Memref sig .tc .vmem S256x6144 .bf16) (harg14 : arg14.IsWhole) (arg15 : Memref sig .tc .vmem S256x1024 .f32) (harg15 : arg15.IsWhole) (arg16 : Memref sig .tc .vmem S16x1024 .f32) (harg16 : arg16.IsWhole) (arg17 : Memref sig .tc .vmem S1024x1024 .f32) (harg17 : arg17.IsWhole) (arg18 : Memref sig .tc .vmem S264x1024 .f32) (harg18 : arg18.IsWhole) (arg19 : Memref sig .tc .vmem S264x1024 .f32) (harg19 : arg19.IsWhole) (hc0 : ¬cond0_0 i)
    (x0 : Vec F S256x1024 .f32) (x1 : Vec F S256x1024 .f32) (x2 : Vec F S256x1024 .f32) (x3 : Vec F S256x1024 .f32) (x4 : Vec F S256x1024 .f32) (x5 : Vec F S8x1024 .f32) (x6 : Vec F S8x1024 .f32) (x7 : Vec F S256x1024 .f32) (x8 : Vec F S256x2048 .f32) (x9 : Vec F S3x1024 .f32) (x10 : Vec F S1x1024 .f32) (x11 : Vec F S1024x1024 .bf16) (x12 : Vec F S1x1024 .f32) (xo15 : Vec F S16x1024 .f32) (xo16 : Vec F S1024x1024 .f32) (xs1 : Vec F S264x1024 .f32) : Vec F S256x1024 .f32 :=
  VO0_14.read (Elt F) (VO0_14.writes (Elt F) VO0_14.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 xo15 xo16 xs1).2.1)

def out0_B_15 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S8x1024 .f32) (harg6 : arg6.IsWhole) (arg7 : Memref sig .tc .vmem S8x1024 .f32) (harg7 : arg7.IsWhole) (arg8 : Memref sig .tc .vmem S256x1024 .f32) (harg8 : arg8.IsWhole) (arg9 : Memref sig .tc .vmem S256x2048 .f32) (harg9 : arg9.IsWhole) (arg10 : Memref sig .tc .vmem S3x1024 .f32) (harg10 : arg10.IsWhole) (arg11 : Memref sig .tc .vmem S1x1024 .f32) (harg11 : arg11.IsWhole) (arg12 : Memref sig .tc .vmem S1024x1024 .bf16) (harg12 : arg12.IsWhole) (arg13 : Memref sig .tc .vmem S1x1024 .f32) (harg13 : arg13.IsWhole) (arg14 : Memref sig .tc .vmem S256x6144 .bf16) (harg14 : arg14.IsWhole) (arg15 : Memref sig .tc .vmem S256x1024 .f32) (harg15 : arg15.IsWhole) (arg16 : Memref sig .tc .vmem S16x1024 .f32) (harg16 : arg16.IsWhole) (arg17 : Memref sig .tc .vmem S1024x1024 .f32) (harg17 : arg17.IsWhole) (arg18 : Memref sig .tc .vmem S264x1024 .f32) (harg18 : arg18.IsWhole) (arg19 : Memref sig .tc .vmem S264x1024 .f32) (harg19 : arg19.IsWhole) (hc0 : ¬cond0_0 i)
    (x0 : Vec F S256x1024 .f32) (x1 : Vec F S256x1024 .f32) (x2 : Vec F S256x1024 .f32) (x3 : Vec F S256x1024 .f32) (x4 : Vec F S256x1024 .f32) (x5 : Vec F S8x1024 .f32) (x6 : Vec F S8x1024 .f32) (x7 : Vec F S256x1024 .f32) (x8 : Vec F S256x2048 .f32) (x9 : Vec F S3x1024 .f32) (x10 : Vec F S1x1024 .f32) (x11 : Vec F S1024x1024 .bf16) (x12 : Vec F S1x1024 .f32) (xo15 : Vec F S16x1024 .f32) (xo16 : Vec F S1024x1024 .f32) (xs1 : Vec F S264x1024 .f32) : Vec F S16x1024 .f32 :=
  arg16.view.read (Elt F) (arg16.view.writes (Elt F) (harg16.unread xo15) (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 xo15 xo16 xs1).2.2.1)

theorem cover0_B_16 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S8x1024 .f32) (harg6 : arg6.IsWhole) (arg7 : Memref sig .tc .vmem S8x1024 .f32) (harg7 : arg7.IsWhole) (arg8 : Memref sig .tc .vmem S256x1024 .f32) (harg8 : arg8.IsWhole) (arg9 : Memref sig .tc .vmem S256x2048 .f32) (harg9 : arg9.IsWhole) (arg10 : Memref sig .tc .vmem S3x1024 .f32) (harg10 : arg10.IsWhole) (arg11 : Memref sig .tc .vmem S1x1024 .f32) (harg11 : arg11.IsWhole) (arg12 : Memref sig .tc .vmem S1024x1024 .bf16) (harg12 : arg12.IsWhole) (arg13 : Memref sig .tc .vmem S1x1024 .f32) (harg13 : arg13.IsWhole) (arg14 : Memref sig .tc .vmem S256x6144 .bf16) (harg14 : arg14.IsWhole) (arg15 : Memref sig .tc .vmem S256x1024 .f32) (harg15 : arg15.IsWhole) (arg16 : Memref sig .tc .vmem S16x1024 .f32) (harg16 : arg16.IsWhole) (arg17 : Memref sig .tc .vmem S1024x1024 .f32) (harg17 : arg17.IsWhole) (arg18 : Memref sig .tc .vmem S264x1024 .f32) (harg18 : arg18.IsWhole) (arg19 : Memref sig .tc .vmem S264x1024 .f32) (harg19 : arg19.IsWhole) (hc0 : ¬cond0_0 i)
    (x0 : Vec F S256x1024 .f32) (x1 : Vec F S256x1024 .f32) (x2 : Vec F S256x1024 .f32) (x3 : Vec F S256x1024 .f32) (x4 : Vec F S256x1024 .f32) (x5 : Vec F S8x1024 .f32) (x6 : Vec F S8x1024 .f32) (x7 : Vec F S256x1024 .f32) (x8 : Vec F S256x2048 .f32) (x9 : Vec F S3x1024 .f32) (x10 : Vec F S1x1024 .f32) (x11 : Vec F S1024x1024 .bf16) (x12 : Vec F S1x1024 .f32) (xo15 : Vec F S16x1024 .f32) (xo16 : Vec F S1024x1024 .f32) (xs1 : Vec F S264x1024 .f32) (y : S1024x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 xo15 xo16 xs1).2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 xo15 xo16 xs1).2.2.2.1 S1024x1024.size (by sl_kernel_rfl) y

def out0_B_16 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S8x1024 .f32) (harg6 : arg6.IsWhole) (arg7 : Memref sig .tc .vmem S8x1024 .f32) (harg7 : arg7.IsWhole) (arg8 : Memref sig .tc .vmem S256x1024 .f32) (harg8 : arg8.IsWhole) (arg9 : Memref sig .tc .vmem S256x2048 .f32) (harg9 : arg9.IsWhole) (arg10 : Memref sig .tc .vmem S3x1024 .f32) (harg10 : arg10.IsWhole) (arg11 : Memref sig .tc .vmem S1x1024 .f32) (harg11 : arg11.IsWhole) (arg12 : Memref sig .tc .vmem S1024x1024 .bf16) (harg12 : arg12.IsWhole) (arg13 : Memref sig .tc .vmem S1x1024 .f32) (harg13 : arg13.IsWhole) (arg14 : Memref sig .tc .vmem S256x6144 .bf16) (harg14 : arg14.IsWhole) (arg15 : Memref sig .tc .vmem S256x1024 .f32) (harg15 : arg15.IsWhole) (arg16 : Memref sig .tc .vmem S16x1024 .f32) (harg16 : arg16.IsWhole) (arg17 : Memref sig .tc .vmem S1024x1024 .f32) (harg17 : arg17.IsWhole) (arg18 : Memref sig .tc .vmem S264x1024 .f32) (harg18 : arg18.IsWhole) (arg19 : Memref sig .tc .vmem S264x1024 .f32) (harg19 : arg19.IsWhole) (hc0 : ¬cond0_0 i)
    (x0 : Vec F S256x1024 .f32) (x1 : Vec F S256x1024 .f32) (x2 : Vec F S256x1024 .f32) (x3 : Vec F S256x1024 .f32) (x4 : Vec F S256x1024 .f32) (x5 : Vec F S8x1024 .f32) (x6 : Vec F S8x1024 .f32) (x7 : Vec F S256x1024 .f32) (x8 : Vec F S256x2048 .f32) (x9 : Vec F S3x1024 .f32) (x10 : Vec F S1x1024 .f32) (x11 : Vec F S1024x1024 .bf16) (x12 : Vec F S1x1024 .f32) (xo15 : Vec F S16x1024 .f32) (xo16 : Vec F S1024x1024 .f32) (xs1 : Vec F S264x1024 .f32) : Vec F S1024x1024 .f32 :=
  VO0_16.read (Elt F) (VO0_16.writes (Elt F) VO0_16.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 xo15 xo16 xs1).2.2.2.1)

theorem scover0_B_1 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S8x1024 .f32) (harg6 : arg6.IsWhole) (arg7 : Memref sig .tc .vmem S8x1024 .f32) (harg7 : arg7.IsWhole) (arg8 : Memref sig .tc .vmem S256x1024 .f32) (harg8 : arg8.IsWhole) (arg9 : Memref sig .tc .vmem S256x2048 .f32) (harg9 : arg9.IsWhole) (arg10 : Memref sig .tc .vmem S3x1024 .f32) (harg10 : arg10.IsWhole) (arg11 : Memref sig .tc .vmem S1x1024 .f32) (harg11 : arg11.IsWhole) (arg12 : Memref sig .tc .vmem S1024x1024 .bf16) (harg12 : arg12.IsWhole) (arg13 : Memref sig .tc .vmem S1x1024 .f32) (harg13 : arg13.IsWhole) (arg14 : Memref sig .tc .vmem S256x6144 .bf16) (harg14 : arg14.IsWhole) (arg15 : Memref sig .tc .vmem S256x1024 .f32) (harg15 : arg15.IsWhole) (arg16 : Memref sig .tc .vmem S16x1024 .f32) (harg16 : arg16.IsWhole) (arg17 : Memref sig .tc .vmem S1024x1024 .f32) (harg17 : arg17.IsWhole) (arg18 : Memref sig .tc .vmem S264x1024 .f32) (harg18 : arg18.IsWhole) (arg19 : Memref sig .tc .vmem S264x1024 .f32) (harg19 : arg19.IsWhole) (hc0 : ¬cond0_0 i)
    (x0 : Vec F S256x1024 .f32) (x1 : Vec F S256x1024 .f32) (x2 : Vec F S256x1024 .f32) (x3 : Vec F S256x1024 .f32) (x4 : Vec F S256x1024 .f32) (x5 : Vec F S8x1024 .f32) (x6 : Vec F S8x1024 .f32) (x7 : Vec F S256x1024 .f32) (x8 : Vec F S256x2048 .f32) (x9 : Vec F S3x1024 .f32) (x10 : Vec F S1x1024 .f32) (x11 : Vec F S1024x1024 .bf16) (x12 : Vec F S1x1024 .f32) (xo15 : Vec F S16x1024 .f32) (xo16 : Vec F S1024x1024 .f32) (xs1 : Vec F S264x1024 .f32) (y : S264x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 xo15 xo16 xs1).2.2.2.2.1, y ∈ pc.1.set :=
  View.cover_of_tiledBy (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 xo15 xo16 xs1).2.2.2.2.1 ![8, 1024] (by sl_kernel_rfl) y

def sout0_B_1 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S8x1024 .f32) (harg6 : arg6.IsWhole) (arg7 : Memref sig .tc .vmem S8x1024 .f32) (harg7 : arg7.IsWhole) (arg8 : Memref sig .tc .vmem S256x1024 .f32) (harg8 : arg8.IsWhole) (arg9 : Memref sig .tc .vmem S256x2048 .f32) (harg9 : arg9.IsWhole) (arg10 : Memref sig .tc .vmem S3x1024 .f32) (harg10 : arg10.IsWhole) (arg11 : Memref sig .tc .vmem S1x1024 .f32) (harg11 : arg11.IsWhole) (arg12 : Memref sig .tc .vmem S1024x1024 .bf16) (harg12 : arg12.IsWhole) (arg13 : Memref sig .tc .vmem S1x1024 .f32) (harg13 : arg13.IsWhole) (arg14 : Memref sig .tc .vmem S256x6144 .bf16) (harg14 : arg14.IsWhole) (arg15 : Memref sig .tc .vmem S256x1024 .f32) (harg15 : arg15.IsWhole) (arg16 : Memref sig .tc .vmem S16x1024 .f32) (harg16 : arg16.IsWhole) (arg17 : Memref sig .tc .vmem S1024x1024 .f32) (harg17 : arg17.IsWhole) (arg18 : Memref sig .tc .vmem S264x1024 .f32) (harg18 : arg18.IsWhole) (arg19 : Memref sig .tc .vmem S264x1024 .f32) (harg19 : arg19.IsWhole) (hc0 : ¬cond0_0 i)
    (x0 : Vec F S256x1024 .f32) (x1 : Vec F S256x1024 .f32) (x2 : Vec F S256x1024 .f32) (x3 : Vec F S256x1024 .f32) (x4 : Vec F S256x1024 .f32) (x5 : Vec F S8x1024 .f32) (x6 : Vec F S8x1024 .f32) (x7 : Vec F S256x1024 .f32) (x8 : Vec F S256x2048 .f32) (x9 : Vec F S3x1024 .f32) (x10 : Vec F S1x1024 .f32) (x11 : Vec F S1024x1024 .bf16) (x12 : Vec F S1x1024 .f32) (xo15 : Vec F S16x1024 .f32) (xo16 : Vec F S1024x1024 .f32) (xs1 : Vec F S264x1024 .f32) : Vec F S264x1024 .f32 :=
  VS0_1.read (Elt F) (VS0_1.writes (Elt F) VS0_1.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 xo15 xo16 xs1).2.2.2.2.1)

def outsAt0 (c : Dev nD) : (n : ℕ) → n < cfg0.N → Vec F S256x6144 .bf16 × Vec F S256x1024 .f32 × Vec F S16x1024 .f32 × Vec F S1024x1024 .f32 × Vec F S264x1024 .f32
  | 0, hn => (out0_A_13 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩), out0_A_14 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩), out0_A_15 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩), out0_A_16 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩))
  | n + 1, hn =>
    if h0 : (n + 1) % 16 = 0 then
      (out0_A_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩), out0_A_14 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩), out0_A_15 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩), out0_A_16 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩))
    else
      (out0_B_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (outsAt0 c n (Nat.lt_of_succ_lt hn)).2.2.1 (outsAt0 c n (Nat.lt_of_succ_lt hn)).2.2.2.1 (outsAt0 c n (Nat.lt_of_succ_lt hn)).2.2.2.2, out0_B_14 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (outsAt0 c n (Nat.lt_of_succ_lt hn)).2.2.1 (outsAt0 c n (Nat.lt_of_succ_lt hn)).2.2.2.1 (outsAt0 c n (Nat.lt_of_succ_lt hn)).2.2.2.2, out0_B_15 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (outsAt0 c n (Nat.lt_of_succ_lt hn)).2.2.1 (outsAt0 c n (Nat.lt_of_succ_lt hn)).2.2.2.1 (outsAt0 c n (Nat.lt_of_succ_lt hn)).2.2.2.2, out0_B_16 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (outsAt0 c n (Nat.lt_of_succ_lt hn)).2.2.1 (outsAt0 c n (Nat.lt_of_succ_lt hn)).2.2.2.1 (outsAt0 c n (Nat.lt_of_succ_lt hn)).2.2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (outsAt0 c n (Nat.lt_of_succ_lt hn)).2.2.1 (outsAt0 c n (Nat.lt_of_succ_lt hn)).2.2.2.1 (outsAt0 c n (Nat.lt_of_succ_lt hn)).2.2.2.2)

set_option maxHeartbeats 1600000 in
/-- The first point. -/
theorem outsAt0_A (c : Dev nD) (t : Fin cfg0.N) (h0 : t.val % 16 = 0) :
    outsAt0 m c t.val t.isLt = (out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t), out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t), out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t), out0_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) := by
  obtain ⟨n, hn⟩ := t
  cases n with
  | zero => exact rfl
  | succ n => exact (dif_pos h0).trans rfl

set_option maxHeartbeats 1600000 in
/-- A later point, over what the point before it left. -/
theorem outsAt0_B (c : Dev nD) (t : Fin cfg0.N) (h0 : ¬t.val % 16 = 0) :
    outsAt0 m c t.val t.isLt = (out0_B_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, out0_B_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, out0_B_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, out0_B_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans rfl

def PhiS (c : Dev nD) : (n : ℕ) → n ≤ cfg0.N → sProp 𝕄
  | 0, _ => Pipeline.ΦA spec0 c
  | n + 1, hn => iprop(iprop((∃ d, owns (c : Thread nD τ) scM0_0 fullShare d) ∗ owns (c : Thread nD τ) scM0_1 fullShare ((outsAt0 m c n hn).2.2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop((∃ d, owns (c : Thread nD τ) scM0_0 fullShare d) ∗ owns (c : Thread nD τ) scM0_1 fullShare ((outsAt0 m c n hn).2.2.2.2)) ∗ (∃ r, prngReg c r)) := rfl

theorem PhiS_pos (c : Dev nD) (n : ℕ) (h : n ≤ cfg0.N) (hz : n ≠ 0) :
    PhiS m c n h = iprop(iprop((∃ d, owns (c : Thread nD τ) scM0_0 fullShare d) ∗ owns (c : Thread nD τ) scM0_1 fullShare ((outsAt0 m c (n - 1) (by omega)).2.2.2.2)) ∗ (∃ r, prngReg c r)) := by
  cases n with
  | zero => exact absurd rfl hz
  | succ n => rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => (outsAt0 m c t.val t.isLt).1
    | ⟨14, _⟩ => (outsAt0 m c t.val t.isLt).2.1
    | ⟨15, _⟩ => (outsAt0 m c t.val t.isLt).2.2.1
    | ⟨16, _⟩ => (outsAt0 m c t.val t.isLt).2.2.2.1
    | ⟨_ + 17, h⟩ => absurd h (Nat.not_lt.2 (Nat.le_add_left _ _))
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = (outsAt0 m c t.val t.isLt).1 := by dsimp only [dats]
theorem after0_14 (c : Dev nD) (t : Fin cfg0.N) : (dats m 0 c).after 14 t = (outsAt0 m c t.val t.isLt).2.1 := by dsimp only [dats]
theorem after0_15 (c : Dev nD) (t : Fin cfg0.N) : (dats m 0 c).after 15 t = (outsAt0 m c t.val t.isLt).2.2.1 := by dsimp only [dats]
theorem after0_16 (c : Dev nD) (t : Fin cfg0.N) : (dats m 0 c).after 16 t = (outsAt0 m c t.val t.isLt).2.2.2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_15_B (c : Dev nD) (t : Fin cfg0.N) (h0 : ¬t.val % 16 = 0) (d) :
    (dats m 0 c).before 15 t d = (outsAt0 m c (t.val - 1) (Nat.lt_of_le_of_lt (Nat.sub_le _ _) t.isLt)).2.2.1 := by
  have hN : t.val < 16 := lt_of_lt_of_eq t.isLt (show cfg0.N = 16 from N_0)
  rw [Dat.before_out_kept _ 15 rfl t (by omega) (Bool.eq_false_iff.mpr fun h => by have := (flush0_15 _).mp h; dsimp only at this; omega)
    (fun _ => rfl) (fun _ _ => rfl)]
  dsimp only [dats]
theorem before0_16_B (c : Dev nD) (t : Fin cfg0.N) (h0 : ¬t.val % 16 = 0) (d) :
    (dats m 0 c).before 16 t d = (outsAt0 m c (t.val - 1) (Nat.lt_of_le_of_lt (Nat.sub_le _ _) t.isLt)).2.2.2.1 := by
  have hN : t.val < 16 := lt_of_lt_of_eq t.isLt (show cfg0.N = 16 from N_0)
  rw [Dat.before_out_kept _ 16 rfl t (by omega) (Bool.eq_false_iff.mpr fun h => by have := (flush0_16 _).mp h; dsimp only at this; omega)
    (fun _ => rfl) (fun _ _ => rfl)]
  dsimp only [dats]

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t))

set_option maxHeartbeats 12800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16]
  rw [show (dats m 0 c).Φ t.succ = PhiS m c (t.val + 1) t.isLt from rfl, PhiS_succ]
  have hN : t.val < 16 := lt_of_lt_of_eq t.isLt (show cfg0.N = 16 from N_0)
  by_cases h0 : t.val % 16 = 0
  · by_cases hz : t.val = 0
    · rw [PhiS_castSucc m c t, PhiS_zero m c _ _ hz, PhiA0_eq]
      rw [outsAt0_A m c t h0]
      unfold out0_A_13 out0_A_14 out0_A_15 out0_A_16 sout0_A_1; (try dsimp only)
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
      iapply ((kernelRun0_A c (grid0.coords t) _ _ _ _ _ _ _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)).2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexists _; iexact H13
      isplitl [H14]; · iexists _; iexact H14
      isplitl [H15]; · iexists _; iexact H15
      isplitl [H16]; · iexists _; iexact H16
      isplitl [HS0]; · iexact HS0
      isplitl [HS1]; · iexact HS1
      iintro ⟨H0, H1, H2, H3, H4, H5, H6, H7, H8, H9, H10, H11, H12, ⟨%e13, H13⟩, ⟨%e14, H14⟩, ⟨%e15, H15⟩, ⟨%e16, H16⟩, ⟨%fT0, HS0⟩, ⟨%es1, HS1⟩⟩
      isplitl [HS0 HS1 Hg]
      · isplitl [HS0 HS1]
        · isplitl [HS0]
          · iexists _; unfold owns; iexists _; isplitr
            swap; · iexact HS0
            ipureintro; rfl
          unfold owns; iexists _; isplitr
          swap; · iexact HS1
          ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]
      · unfold owns; iexists _; isplitr
        swap; · iexact H13
        ipureintro; exact View.read_writes_of_cover _ _ _ _ _ (cover0_A_13 c _ _ _ _ _ _ _ _ _ _ _ _ _ _ _ _ _ _ _ _ _ _ _ _ _ _ _ _ _ _ _ _ _ _ _ _ _ _ _ _ _ _ _ _ _ _ _ _ _ _ _ _ _)
      isplitl [H14]
      · unfold owns; iexists _; isplitr
        swap; · iexact H14
        ipureintro; exact View.read_writes_of_cover _ _ _ _ _ (cover0_A_14 c _ _ _ _ _ _ _ _ _ _ _ _ _ _ _ _ _ _ _ _ _ _ _ _ _ _ _ _ _ _ _ _ _ _ _ _ _ _ _ _ _ _ _ _ _ _ _ _ _ _ _ _ _)
      isplitl [H15]
      · unfold owns; iexists _; isplitr
        swap; · iexact H15
        ipureintro; exact View.read_writes_of_cover _ _ _ _ _ (cover0_A_15 c _ _ _ _ _ _ _ _ _ _ _ _ _ _ _ _ _ _ _ _ _ _ _ _ _ _ _ _ _ _ _ _ _ _ _ _ _ _ _ _ _ _ _ _ _ _ _ _ _ _ _ _ _)
      unfold owns; iexists _; isplitr
      swap; · iexact H16
      ipureintro; exact View.read_writes_of_cover _ _ _ _ _ (cover0_A_16 c _ _ _ _ _ _ _ _ _ _ _ _ _ _ _ _ _ _ _ _ _ _ _ _ _ _ _ _ _ _ _ _ _ _ _ _ _ _ _ _ _ _ _ _ _ _ _ _ _ _ _ _ _)
    · exfalso; have hN : t.val < 16 := lt_of_lt_of_eq t.isLt (show cfg0.N = 16 from N_0); omega
  · by_cases hz : t.val = 0
    · exfalso; have hN : t.val < 16 := lt_of_lt_of_eq t.isLt (show cfg0.N = 16 from N_0); omega
    · rw [PhiS_castSucc m c t, PhiS_pos m c _ _ hz]
      rw [outsAt0_B m c t h0]
      simp only [before0_15_B m c t h0, before0_16_B m c t h0]
      unfold out0_B_13 out0_B_14 out0_B_15 out0_B_16 sout0_B_1; (try dsimp only)
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
      iapply ((kernelRun0_B c (grid0.coords t) _ _ _ _ _ _ _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) _ _ _).2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexists _; iexact H13
      isplitl [H14]; · iexists _; iexact H14
      isplitl [H15]; · iexact H15
      isplitl [H16]; · iexact H16
      isplitl [HS0]; · iexact HS0
      isplitl [HS1]; · iexact HS1
      iintro ⟨H0, H1, H2, H3, H4, H5, H6, H7, H8, H9, H10, H11, H12, ⟨%e13, H13⟩, ⟨%e14, H14⟩, H15, ⟨%e16, H16⟩, ⟨%fT0, HS0⟩, ⟨%es1, HS1⟩⟩
      isplitl [HS0 HS1 Hg]
      · isplitl [HS0 HS1]
        · isplitl [HS0]
          · iexists _; unfold owns; iexists _; isplitr
            swap; · iexact HS0
            ipureintro; rfl
          unfold owns; iexists _; isplitr
          swap; · iexact HS1
          ipureintro; exact View.read_writes_of_cover _ _ _ _ _ (scover0_B_1 c _ _ _ _ _ _ _ _ _ _ _ _ _ _ _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]
      · unfold owns; iexists _; isplitr
        swap; · iexact H13
        ipureintro; exact View.read_writes_of_cover _ _ _ _ _ (cover0_B_13 c _ _ _ _ _ _ _ _ _ _ _ _ _ _ _ _ _ _ _ _ _ _ _ _ _ _ _ _ _ _ _ _ _ _ _ _ _ _ _ _ _ _ _ _ _ _ _ _ _ _ _ _ _ _ _ _)
      isplitl [H14]
      · unfold owns; iexists _; isplitr
        swap; · iexact H14
        ipureintro; exact View.read_writes_of_cover _ _ _ _ _ (cover0_B_14 c _ _ _ _ _ _ _ _ _ _ _ _ _ _ _ _ _ _ _ _ _ _ _ _ _ _ _ _ _ _ _ _ _ _ _ _ _ _ _ _ _ _ _ _ _ _ _ _ _ _ _ _ _ _ _ _)
      isplitl [H15]
      · unfold owns; iexists _; isplitr
        swap; · iexact H15
        ipureintro; rfl
      unfold owns; iexists _; isplitr
      swap; · iexact H16
      ipureintro; exact View.read_writes_of_cover _ _ _ _ _ (cover0_B_16 c _ _ _ _ _ _ _ _ _ _ _ _ _ _ _ _ _ _ _ _ _ _ _ _ _ _ _ _ _ _ _ _ _ _ _ _ _ _ _ _ _ _ _ _ _ _ _ _ _ _ _ _ _ _ _ _)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexact HS0
    iexists _; iexact HS1
  iexact Hg

theorem hout (c : Dev nD) : (dats m 0 c).Φ (Fin.last cfg0.N) ⊢ Pipeline.ΦA spec0 c :=
  Phi_out m c _ (by rw [Fin.val_last]; have : cfg0.N = 16 := N_0; omega)
set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

/-- The run, with each result array after it named and the arguments as they were. -/
theorem run_arrays : θ_run defs (onTc (τ := τ) (main (F := F))) ⟨m, fun _ => 0, ρ⟩ fun r => ∀ c : Dev nD,
      r.2.mem ((c : Thread nD τ).loc main_v3_0) = (dats m 0 c).arrAt 13 cfg0.N
      ∧ r.2.mem ((c : Thread nD τ).loc main_v3_1) = (dats m 0 c).arrAt 14 cfg0.N
      ∧ r.2.mem ((c : Thread nD τ).loc main_v3_2) = (dats m 0 c).arrAt 15 cfg0.N
      ∧ r.2.mem ((c : Thread nD τ).loc main_v3_3) = (dats m 0 c).arrAt 16 cfg0.N :=
  (θ_run defs _ _).mono (fun r h c => ⟨(h c).1 13, (h c).1 14, (h c).1 15, (h c).1 16⟩) (run_main m ρ)

end Cert.Kernel2Ideal.Gen

end
-- ==== Proof.GateBits.lean ====
module

public import proofs.«01_k».proof.Defs
public import proofs.«01_k».proof.Proof.GateFrame
public import proofs.«01_k».proof.Proof.Gen.Kernel2

@[expose] public section

noncomputable section

/-! # The gates' gradient call as printed, by the run of the program whose constants are named -/

namespace Cert.Gate

open Idealize.ShloMosaic Idealize.SL.Sem

/-- Read at bits, a named constant is the literal it stands for. -/
instance namedBits : Named Bits where
  named _ _ {φ} bits := Scalar.ofBits φ bits

/-- The run of the program with named constants, at bits. -/
def FrameAtBits : Prop :=
  ∀ (m : (ℓ : Loc Cert.Kernel2Ideal.nD Cert.Kernel2Ideal.τ Cert.Kernel2Ideal.sig) → Buf (Elt Bits) ℓ) (g : Dev Cert.Kernel2Ideal.nD → PrngReg), True →
    θ_run (Cert.Kernel2Ideal.defs (F := Bits)) (onTc (τ := Cert.Kernel2Ideal.τ) (Cert.Kernel2Ideal.main (F := Bits))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

/-- The two programs are one text. -/
theorem statement_eq : Cert.quiescent_Kernel2 (hKernel2 := Cert.Kernel2.Gen.facts) = FrameAtBits := by
  sl_kernel_rfl

theorem kernel2_frame : Cert.quiescent_Kernel2 (hKernel2 := Cert.Kernel2.Gen.facts) :=
  statement_eq ▸ fun m g _ => Cert.Kernel2Ideal.Gen.frame (F := Bits) m g

end Cert.Gate

end
-- ==== Proof.GateKernel.lean ====
module

public import proofs.«01_k».proof.Proof.GateFrame
public import proofs.«01_k».proof.Proof.Common
public import Idealize.ShloMosaic.Lib.Pointwise
public import Idealize.ShloMosaic.PureOps.Ideal.Laws
public import Idealize.ShloMosaic.Lib.WritesUnit
public import Idealize.ShloMosaic.Lib.Pipeline.ReadBack

@[expose] public section

noncomputable section

/-! # What one point of the gates' gradient call stores -/

namespace Cert.Gate

open Idealize.ShloMosaic Idealize.ShloMosaic.TcCoe Idealize.SL.Sem
open Idealize.ShloMosaic.Pipeline (Dat)
open Cert.Kernel2Ideal Cert.Kernel2Ideal.Gen Cert.Common

/-! ## A tile's buffers -/

section Buffers

variable (C D : Vec Ideal S256x1024 .f32) (H K : Vec Ideal S8x1024 .f32)

/-- The tile `C` moved `s` rows down, the last of the eight rows `H` coming in above. -/
def down (s : Nat) (hs : s ≤ 8) : Vec Ideal S256x1024 .f32 := fun y =>
  if h : s ≤ (y 0).val then C (ix2 ⟨(y 0).val - s, lt_of_le_of_lt (Nat.sub_le _ _) (y 0).isLt⟩ (y 1))
  else H (ix2 ⟨8 - s + (y 0).val, by omega⟩ (y 1))

theorem down_ge (s : Nat) (hs : s ≤ 8) (r : Fin 256) (q : Fin 1024) (h : s ≤ r.val) : down C H s hs (ix2 r q) = C (ix2 ⟨r.val - s, by omega⟩ q) := dif_pos h
theorem down_lt (s : Nat) (hs : s ≤ 8) (r : Fin 256) (q : Fin 1024) (h : ¬s ≤ r.val) : down C H s hs (ix2 r q) = H (ix2 ⟨8 - s + r.val, by omega⟩ q) := dif_neg h

/-- The tile `D` moved `s` rows up, the first of the eight rows `K` coming in below. -/
def up (s : Nat) (hs : s ≤ 8) : Vec Ideal S256x1024 .f32 := fun y =>
  if h : (y 0).val + s < 256 then D (ix2 ⟨(y 0).val + s, h⟩ (y 1))
  else K (ix2 ⟨(y 0).val + s - 256, by have : (y 0).val < 256 := (y 0).isLt; omega⟩ (y 1))

theorem up_lt (s : Nat) (hs : s ≤ 8) (r : Fin 256) (q : Fin 1024) (h : r.val + s < 256) : up D K s hs (ix2 r q) = D (ix2 ⟨r.val + s, h⟩ q) := dif_pos h
theorem up_ge (s : Nat) (hs : s ≤ 8) (r : Fin 256) (q : Fin 1024) (h : ¬r.val + s < 256) : up D K s hs (ix2 r q) = K (ix2 ⟨r.val + s - 256, by omega⟩ q) := dif_neg h

/-- The tile's first eight rows. -/
def top : Vec Ideal S8x1024 .f32 := fun y => D (ix2 ⟨(y 0).val, by have : (y 0).val < 8 := (y 0).isLt; omega⟩ (y 1))

/-- The rectangles of a buffer of 264 rows: 256 of them, and eight. -/
abbrev rows256 (o : Nat) (h : ∀ a : Fin S264x1024.rank, (![o, 0] : Fin 2 → Nat) a + (![256, 1024] : Fin 2 → Nat) a ≤ S264x1024.size a) : Rect S264x1024 := Rect.unit ![o, 0] ![256, 1024] h
abbrev rows8 (o : Nat) (h : ∀ a : Fin S264x1024.rank, (![o, 0] : Fin 2 → Nat) a + (![8, 1024] : Fin 2 → Nat) a ≤ S264x1024.size a) : Rect S264x1024 := Rect.unit ![o, 0] ![8, 1024] h
abbrev lastRows : Rect S264x1024 := rows8 256 inb_S264x1024_S8x1024_256_0

variable {sg : RefSig} {V : View sg .tc .vmem S264x1024 .f32} (f : V.ty.Contents (Elt Ideal))

theorem hit256 (o : Nat) (h) (L : List (View.Piece (Elt Ideal) S264x1024 .f32)) (y : S264x1024.Idx) (r : Fin 256) (q : Fin 1024) (h0 : (y 0).val = o + r.val) (h1 : (y 1).val = q.val) :
    View.read (Elt Ideal) V (V.writes (Elt Ideal) f (⟨rows256 o h, D⟩ :: L)) y = D (ix2 r q) :=
  View.read_writes_cons_rows_of_mem (o := o) V f h D L y (ix2 r q) rfl h0 h1

theorem hit8 (o : Nat) (h) (L : List (View.Piece (Elt Ideal) S264x1024 .f32)) (y : S264x1024.Idx) (r : Fin 8) (q : Fin 1024) (h0 : (y 0).val = o + r.val) (h1 : (y 1).val = q.val) :
    View.read (Elt Ideal) V (V.writes (Elt Ideal) f (⟨rows8 o h, K⟩ :: L)) y = K (ix2 r q) :=
  View.read_writes_cons_rows_of_mem (o := o) V f h K L y (ix2 r q) rfl h0 h1

theorem miss256 (o : Nat) (h) (L : List (View.Piece (Elt Ideal) S264x1024 .f32)) (y : S264x1024.Idx) (h0 : (y 0).val < o ∨ o + 256 ≤ (y 0).val) :
    View.read (Elt Ideal) V (V.writes (Elt Ideal) f (⟨rows256 o h, D⟩ :: L)) y = View.read (Elt Ideal) V (V.writes (Elt Ideal) f L) y :=
  View.read_writes_cons_rows_of_not_mem (o := o) (W := 256) V f h D L y rfl rfl h0

theorem readCov_down (s : Nat) (hs : s ≤ 8) (h) :
    V.readCov (Val := Elt Ideal) [⟨rows256 8 inb_S264x1024_S256x1024_8_0, C⟩, ⟨rows8 0 inb_S264x1024_S8x1024_0_0, H⟩]
      (rows256 (8 - s) h).toLoadRect = down C H s hs := by
  funext y
  obtain ⟨r, q, rfl⟩ : ∃ (r : Fin 256) (q : Fin 1024), y = ix2 r q := ⟨y 0, y 1, funext fun a => by fin_cases a <;> rfl⟩
  show View.read (Elt Ideal) V (V.writes (Elt Ideal) V.junk _) ((rows256 (8 - s) h).emb (ix2 r q)) = _
  have e0 : ((rows256 (8 - s) h).emb (ix2 r q) 0).val = 8 - s + 1 * r.val := rfl
  have e1 : ((rows256 (8 - s) h).emb (ix2 r q) 1).val = 0 + 1 * q.val := rfl
  by_cases hr : s ≤ r.val
  · rw [down_ge _ _ _ _ _ _ hr]
    exact hit256 _ _ _ _ _ _ _ _ (by rw [e0]; show _ = 8 + (r.val - s); omega) (by rw [e1]; omega)
  · rw [down_lt _ _ _ _ _ _ hr, miss256 _ _ _ _ _ _ (Or.inl (by rw [e0]; omega))]
    exact hit8 _ _ _ _ _ _ _ _ (by rw [e0]; show _ = 0 + (8 - s + r.val); omega) (by rw [e1]; omega)

theorem readCov_up (s : Nat) (hs : s ≤ 8) (h) :
    V.readCov (Val := Elt Ideal) [⟨rows256 0 inb_S264x1024_S256x1024_0_0, D⟩, ⟨rows8 256 inb_S264x1024_S8x1024_256_0, K⟩]
      (rows256 s h).toLoadRect = up D K s hs := by
  funext y
  obtain ⟨r, q, rfl⟩ : ∃ (r : Fin 256) (q : Fin 1024), y = ix2 r q := ⟨y 0, y 1, funext fun a => by fin_cases a <;> rfl⟩
  show View.read (Elt Ideal) V (V.writes (Elt Ideal) V.junk _) ((rows256 s h).emb (ix2 r q)) = _
  have e0 : ((rows256 s h).emb (ix2 r q) 0).val = s + 1 * r.val := rfl
  have e1 : ((rows256 s h).emb (ix2 r q) 1).val = 0 + 1 * q.val := rfl
  by_cases hr : r.val + s < 256
  · rw [up_lt _ _ _ _ _ _ hr]
    exact hit256 _ _ _ _ _ _ _ _ (by rw [e0]; show _ = 0 + (r.val + s); omega) (by rw [e1]; omega)
  · rw [up_ge _ _ _ _ _ _ hr, miss256 _ _ _ _ _ _ (Or.inr (by rw [e0]; omega))]
    exact hit8 _ _ _ _ _ _ _ _ (by rw [e0]; show _ = 256 + (r.val + s - 256); omega) (by rw [e1]; omega)

theorem ld_up (x : Vec Ideal S264x1024 .f32) (hx : View.read (Elt Ideal) V f = x) (s : Nat) (hs : s ≤ 8) (h) :
    View.ld (View.read (Elt Ideal) V (V.writes (Elt Ideal) f [⟨rows256 0 inb_S264x1024_S256x1024_0_0, D⟩])) (rows256 s h)
      = up D (View.ld x lastRows) s hs := by
  funext y
  obtain ⟨r, q, rfl⟩ : ∃ (r : Fin 256) (q : Fin 1024), y = ix2 r q := ⟨y 0, y 1, funext fun a => by fin_cases a <;> rfl⟩
  show View.read (Elt Ideal) V (V.writes (Elt Ideal) f _) ((rows256 s h).emb (ix2 r q)) = _
  have e0 : ((rows256 s h).emb (ix2 r q) 0).val = s + 1 * r.val := rfl
  have e1 : ((rows256 s h).emb (ix2 r q) 1).val = 0 + 1 * q.val := rfl
  by_cases hr : r.val + s < 256
  · rw [up_lt _ _ _ _ _ _ hr]
    exact hit256 _ _ _ _ _ _ _ _ (by rw [e0]; show _ = 0 + (r.val + s); omega) (by rw [e1]; omega)
  · rw [up_ge _ _ _ _ _ _ hr, miss256 _ _ _ _ _ _ (Or.inr (by rw [e0]; omega))]
    refine (congrFun hx _).trans ?_
    show x _ = x _
    congr 1
    funext a
    apply Fin.ext
    fin_cases a
    · show s + 1 * r.val = 256 + 1 * (r.val + s - 256)
      omega
    · rfl

theorem readCov_top (L : List (View.Piece (Elt Ideal) S264x1024 .f32)) :
    V.readCov (Val := Elt Ideal) (⟨rows256 0 inb_S264x1024_S256x1024_0_0, D⟩ :: L) (rows8 0 inb_S264x1024_S8x1024_0_0).toLoadRect = top D := by
  funext y
  obtain ⟨r, q, rfl⟩ : ∃ (r : Fin 8) (q : Fin 1024), y = ix2 r q := ⟨y 0, y 1, funext fun a => by fin_cases a <;> rfl⟩
  show View.read (Elt Ideal) V (V.writes (Elt Ideal) V.junk _) ((rows8 0 inb_S264x1024_S8x1024_0_0).emb (ix2 r q)) = _
  have e0 : ((rows8 0 inb_S264x1024_S8x1024_0_0).emb (ix2 r q) 0).val = 0 + 1 * r.val := rfl
  have e1 : ((rows8 0 inb_S264x1024_S8x1024_0_0).emb (ix2 r q) 1).val = 0 + 1 * q.val := rfl
  exact hit256 _ _ _ _ _ _ _ _ (by rw [e0]; show _ = 0 + r.val; omega) (by rw [e1]; exact (by omega : 0 + 1 * q.val = q.val))

theorem ld_last (L : List (View.Piece (Elt Ideal) S264x1024 .f32)) :
    View.ld (View.read (Elt Ideal) V (V.writes (Elt Ideal) f (⟨rows8 256 inb_S264x1024_S8x1024_256_0, K⟩ :: L))) lastRows = K := by
  funext y
  obtain ⟨r, q, rfl⟩ : ∃ (r : Fin 8) (q : Fin 1024), y = ix2 r q := ⟨y 0, y 1, funext fun a => by fin_cases a <;> rfl⟩
  exact hit8 _ _ _ _ _ _ _ _ (by show 256 + 1 * r.val = 256 + r.val; omega) (by show 0 + 1 * q.val = q.val; omega)

/-- Six tiles side by side. -/
def cols (a : Fin 6 → Vec Ideal S256x1024 .bf16) : Vec Ideal S256x6144 .bf16 := fun y =>
  a ⟨(y 1).val / 1024, by have : (y 1).val < 6144 := (y 1).isLt; omega⟩ (ix2 (y 0) ⟨(y 1).val % 1024, Nat.mod_lt _ (by decide)⟩)

theorem cols_apply (a : Fin 6 → Vec Ideal S256x1024 .bf16) (r : Fin 256) (k : Fin 6) (j : Fin 1024) (h : 1024 * k.val + j.val < 6144) :
    cols a (ix2 r ⟨1024 * k.val + j.val, h⟩) = a k (ix2 r j) := by
  have e : ∀ (k' : Fin 6) (j' : Fin 1024), k' = k → j' = j → a k' (ix2 r j') = a k (ix2 r j) := by
    rintro _ _ rfl rfl; rfl
  exact e _ _ (Fin.ext (by show (1024 * k.val + j.val) / 1024 = k.val; omega)) (Fin.ext (by show (1024 * k.val + j.val) % 1024 = j.val; omega))

abbrev col (o : Nat) (h : ∀ a : Fin S256x6144.rank, (![0, o] : Fin 2 → Nat) a + (![256, 1024] : Fin 2 → Nat) a ≤ S256x6144.size a) : Rect S256x6144 := Rect.unit ![0, o] ![256, 1024] h

theorem col_piece (a : Fin 6 → Vec Ideal S256x1024 .bf16) (k : Fin 6) (o : Nat) (h) (ho : o = 1024 * k.val) (x : (col o h).shape.Idx) :
    a k x = cols a ((col o h).emb x) := by
  subst ho
  obtain ⟨r, j, rfl⟩ : ∃ (r : Fin 256) (j : Fin 1024), x = ix2 r j := ⟨x 0, x 1, funext fun a => by fin_cases a <;> rfl⟩
  rw [← cols_apply a r k j (by omega)]
  congr 1
  funext d
  apply Fin.ext
  fin_cases d
  · show r.val = 0 + 1 * r.val
    omega
  · show 1024 * k.val + j.val = 1024 * k.val + 1 * j.val
    omega

theorem col_mem (y : S256x6144.Idx) (o : Nat) (h) (h0 : o ≤ (y 1).val) (h1 : (y 1).val < o + 1024) : y ∈ (col o h).set := by
  rw [Rect.mem_set_unit]
  intro a
  fin_cases a
  · exact ⟨Nat.zero_le _, lt_of_lt_of_eq (y 0).isLt (by rfl)⟩
  · exact ⟨h0, h1⟩

theorem read_cols {V : View sig .tc .vmem S256x6144 .bf16} (f : V.ty.Contents (Elt Ideal)) (a0 a1 a2 a3 a4 a5 : Vec Ideal S256x1024 .bf16) :
    View.read (Elt Ideal) V (V.writes (Elt Ideal) f [⟨col 5120 inb_S256x6144_S256x1024_0_5120, a5⟩,
      ⟨col 4096 inb_S256x6144_S256x1024_0_4096, a4⟩, ⟨col 2048 inb_S256x6144_S256x1024_0_2048, a2⟩,
      ⟨col 1024 inb_S256x6144_S256x1024_0_1024, a1⟩, ⟨col 3072 inb_S256x6144_S256x1024_0_3072, a3⟩,
      ⟨col 0 inb_S256x6144_S256x1024_0_0, a0⟩]) = cols ![a0, a1, a2, a3, a4, a5] := by
  funext y
  refine View.read_writes_apply_of_pieces V f _ _ (fun p hp x => ?_) y ?_
  · simp only [List.mem_cons, List.not_mem_nil, or_false] at hp
    rcases hp with rfl | rfl | rfl | rfl | rfl | rfl
    · exact col_piece ![a0, a1, a2, a3, a4, a5] 5 5120 inb_S256x6144_S256x1024_0_5120 rfl x
    · exact col_piece ![a0, a1, a2, a3, a4, a5] 4 4096 inb_S256x6144_S256x1024_0_4096 rfl x
    · exact col_piece ![a0, a1, a2, a3, a4, a5] 2 2048 inb_S256x6144_S256x1024_0_2048 rfl x
    · exact col_piece ![a0, a1, a2, a3, a4, a5] 1 1024 inb_S256x6144_S256x1024_0_1024 rfl x
    · exact col_piece ![a0, a1, a2, a3, a4, a5] 3 3072 inb_S256x6144_S256x1024_0_3072 rfl x
    · exact col_piece ![a0, a1, a2, a3, a4, a5] 0 0 inb_S256x6144_S256x1024_0_0 rfl x
  · have hy : (y 1).val < 6144 := (y 1).isLt
    simp only [List.exists_mem_cons_iff, List.not_mem_nil, false_and, exists_false, or_false]
    by_cases h5 : 5120 ≤ (y 1).val
    · exact Or.inl (col_mem y _ _ h5 (by omega))
    by_cases h4 : 4096 ≤ (y 1).val
    · exact Or.inr (Or.inl (col_mem y _ _ h4 (by omega)))
    by_cases h3 : 3072 ≤ (y 1).val
    · exact Or.inr (Or.inr (Or.inr (Or.inr (Or.inl (col_mem y _ _ h3 (by omega))))))
    by_cases h2 : 2048 ≤ (y 1).val
    · exact Or.inr (Or.inr (Or.inl (col_mem y _ _ h2 (by omega))))
    by_cases h1 : 1024 ≤ (y 1).val
    · exact Or.inr (Or.inr (Or.inr (Or.inl (col_mem y _ _ h1 (by omega)))))
    · exact Or.inr (Or.inr (Or.inr (Or.inr (Or.inr (col_mem y _ _ (Nat.zero_le _) (by omega))))))

/-- Five rows written over a block of sixteen. -/
def rows (w : Fin 5 → Vec Ideal S1x1024 .f32) (b : Vec Ideal S16x1024 .f32) : Vec Ideal S16x1024 .f32 := fun y =>
  if h : (y 0).val < 5 then w ⟨(y 0).val, h⟩ (ix2 (0 : Fin 1) (y 1)) else b y

theorem rows_lt (w : Fin 5 → Vec Ideal S1x1024 .f32) (b : Vec Ideal S16x1024 .f32) (p : Fin 5) (q : Fin 1024) : rows w b (ix2 ⟨p.val, by omega⟩ q) = w p (ix2 0 q) := dif_pos p.isLt
theorem rows_ge (w : Fin 5 → Vec Ideal S1x1024 .f32) (b : Vec Ideal S16x1024 .f32) (p : Fin 16) (hp : ¬p.val < 5) (q : Fin 1024) : rows w b (ix2 p q) = b (ix2 p q) := dif_neg hp

abbrev row (o : Nat) (h : ∀ a : Fin S16x1024.rank, (![o, 0] : Fin 2 → Nat) a + (![1, 1024] : Fin 2 → Nat) a ≤ S16x1024.size a) : Rect S16x1024 := Rect.unit ![o, 0] ![1, 1024] h

theorem read_row {V : View sig .tc .vmem S16x1024 .f32} (f : V.ty.Contents (Elt Ideal)) (o : Nat) (h) (w : Vec Ideal S1x1024 .f32) (L : List (View.Piece (Elt Ideal) S16x1024 .f32)) (y : S16x1024.Idx) :
    View.read (Elt Ideal) V (V.writes (Elt Ideal) f (⟨row o h, w⟩ :: L)) y
      = if (y 0).val = o then w (ix2 (0 : Fin 1) (y 1)) else View.read (Elt Ideal) V (V.writes (Elt Ideal) f L) y := by
  by_cases hy : (y 0).val = o
  · rw [if_pos hy]
    exact View.read_writes_cons_rows_of_mem (o := o) V f h w L y (ix2 (0 : Fin 1) (y 1)) rfl hy rfl
  · rw [if_neg hy]
    exact View.read_writes_cons_rows_of_not_mem (o := o) (W := 1) V f h w L y rfl rfl (by omega)

theorem read_rows {V : View sig .tc .vmem S16x1024 .f32} (f : V.ty.Contents (Elt Ideal)) (w0 w1 w2 w3 w4 : Vec Ideal S1x1024 .f32) (L : List (View.Piece (Elt Ideal) S16x1024 .f32))
    (b : Vec Ideal S16x1024 .f32) (hb : View.read (Elt Ideal) V (V.writes (Elt Ideal) f L) = b) :
    View.read (Elt Ideal) V (V.writes (Elt Ideal) f (⟨row 4 inb_S16x1024_S1x1024_4_0, w4⟩ :: ⟨row 3 inb_S16x1024_S1x1024_3_0, w3⟩ :: ⟨row 2 inb_S16x1024_S1x1024_2_0, w2⟩
      :: ⟨row 1 inb_S16x1024_S1x1024_1_0, w1⟩ :: ⟨row 0 inb_S16x1024_S1x1024_0_0, w0⟩ :: L)) = rows ![w0, w1, w2, w3, w4] b := by
  funext y
  simp only [read_row, hb]
  have hz : ∀ (k : Fin 5), (y 0).val = k.val → ∀ w : Fin 5 → Vec Ideal S1x1024 .f32, rows w b y = w k (ix2 (0 : Fin 1) (y 1)) := fun k hk w => by
    have : (⟨(y 0).val, by omega⟩ : Fin 5) = k := Fin.ext hk
    unfold rows
    rw [dif_pos (by omega), this]
  split_ifs with h4 h3 h2 h1 h0
  · exact (hz 4 h4 ![w0, w1, w2, w3, w4]).symm
  · exact (hz 3 h3 ![w0, w1, w2, w3, w4]).symm
  · exact (hz 2 h2 ![w0, w1, w2, w3, w4]).symm
  · exact (hz 1 h1 ![w0, w1, w2, w3, w4]).symm
  · exact (hz 0 h0 ![w0, w1, w2, w3, w4]).symm
  · unfold rows
    rw [dif_neg (by omega)]

end Buffers

/-! ## What one point stores -/

section Tile

variable (i : grid0.Coords) (x0 x1 x2 x3 x4 : Vec Ideal S256x1024 .f32) (x5 x6 : Vec Ideal S8x1024 .f32) (x7 : Vec Ideal S256x1024 .f32) (x8 : Vec Ideal S256x2048 .f32)
  (x9 : Vec Ideal S3x1024 .f32) (x10 : Vec Ideal S1x1024 .f32) (x11 : Vec Ideal S1024x1024 .bf16) (x12 : Vec Ideal S1x1024 .f32) (K : Vec Ideal S8x1024 .f32)

/-- The two halves of the gradient coming in, and the three rows of the convolution's weights. -/
abbrev dm0 : Vec Ideal S256x1024 .f32 := View.ld x8 (Rect.unit ![0, 0] ![256, 1024] inb_S256x2048_S256x1024_0_0)
abbrev dm1 : Vec Ideal S256x1024 .f32 := View.ld x8 (Rect.unit ![0, 1024] ![256, 1024] inb_S256x2048_S256x1024_0_1024)
abbrev w0 : Vec Ideal S1x1024 .f32 := View.ld x9 (Rect.unit ![0, 0] ![1, 1024] inb_S3x1024_S1x1024_0_0)
abbrev w1 : Vec Ideal S1x1024 .f32 := View.ld x9 (Rect.unit ![1, 0] ![1, 1024] inb_S3x1024_S1x1024_1_0)
abbrev w2 : Vec Ideal S1x1024 .f32 := View.ld x9 (Rect.unit ![2, 0] ![1, 1024] inb_S3x1024_S1x1024_2_0)
/-- The gradient of the convolution. -/
abbrev dcv : Vec Ideal S256x1024 .f32 := k0_pay16 x0 x3 (dm0 x8)
/-- The convolution's input one and two rows earlier, and its gradient one and two rows later. -/
abbrev back1 : Vec Ideal S256x1024 .f32 := down (k0_pay8 x1 x2) (k0_pay7 i x5 x6) 1 (by decide)
abbrev back2 : Vec Ideal S256x1024 .f32 := down (k0_pay8 x1 x2) (k0_pay7 i x5 x6) 2 (by decide)
abbrev next1 : Vec Ideal S256x1024 .f32 := up (k0_pay17 x0 x3 (dm0 x8)) K 1 (by decide)
abbrev next2 : Vec Ideal S256x1024 .f32 := up (k0_pay17 x0 x3 (dm0 x8)) K 2 (by decide)

/-- The six column blocks of the gradient of `proj`. -/
def projBlk : Vec Ideal S256x6144 .bf16 := cols ![
  k0_pay14 x3 (w0 x9) (w1 x9) (k0_pay9 x1 x2 (w2 x9)) (k0_pay10 x10) (back1 i x1 x2 x5 x6) (back2 i x1 x2 x5 x6) (dm0 x8),
  k0_pay20 x2 (w0 x9) (w1 x9) (dcv x0 x3 x8) (next1 x0 x3 x8 K) (next2 x0 x3 x8 K) (k0_pay18 (w2 x9)),
  k0_pay21 x1 (w0 x9) (w1 x9) (dcv x0 x3 x8) (next1 x0 x3 x8 K) (next2 x0 x3 x8 K) (k0_pay18 (w2 x9)),
  k0_pay15 x0 x3 (w0 x9) (w1 x9) (k0_pay9 x1 x2 (w2 x9)) (k0_pay10 x10) (back1 i x1 x2 x5 x6) (back2 i x1 x2 x5 x6) (dm0 x8),
  k0_pay35 (F := Ideal),
  k0_pay36 x4 (k0_pay29 x7) (k0_pay32 x7 x11) x12 (dm1 x8)]

/-- The running sums, `b` being what they were. -/
def rowsBlk (b : Vec Ideal S16x1024 .f32) : Vec Ideal S16x1024 .f32 := rows ![
  k0_pay22 (k0_pay6 x1 x2) (next2 x0 x3 x8 K) (View.ld b (row 0 inb_S16x1024_S1x1024_0_0)),
  k0_pay23 (k0_pay6 x1 x2) (next1 x0 x3 x8 K) (View.ld b (row 1 inb_S16x1024_S1x1024_1_0)),
  k0_pay25 (k0_pay24 (k0_pay6 x1 x2) (dcv x0 x3 x8) (View.ld b (row 2 inb_S16x1024_S1x1024_2_0))),
  k0_pay26 (dcv x0 x3 x8) (View.ld b (row 3 inb_S16x1024_S1x1024_3_0)),
  k0_pay40 x4 (k0_pay29 x7) (k0_pay32 x7 x11) x12 (dm1 x8) (View.ld b (row 4 inb_S16x1024_S1x1024_4_0))] b

/-- The gradient of `y`. -/
def yBlk : Vec Ideal S256x1024 .f32 :=
  k0_pay2 x7 (k0_pay28 x7) (k0_pay31 x11) (k0_pay33 (k0_pay32 x7 x11) x12) (k0_pay37 x4 (dm1 x8)) (k0_pay39 x4 (k0_pay29 x7) (k0_pay32 x7 x11) x12 (dm1 x8))

/-- The running gradient of `w_glu`, `b` being what it was. -/
def gluBlk (b : Vec Ideal S1024x1024 .f32) : Vec Ideal S1024x1024 .f32 :=
  k0_pay1 (k0_pay30 x7) (k0_pay39 x4 (k0_pay29 x7) (k0_pay32 x7 x11) x12 (dm1 x8)) b (constant S1024x1024 .f32 0x00000000#32)

end Tile

/-- A row of a block just filled, whatever other rows were written since, and the whole of one. -/
theorem fillRow {V : View sig .tc .vmem S16x1024 .f32} (Z : Vec Ideal S16x1024 .f32) (o : Nat) (h) :
    V.readCov (Val := Elt Ideal) [⟨Rect.unit ![0, 0] ![16, 1024] inb_S16x1024_S16x1024_0_0, Z⟩] (row o h).toLoadRect = View.ld Z (row o h) :=
  View.readCov_fill V _ Z [] _ (fun a => by fin_cases a <;> rfl)

theorem skipRow {V : View sig .tc .vmem S16x1024 .f32} (w : Vec Ideal S1x1024 .f32) (L : List (View.Piece (Elt Ideal) S16x1024 .f32)) (o o' : Nat) (h) (h') (ho : o ≠ o') :
    V.readCov (Val := Elt Ideal) (⟨row o h, w⟩ :: L) (row o' h').toLoadRect = V.readCov L (row o' h').toLoadRect := by
  funext y
  show View.read (Elt Ideal) V (V.writes (Elt Ideal) V.junk _) ((row o' h').emb y) = View.read (Elt Ideal) V (V.writes (Elt Ideal) V.junk _) ((row o' h').emb y)
  rw [read_row, if_neg]
  have h0 : (y 0).val < 1 := (y 0).isLt
  show o' + 1 * (y 0).val ≠ o
  omega

theorem fillGlu {V : View sig .tc .vmem S1024x1024 .f32} (Z : Vec Ideal S1024x1024 .f32) :
    V.readCov (Val := Elt Ideal) [⟨Rect.unit ![0, 0] ![1024, 1024] inb_S1024x1024_S1024x1024_0_0, Z⟩] (Rect.unit ![0, 0] ![1024, 1024] inb_S1024x1024_S1024x1024_0_0).toLoadRect = Z :=
  (View.readCov_fill V _ Z [] _ fun a => by fin_cases a <;> rfl).trans (View.ld_unit_zero hz2 _ Z)

section Point

variable (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S8x1024 .f32) (harg6 : arg6.IsWhole) (arg7 : Memref sig .tc .vmem S8x1024 .f32) (harg7 : arg7.IsWhole) (arg8 : Memref sig .tc .vmem S256x1024 .f32) (harg8 : arg8.IsWhole) (arg9 : Memref sig .tc .vmem S256x2048 .f32) (harg9 : arg9.IsWhole) (arg10 : Memref sig .tc .vmem S3x1024 .f32) (harg10 : arg10.IsWhole) (arg11 : Memref sig .tc .vmem S1x1024 .f32) (harg11 : arg11.IsWhole) (arg12 : Memref sig .tc .vmem S1024x1024 .bf16) (harg12 : arg12.IsWhole) (arg13 : Memref sig .tc .vmem S1x1024 .f32) (harg13 : arg13.IsWhole) (arg14 : Memref sig .tc .vmem S256x6144 .bf16) (harg14 : arg14.IsWhole) (arg15 : Memref sig .tc .vmem S256x1024 .f32) (harg15 : arg15.IsWhole) (arg16 : Memref sig .tc .vmem S16x1024 .f32) (harg16 : arg16.IsWhole) (arg17 : Memref sig .tc .vmem S1024x1024 .f32) (harg17 : arg17.IsWhole) (arg18 : Memref sig .tc .vmem S264x1024 .f32) (harg18 : arg18.IsWhole) (arg19 : Memref sig .tc .vmem S264x1024 .f32) (harg19 : arg19.IsWhole)
  (x0 : Vec Ideal S256x1024 .f32) (x1 : Vec Ideal S256x1024 .f32) (x2 : Vec Ideal S256x1024 .f32) (x3 : Vec Ideal S256x1024 .f32) (x4 : Vec Ideal S256x1024 .f32) (x5 : Vec Ideal S8x1024 .f32) (x6 : Vec Ideal S8x1024 .f32) (x7 : Vec Ideal S256x1024 .f32) (x8 : Vec Ideal S256x2048 .f32) (x9 : Vec Ideal S3x1024 .f32) (x10 : Vec Ideal S1x1024 .f32) (x11 : Vec Ideal S1024x1024 .bf16) (x12 : Vec Ideal S1x1024 .f32) (xo15 : Vec Ideal S16x1024 .f32) (xo16 : Vec Ideal S1024x1024 .f32) (xs1 : Vec Ideal S264x1024 .f32)

theorem out_A13 (hc0 : cond0_0 i) : out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 = projBlk i x0 x1 x2 x3 x4 x5 x6 x7 x8 x9 x10 x11 x12 (k0_pay3 (F := Ideal)) := by
  unfold out0_A_13
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S256x1024) hz2, View.ld_unit_zero (S := S8x1024) hz2, View.ld_unit_zero (S := S1x1024) hz2, View.ld_unit_zero (S := S1024x1024) hz2, shapeCast_self]
  rw [read_cols]
  unfold projBlk
  simp only [readCov_down _ _ 1 (by decide), readCov_down _ _ 2 (by decide), readCov_up _ _ 1 (by decide), readCov_up _ _ 2 (by decide)]

theorem out_A15 (hc0 : cond0_0 i) : out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 = rowsBlk x0 x1 x2 x3 x4 x7 x8 x11 x12 (k0_pay3 (F := Ideal)) (k0_pay4 (F := Ideal)) := by
  unfold out0_A_15
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S256x1024) hz2, View.ld_unit_zero (S := S8x1024) hz2, View.ld_unit_zero (S := S1x1024) hz2, View.ld_unit_zero (S := S1024x1024) hz2, shapeCast_self]
  rw [read_rows _ _ _ _ _ _ _ (k0_pay4 (F := Ideal)) (by rw [View.read_writes_junk_eq_canon, View.canon_unit_zero hz2])]
  unfold rowsBlk
  simp only [readCov_down _ _ 1 (by decide), readCov_down _ _ 2 (by decide), readCov_up _ _ 1 (by decide), readCov_up _ _ 2 (by decide), ↓skipRow, fillRow, ne_eq, OfNat.ofNat_ne_zero, OfNat.ofNat_ne_one, OfNat.one_ne_ofNat, OfNat.zero_ne_ofNat, zero_ne_one, one_ne_zero, not_false_eq_true, Nat.reduceEqDiff]

theorem out_A14 (hc0 : cond0_0 i) : out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 = yBlk x4 x7 x8 x11 x12 := by
  unfold out0_A_14
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S256x1024) hz2, View.ld_unit_zero (S := S8x1024) hz2, View.ld_unit_zero (S := S1x1024) hz2, View.ld_unit_zero (S := S1024x1024) hz2, shapeCast_self]
  rw [View.read_writes_junk_eq_canon, View.canon_unit_zero hz2]
  rfl

theorem out_A16 (hc0 : cond0_0 i) : out0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 = gluBlk x4 x7 x8 x11 x12 (k0_pay5 (F := Ideal)) := by
  unfold out0_A_16
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S256x1024) hz2, View.ld_unit_zero (S := S8x1024) hz2, View.ld_unit_zero (S := S1x1024) hz2, View.ld_unit_zero (S := S1024x1024) hz2, shapeCast_self]
  rw [View.read_writes_junk_eq_canon, View.canon_cons_unit_zero hz2, fillGlu]
  rfl

theorem sout_A1 (hc0 : cond0_0 i) : View.ld (sout0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12) lastRows = top (k0_pay17 x0 x3 (dm0 x8)) := by
  unfold sout0_A_1
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S256x1024) hz2, View.ld_unit_zero (S := S8x1024) hz2, View.ld_unit_zero (S := S1x1024) hz2, View.ld_unit_zero (S := S1024x1024) hz2, shapeCast_self]
  rw [ld_last, readCov_top]
  exact shapeCast_self _ _

theorem out_B13 (hc0 : ¬cond0_0 i) : out0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 xo15 xo16 xs1 = projBlk i x0 x1 x2 x3 x4 x5 x6 x7 x8 x9 x10 x11 x12 (View.ld xs1 lastRows) := by
  unfold out0_B_13
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S256x1024) hz2, View.ld_unit_zero (S := S8x1024) hz2, View.ld_unit_zero (S := S1x1024) hz2, View.ld_unit_zero (S := S1024x1024) hz2, shapeCast_self]
  rw [read_cols]
  unfold projBlk
  simp only [readCov_down _ _ 1 (by decide), readCov_down _ _ 2 (by decide), ld_up _ _ xs1 (harg19.read_unread xs1) 1 (by decide), ld_up _ _ xs1 (harg19.read_unread xs1) 2 (by decide)]

theorem out_B15 (hc0 : ¬cond0_0 i) : out0_B_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 xo15 xo16 xs1 = rowsBlk x0 x1 x2 x3 x4 x7 x8 x11 x12 (View.ld xs1 lastRows) xo15 := by
  unfold out0_B_15
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S256x1024) hz2, View.ld_unit_zero (S := S8x1024) hz2, View.ld_unit_zero (S := S1x1024) hz2, View.ld_unit_zero (S := S1024x1024) hz2, shapeCast_self]
  rw [read_rows _ _ _ _ _ _ _ xo15 (harg16.read_unread xo15)]
  unfold rowsBlk
  simp only [readCov_down _ _ 1 (by decide), readCov_down _ _ 2 (by decide), ld_up _ _ xs1 (harg19.read_unread xs1) 1 (by decide), ld_up _ _ xs1 (harg19.read_unread xs1) 2 (by decide)]

theorem out_B14 (hc0 : ¬cond0_0 i) : out0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 xo15 xo16 xs1 = yBlk x4 x7 x8 x11 x12 := by
  unfold out0_B_14
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S256x1024) hz2, View.ld_unit_zero (S := S8x1024) hz2, View.ld_unit_zero (S := S1x1024) hz2, View.ld_unit_zero (S := S1024x1024) hz2, shapeCast_self]
  rw [View.read_writes_junk_eq_canon, View.canon_unit_zero hz2]
  rfl

theorem out_B16 (hc0 : ¬cond0_0 i) : out0_B_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 xo15 xo16 xs1 = gluBlk x4 x7 x8 x11 x12 xo16 := by
  unfold out0_B_16
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S256x1024) hz2, View.ld_unit_zero (S := S8x1024) hz2, View.ld_unit_zero (S := S1x1024) hz2, View.ld_unit_zero (S := S1024x1024) hz2, shapeCast_self]
  rw [View.read_writes_junk_eq_canon, View.canon_unit_zero hz2]
  rfl

theorem sout_B1 (hc0 : ¬cond0_0 i) : View.ld (sout0_B_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 xo15 xo16 xs1) lastRows = top (k0_pay17 x0 x3 (dm0 x8)) := by
  unfold sout0_B_1
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S256x1024) hz2, View.ld_unit_zero (S := S8x1024) hz2, View.ld_unit_zero (S := S1x1024) hz2, View.ld_unit_zero (S := S1024x1024) hz2, shapeCast_self]
  rw [ld_last, readCov_top]
  exact shapeCast_self _ _

end Point

end Cert.Gate

end
-- ==== Proof.GateMath.lean ====
module

public import proofs.«01_k».proof.Proof.Common
public import Idealize.ShloMosaic.PureOps.Ideal.Laws

@[expose] public section

noncomputable section

/-! # The gates' gradients as formulas over the rows of the arguments -/

namespace Cert.Gate

open Idealize.ShloMosaic Cert.Common

/-! ## Functions of one number -/

/-- The tangent approximation's two coefficients, and the two literals beside them. -/
abbrev cc : EReal := ((8943 / 200000 : ℝ) : EReal)
abbrev cc3 : EReal := ((26829 / 200000 : ℝ) : EReal)
abbrev half : EReal := Ideal.ofBits .f32 1056964608#32
abbrev kk : EReal := Ideal.ofBits .f32 1061962282#32

/-- The activation, its tangent, and its derivative. -/
def gth (y : EReal) : EReal := Ideal.tanh (kk * (y + cc * y * y * y))
def gel (y : EReal) : EReal := half * y * (1 + gth y)
def dgel (y : EReal) : EReal := half * (1 + gth y) + half * y * (1 - gth y * gth y) * kk * (1 + cc3 * y * y)

/-- The gate `z · σ(z)` and its derivative. -/
def sil (z : EReal) : EReal := z * Ideal.logistic z
def dsil (z : EReal) : EReal := Ideal.logistic z * (1 + z * (1 - Ideal.logistic z))

/-! ## The branch with the scan's output, at one row -/

section Glu
variable (Y : Fin 1024 → EReal) (G : Fin 1024 → Fin 1024 → EReal) (e : Fin 1024 → EReal) (M Z : Fin 1024 → EReal) (q : Fin 1024)

def glu : EReal := Ideal.logistic (∑ x, gel (Y x) * G x q + e q)
def dgl : EReal := M q * sil (Z q) * gel (Y q) * glu Y G e q * (1 - glu Y G e q)
def dyRow : EReal := (M q * sil (Z q) * glu Y G e q + ∑ x, dgl Y G e M Z x * G q x) * dgel (Y q)
def dzRow : EReal := M q * (gel (Y q) * glu Y G e q) * dsil (Z q)
end Glu

/-! ## The branch with the convolution -/

section Conv
variable (P : Fin 6 → Fin 4096 → Fin 1024 → EReal) (M : Fin 4096 → Fin 1024 → EReal) (W : Fin 3 → Fin 1024 → EReal) (b : Fin 1024 → EReal)
  (s : Nat) (R : Fin 4096) (q : Fin 1024)

/-- The convolution's input, and that of `s` rows earlier. -/
def cin : EReal := P 1 R q * P 2 R q
def prev : EReal := if h : s ≤ R.val then cin P ⟨R.val - s, by omega⟩ q else 0
def conv : EReal := b q + W 2 q * cin P R q + W 1 q * prev P 1 R q + W 0 q * prev P 2 R q

/-- The gradient of the convolution's output, and that of `s` rows later. -/
def dconv : EReal := M R q * P 0 R q * sil (P 3 R q)
def next : EReal := if h : R.val + s < 4096 then dconv P M ⟨R.val + s, h⟩ q else 0
def dcin : EReal := W 2 q * dconv P M R q + W 1 q * next P M 1 R q + W 0 q * next P M 2 R q

/-- The gradient of a weight's term at a row. -/
def dwTerm : EReal := cin P R q * next P M s R q
end Conv

/-- The gradient of `proj`, by its six column blocks. -/
def dproj (P : Fin 6 → Fin 4096 → Fin 1024 → EReal) (Y : Fin 4096 → Fin 1024 → EReal) (M : Fin 2 → Fin 4096 → Fin 1024 → EReal) (W : Fin 3 → Fin 1024 → EReal)
    (b : Fin 1024 → EReal) (G : Fin 1024 → Fin 1024 → EReal) (e : Fin 1024 → EReal) (k : Fin 6) (R : Fin 4096) (q : Fin 1024) : EReal :=
  (![M 0 R q * conv P W b R q * sil (P 3 R q), dcin P (M 0) W R q * P 2 R q, dcin P (M 0) W R q * P 1 R q,
    M 0 R q * P 0 R q * conv P W b R q * dsil (P 3 R q), 0, dzRow (Y R) G e (M 1 R) (P 5 R) q] : Fin 6 → EReal) k

/-- The term of row `R` of the five sums kept as rows. -/
def rowTerm (P : Fin 6 → Fin 4096 → Fin 1024 → EReal) (Y : Fin 4096 → Fin 1024 → EReal) (M : Fin 2 → Fin 4096 → Fin 1024 → EReal)
    (G : Fin 1024 → Fin 1024 → EReal) (e : Fin 1024 → EReal) (p : Fin 5) (q : Fin 1024) (R : Fin 4096) : EReal :=
  (![dwTerm P (M 0) 2 R q, dwTerm P (M 0) 1 R q, cin P R q * dconv P (M 0) R q, dconv P (M 0) R q, dgl (Y R) G e (M 1 R) (P 5 R) q] : Fin 5 → EReal) p

/-! ## Sums that grow downwards -/

/-- One more block of `b` indices added in front of a running sum. -/
theorem sum_ext_down {n : Nat} (f : Fin n → EReal) (a b : Nat) (h : a + b ≤ n) :
    ∑ k ∈ Finset.Ico (a + b) n, ext f k + ∑ k : Fin b, f ⟨a + k.val, by omega⟩ = ∑ k ∈ Finset.Ico a n, ext f k := by
  rw [← Finset.sum_Ico_consecutive _ (Nat.le_add_right a b) h, add_comm, Finset.sum_Ico_eq_sum_range _ a, Nat.add_sub_cancel_left, Finset.sum_range (n := b)]
  congr 1
  exact Finset.sum_congr rfl fun k _ => by unfold ext; rw [dif_pos (by omega)]

theorem sum_ext_all {n : Nat} (f : Fin n → EReal) : ∑ k ∈ Finset.Ico 0 n, ext f k = ∑ k, f k := by
  rw [← Finset.range_eq_Ico]; exact sum_ext f

/-- A sum of products with what is `s` rows later is the sum with what is `s` rows earlier. -/
theorem sum_shift (P : Fin 6 → Fin 4096 → Fin 1024 → EReal) (M : Fin 4096 → Fin 1024 → EReal) (s : Nat) (hs : s ≤ 4096) (q : Fin 1024) :
    ∑ R, dwTerm P M s R q = ∑ R, dconv P M R q * prev P s R q := by
  have e : ∀ f : ℕ → EReal, ∑ k ∈ Finset.range 4096, f k = ∑ k ∈ Finset.range (4096 - s + s), f k := fun f => by rw [Nat.sub_add_cancel hs]
  have e' : ∀ f : ℕ → EReal, ∑ k ∈ Finset.range 4096, f k = ∑ k ∈ Finset.range (s + (4096 - s)), f k := fun f => by rw [Nat.add_sub_cancel' hs]
  rw [← sum_ext fun R => dwTerm P M s R q, ← sum_ext fun R => dconv P M R q * prev P s R q]
  rw [e, e', Finset.sum_range_add, Finset.sum_range_add, add_comm]
  refine congrArg₂ (· + ·) ?_ ?_
  · rw [Finset.sum_eq_zero, Finset.sum_eq_zero]
    · intro k hk
      rw [Finset.mem_range] at hk
      unfold ext
      rw [dif_pos (by omega)]
      dsimp only
      unfold prev
      rw [dif_neg (show ¬s ≤ k by omega), mul_zero]
    · intro k hk
      rw [Finset.mem_range] at hk
      unfold ext
      rw [dif_pos (by omega)]
      dsimp only
      unfold dwTerm next
      rw [dif_neg (show ¬4096 - s + k + s < 4096 by omega), mul_zero]
  · refine Finset.sum_congr rfl fun k hk => ?_
    rw [Finset.mem_range] at hk
    unfold ext
    rw [dif_pos (by omega), dif_pos (by omega)]
    dsimp only
    unfold dwTerm next prev
    rw [dif_pos (show k + s < 4096 by omega), dif_pos (show s ≤ s + k by omega), mul_comm]
    refine congrArg₂ (fun (a b : Fin 4096) => dconv P M a q * cin P b q) (Fin.ext ?_) (Fin.ext ?_)
    · show k + s = s + k
      omega
    · show k = s + k - s
      omega

end Cert.Gate

end
-- ==== Proof.GateTile.lean ====
module

public import proofs.«01_k».proof.Proof.GateKernel
public import proofs.«01_k».proof.Proof.GateMath
public import Idealize.ShloMosaic.Lib.Pointwise

@[expose] public section

noncomputable section

/-! # What the gates' gradient call computes of one tile, entry by entry -/

namespace Cert.Gate

open Idealize.ShloMosaic Idealize.ShloMosaic.TcCoe Idealize.SL.Sem
open Cert.Kernel2Ideal Cert.Kernel2Ideal.Gen Cert.Common

theorem named_c : (Named.named κ "c" 1027024659#32 : Ideal .f32) = cc := rfl
theorem named_c3 : (Named.named κ "c3" 1040801103#32 : Ideal .f32) = cc3 := rfl

section Pay
variable (i : grid0.Coords) (x0 x1 x2 x3 x4 : Vec Ideal S256x1024 .f32) (x5 x6 : Vec Ideal S8x1024 .f32) (x7 : Vec Ideal S256x1024 .f32)
  (x10 : Vec Ideal S1x1024 .f32) (x11 : Vec Ideal S1024x1024 .bf16) (x12 : Vec Ideal S1x1024 .f32)
  (a b D1 D2 : Vec Ideal S256x1024 .f32) (u v w : Vec Ideal S1x1024 .f32) (Z : Vec Ideal S1024x1024 .f32) (r : Fin 256) (q : Fin 1024) (p : Fin 8) (j : Fin 1024)

theorem pay14_apply : k0_pay14 x3 u v (k0_pay9 x1 x2 w) (k0_pay10 x10) D1 D2 a (ix2 r q)
    = a (ix2 r q) * (x10 (ix2 0 q) + w (ix2 0 q) * (x1 (ix2 r q) * x2 (ix2 r q)) + v (ix2 0 q) * D1 (ix2 r q) + u (ix2 0 q) * D2 (ix2 r q)) * sil (x3 (ix2 r q)) := by
  pointwise [k0_pay14, k0_pay9, k0_pay10, k0_pay11, k0_pay12, k0_pay13, k0_pay6]
  rfl

theorem pay15_apply : k0_pay15 x0 x3 u v (k0_pay9 x1 x2 w) (k0_pay10 x10) D1 D2 a (ix2 r q)
    = a (ix2 r q) * x0 (ix2 r q) * (x10 (ix2 0 q) + w (ix2 0 q) * (x1 (ix2 r q) * x2 (ix2 r q)) + v (ix2 0 q) * D1 (ix2 r q) + u (ix2 0 q) * D2 (ix2 r q)) * dsil (x3 (ix2 r q)) := by
  pointwise [k0_pay15, k0_pay9, k0_pay10, k0_pay11, k0_pay12, k0_pay13, k0_pay6]
  rfl

theorem pay16_apply : k0_pay16 x0 x3 a (ix2 r q) = a (ix2 r q) * x0 (ix2 r q) * sil (x3 (ix2 r q)) := by
  pointwise [k0_pay16, k0_pay12, k0_pay13]
  rfl

theorem pay17_apply : k0_pay17 x0 x3 a (ix2 r q) = a (ix2 r q) * x0 (ix2 r q) * sil (x3 (ix2 r q)) := by
  pointwise [k0_pay17, k0_pay16, k0_pay12, k0_pay13]
  rfl

theorem pay20_apply : k0_pay20 x2 u v b D1 D2 (k0_pay18 w) (ix2 r q)
    = (w (ix2 0 q) * b (ix2 r q) + v (ix2 0 q) * D1 (ix2 r q) + u (ix2 0 q) * D2 (ix2 r q)) * x2 (ix2 r q) := by
  pointwise [k0_pay20, k0_pay19, k0_pay18]

theorem pay21_apply : k0_pay21 x2 u v b D1 D2 (k0_pay18 w) (ix2 r q)
    = (w (ix2 0 q) * b (ix2 r q) + v (ix2 0 q) * D1 (ix2 r q) + u (ix2 0 q) * D2 (ix2 r q)) * x2 (ix2 r q) := by
  pointwise [k0_pay21, k0_pay19, k0_pay18]

theorem pay35_apply : k0_pay35 (F := Ideal) (ix2 r q) = (0 : EReal) := by
  pointwise [k0_pay35]

theorem pay36_apply : k0_pay36 x4 (k0_pay29 x7) (k0_pay32 x7 x11) x12 a (ix2 r q)
    = dzRow (fun k => x7 (ix2 r k)) (fun k l => x11 (ix2 k l)) (fun k => x12 (ix2 0 k)) (fun k => a (ix2 r k)) (fun k => x4 (ix2 r k)) q := by
  pointwise [k0_pay36, k0_pay34, k0_pay33, k0_pay29, k0_pay28, k0_pay32, k0_pay31, k0_pay30]
  rfl

theorem pay22_apply : k0_pay22 (k0_pay6 x1 x2) D2 u (ix2 0 q) = u (ix2 0 q) + ∑ x, x1 (ix2 x q) * x2 (ix2 x q) * D2 (ix2 x q) := by
  pointwise [k0_pay22, k0_pay6]

theorem pay23_apply : k0_pay23 (k0_pay6 x1 x2) D2 u (ix2 0 q) = u (ix2 0 q) + ∑ x, x1 (ix2 x q) * x2 (ix2 x q) * D2 (ix2 x q) := by
  pointwise [k0_pay23, k0_pay6]

theorem pay25_apply : k0_pay25 (k0_pay24 (k0_pay6 x1 x2) D2 u) (ix2 0 q) = u (ix2 0 q) + ∑ x, x1 (ix2 x q) * x2 (ix2 x q) * D2 (ix2 x q) := by
  pointwise [k0_pay25, k0_pay24, k0_pay6]

theorem pay26_apply : k0_pay26 D2 u (ix2 0 q) = u (ix2 0 q) + ∑ x, D2 (ix2 x q) := by
  pointwise [k0_pay26]

theorem pay40_apply : k0_pay40 x4 (k0_pay29 x7) (k0_pay32 x7 x11) x12 a u (ix2 0 q)
    = u (ix2 0 q) + ∑ x, dgl (fun k => x7 (ix2 x k)) (fun k l => x11 (ix2 k l)) (fun k => x12 (ix2 0 k)) (fun k => a (ix2 x k)) (fun k => x4 (ix2 x k)) q := by
  pointwise [k0_pay40, k0_pay38, k0_pay37, k0_pay34, k0_pay33, k0_pay29, k0_pay28, k0_pay32, k0_pay31, k0_pay30]
  rfl

theorem pay2_apply : k0_pay2 x7 (k0_pay28 x7) (k0_pay31 x11) (k0_pay33 (k0_pay32 x7 x11) x12) (k0_pay37 x4 a) (k0_pay39 x4 (k0_pay29 x7) (k0_pay32 x7 x11) x12 a) (ix2 r q)
    = dyRow (fun k => x7 (ix2 r k)) (fun k l => x11 (ix2 k l)) (fun k => x12 (ix2 0 k)) (fun k => a (ix2 r k)) (fun k => x4 (ix2 r k)) q := by
  pointwise [k0_pay2, k0_pay39, k0_pay40, k0_pay38, k0_pay37, k0_pay34, k0_pay33, k0_pay29, k0_pay28, k0_pay32, k0_pay31, k0_pay30]
  rfl

theorem pay1_apply : k0_pay1 (k0_pay30 x7) (k0_pay39 x4 (k0_pay29 x7) (k0_pay32 x7 x11) x12 a) Z (constant S1024x1024 .f32 0x00000000#32) (ix2 j q)
    = Z (ix2 j q) + ∑ x, gel (x7 (ix2 x j)) * dgl (fun k => x7 (ix2 x k)) (fun k l => x11 (ix2 k l)) (fun k => x12 (ix2 0 k)) (fun k => a (ix2 x k)) (fun k => x4 (ix2 x k)) q := by
  pointwise [k0_pay1, k0_pay39, k0_pay40, k0_pay38, k0_pay37, k0_pay34, k0_pay33, k0_pay29, k0_pay28, k0_pay32, k0_pay31, k0_pay30]
  rfl

theorem pay7_first (h : (i 0).val = 15) : k0_pay7 i x5 x6 (ix2 p q) = (0 : EReal) := by
  pointwise [k0_pay7]
  rw [h]
  rfl

theorem pay7_later (h : (i 0).val < 15) : k0_pay7 i x5 x6 (ix2 p q) = x5 (ix2 p q) * x6 (ix2 p q) := by
  pointwise [k0_pay7]
  have : ∀ k : Fin 15, Scalar.cmpi CmpIPredicate.eq (BitVec.ofNat 32 k.val) 15#32 = 0#1 := by decide
  rw [show (i 0).val = (⟨(i 0).val, h⟩ : Fin 15).val from rfl, this]
  rfl

theorem pay8_apply : k0_pay8 x1 x2 (ix2 r q) = x1 (ix2 r q) * x2 (ix2 r q) := by
  pointwise [k0_pay8, k0_pay6]

theorem pay3_apply : k0_pay3 (F := Ideal) (ix2 p q) = (0 : EReal) := by
  pointwise [k0_pay3]
theorem pay4_apply (p : Fin 16) : k0_pay4 (F := Ideal) (ix2 p q) = (0 : EReal) := by
  pointwise [k0_pay4]
theorem pay5_apply : k0_pay5 (F := Ideal) (ix2 j q) = (0 : EReal) := by
  pointwise [k0_pay5]

end Pay

end Cert.Gate

end
-- ==== Proof.GateArrays.lean ====
module

public import proofs.«01_k».proof.Proof.GateTile
public import Idealize.ShloMosaic.Lib.ValueLayout
public import Idealize.ShloMosaic.Lib.Pipeline.ValueKit.Geometry

@[expose] public section

noncomputable section

/-! # The arrays the gates' gradient call leaves, entry by entry -/

namespace Cert.Gate

open Idealize.ShloMosaic Idealize.ShloMosaic.TcCoe Idealize.SL.Sem
open Idealize.ShloMosaic.Pipeline (Dat)
open Cert.Kernel2Ideal Cert.Kernel2Ideal.Gen Cert.Common

variable (m : (ℓ : Loc nD τ sig) → Buf (Elt Ideal) ℓ) (c : Dev nD)

/-! ## The arguments -/

abbrev aP (k : Fin 6) (R : Fin 4096) (q : Fin 1024) : EReal := m ((c : Thread nD τ).loc main_arg0) (ix2 R ⟨1024 * k.val + q.val, by omega⟩)
abbrev aY (R : Fin 4096) (q : Fin 1024) : EReal := m ((c : Thread nD τ).loc main_arg1) (ix2 R q)
abbrev aM (k : Fin 2) (R : Fin 4096) (q : Fin 1024) : EReal := m ((c : Thread nD τ).loc main_arg2) (ix2 R ⟨1024 * k.val + q.val, by omega⟩)
abbrev aW (k : Fin 3) (q : Fin 1024) : EReal := m ((c : Thread nD τ).loc main_arg3) (ix2 k q)
abbrev aB (q : Fin 1024) : EReal := m ((c : Thread nD τ).loc main_arg4) (ix1 q)
abbrev aG (j q : Fin 1024) : EReal := m ((c : Thread nD τ).loc main_arg5) (ix2 j q)
abbrev aE (q : Fin 1024) : EReal := m ((c : Thread nD τ).loc main_arg6) (ix1 q)

theorem V_v0 (q : Fin 1024) : V m c main_v0 (ix2 0 q) = aB m c q := by
  unfold V
  after_results
  pointwise

theorem V_v1 (j q : Fin 1024) : V m c main_v1 (ix2 j q) = aG m c j q := by
  unfold V
  after_results
  rfl

theorem V_v2 (q : Fin 1024) : V m c main_v2 (ix2 0 q) = aE m c q := by
  unfold V
  after_results
  pointwise

/-! ## The blocks: the tiles run from the last to the first -/

/-- Row `r` of the tile of point `t`. -/
abbrev rowOf (t : Fin grid0.N) (r : Fin 256) : Fin 4096 := ⟨256 * (15 - t.val) + r.val, by omega⟩

theorem coord : ∀ t : Fin grid0.N, ((grid0.coords t) 0).val = t.val := by decide +kernel
theorem ix_0 : ∀ t : Fin grid0.N, win0_0.index t 0 = 15 - t.val ∧ win0_0.index t 1 = 0 := by decide +kernel
theorem ix_1 : ∀ t : Fin grid0.N, win0_1.index t 0 = 15 - t.val ∧ win0_1.index t 1 = 1 := by decide +kernel
theorem ix_2 : ∀ t : Fin grid0.N, win0_2.index t 0 = 15 - t.val ∧ win0_2.index t 1 = 2 := by decide +kernel
theorem ix_3 : ∀ t : Fin grid0.N, win0_3.index t 0 = 15 - t.val ∧ win0_3.index t 1 = 3 := by decide +kernel
theorem ix_4 : ∀ t : Fin grid0.N, win0_4.index t 0 = 15 - t.val ∧ win0_4.index t 1 = 5 := by decide +kernel
theorem ix_5 : ∀ t : Fin grid0.N, win0_5.index t 0 = (15 - t.val) * 32 - 1 ∧ win0_5.index t 1 = 1 := by decide +kernel
theorem ix_6 : ∀ t : Fin grid0.N, win0_6.index t 0 = (15 - t.val) * 32 - 1 ∧ win0_6.index t 1 = 2 := by decide +kernel
theorem ix_7 : ∀ t : Fin grid0.N, win0_7.index t 0 = 15 - t.val ∧ win0_7.index t 1 = 0 := by decide +kernel
theorem ix_8 : ∀ t : Fin grid0.N, win0_8.index t 0 = 15 - t.val ∧ win0_8.index t 1 = 0 := by decide +kernel
theorem ix_9 : ∀ t : Fin grid0.N, win0_9.index t 0 = 0 ∧ win0_9.index t 1 = 0 := by decide +kernel
theorem ix_10 : ∀ t : Fin grid0.N, win0_10.index t 0 = 0 ∧ win0_10.index t 1 = 0 := by decide +kernel
theorem ix_11 : ∀ t : Fin grid0.N, win0_11.index t 0 = 0 ∧ win0_11.index t 1 = 0 := by decide +kernel
theorem ix_12 : ∀ t : Fin grid0.N, win0_12.index t 0 = 0 ∧ win0_12.index t 1 = 0 := by decide +kernel
theorem ix_13 : ∀ t : Fin grid0.N, win0_13.index t 0 = 15 - t.val ∧ win0_13.index t 1 = 0 := by decide +kernel
theorem ix_14 : ∀ t : Fin grid0.N, win0_14.index t 0 = 15 - t.val ∧ win0_14.index t 1 = 0 := by decide +kernel
theorem ix_15 : ∀ t : Fin grid0.N, win0_15.index t 0 = 0 ∧ win0_15.index t 1 = 0 := by decide +kernel
theorem ix_16 : ∀ t : Fin grid0.N, win0_16.index t 0 = 0 ∧ win0_16.index t 1 = 0 := by decide +kernel

theorem iblk_0 (t : Fin cfg0.N) (r : Fin 256) (q : Fin 1024) : (iblk m c 0 t : Vec Ideal S256x1024 .f32) (ix2 r q) = aP m c 0 (rowOf t r) q := by
  unfold iblk
  rw [View.read_apply]
  show V m c main_arg0 _ = _
  rw [V_main_arg0]
  congr 1
  funext a
  apply Fin.ext
  fin_cases a
  · show win0_0.index t 0 * 256 + 1 * r.val = 256 * (15 - t.val) + r.val
    rw [(ix_0 t).1]; omega
  · show win0_0.index t 1 * 1024 + 1 * q.val = 1024 * 0 + q.val
    rw [(ix_0 t).2]; omega

theorem iblk_1 (t : Fin cfg0.N) (r : Fin 256) (q : Fin 1024) : (iblk m c 1 t : Vec Ideal S256x1024 .f32) (ix2 r q) = aP m c 1 (rowOf t r) q := by
  unfold iblk
  rw [View.read_apply]
  show V m c main_arg0 _ = _
  rw [V_main_arg0]
  congr 1
  funext a
  apply Fin.ext
  fin_cases a
  · show win0_1.index t 0 * 256 + 1 * r.val = 256 * (15 - t.val) + r.val
    rw [(ix_1 t).1]; omega
  · show win0_1.index t 1 * 1024 + 1 * q.val = 1024 * 1 + q.val
    rw [(ix_1 t).2]; omega

theorem iblk_2 (t : Fin cfg0.N) (r : Fin 256) (q : Fin 1024) : (iblk m c 2 t : Vec Ideal S256x1024 .f32) (ix2 r q) = aP m c 2 (rowOf t r) q := by
  unfold iblk
  rw [View.read_apply]
  show V m c main_arg0 _ = _
  rw [V_main_arg0]
  congr 1
  funext a
  apply Fin.ext
  fin_cases a
  · show win0_2.index t 0 * 256 + 1 * r.val = 256 * (15 - t.val) + r.val
    rw [(ix_2 t).1]; omega
  · show win0_2.index t 1 * 1024 + 1 * q.val = 1024 * 2 + q.val
    rw [(ix_2 t).2]; omega

theorem iblk_3 (t : Fin cfg0.N) (r : Fin 256) (q : Fin 1024) : (iblk m c 3 t : Vec Ideal S256x1024 .f32) (ix2 r q) = aP m c 3 (rowOf t r) q := by
  unfold iblk
  rw [View.read_apply]
  show V m c main_arg0 _ = _
  rw [V_main_arg0]
  congr 1
  funext a
  apply Fin.ext
  fin_cases a
  · show win0_3.index t 0 * 256 + 1 * r.val = 256 * (15 - t.val) + r.val
    rw [(ix_3 t).1]; omega
  · show win0_3.index t 1 * 1024 + 1 * q.val = 1024 * 3 + q.val
    rw [(ix_3 t).2]; omega

theorem iblk_4 (t : Fin cfg0.N) (r : Fin 256) (q : Fin 1024) : (iblk m c 4 t : Vec Ideal S256x1024 .f32) (ix2 r q) = aP m c 5 (rowOf t r) q := by
  unfold iblk
  rw [View.read_apply]
  show V m c main_arg0 _ = _
  rw [V_main_arg0]
  congr 1
  funext a
  apply Fin.ext
  fin_cases a
  · show win0_4.index t 0 * 256 + 1 * r.val = 256 * (15 - t.val) + r.val
    rw [(ix_4 t).1]; omega
  · show win0_4.index t 1 * 1024 + 1 * q.val = 1024 * 5 + q.val
    rw [(ix_4 t).2]; omega

theorem iblk_5 (t : Fin cfg0.N) (ht : t.val < 15) (p : Fin 8) (q : Fin 1024) : (iblk m c 5 t : Vec Ideal S8x1024 .f32) (ix2 p q) = aP m c 1 ⟨256 * (15 - t.val) - 8 + p.val, by omega⟩ q := by
  unfold iblk
  rw [View.read_apply]
  show V m c main_arg0 _ = _
  rw [V_main_arg0]
  congr 1
  funext a
  apply Fin.ext
  fin_cases a
  · show win0_5.index t 0 * 8 + 1 * p.val = 256 * (15 - t.val) - 8 + p.val
    rw [(ix_5 t).1]; omega
  · show win0_5.index t 1 * 1024 + 1 * q.val = 1024 * 1 + q.val
    rw [(ix_5 t).2]; omega

theorem iblk_6 (t : Fin cfg0.N) (ht : t.val < 15) (p : Fin 8) (q : Fin 1024) : (iblk m c 6 t : Vec Ideal S8x1024 .f32) (ix2 p q) = aP m c 2 ⟨256 * (15 - t.val) - 8 + p.val, by omega⟩ q := by
  unfold iblk
  rw [View.read_apply]
  show V m c main_arg0 _ = _
  rw [V_main_arg0]
  congr 1
  funext a
  apply Fin.ext
  fin_cases a
  · show win0_6.index t 0 * 8 + 1 * p.val = 256 * (15 - t.val) - 8 + p.val
    rw [(ix_6 t).1]; omega
  · show win0_6.index t 1 * 1024 + 1 * q.val = 1024 * 2 + q.val
    rw [(ix_6 t).2]; omega

theorem iblk_7 (t : Fin cfg0.N) (r : Fin 256) (q : Fin 1024) : (iblk m c 7 t : Vec Ideal S256x1024 .f32) (ix2 r q) = aY m c (rowOf t r) q := by
  unfold iblk
  rw [View.read_apply]
  show V m c main_arg1 _ = _
  rw [V_main_arg1]
  congr 1
  funext a
  apply Fin.ext
  fin_cases a
  · show win0_7.index t 0 * 256 + 1 * r.val = 256 * (15 - t.val) + r.val
    rw [(ix_7 t).1]; omega
  · show win0_7.index t 1 * 1024 + 1 * q.val = q.val
    rw [(ix_7 t).2]; omega

theorem iblk_8 (t : Fin cfg0.N) (r : Fin 256) (k : Fin 2) (q : Fin 1024) : (iblk m c 8 t : Vec Ideal S256x2048 .f32) (ix2 r ⟨1024 * k.val + q.val, by omega⟩) = aM m c k (rowOf t r) q := by
  unfold iblk
  rw [View.read_apply]
  show V m c main_arg2 _ = _
  rw [V_main_arg2]
  congr 1
  funext a
  apply Fin.ext
  fin_cases a
  · show win0_8.index t 0 * 256 + 1 * r.val = 256 * (15 - t.val) + r.val
    rw [(ix_8 t).1]; omega
  · show win0_8.index t 1 * 2048 + 1 * (1024 * k.val + q.val) = 1024 * k.val + q.val
    rw [(ix_8 t).2]; omega

theorem iblk_9 (t : Fin cfg0.N) (k : Fin 3) (q : Fin 1024) : (iblk m c 9 t : Vec Ideal S3x1024 .f32) (ix2 k q) = aW m c k q := by
  unfold iblk
  rw [View.read_apply]
  show V m c main_arg3 _ = _
  rw [V_main_arg3]
  congr 1
  funext a
  apply Fin.ext
  fin_cases a
  · show win0_9.index t 0 * 3 + 1 * k.val = k.val
    rw [(ix_9 t).1]; omega
  · show win0_9.index t 1 * 1024 + 1 * q.val = q.val
    rw [(ix_9 t).2]; omega

theorem iblk_10 (t : Fin cfg0.N) (q : Fin 1024) : (iblk m c 10 t : Vec Ideal S1x1024 .f32) (ix2 0 q) = aB m c q := by
  rw [← V_v0 m c]
  unfold iblk
  rw [View.read_apply]
  show V m c main_v0 _ = _
  congr 1
  funext a
  apply Fin.ext
  fin_cases a
  · show win0_10.index t 0 * 1 + 1 * 0 = 0
    rw [(ix_10 t).1]
  · show win0_10.index t 1 * 1024 + 1 * q.val = q.val
    rw [(ix_10 t).2]; omega

theorem iblk_11 (t : Fin cfg0.N) (j q : Fin 1024) : (iblk m c 11 t : Vec Ideal S1024x1024 .bf16) (ix2 j q) = aG m c j q := by
  rw [← V_v1 m c]
  unfold iblk
  rw [View.read_apply]
  show V m c main_v1 _ = _
  congr 1
  funext a
  apply Fin.ext
  fin_cases a
  · show win0_11.index t 0 * 1024 + 1 * j.val = j.val
    rw [(ix_11 t).1]; omega
  · show win0_11.index t 1 * 1024 + 1 * q.val = q.val
    rw [(ix_11 t).2]; omega

theorem iblk_12 (t : Fin cfg0.N) (q : Fin 1024) : (iblk m c 12 t : Vec Ideal S1x1024 .f32) (ix2 0 q) = aE m c q := by
  rw [← V_v2 m c]
  unfold iblk
  rw [View.read_apply]
  show V m c main_v2 _ = _
  congr 1
  funext a
  apply Fin.ext
  fin_cases a
  · show win0_12.index t 0 * 1 + 1 * 0 = 0
    rw [(ix_12 t).1]
  · show win0_12.index t 1 * 1024 + 1 * q.val = q.val
    rw [(ix_12 t).2]; omega

theorem dm0_iblk (t : Fin cfg0.N) (r : Fin 256) (q : Fin 1024) : dm0 (iblk m c 8 t) (ix2 r q) = aM m c 0 (rowOf t r) q := by
  rw [← iblk_8 m c t r 0 q]
  show (iblk m c 8 t : Vec Ideal S256x2048 .f32) _ = _
  congr 1
  funext a
  apply Fin.ext
  fin_cases a
  · show 0 + 1 * r.val = r.val
    omega
  · show 0 + 1 * q.val = 1024 * 0 + q.val
    omega

theorem dm1_iblk (t : Fin cfg0.N) (r : Fin 256) (q : Fin 1024) : dm1 (iblk m c 8 t) (ix2 r q) = aM m c 1 (rowOf t r) q := by
  rw [← iblk_8 m c t r 1 q]
  show (iblk m c 8 t : Vec Ideal S256x2048 .f32) _ = _
  congr 1
  funext a
  apply Fin.ext
  fin_cases a
  · show 0 + 1 * r.val = r.val
    omega
  · show 1024 + 1 * q.val = 1024 * 1 + q.val
    omega

theorem ld16 (b : Vec Ideal S16x1024 .f32) (o : Nat) (h) (k : Fin 16) (hk : k.val = o) (q : Fin 1024) : View.ld b (row o h) (ix2 0 q) = b (ix2 k q) := by
  subst hk
  show b _ = _
  congr 1
  funext a
  apply Fin.ext
  fin_cases a
  · exact Nat.add_zero _
  · show 0 + 1 * q.val = q.val
    omega

theorem ld3 (b : Vec Ideal S3x1024 .f32) (o : Nat) (h) (k : Fin 3) (hk : k.val = o) (q : Fin 1024) : View.ld b (Rect.unit ![o, 0] ![1, 1024] h) (ix2 0 q) = b (ix2 k q) := by
  subst hk
  show b _ = _
  congr 1
  funext a
  apply Fin.ext
  fin_cases a
  · exact Nat.add_zero _
  · show 0 + 1 * q.val = q.val
    omega

theorem w0_iblk (t : Fin cfg0.N) (q : Fin 1024) : w0 (iblk m c 9 t) (ix2 0 q) = aW m c 0 q := (ld3 _ 0 _ 0 rfl q).trans (iblk_9 m c t 0 q)
theorem w1_iblk (t : Fin cfg0.N) (q : Fin 1024) : w1 (iblk m c 9 t) (ix2 0 q) = aW m c 1 q := (ld3 _ 1 _ 1 rfl q).trans (iblk_9 m c t 1 q)
theorem w2_iblk (t : Fin cfg0.N) (q : Fin 1024) : w2 (iblk m c 9 t) (ix2 0 q) = aW m c 2 q := (ld3 _ 2 _ 2 rfl q).trans (iblk_9 m c t 2 q)

/-! ## The tile's values over the arguments -/

section Tiles
variable (t : Fin cfg0.N) (r : Fin 256) (q : Fin 1024)

theorem cin_iblk : k0_pay8 (iblk m c 1 t) (iblk m c 2 t) (ix2 r q) = cin (aP m c) (rowOf t r) q := by
  rw [pay8_apply, iblk_1, iblk_2]; rfl

theorem dconv_iblk : k0_pay17 (iblk m c 0 t) (iblk m c 3 t) (dm0 (iblk m c 8 t)) (ix2 r q) = dconv (aP m c) (aM m c 0) (rowOf t r) q := by
  rw [pay17_apply, iblk_0, iblk_3, dm0_iblk]; rfl

theorem dcv_iblk : dcv (iblk m c 0 t) (iblk m c 3 t) (iblk m c 8 t) (ix2 r q) = dconv (aP m c) (aM m c 0) (rowOf t r) q := by
  refine (pay16_apply ..).trans ?_
  rw [iblk_0, iblk_3, dm0_iblk]; rfl

theorem back_iblk (s : Nat) (hs : s ≤ 8) :
    down (k0_pay8 (iblk m c 1 t) (iblk m c 2 t)) (k0_pay7 (grid0.coords t) (iblk m c 5 t) (iblk m c 6 t)) s hs (ix2 r q) = prev (aP m c) s (rowOf t r) q := by
  have hN : t.val < 16 := lt_of_lt_of_eq t.isLt N_0
  unfold prev
  by_cases h : s ≤ r.val
  · rw [down_ge _ _ _ _ _ _ h, cin_iblk, dif_pos (show s ≤ 256 * (15 - t.val) + r.val by omega)]
    congr 1
    apply Fin.ext
    show 256 * (15 - t.val) + (r.val - s) = 256 * (15 - t.val) + r.val - s
    omega
  · rw [down_lt _ _ _ _ _ _ h]
    by_cases ht : t.val < 15
    · rw [pay7_later _ _ _ _ _ (lt_of_eq_of_lt (coord t) ht), iblk_5 m c t ht, iblk_6 m c t ht, dif_pos (show s ≤ 256 * (15 - t.val) + r.val by omega)]
      refine congrArg (fun R => cin (aP m c) R q) (Fin.ext ?_)
      show 256 * (15 - t.val) - 8 + (8 - s + r.val) = 256 * (15 - t.val) + r.val - s
      omega
    · rw [pay7_first _ _ _ _ _ ((coord t).trans (by omega)), dif_neg (show ¬s ≤ 256 * (15 - t.val) + r.val by omega)]

theorem back1_iblk : back1 (grid0.coords t) (iblk m c 1 t) (iblk m c 2 t) (iblk m c 5 t) (iblk m c 6 t) (ix2 r q) = prev (aP m c) 1 (rowOf t r) q := back_iblk m c t r q 1 (by decide)
theorem back2_iblk : back2 (grid0.coords t) (iblk m c 1 t) (iblk m c 2 t) (iblk m c 5 t) (iblk m c 6 t) (ix2 r q) = prev (aP m c) 2 (rowOf t r) q := back_iblk m c t r q 2 (by decide)

/-- The rows coming in below the tile of point `t`. -/
def IsCarry (K : Vec Ideal S8x1024 .f32) : Prop :=
  ∀ (p : Fin 8) (q : Fin 1024), K (ix2 p q) = if h : 256 * (16 - t.val) + p.val < 4096 then dconv (aP m c) (aM m c 0) ⟨256 * (16 - t.val) + p.val, h⟩ q else 0

variable (K : Vec Ideal S8x1024 .f32) (hK : IsCarry m c t K)
include hK

theorem next_iblk (s : Nat) (hs : s ≤ 8) :
    up (k0_pay17 (iblk m c 0 t) (iblk m c 3 t) (dm0 (iblk m c 8 t))) K s hs (ix2 r q) = next (aP m c) (aM m c 0) s (rowOf t r) q := by
  have hN : t.val < 16 := lt_of_lt_of_eq t.isLt N_0
  unfold next
  by_cases h : r.val + s < 256
  · rw [up_lt _ _ _ _ _ _ h, dconv_iblk, dif_pos (show 256 * (15 - t.val) + r.val + s < 4096 by omega)]
    congr 1
    apply Fin.ext
    show 256 * (15 - t.val) + (r.val + s) = 256 * (15 - t.val) + r.val + s
    omega
  · rw [up_ge _ _ _ _ _ _ h, hK]
    by_cases ht : t.val = 0
    · rw [dif_neg (show ¬256 * (16 - t.val) + (r.val + s - 256) < 4096 by omega), dif_neg (show ¬256 * (15 - t.val) + r.val + s < 4096 by omega)]
    · rw [dif_pos (show 256 * (16 - t.val) + (r.val + s - 256) < 4096 by omega), dif_pos (show 256 * (15 - t.val) + r.val + s < 4096 by omega)]
      refine congrArg (fun R => dconv (aP m c) (aM m c 0) R q) (Fin.ext ?_)
      show 256 * (16 - t.val) + (r.val + s - 256) = 256 * (15 - t.val) + r.val + s
      omega

theorem next1_iblk : next1 (iblk m c 0 t) (iblk m c 3 t) (iblk m c 8 t) K (ix2 r q) = next (aP m c) (aM m c 0) 1 (rowOf t r) q := next_iblk m c t r q K hK 1 (by decide)
theorem next2_iblk : next2 (iblk m c 0 t) (iblk m c 3 t) (iblk m c 8 t) K (ix2 r q) = next (aP m c) (aM m c 0) 2 (rowOf t r) q := next_iblk m c t r q K hK 2 (by decide)

theorem proj_iblk (k : Fin 6) :
    projBlk (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) K
      (ix2 r ⟨1024 * k.val + q.val, by omega⟩) = dproj (aP m c) (aY m c) (aM m c) (aW m c) (aB m c) (aG m c) (aE m c) k (rowOf t r) q := by
  unfold projBlk
  rw [cols_apply]
  fin_cases k
  · refine (pay14_apply ..).trans ?_
    rw [w0_iblk, w1_iblk, w2_iblk, dm0_iblk, iblk_10, iblk_1, iblk_2, iblk_3, back1_iblk, back2_iblk]
    rfl
  · refine (pay20_apply ..).trans ?_
    rw [w0_iblk, w1_iblk, w2_iblk, iblk_2, dcv_iblk, next1_iblk m c t r q K hK, next2_iblk m c t r q K hK]
    rfl
  · refine (pay21_apply ..).trans ?_
    rw [w0_iblk, w1_iblk, w2_iblk, iblk_1, dcv_iblk, next1_iblk m c t r q K hK, next2_iblk m c t r q K hK]
    rfl
  · refine (pay15_apply ..).trans ?_
    rw [w0_iblk, w1_iblk, w2_iblk, dm0_iblk, iblk_10, iblk_0, iblk_1, iblk_2, iblk_3, back1_iblk, back2_iblk]
    rfl
  · exact pay35_apply r q
  · refine (pay36_apply ..).trans ?_
    simp only [dm1_iblk, iblk_4, iblk_7, iblk_11, iblk_12]
    rfl

omit hK in
theorem dy_iblk : yBlk (iblk m c 4 t) (iblk m c 7 t) (iblk m c 8 t) (iblk m c 11 t) (iblk m c 12 t) (ix2 r q)
    = dyRow (aY m c (rowOf t r)) (aG m c) (aE m c) (aM m c 1 (rowOf t r)) (aP m c 5 (rowOf t r)) q := by
  refine (pay2_apply ..).trans ?_
  simp only [dm1_iblk, iblk_4, iblk_7, iblk_11, iblk_12]

/-- The term of row `R` of the gradient of `w_glu`. -/
def gluTerm (j q : Fin 1024) (R : Fin 4096) : EReal := gel (aY m c R j) * dgl (aY m c R) (aG m c) (aE m c) (aM m c 1 R) (aP m c 5 R) q

omit hK in
theorem glu_iblk (b : Vec Ideal S1024x1024 .f32) (j : Fin 1024) : gluBlk (iblk m c 4 t) (iblk m c 7 t) (iblk m c 8 t) (iblk m c 11 t) (iblk m c 12 t) b (ix2 j q)
    = b (ix2 j q) + ∑ r, gluTerm m c j q (rowOf t r) := by
  refine (pay1_apply ..).trans ?_
  simp only [dm1_iblk, iblk_4, iblk_7, iblk_11, iblk_12]
  rfl

theorem rows_iblk (b : Vec Ideal S16x1024 .f32) (p : Fin 5) :
    rowsBlk (iblk m c 0 t) (iblk m c 1 t) (iblk m c 2 t) (iblk m c 3 t) (iblk m c 4 t) (iblk m c 7 t) (iblk m c 8 t) (iblk m c 11 t) (iblk m c 12 t) K b (ix2 ⟨p.val, by omega⟩ q)
      = b (ix2 ⟨p.val, by omega⟩ q) + ∑ r, rowTerm (aP m c) (aY m c) (aM m c) (aG m c) (aE m c) p q (rowOf t r) := by
  unfold rowsBlk
  rw [rows_lt]
  fin_cases p
  · refine (pay22_apply ..).trans ?_
    rw [ld16 b 0 _ 0 rfl]
    simp only [iblk_1, iblk_2, next2_iblk m c t _ _ K hK]
    rfl
  · refine (pay23_apply ..).trans ?_
    rw [ld16 b 1 _ 1 rfl]
    simp only [iblk_1, iblk_2, next1_iblk m c t _ _ K hK]
    rfl
  · refine (pay25_apply ..).trans ?_
    rw [ld16 b 2 _ 2 rfl]
    simp only [iblk_1, iblk_2, dcv_iblk]
    rfl
  · refine (pay26_apply ..).trans ?_
    rw [ld16 b 3 _ 3 rfl]
    simp only [dcv_iblk]
    rfl
  · refine (pay40_apply ..).trans ?_
    rw [ld16 b 4 _ 4 rfl]
    simp only [dm1_iblk, iblk_4, iblk_7, iblk_11, iblk_12]
    rfl

end Tiles

/-! ## The sums and the rows carried from tile to tile -/

theorem carry (n : Nat) (h : n < cfg0.N) (p : Fin 8) (q : Fin 1024) :
    View.ld (outsAt0 m c n h).2.2.2.2 lastRows (ix2 p q) = dconv (aP m c) (aM m c 0) ⟨256 * (15 - n) + p.val, by omega⟩ q := by
  have e : View.ld (outsAt0 m c n h).2.2.2.2 lastRows = top (k0_pay17 (iblk m c 0 ⟨n, h⟩) (iblk m c 3 ⟨n, h⟩) (dm0 (iblk m c 8 ⟨n, h⟩))) := by
    by_cases h0 : n % 16 = 0
    · rw [show outsAt0 m c n h = _ from outsAt0_A m c ⟨n, h⟩ h0]
      dsimp only
      rw [sout_A1]
    · rw [show outsAt0 m c n h = _ from outsAt0_B m c ⟨n, h⟩ h0]
      dsimp only
      rw [sout_B1]
  rw [e]
  exact dconv_iblk m c ⟨n, h⟩ ⟨p.val, by omega⟩ q

theorem isCarry_zero (h : 0 < cfg0.N) : IsCarry m c ⟨0, h⟩ (k0_pay3 (F := Ideal)) := fun p q => by
  rw [dif_neg (show ¬256 * (16 - 0) + p.val < 4096 by omega)]
  exact pay3_apply q p

theorem isCarry_succ (n : Nat) (h : n + 1 < cfg0.N) : IsCarry m c ⟨n + 1, h⟩ (View.ld (outsAt0 m c n (by omega)).2.2.2.2 lastRows) := fun p q => by
  have hN : n + 1 < 16 := lt_of_lt_of_eq h N_0
  rw [carry, dif_pos (show 256 * (16 - (n + 1)) + p.val < 4096 by omega)]
  refine congrArg (fun R => dconv (aP m c) (aM m c 0) R q) (Fin.ext ?_)
  show 256 * (15 - n) + p.val = 256 * (16 - (n + 1)) + p.val
  omega

/-- The running blocks a point starts from: zero at the first, what the point before left after it. -/
def sums15 : (n : Nat) → n < cfg0.N → Vec Ideal S16x1024 .f32
  | 0, _ => k0_pay4 (F := Ideal)
  | n + 1, h => (outsAt0 m c n (by omega)).2.2.1
def sums16 : (n : Nat) → n < cfg0.N → Vec Ideal S1024x1024 .f32
  | 0, _ => k0_pay5 (F := Ideal)
  | n + 1, h => (outsAt0 m c n (by omega)).2.2.2.1
def carried : (n : Nat) → n < cfg0.N → Vec Ideal S8x1024 .f32
  | 0, _ => k0_pay3 (F := Ideal)
  | n + 1, h => View.ld (outsAt0 m c n (by omega)).2.2.2.2 lastRows

theorem isCarry (t : Fin cfg0.N) : IsCarry m c t (carried m c t.val t.isLt) := by
  obtain ⟨n, h⟩ := t
  cases n with
  | zero => exact isCarry_zero m c h
  | succ n => exact isCarry_succ m c n h

theorem out13 (n : Nat) (h : n < cfg0.N) : (outsAt0 m c n h).1
    = projBlk (grid0.coords ⟨n, h⟩) (iblk m c 0 ⟨n, h⟩) (iblk m c 1 ⟨n, h⟩) (iblk m c 2 ⟨n, h⟩) (iblk m c 3 ⟨n, h⟩) (iblk m c 4 ⟨n, h⟩) (iblk m c 5 ⟨n, h⟩) (iblk m c 6 ⟨n, h⟩) (iblk m c 7 ⟨n, h⟩) (iblk m c 8 ⟨n, h⟩) (iblk m c 9 ⟨n, h⟩) (iblk m c 10 ⟨n, h⟩) (iblk m c 11 ⟨n, h⟩) (iblk m c 12 ⟨n, h⟩) (carried m c n h) := by
  have hN : cfg0.N = 16 := N_0
  cases n with
  | zero =>
    rw [show outsAt0 m c 0 h = _ from outsAt0_A m c ⟨0, h⟩ rfl]
    dsimp only
    rw [out_A13]
    rfl
  | succ n =>
    rw [show outsAt0 m c (n + 1) h = _ from outsAt0_B m c ⟨n + 1, h⟩ (by dsimp only; omega)]
    dsimp only
    rw [out_B13]
    rfl

theorem out14 (n : Nat) (h : n < cfg0.N) : (outsAt0 m c n h).2.1 = yBlk (iblk m c 4 ⟨n, h⟩) (iblk m c 7 ⟨n, h⟩) (iblk m c 8 ⟨n, h⟩) (iblk m c 11 ⟨n, h⟩) (iblk m c 12 ⟨n, h⟩) := by
  have hN : cfg0.N = 16 := N_0
  cases n with
  | zero =>
    rw [show outsAt0 m c 0 h = _ from outsAt0_A m c ⟨0, h⟩ rfl]
    dsimp only
    rw [out_A14]
  | succ n =>
    rw [show outsAt0 m c (n + 1) h = _ from outsAt0_B m c ⟨n + 1, h⟩ (by dsimp only; omega)]
    dsimp only
    rw [out_B14]

theorem out15 (n : Nat) (h : n < cfg0.N) : (outsAt0 m c n h).2.2.1
    = rowsBlk (iblk m c 0 ⟨n, h⟩) (iblk m c 1 ⟨n, h⟩) (iblk m c 2 ⟨n, h⟩) (iblk m c 3 ⟨n, h⟩) (iblk m c 4 ⟨n, h⟩) (iblk m c 7 ⟨n, h⟩) (iblk m c 8 ⟨n, h⟩) (iblk m c 11 ⟨n, h⟩) (iblk m c 12 ⟨n, h⟩) (carried m c n h) (sums15 m c n h) := by
  have hN : cfg0.N = 16 := N_0
  cases n with
  | zero =>
    rw [show outsAt0 m c 0 h = _ from outsAt0_A m c ⟨0, h⟩ rfl]
    dsimp only
    rw [out_A15]
    rfl
  | succ n =>
    rw [show outsAt0 m c (n + 1) h = _ from outsAt0_B m c ⟨n + 1, h⟩ (by dsimp only; omega)]
    dsimp only
    rw [out_B15]
    rfl

theorem out16 (n : Nat) (h : n < cfg0.N) : (outsAt0 m c n h).2.2.2.1
    = gluBlk (iblk m c 4 ⟨n, h⟩) (iblk m c 7 ⟨n, h⟩) (iblk m c 8 ⟨n, h⟩) (iblk m c 11 ⟨n, h⟩) (iblk m c 12 ⟨n, h⟩) (sums16 m c n h) := by
  have hN : cfg0.N = 16 := N_0
  cases n with
  | zero =>
    rw [show outsAt0 m c 0 h = _ from outsAt0_A m c ⟨0, h⟩ rfl]
    dsimp only
    rw [out_A16]
    rfl
  | succ n =>
    rw [show outsAt0 m c (n + 1) h = _ from outsAt0_B m c ⟨n + 1, h⟩ (by dsimp only; omega)]
    dsimp only
    rw [out_B16]
    rfl

/-- A running sum over the rows of the tiles so far, from what each point adds. -/
theorem running (f : Fin 4096 → EReal) (v : (n : Nat) → n < cfg0.N → EReal) (h0 : ∀ h, v 0 h = 0 + ∑ r : Fin 256, f (rowOf ⟨0, h⟩ r))
    (hs : ∀ n h, v (n + 1) h = v n (by omega) + ∑ r : Fin 256, f (rowOf ⟨n + 1, h⟩ r)) (n : Nat) (h : n < cfg0.N) :
    v n h = ∑ k ∈ Finset.Ico (256 * (15 - n)) 4096, ext f k := by
  have hN : cfg0.N = 16 := N_0
  induction n with
  | zero =>
    rw [h0, ← sum_ext_down f (256 * (15 - 0)) 256 (by omega)]
    exact congrArg₂ (· + ·) (by rw [Finset.Ico_self, Finset.sum_empty]) rfl
  | succ n ih =>
    rw [hs, ih, ← sum_ext_down f (256 * (15 - (n + 1))) 256 (by omega)]
    exact congrArg₂ (· + ·) (by rw [show 256 * (15 - (n + 1)) + 256 = 256 * (15 - n) by omega]) rfl

theorem rows_sum (n : Nat) (h : n < cfg0.N) (p : Fin 5) (q : Fin 1024) :
    (outsAt0 m c n h).2.2.1 (ix2 ⟨p.val, by omega⟩ q) = ∑ k ∈ Finset.Ico (256 * (15 - n)) 4096, ext (rowTerm (aP m c) (aY m c) (aM m c) (aG m c) (aE m c) p q) k := by
  refine running (rowTerm (aP m c) (aY m c) (aM m c) (aG m c) (aE m c) p q) (fun n h => (outsAt0 m c n h).2.2.1 (ix2 ⟨p.val, by omega⟩ q)) (fun h => ?_) (fun n h => ?_) n h
  · rw [out15, rows_iblk m c ⟨0, h⟩ q _ (isCarry m c ⟨0, h⟩)]
    exact congrArg₂ (· + ·) (pay4_apply q _) rfl
  · rw [out15 m c (n + 1), rows_iblk m c ⟨n + 1, h⟩ q _ (isCarry m c ⟨n + 1, h⟩)]
    rfl

theorem rows_rest (n : Nat) (h : n < cfg0.N) (p : Fin 16) (hp : ¬p.val < 5) (q : Fin 1024) : (outsAt0 m c n h).2.2.1 (ix2 p q) = (0 : EReal) := by
  induction n with
  | zero =>
    rw [out15]
    exact (rows_ge _ _ p hp q).trans (pay4_apply q p)
  | succ n ih =>
    rw [out15]
    exact (rows_ge _ _ p hp q).trans (ih _)

theorem glu_sum (n : Nat) (h : n < cfg0.N) (j q : Fin 1024) :
    (outsAt0 m c n h).2.2.2.1 (ix2 j q) = ∑ k ∈ Finset.Ico (256 * (15 - n)) 4096, ext (gluTerm m c j q) k := by
  refine running (gluTerm m c j q) (fun n h => (outsAt0 m c n h).2.2.2.1 (ix2 j q)) (fun h => ?_) (fun n h => ?_) n h
  · rw [out16, glu_iblk m c ⟨0, h⟩]
    exact congrArg₂ (· + ·) (pay5_apply q j) rfl
  · rw [out16 m c (n + 1), glu_iblk m c ⟨n + 1, h⟩]
    rfl

/-! ## The arrays -/

def projArr : Buf (Elt Ideal) ((c : Thread nD τ).loc main_v3_0) := fun y =>
  dproj (aP m c) (aY m c) (aM m c) (aW m c) (aB m c) (aG m c) (aE m c) ⟨(y 1).val / 1024, by have : (y 1).val < 6144 := (y 1).isLt; omega⟩ (y 0) ⟨(y 1).val % 1024, Nat.mod_lt _ (by decide)⟩

theorem projArr_apply (R : Fin 4096) (k : Fin 6) (q : Fin 1024) (h : 1024 * k.val + q.val < 6144) :
    projArr m c (ix2 R ⟨1024 * k.val + q.val, h⟩) = dproj (aP m c) (aY m c) (aM m c) (aW m c) (aB m c) (aG m c) (aE m c) k R q := by
  show dproj _ _ _ _ _ _ _ _ _ _ = _
  congr 1
  · exact Fin.ext (show (1024 * k.val + q.val) / 1024 = k.val by omega)
  · exact Fin.ext (show (1024 * k.val + q.val) % 1024 = q.val by omega)

def dyArr : Buf (Elt Ideal) ((c : Thread nD τ).loc main_v3_1) := fun y => dyRow (aY m c (y 0)) (aG m c) (aE m c) (aM m c 1 (y 0)) (aP m c 5 (y 0)) (y 1)

def rowsArr : Buf (Elt Ideal) ((c : Thread nD τ).loc main_v3_2) := fun y =>
  if h : (y 0).val < 5 then (∑ R, rowTerm (aP m c) (aY m c) (aM m c) (aG m c) (aE m c) ⟨(y 0).val, h⟩ (y 1) R : EReal) else (0 : EReal)

theorem rowsArr_lt (p : Fin 16) (hp : p.val < 5) (q : Fin 1024) : rowsArr m c (ix2 p q) = (∑ R, rowTerm (aP m c) (aY m c) (aM m c) (aG m c) (aE m c) ⟨p.val, hp⟩ q R : EReal) := by
  unfold rowsArr
  exact dif_pos hp

theorem rowsArr_ge (p : Fin 16) (hp : ¬p.val < 5) (q : Fin 1024) : rowsArr m c (ix2 p q) = (0 : EReal) := by
  unfold rowsArr
  exact dif_neg hp

def gluArr : Buf (Elt Ideal) ((c : Thread nD τ).loc main_v3_3) := fun y => (∑ R, gluTerm m c (y 0) (y 1) R : EReal)

theorem final13 : (dats m 0 c).arrAt 13 cfg0.N = projArr m c := by
  refine (dats m 0 c).arrAt_eq_of_covers 13 _ (by decide +kernel) fun t hf y => ?_
  blk_simp
  rw [after0_13, out13]
  obtain ⟨r, k, q, rfl⟩ : ∃ (r : Fin 256) (k : Fin 6) (q : Fin 1024), y = ix2 r ⟨1024 * k.val + q.val, by omega⟩ :=
    ⟨y 0, ⟨(y 1).val / 1024, by have : (y 1).val < 6144 := (y 1).isLt; omega⟩, ⟨(y 1).val % 1024, Nat.mod_lt _ (by decide)⟩,
      funext fun a => by fin_cases a; exacts [rfl, Fin.ext (Nat.div_add_mod _ _).symm]⟩
  have e0 : (win0_13.blk t).view.emb (ix2 r ⟨1024 * k.val + q.val, by omega⟩) = ix2 (rowOf t r) ⟨1024 * k.val + q.val, by omega⟩ := by
    blk_ext [ix_13]
  rw [e0, projArr_apply]
  exact proj_iblk m c t r q _ (isCarry m c t) k

theorem final14 : (dats m 0 c).arrAt 14 cfg0.N = dyArr m c := by
  refine (dats m 0 c).arrAt_eq_of_covers 14 _ (by decide +kernel) fun t hf y => ?_
  blk_simp
  rw [after0_14, out14]
  obtain ⟨r, q, rfl⟩ : ∃ (r : Fin 256) (q : Fin 1024), y = ix2 r q := ⟨y 0, y 1, funext fun a => by fin_cases a <;> rfl⟩
  have e0 : (win0_14.blk t).view.emb (ix2 r q) = ix2 (rowOf t r) q := by
    blk_ext [ix_14]
  rw [e0]
  exact dy_iblk m c t r q

theorem final15 : (dats m 0 c).arrAt 15 cfg0.N = rowsArr m c := by
  refine (dats m 0 c).arrAt_eq_of_covers 15 _ (by decide +kernel) fun t hf y => ?_
  have ht := (flush0_15 t).mp hf
  have hN : t.val < 16 := lt_of_lt_of_eq t.isLt N_0
  blk_simp
  rw [after0_15]
  obtain ⟨p, q, rfl⟩ : ∃ (p : Fin 16) (q : Fin 1024), y = ix2 p q := ⟨y 0, y 1, funext fun a => by fin_cases a <;> rfl⟩
  have e0 : (win0_15.blk t).view.emb (ix2 p q) = ix2 p q := by
    blk_ext [ix_15]
  rw [e0]
  by_cases hp : p.val < 5
  · refine (rows_sum m c _ _ ⟨p.val, hp⟩ q).trans ?_
    rw [show 256 * (15 - t.val) = 0 by omega, sum_ext_all]
    exact (rowsArr_lt m c p hp q).symm
  · rw [rows_rest m c _ _ p hp]
    exact (rowsArr_ge m c p hp q).symm

theorem final16 : (dats m 0 c).arrAt 16 cfg0.N = gluArr m c := by
  refine (dats m 0 c).arrAt_eq_of_covers 16 _ (by decide +kernel) fun t hf y => ?_
  have ht := (flush0_16 t).mp hf
  have hN : t.val < 16 := lt_of_lt_of_eq t.isLt N_0
  blk_simp
  rw [after0_16]
  obtain ⟨j, q, rfl⟩ : ∃ (j q : Fin 1024), y = ix2 j q := ⟨y 0, y 1, funext fun a => by fin_cases a <;> rfl⟩
  have e0 : (win0_16.blk t).view.emb (ix2 j q) = ix2 j q := by
    blk_ext [ix_16]
  rw [e0, glu_sum, show 256 * (15 - t.val) = 0 by omega, sum_ext_all]
  rfl

end Cert.Gate

end
-- ==== Proof.GateReference.lean ====
module

public import proofs.«01_k».proof.Proof.Gen.Reference2Ideal.Read
public import proofs.«01_k».proof.Proof.GateArrays
public import Idealize.ShloMosaic.Lib.Pointwise

@[expose] public section

noncomputable section

/-! # The reference of the gates' gradient, entry by entry -/

namespace Cert.GateRef

open Idealize.ShloMosaic
open Cert.Reference2Ideal Cert.Reference2Ideal.Read Cert.Common Cert.Gate

/-! ## Numbers that are real -/

theorem half_eq : half = ((1 / 2 : ℝ) : EReal) := by
  simp [half, Ideal.ofBits, Ideal.ieee, -EReal.coe_mul]; norm_num

theorem kk_eq : ∃ k : ℝ, kk = (k : EReal) :=
  ⟨13386282 / 2 ^ 24, by simp [kk, Ideal.ofBits, Ideal.ieee, -EReal.coe_mul]; norm_num⟩

theorem three_eq : Ideal.ofBits .f32 1077936128#32 = ((3 : ℝ) : EReal) := by
  simp [Ideal.ofBits, Ideal.ieee, -EReal.coe_mul]; norm_num

/-- The reference's own quotient is the coefficient. -/
theorem cc_eq : Ideal.div (Ideal.ofBits .f32 1194240768#32) (Ideal.ofBits .f32 1232348160#32) = cc := by
  have h1 : Ideal.ofBits .f32 1194240768#32 = ((44715 : ℝ) : EReal) := by
    simp [Ideal.ofBits, Ideal.ieee, -EReal.coe_mul]; norm_num
  have h2 : Ideal.ofBits .f32 1232348160#32 = ((1000000 : ℝ) : EReal) := by
    simp [Ideal.ofBits, Ideal.ieee, -EReal.coe_mul]; norm_num
  rw [h1, h2, div_real _ _ (by norm_num)]
  congr 1
  norm_num

theorem logistic_real (x : EReal) : ∃ s : ℝ, Ideal.logistic x = (s : EReal) := by
  induction x with
  | bot => exact ⟨0, by rw [Ideal.logistic_bot]; rfl⟩
  | top => exact ⟨1, by rw [Ideal.logistic_top]; rfl⟩
  | coe r => exact ⟨_, Ideal.logistic_coe r⟩

/-- An extended real that is a real number. -/
def IsReal (x : EReal) : Prop := ∃ r : ℝ, x = (r : EReal)

theorem IsReal.mul {x y : EReal} : IsReal x → IsReal y → IsReal (x * y) := by
  rintro ⟨a, rfl⟩ ⟨b, rfl⟩; exact ⟨a * b, (EReal.coe_mul a b).symm⟩
theorem IsReal.add {x y : EReal} : IsReal x → IsReal y → IsReal (x + y) := by
  rintro ⟨a, rfl⟩ ⟨b, rfl⟩; exact ⟨a + b, (EReal.coe_add a b).symm⟩
theorem IsReal.sub {x y : EReal} : IsReal x → IsReal y → IsReal (x - y) := by
  rintro ⟨a, rfl⟩ ⟨b, rfl⟩; exact ⟨a - b, (EReal.coe_sub a b).symm⟩
theorem IsReal.sum {ι : Type} {s : Finset ι} {f : ι → EReal} (h : ∀ i, IsReal (f i)) : IsReal (∑ i ∈ s, f i) := by
  choose g hg using h
  exact ⟨∑ i ∈ s, g i, by simp only [hg]; exact coe_sum s g⟩
theorem isReal_one : IsReal 1 := ⟨1, rfl⟩
theorem isReal_half : IsReal half := ⟨_, half_eq⟩
theorem isReal_kk : IsReal kk := kk_eq
theorem isReal_logistic (x : EReal) : IsReal (Ideal.logistic x) := logistic_real x
theorem isReal_gth {y : EReal} (h : IsReal y) : IsReal (gth y) := by
  obtain ⟨a, ha⟩ := isReal_kk.mul (h.add (((IsReal.mul ⟨_, rfl⟩ h).mul h).mul h : IsReal (cc * y * y * y)))
  exact ⟨Real.tanh a, by unfold gth; rw [ha, Ideal.tanh_coe]⟩
theorem isReal_gel {y : EReal} (h : IsReal y) : IsReal (gel y) := (isReal_half.mul h).mul (isReal_one.add (isReal_gth h))
theorem isReal_sil {z : EReal} (h : IsReal z) : IsReal (sil z) := h.mul (isReal_logistic z)

/-- The gate's derivative, distributed over the factor beside it. -/
theorem dsil_eq {a z : EReal} (ha : IsReal a) (hz : IsReal z) :
    a * Ideal.logistic z + z * a * (Ideal.logistic z * (1 - Ideal.logistic z)) = a * dsil z := by
  obtain ⟨s, hs⟩ := isReal_logistic z
  unfold dsil
  rw [hs]
  obtain ⟨a, rfl⟩ := ha
  obtain ⟨z, rfl⟩ := hz
  rw [← EReal.coe_one]
  simp only [← EReal.coe_mul, ← EReal.coe_add, ← EReal.coe_sub]
  congr 1
  ring

/-- The activation's derivative, term by term as the derivative rules write it. -/
theorem dgel_eq {a y : EReal} (ha : IsReal a) (hy : IsReal y) :
    a * (half * (1 + gth y)) + kk * (half * (y * a) * ((1 + gth y) * (1 - gth y))) + cc * (kk * (half * (y * a) * ((1 + gth y) * (1 - gth y)))) * (Ideal.ofBits .f32 1077936128#32 * (y * y))
      = a * dgel y := by
  obtain ⟨t, ht⟩ := isReal_gth hy
  obtain ⟨k, hk⟩ := kk_eq
  unfold dgel
  rw [ht, hk, half_eq, three_eq]
  obtain ⟨a, rfl⟩ := ha
  obtain ⟨y, rfl⟩ := hy
  rw [← EReal.coe_one]
  simp only [← EReal.coe_mul, ← EReal.coe_add, ← EReal.coe_sub]
  congr 1
  ring

section Stages
variable (x0 : (⟨S4096x6144, .f32⟩ : BufTy).Contents (Elt Ideal)) (x1 : (⟨S4096x1024, .f32⟩ : BufTy).Contents (Elt Ideal))
  (x2 : (⟨S4096x2048, .f32⟩ : BufTy).Contents (Elt Ideal)) (x3 : (⟨S3x1024, .f32⟩ : BufTy).Contents (Elt Ideal))
  (x4 : (⟨S1024, .f32⟩ : BufTy).Contents (Elt Ideal)) (x5 : (⟨S1024x1024, .f32⟩ : BufTy).Contents (Elt Ideal)) (x6 : (⟨S1024, .f32⟩ : BufTy).Contents (Elt Ideal))

abbrev rP (k : Fin 6) (R : Fin 4096) (q : Fin 1024) : EReal := x0 (ix2 R ⟨1024 * k.val + q.val, by omega⟩)
abbrev rY (R : Fin 4096) (q : Fin 1024) : EReal := x1 (ix2 R q)
abbrev rM (k : Fin 2) (R : Fin 4096) (q : Fin 1024) : EReal := x2 (ix2 R ⟨1024 * k.val + q.val, by omega⟩)
abbrev rW (k : Fin 3) (q : Fin 1024) : EReal := x3 (ix2 k q)
abbrev rB (q : Fin 1024) : EReal := x4 (ix1 q)
abbrev rG (j q : Fin 1024) : EReal := x5 (ix2 j q)
abbrev rE (q : Fin 1024) : EReal := x6 (ix1 q)

variable (r : Fin 4096) (q j : Fin 1024)

/-! ## The branch with the convolution -/

theorem s0 : val_main_v0 x0 (ix2 r q) = rP x0 0 r q := by
  pointwise [val_main_v0]
  refine congrArg (fun k => x0 (ix2 r k)) (Fin.ext ?_)
  show q.val = 1024 * 0 + q.val
  omega
theorem s1 : val_main_v1 x0 (ix2 r q) = rP x0 1 r q := by
  pointwise [val_main_v1]
  rfl
theorem s2 : val_main_v2 x0 (ix2 r q) = rP x0 2 r q := by
  pointwise [val_main_v2]
  rfl
theorem s78 : val_main_v78 x2 (ix2 r q) = rM x2 0 r q := by
  pointwise [val_main_v78]
  refine congrArg (fun k => x2 (ix2 r k)) (Fin.ext ?_)
  show q.val = 1024 * 0 + q.val
  omega

theorem s6 : val_main_v6 x0 (ix2 r q) = cin (rP x0) r q := by
  pointwise [val_main_v6]
  rw [s1, s2]
  rfl

theorem s28 : val_main_v28 x0 (ix2 r q) = prev (rP x0) 1 r q := by
  pointwise [val_main_v28, val_main_v27, val_main_v26, val_main_v25, val_main_cst_3]
  unfold prev
  by_cases h : r.val < 1
  · rw [dif_pos h, dif_neg (by omega)]
  · rw [dif_neg h, dif_pos (by omega), s6]

theorem s13 : val_main_v13 x0 (ix2 r q) = prev (rP x0) 1 r q := by
  pointwise [val_main_v13, val_main_v12, val_main_v11, val_main_v10, val_main_cst]
  unfold prev
  by_cases h : r.val < 1
  · rw [dif_pos h, dif_neg (by omega)]
  · rw [dif_neg h, dif_pos (by omega), s6]

theorem s18 : val_main_v18 x0 (ix2 r q) = prev (rP x0) 2 r q := by
  pointwise [val_main_v18, val_main_v17, val_main_v16, val_main_v15, val_main_cst_1]
  by_cases h : r.val < 1
  · unfold prev
    rw [dif_pos h, dif_neg (by omega)]
  · rw [dif_neg h, s13]
    unfold prev
    by_cases h' : r.val < 2
    · rw [dif_neg (show ¬1 ≤ r.val - 1 by omega), dif_neg (by omega)]
    · rw [dif_pos (show 1 ≤ r.val - 1 by omega), dif_pos (by omega)]
      exact congrArg (fun R => cin (rP x0) R q) (Fin.ext (show r.val - 1 - 1 = r.val - 2 by omega))

theorem add_swap (a b c d : EReal) : a + b + c + d = a + d + c + b := by ac_rfl

theorem s35 : val_main_v35 x0 x3 x4 (ix2 r q) = conv (rP x0) (rW x3) (rB x4) r q := by
  pointwise [val_main_v35, val_main_v34, val_main_v33, val_main_v32, val_main_v31, val_main_v30, val_main_v24, val_main_v23, val_main_v22, val_main_v21, val_main_v20, val_main_v9, val_main_v8, val_main_v7]
  rw [s6, s18, s28]
  exact add_swap _ _ _ _

theorem s37_0 : val_main_v37_0 x0 (ix2 r q) = sil (rP x0 3 r q) := by
  pointwise [val_main_v37_0, val_main_v37_2, val_main_v3, val_main_call0_v4, val_main_call0_v3, val_main_call0_v2, val_main_call0_v1, val_main_call0_v0, val_main_call0_cst, val_main_call0_cst_0]
  rfl

theorem s108 : val_main_v108 x0 x2 (ix2 r q) = dconv (rP x0) (rM x2 0) r q := by
  pointwise [val_main_v108, val_main_v106]
  rw [s0, s78, s37_0]
  unfold dconv
  ac_rfl

theorem s109 : val_main_v109 x0 x2 x3 x4 (ix2 r q) = rM x2 0 r q * conv (rP x0) (rW x3) (rB x4) r q * sil (rP x0 3 r q) := by
  pointwise [val_main_v109, val_main_v106]
  rw [s78, s37_0, s35]
  ac_rfl

theorem s107 (hP : ∀ k R q, IsReal (rP x0 k R q)) (hM : ∀ k R q, IsReal (rM x2 k R q)) (hW : ∀ k q, IsReal (rW x3 k q)) (hB : ∀ q, IsReal (rB x4 q)) :
    val_main_v107 x0 x2 x3 x4 (ix2 r q) = rM x2 0 r q * rP x0 0 r q * conv (rP x0) (rW x3) (rB x4) r q * dsil (rP x0 3 r q) := by
  pointwise [val_main_v107, val_main_call3_v0, val_main_call3_v1, val_main_call3_v2, val_main_v105, val_main_v36, val_main_v37_1, val_main_v37_2, val_main_v3, val_main_call0_v7, val_main_call0_v6, val_main_call0_cst_1, val_main_call0_v4, val_main_call0_v3, val_main_call0_v2, val_main_call0_v1, val_main_call0_v0, val_main_call0_cst, val_main_call0_cst_0]
  rw [s0, s78, s35]
  have hc : ∀ R q, IsReal (cin (rP x0) R q) := fun R q => (hP 1 R q).mul (hP 2 R q)
  have hp : ∀ s, IsReal (prev (rP x0) s r q) := fun s => by
    unfold prev
    split
    · exact hc _ _
    · exact ⟨0, rfl⟩
  have hconv : IsReal (conv (rP x0) (rW x3) (rB x4) r q) :=
    (((hB q).add ((hW 2 q).mul (hc r q))).add ((hW 1 q).mul (hp 1))).add ((hW 0 q).mul (hp 2))
  refine (dsil_eq (((hP 0 r q).mul hconv).mul (hM 0 r q)) (hP 3 r q)).trans ?_
  congr 1
  ac_rfl

theorem s123 : val_main_v123 x0 x2 x3 (ix2 r q) = rW x3 1 q * next (rP x0) (rM x2 0) 1 r q := by
  pointwise [val_main_v123, val_main_v122, val_main_v121, val_main_v116, val_main_v115, val_main_v8, val_main_cst_22]
  unfold next
  by_cases h : r.val < 4095
  · rw [dif_pos h, dif_pos (show r.val + 1 < 4096 by omega), s108]
    exact congrArg (fun R => rW x3 1 q * dconv (rP x0) (rM x2 0) R q) (Fin.ext (Nat.add_comm 1 r.val))
  · rw [dif_neg h, dif_neg (by omega), mul_zero]

theorem s136 : val_main_v136 x0 x2 x3 (ix2 r q) = rW x3 0 q * next (rP x0) (rM x2 0) 1 r q := by
  pointwise [val_main_v136, val_main_v135, val_main_v134, val_main_v129, val_main_v128, val_main_v7, val_main_cst_26]
  unfold next
  by_cases h : r.val < 4095
  · rw [dif_pos h, dif_pos (show r.val + 1 < 4096 by omega), s108]
    exact congrArg (fun R => rW x3 0 q * dconv (rP x0) (rM x2 0) R q) (Fin.ext (Nat.add_comm 1 r.val))
  · rw [dif_neg h, dif_neg (by omega), mul_zero]

theorem s140 : val_main_v140 x0 x2 x3 (ix2 r q) = rW x3 0 q * next (rP x0) (rM x2 0) 2 r q := by
  pointwise [val_main_v140, val_main_v139, val_main_v138, val_main_cst_27]
  by_cases h : r.val < 4095
  · rw [dif_pos h, s136]
    unfold next
    by_cases h' : r.val < 4094
    · rw [dif_pos (show 1 + r.val + 1 < 4096 by omega), dif_pos (by omega)]
      exact congrArg (fun R => rW x3 0 q * dconv (rP x0) (rM x2 0) R q) (Fin.ext (show 1 + r.val + 1 = r.val + 2 by omega))
    · rw [dif_neg (show ¬1 + r.val + 1 < 4096 by omega), dif_neg (by omega)]
  · unfold next
    rw [dif_neg h, dif_neg (by omega), mul_zero]

theorem s141 : val_main_v141 x0 x2 x3 (ix2 r q) = dcin (rP x0) (rM x2 0) (rW x3) r q := by
  pointwise [val_main_v141, val_main_v124, val_main_v111, val_main_v110, val_main_v9]
  rw [s108, s123, s140]
  rfl

/-! ## The branch with the scan's output -/

theorem s79 : val_main_v79 x2 (ix2 r q) = rM x2 1 r q := by
  pointwise [val_main_v79]
  rfl

theorem s60 : val_main_v60 x1 (ix2 r q) = gel (rY x1 r q) := by
  pointwise [val_main_v60, val_main_v59, val_main_v58, val_main_v57, val_main_v56, val_main_v50, val_main_v49, val_main_v48, val_main_v47, val_main_v46, val_main_v45, val_main_v41, val_main_v40, val_main_v39, val_main_cst_12, val_main_cst_11, val_main_cst_8, val_main_cst_6, val_main_cst_5]
  rw [cc_eq]
  unfold gel gth
  rw [mul_assoc cc, mul_assoc cc, mul_left_comm, mul_assoc half]

theorem s59 : val_main_v59 x1 (ix2 r q) = half * (1 + gth (rY x1 r q)) := by
  pointwise [val_main_v59, val_main_v58, val_main_v57, val_main_v56, val_main_v50, val_main_v49, val_main_v48, val_main_v47, val_main_v46, val_main_v45, val_main_v41, val_main_v40, val_main_v39, val_main_cst_12, val_main_cst_11, val_main_cst_8, val_main_cst_6, val_main_cst_5]
  rw [cc_eq]
  unfold gth
  rw [mul_assoc cc, mul_assoc cc]

theorem s55 : val_main_v55 x1 (ix2 r q) = (1 + gth (rY x1 r q)) * (1 - gth (rY x1 r q)) := by
  pointwise [val_main_v55, val_main_v54, val_main_v53, val_main_v52, val_main_v51, val_main_v50, val_main_v49, val_main_v48, val_main_v47, val_main_v46, val_main_v45, val_main_v41, val_main_v40, val_main_v39, val_main_cst_9, val_main_cst_10, val_main_cst_8, val_main_cst_6, val_main_cst_5]
  rw [cc_eq]
  unfold gth
  rw [mul_assoc cc, mul_assoc cc]

theorem s70 : val_main_v70 x1 x5 x6 (ix2 r q) = glu (rY x1 r) (rG x5) (rE x6) q := by
  pointwise [val_main_v70, val_main_v69, val_main_v68, val_main_v67, val_main_v66, val_main_v65, val_main_v64, val_main_v63, val_main_v62, val_main_v61, val_main_cst_13, val_main_cst_14]
  simp only [s60]
  rfl

theorem s81 : val_main_v81 x0 x2 (ix2 r q) = rM x2 1 r q * sil (rP x0 5 r q) := by
  pointwise [val_main_v81, val_main_v79, val_main_v75_0, val_main_v75_2, val_main_v5, val_main_call1_v4, val_main_call1_v3, val_main_call1_v2, val_main_call1_v1, val_main_call1_v0, val_main_call1_cst, val_main_call1_cst_0]
  rfl

theorem s82 (hP : ∀ k R q, IsReal (rP x0 k R q)) (hM : ∀ k R q, IsReal (rM x2 k R q)) (hY : ∀ R q, IsReal (rY x1 R q)) :
    val_main_v82 x0 x1 x2 x5 x6 (ix2 r q) = dzRow (rY x1 r) (rG x5) (rE x6) (rM x2 1 r) (rP x0 5 r) q := by
  pointwise [val_main_v82, val_main_call2_v0, val_main_call2_v1, val_main_call2_v2, val_main_v80, val_main_v74, val_main_v75_1, val_main_v75_2, val_main_v5, val_main_call1_v7, val_main_call1_v6, val_main_call1_cst_1, val_main_call1_v4, val_main_call1_v3, val_main_call1_v2, val_main_call1_v1, val_main_call1_v0, val_main_call1_cst, val_main_call1_cst_0]
  rw [s60, s70, s79]
  refine (dsil_eq (((isReal_gel (hY r q)).mul (isReal_logistic _)).mul (hM 1 r q)) (hP 5 r q)).trans ?_
  unfold dzRow
  congr 1
  exact mul_comm _ _

theorem s85 : val_main_v85 x0 x1 x2 x5 x6 (ix2 r q) = dgl (rY x1 r) (rG x5) (rE x6) (rM x2 1 r) (rP x0 5 r) q := by
  pointwise [val_main_v85, val_main_v83, val_main_v73, val_main_v72, val_main_v71, val_main_cst_15]
  rw [s60, s70, s81]
  unfold dgl
  rw [mul_comm (gel _), ← mul_assoc]

theorem s92 : val_main_v92 x0 x1 x2 x5 x6 (ix2 r q) = rM x2 1 r q * sil (rP x0 5 r q) * glu (rY x1 r) (rG x5) (rE x6) q
    + ∑ x, dgl (rY x1 r) (rG x5) (rE x6) (rM x2 1 r) (rP x0 5 r) x * rG x5 q x := by
  pointwise [val_main_v92, val_main_v91, val_main_v84]
  simp only [s81, s70, s85]

theorem s104 (hP : ∀ k R q, IsReal (rP x0 k R q)) (hM : ∀ k R q, IsReal (rM x2 k R q)) (hY : ∀ R q, IsReal (rY x1 R q)) (hG : ∀ j q, IsReal (rG x5 j q)) :
    val_main_v104 x0 x1 x2 x5 x6 (ix2 r q) = dyRow (rY x1 r) (rG x5) (rE x6) (rM x2 1 r) (rP x0 5 r) q := by
  pointwise [val_main_v104, val_main_v103, val_main_v102, val_main_v101, val_main_v100, val_main_v99, val_main_v98, val_main_v97, val_main_v96, val_main_v95, val_main_v94, val_main_v93, val_main_v44, val_main_v43, val_main_v42, val_main_v39, val_main_cst_5, val_main_cst_6, val_main_cst_7, val_main_cst_18, val_main_cst_19]
  rw [cc_eq, s92, s59, s55]
  have hg : ∀ x, IsReal (dgl (rY x1 r) (rG x5) (rE x6) (rM x2 1 r) (rP x0 5 r) x) := fun x =>
    ((((hM 1 r x).mul (isReal_sil (hP 5 r x))).mul (isReal_gel (hY r x))).mul (isReal_logistic _)).mul (isReal_one.sub (isReal_logistic _))
  refine (dgel_eq ((((hM 1 r q).mul (isReal_sil (hP 5 r q))).mul (isReal_logistic _)).add (IsReal.sum fun x => (hg x).mul (hG q x))) (hY r q)).trans ?_
  rfl

/-! ## The four results -/

theorem s90 : val_main_v90 x0 x1 x2 x5 x6 (ix2 j q) = ∑ R, gel (rY x1 R j) * dgl (rY x1 R) (rG x5) (rE x6) (rM x2 1 R) (rP x0 5 R) q := by
  pointwise [val_main_v90, val_main_v89]
  simp only [s85, s60]
  exact Finset.sum_congr rfl fun R _ => mul_comm _ _

theorem s132 : val_main_v132 x0 x2 (ix2 0 q) = ∑ R, rowTerm (rP x0) (rY x1) (rM x2) (rG x5) (rE x6) 0 q R := by
  pointwise [val_main_v132, val_main_v131, val_main_v130, val_main_cst_25]
  simp only [s108, s18]
  exact (sum_shift (rP x0) (rM x2 0) 2 (by omega) q).symm

theorem s119 : val_main_v119 x0 x2 (ix2 0 q) = ∑ R, rowTerm (rP x0) (rY x1) (rM x2) (rG x5) (rE x6) 1 q R := by
  pointwise [val_main_v119, val_main_v118, val_main_v117, val_main_cst_21]
  simp only [s108, s28]
  exact (sum_shift (rP x0) (rM x2 0) 1 (by omega) q).symm

theorem s114 : val_main_v114 x0 x2 (ix2 0 q) = ∑ R, rowTerm (rP x0) (rY x1) (rM x2) (rG x5) (rE x6) 2 q R := by
  pointwise [val_main_v114, val_main_v113, val_main_v112, val_main_cst_20]
  simp only [s108, s6]
  exact Finset.sum_congr rfl fun R _ => mul_comm _ _

theorem s127 : val_main_v127 x0 x2 (ix1 q) = ∑ R, rowTerm (rP x0) (rY x1) (rM x2) (rG x5) (rE x6) 3 q R := by
  pointwise [val_main_v127, val_main_v126, val_main_v125, val_main_cst_23, val_main_cst_24]
  rw [Fin.sum_univ_one]
  simp only [s108]
  rfl

theorem s88 : val_main_v88 x0 x1 x2 x5 x6 (ix1 q) = ∑ R, rowTerm (rP x0) (rY x1) (rM x2) (rG x5) (rE x6) 4 q R := by
  pointwise [val_main_v88, val_main_v87, val_main_v86, val_main_cst_16, val_main_cst_17]
  rw [Fin.sum_univ_one]
  simp only [s85]
  rfl

theorem s150 (p : Fin 5) : val_main_v150 x0 x1 x2 x5 x6 (ix2 (⟨p.val, by omega⟩ : Fin 16) q) = ∑ R, rowTerm (rP x0) (rY x1) (rM x2) (rG x5) (rE x6) p q R := by
  fin_cases p
  · refine Eq.trans ?_ (s132 x0 x1 x2 x5 x6 q)
    pointwise [val_main_v150, val_main_v149, val_main_v148, val_main_v147, val_main_v142, val_main_cst_29]
  · refine Eq.trans ?_ (s119 x0 x1 x2 x5 x6 q)
    pointwise [val_main_v150, val_main_v149, val_main_v148, val_main_v147, val_main_v142, val_main_cst_29]
  · refine Eq.trans ?_ (s114 x0 x1 x2 x5 x6 q)
    pointwise [val_main_v150, val_main_v149, val_main_v148, val_main_v147, val_main_v142, val_main_cst_29]
  · refine Eq.trans ?_ (s127 x0 x1 x2 x5 x6 q)
    pointwise [val_main_v150, val_main_v149, val_main_v148, val_main_v147, val_main_v142, val_main_cst_29]
  · refine Eq.trans ?_ (s88 x0 x1 x2 x5 x6 q)
    pointwise [val_main_v150, val_main_v149, val_main_v148, val_main_v147, val_main_v142, val_main_cst_29]

theorem s150_rest (p : Fin 16) (hp : ¬p.val < 5) : val_main_v150 x0 x1 x2 x5 x6 (ix2 p q) = (0 : EReal) := by
  pointwise [val_main_v150, val_main_v149, val_main_v148, val_main_v147, val_main_v142, val_main_cst_29]
  rw [dif_neg (by omega), dif_neg (by omega), dif_neg (by omega)]

theorem at_col (f : S4096x1024.Idx → EReal) (n : Nat) (h : n < 1024) (hn : n = q.val) : f (ix2 r ⟨n, h⟩) = f (ix2 r q) := by subst hn; rfl

theorem s151 (hP : ∀ k R q, IsReal (rP x0 k R q)) (hY : ∀ R q, IsReal (rY x1 R q)) (hM : ∀ k R q, IsReal (rM x2 k R q)) (hW : ∀ k q, IsReal (rW x3 k q)) (hB : ∀ q, IsReal (rB x4 q))
    (k : Fin 6) (h : 1024 * k.val + q.val < 6144) :
    val_main_v151 x0 x1 x2 x3 x4 x5 x6 (ix2 r ⟨1024 * k.val + q.val, h⟩) = dproj (rP x0) (rY x1) (rM x2) (rW x3) (rB x4) (rG x5) (rE x6) k r q := by
  pointwise [val_main_v151, val_main_v146, val_main_v145, val_main_cst_28]
  rcases (by omega : k.val = 0 ∨ k.val = 1 ∨ k.val = 2 ∨ k.val = 3 ∨ k.val = 4 ∨ k.val = 5) with e | e | e | e | e | e
  · rw [dif_pos (by omega), at_col r q (val_main_v109 x0 x2 x3 x4) _ _ (by omega), s109]
    obtain rfl : k = 0 := Fin.ext e
    rfl
  · rw [dif_neg (by omega), dif_pos (by omega), at_col r q (val_main_v144 x0 x2 x3) _ _ (by omega)]
    pointwise [val_main_v144]
    rw [s141, s2]
    obtain rfl : k = 1 := Fin.ext e
    rfl
  · rw [dif_neg (by omega), dif_neg (by omega), dif_pos (by omega), at_col r q (val_main_v143 x0 x2 x3) _ _ (by omega)]
    pointwise [val_main_v143]
    rw [s141, s1]
    obtain rfl : k = 2 := Fin.ext e
    exact mul_comm _ _
  · rw [dif_neg (by omega), dif_neg (by omega), dif_neg (by omega), dif_pos (by omega), at_col r q (val_main_v107 x0 x2 x3 x4) _ _ (by omega), s107 x0 x2 x3 x4 r q hP hM hW hB]
    obtain rfl : k = 3 := Fin.ext e
    rfl
  · rw [dif_neg (by omega), dif_neg (by omega), dif_neg (by omega), dif_neg (by omega), dif_pos (by omega)]
    obtain rfl : k = 4 := Fin.ext e
    rfl
  · rw [dif_neg (by omega), dif_neg (by omega), dif_neg (by omega), dif_neg (by omega), dif_neg (by omega), at_col r q (val_main_v82 x0 x1 x2 x5 x6) _ _ (by omega), s82 x0 x1 x2 x5 x6 r q hP hM hY]
    obtain rfl : k = 5 := Fin.ext e
    rfl

end Stages

/-! ## The kernel's arrays are the reference's -/

open Idealize.ShloMosaic.TcCoe

section Equal
variable (m : (ℓ : Loc Cert.Kernel2Ideal.nD Cert.Kernel2Ideal.τ Cert.Kernel2Ideal.sig) → Buf (Elt Ideal) ℓ) (c : Dev Cert.Kernel2Ideal.nD)

abbrev B0 := m ((c : Thread Cert.Kernel2Ideal.nD Cert.Kernel2Ideal.τ).loc Cert.Kernel2Ideal.main_arg0)
abbrev B1 := m ((c : Thread Cert.Kernel2Ideal.nD Cert.Kernel2Ideal.τ).loc Cert.Kernel2Ideal.main_arg1)
abbrev B2 := m ((c : Thread Cert.Kernel2Ideal.nD Cert.Kernel2Ideal.τ).loc Cert.Kernel2Ideal.main_arg2)
abbrev B3 := m ((c : Thread Cert.Kernel2Ideal.nD Cert.Kernel2Ideal.τ).loc Cert.Kernel2Ideal.main_arg3)
abbrev B4 := m ((c : Thread Cert.Kernel2Ideal.nD Cert.Kernel2Ideal.τ).loc Cert.Kernel2Ideal.main_arg4)
abbrev B5 := m ((c : Thread Cert.Kernel2Ideal.nD Cert.Kernel2Ideal.τ).loc Cert.Kernel2Ideal.main_arg5)
abbrev B6 := m ((c : Thread Cert.Kernel2Ideal.nD Cert.Kernel2Ideal.τ).loc Cert.Kernel2Ideal.main_arg6)

theorem proj_eq (f0 : ∀ i, IsReal (B0 m c i)) (f1 : ∀ i, IsReal (B1 m c i)) (f2 : ∀ i, IsReal (B2 m c i)) (f3 : ∀ i, IsReal (B3 m c i)) (f4 : ∀ i, IsReal (B4 m c i)) :
    val_main_v151 (B0 m c) (B1 m c) (B2 m c) (B3 m c) (B4 m c) (B5 m c) (B6 m c) = projArr m c := by
  funext i
  obtain ⟨r, k, q, rfl⟩ : ∃ (r : Fin 4096) (k : Fin 6) (q : Fin 1024), i = ix2 r ⟨1024 * k.val + q.val, by omega⟩ :=
    ⟨i 0, ⟨(i 1).val / 1024, by have : (i 1).val < 6144 := (i 1).isLt; omega⟩, ⟨(i 1).val % 1024, Nat.mod_lt _ (by decide)⟩,
      funext fun a => by fin_cases a; exacts [rfl, Fin.ext (Nat.div_add_mod _ _).symm]⟩
  rw [s151 _ _ _ _ _ _ _ r q (fun _ _ _ => f0 _) (fun _ _ => f1 _) (fun _ _ _ => f2 _) (fun _ _ => f3 _) (fun _ => f4 _) k, projArr_apply]

theorem dy_eq (f0 : ∀ i, IsReal (B0 m c i)) (f1 : ∀ i, IsReal (B1 m c i)) (f2 : ∀ i, IsReal (B2 m c i)) (f5 : ∀ i, IsReal (B5 m c i)) :
    val_main_v104 (B0 m c) (B1 m c) (B2 m c) (B5 m c) (B6 m c) = dyArr m c := by
  funext i
  obtain ⟨r, q, rfl⟩ : ∃ (r : Fin 4096) (q : Fin 1024), i = ix2 r q := ⟨i 0, i 1, funext fun a => by fin_cases a <;> rfl⟩
  rw [s104 _ _ _ _ _ r q (fun _ _ _ => f0 _) (fun _ _ _ => f2 _) (fun _ _ => f1 _) (fun _ _ => f5 _)]
  rfl

theorem rows_eq : val_main_v150 (B0 m c) (B1 m c) (B2 m c) (B5 m c) (B6 m c) = rowsArr m c := by
  funext i
  obtain ⟨p, q, rfl⟩ : ∃ (p : Fin 16) (q : Fin 1024), i = ix2 p q := ⟨i 0, i 1, funext fun a => by fin_cases a <;> rfl⟩
  by_cases hp : p.val < 5
  · rw [rowsArr_lt m c p hp]
    exact s150 _ _ _ _ _ q ⟨p.val, hp⟩
  · rw [rowsArr_ge m c p hp]
    exact s150_rest _ _ _ _ _ q p hp

theorem glu_eq : val_main_v90 (B0 m c) (B1 m c) (B2 m c) (B5 m c) (B6 m c) = gluArr m c := by
  funext i
  obtain ⟨j, q, rfl⟩ : ∃ (j q : Fin 1024), i = ix2 j q := ⟨i 0, i 1, funext fun a => by fin_cases a <;> rfl⟩
  rw [s90]
  rfl
end Equal

end Cert.GateRef

end
-- ==== Proof.OutKernel.lean ====
module

public import proofs.«01_k».proof.Proof.Gen.Kernel3Ideal.Value
public import proofs.«01_k».proof.Proof.Common
public import Idealize.ShloMosaic.Lib.Pointwise
public import Idealize.ShloMosaic.Lib.WritesUnit
public import Idealize.ShloMosaic.Lib.Pipeline.ReadBack
public import Idealize.ShloMosaic.PureOps.Ideal.Laws

@[expose] public section

noncomputable section

/-! # What one point of the loss and post-norm call leaves in its five result blocks -/

namespace Cert.Out

open Idealize.ShloMosaic Idealize.ShloMosaic.TcCoe Idealize.SL.Sem
open Cert.Kernel3Ideal Cert.Kernel3Ideal.Gen Cert.Common

section Blocks

variable (x0 : Vec Ideal S256x2048 .bf16) (x1 : Vec Ideal S2048x2048 .bf16) (x2 x3 : Vec Ideal S256x2048 .f32) (x4 : Vec Ideal S1x2048 .f32)

/-- The error `x + post-norm - target` of a tile. -/
abbrev errBlk : Vec Ideal S256x2048 .f32 := k0_pay15 (F := Ideal) x1 x0 x4 x2 x3
/-- The gradient of the product `o` of a tile. -/
abbrev doBlk : Vec Ideal S256x2048 .bf16 := k0_pay6 (F := Ideal) (k0_pay12 x1 x0) (k0_pay13 x1 x0) (k0_pay14 x4) (errBlk x0 x1 x2 x3 x4)
/-- The gradient of the mix of a tile. -/
abbrev mixBlk : Vec Ideal S256x2048 .f32 := k0_pay7 (F := Ideal) (k0_pay10 x1) (k0_pay12 x1 x0) (k0_pay13 x1 x0) (k0_pay14 x4) (errBlk x0 x1 x2 x3 x4)
/-- The gradient of the residual of a tile. -/
abbrev resBlk : Vec Ideal S256x2048 .f32 := k0_pay3 (F := Ideal) (errBlk x0 x1 x2 x3 x4)
/-- The running loss, and the running gradient of the gain in its first row. -/
abbrev lossBlk (a : Vec Ideal S8x128 .f32) : Vec Ideal S8x128 .f32 := k0_pay1 (F := Ideal) (k0_pay16 x1 x0 x4 x2 x3 a)
abbrev gainBlk (a : Vec Ideal S1x2048 .f32) : Vec Ideal S1x2048 .f32 := k0_pay4 (F := Ideal) (k0_pay13 x1 x0) (errBlk x0 x1 x2 x3 x4) a

end Blocks

/-- The rectangle of the gain's first row. -/
abbrev row0 : Rect S8x2048 := Rect.unit ![0, 0] ![1, 2048] inb_S8x2048_S1x2048_0_0

theorem fillLoss {V : View sig .tc .vmem S8x128 .f32} (Z : Vec Ideal S8x128 .f32) :
    V.readCov (Val := Elt Ideal) [⟨Rect.unit ![0, 0] ![8, 128] inb_S8x128_S8x128_0_0, Z⟩] (Rect.unit ![0, 0] ![8, 128] inb_S8x128_S8x128_0_0).toLoadRect = Z :=
  (View.readCov_fill V _ Z [] _ fun a => by fin_cases a <;> rfl).trans (View.ld_unit_zero hz2 _ Z)

theorem fillRow0 {V : View sig .tc .vmem S8x2048 .f32} (Z : Vec Ideal S8x2048 .f32) :
    V.readCov (Val := Elt Ideal) [⟨Rect.unit ![0, 0] ![8, 2048] inb_S8x2048_S8x2048_0_0, Z⟩] row0.toLoadRect = View.ld Z row0 :=
  View.readCov_fill V _ Z [] _ fun a => by fin_cases a <;> rfl

section Point

variable (c : Dev nD) (i : grid0.Coords) (arg1 : Memref sig .tc .vmem S256x2048 .bf16) (harg1 : arg1.IsWhole) (arg2 : Memref sig .tc .vmem S2048x2048 .bf16) (harg2 : arg2.IsWhole) (arg3 : Memref sig .tc .vmem S256x2048 .f32) (harg3 : arg3.IsWhole) (arg4 : Memref sig .tc .vmem S256x2048 .f32) (harg4 : arg4.IsWhole) (arg5 : Memref sig .tc .vmem S1x2048 .f32) (harg5 : arg5.IsWhole) (arg6 : Memref sig .tc .vmem S8x128 .f32) (harg6 : arg6.IsWhole) (arg7 : Memref sig .tc .vmem S256x2048 .f32) (harg7 : arg7.IsWhole) (arg8 : Memref sig .tc .vmem S256x2048 .bf16) (harg8 : arg8.IsWhole) (arg9 : Memref sig .tc .vmem S256x2048 .f32) (harg9 : arg9.IsWhole) (arg10 : Memref sig .tc .vmem S8x2048 .f32) (harg10 : arg10.IsWhole)
  (x0 : Vec Ideal S256x2048 .bf16) (x1 : Vec Ideal S2048x2048 .bf16) (x2 x3 : Vec Ideal S256x2048 .f32) (x4 : Vec Ideal S1x2048 .f32) (xo5 : Vec Ideal S8x128 .f32) (xo9 : Vec Ideal S8x2048 .f32)

theorem out_A6 (hc0 : cond0_0 i) : out0_A_6 c i arg1 harg1 arg2 harg2 arg3 harg3 arg4 harg4 arg5 harg5 arg6 harg6 arg7 harg7 arg8 harg8 arg9 harg9 arg10 harg10 hc0 x0 x1 x2 x3 x4 = resBlk x0 x1 x2 x3 x4 := by
  unfold out0_A_6
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, View.ld_unit_zero (S := S256x2048) hz2, View.ld_unit_zero (S := S2048x2048) hz2, View.ld_unit_zero (S := S1x2048) hz2, View.ld_unit_zero (S := S8x128) hz2, shapeCast_self]
  rw [View.read_writes_junk_eq_canon, View.canon_unit_zero hz2]

theorem out_A7 (hc0 : cond0_0 i) : out0_A_7 c i arg1 harg1 arg2 harg2 arg3 harg3 arg4 harg4 arg5 harg5 arg6 harg6 arg7 harg7 arg8 harg8 arg9 harg9 arg10 harg10 hc0 x0 x1 x2 x3 x4 = doBlk x0 x1 x2 x3 x4 := by
  unfold out0_A_7
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, View.ld_unit_zero (S := S256x2048) hz2, View.ld_unit_zero (S := S2048x2048) hz2, View.ld_unit_zero (S := S1x2048) hz2, View.ld_unit_zero (S := S8x128) hz2, shapeCast_self]
  rw [View.read_writes_junk_eq_canon, View.canon_unit_zero hz2]

theorem out_A8 (hc0 : cond0_0 i) : out0_A_8 c i arg1 harg1 arg2 harg2 arg3 harg3 arg4 harg4 arg5 harg5 arg6 harg6 arg7 harg7 arg8 harg8 arg9 harg9 arg10 harg10 hc0 x0 x1 x2 x3 x4 = mixBlk x0 x1 x2 x3 x4 := by
  unfold out0_A_8
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, View.ld_unit_zero (S := S256x2048) hz2, View.ld_unit_zero (S := S2048x2048) hz2, View.ld_unit_zero (S := S1x2048) hz2, View.ld_unit_zero (S := S8x128) hz2, shapeCast_self]
  rw [View.read_writes_junk_eq_canon, View.canon_unit_zero hz2]

theorem out_A5 (hc0 : cond0_0 i) : out0_A_5 c i arg1 harg1 arg2 harg2 arg3 harg3 arg4 harg4 arg5 harg5 arg6 harg6 arg7 harg7 arg8 harg8 arg9 harg9 arg10 harg10 hc0 x0 x1 x2 x3 x4 = lossBlk x0 x1 x2 x3 x4 (k0_pay8 (F := Ideal)) := by
  unfold out0_A_5
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, View.ld_unit_zero (S := S256x2048) hz2, View.ld_unit_zero (S := S2048x2048) hz2, View.ld_unit_zero (S := S1x2048) hz2, View.ld_unit_zero (S := S8x128) hz2, shapeCast_self]
  rw [View.read_writes_junk_eq_canon, View.canon_cons_unit_zero hz2, fillLoss]

theorem out_A9 (hc0 : cond0_0 i) (q : Fin 2048) : out0_A_9 c i arg1 harg1 arg2 harg2 arg3 harg3 arg4 harg4 arg5 harg5 arg6 harg6 arg7 harg7 arg8 harg8 arg9 harg9 arg10 harg10 hc0 x0 x1 x2 x3 x4 (ix2 0 q) = gainBlk x0 x1 x2 x3 x4 (View.ld (k0_pay9 (F := Ideal)) row0) (ix2 0 q) := by
  unfold out0_A_9
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, View.ld_unit_zero (S := S256x2048) hz2, View.ld_unit_zero (S := S2048x2048) hz2, View.ld_unit_zero (S := S1x2048) hz2, View.ld_unit_zero (S := S8x128) hz2, shapeCast_self]
  rw [fillRow0]
  generalize hw : k0_pay4 (F := Ideal) _ _ _ = w
  refine (View.read_writes_cons_hit_of_coords _ _ row0 _ _ (ix2 (0 : Fin 1) q) _ fun a => ?_).trans (congrFun hw.symm _)
  fin_cases a
  · rfl
  · show q.val = 0 + 1 * q.val
    omega

theorem out_A9' (hc0 : cond0_0 i) (p : Fin 8) (hp : p ≠ 0) (q : Fin 2048) : out0_A_9 c i arg1 harg1 arg2 harg2 arg3 harg3 arg4 harg4 arg5 harg5 arg6 harg6 arg7 harg7 arg8 harg8 arg9 harg9 arg10 harg10 hc0 x0 x1 x2 x3 x4 (ix2 p q) = (0 : EReal) := by
  unfold out0_A_9
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, View.ld_unit_zero (S := S256x2048) hz2, View.ld_unit_zero (S := S2048x2048) hz2, View.ld_unit_zero (S := S1x2048) hz2, View.ld_unit_zero (S := S8x128) hz2, shapeCast_self]
  refine (View.read_writes_cons_miss_of_axis _ _ _ _ _ 0 0 1 rfl rfl rfl (Or.inr ?_)).trans ?_
  · show 0 + 1 ≤ p.val
    have := Fin.val_ne_of_ne hp
    simp only [Fin.val_zero] at this
    omega
  · refine (View.read_writes_cons_hit_of_coords _ _ _ _ _ (ix2 p q) _ fun a => ?_).trans (Ideal.ofBits_zero .f32)
    fin_cases a
    · show p.val = 0 + 1 * p.val
      omega
    · show q.val = 0 + 1 * q.val
      omega

theorem out_B6 (hc0 : ¬cond0_0 i) : out0_B_6 c i arg1 harg1 arg2 harg2 arg3 harg3 arg4 harg4 arg5 harg5 arg6 harg6 arg7 harg7 arg8 harg8 arg9 harg9 arg10 harg10 hc0 x0 x1 x2 x3 x4 xo5 xo9 = resBlk x0 x1 x2 x3 x4 := by
  unfold out0_B_6
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, View.ld_unit_zero (S := S256x2048) hz2, View.ld_unit_zero (S := S2048x2048) hz2, View.ld_unit_zero (S := S1x2048) hz2, View.ld_unit_zero (S := S8x128) hz2, shapeCast_self]
  rw [View.read_writes_junk_eq_canon, View.canon_unit_zero hz2]

theorem out_B7 (hc0 : ¬cond0_0 i) : out0_B_7 c i arg1 harg1 arg2 harg2 arg3 harg3 arg4 harg4 arg5 harg5 arg6 harg6 arg7 harg7 arg8 harg8 arg9 harg9 arg10 harg10 hc0 x0 x1 x2 x3 x4 xo5 xo9 = doBlk x0 x1 x2 x3 x4 := by
  unfold out0_B_7
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, View.ld_unit_zero (S := S256x2048) hz2, View.ld_unit_zero (S := S2048x2048) hz2, View.ld_unit_zero (S := S1x2048) hz2, View.ld_unit_zero (S := S8x128) hz2, shapeCast_self]
  rw [View.read_writes_junk_eq_canon, View.canon_unit_zero hz2]

theorem out_B8 (hc0 : ¬cond0_0 i) : out0_B_8 c i arg1 harg1 arg2 harg2 arg3 harg3 arg4 harg4 arg5 harg5 arg6 harg6 arg7 harg7 arg8 harg8 arg9 harg9 arg10 harg10 hc0 x0 x1 x2 x3 x4 xo5 xo9 = mixBlk x0 x1 x2 x3 x4 := by
  unfold out0_B_8
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, View.ld_unit_zero (S := S256x2048) hz2, View.ld_unit_zero (S := S2048x2048) hz2, View.ld_unit_zero (S := S1x2048) hz2, View.ld_unit_zero (S := S8x128) hz2, shapeCast_self]
  rw [View.read_writes_junk_eq_canon, View.canon_unit_zero hz2]

theorem out_B5 (hc0 : ¬cond0_0 i) : out0_B_5 c i arg1 harg1 arg2 harg2 arg3 harg3 arg4 harg4 arg5 harg5 arg6 harg6 arg7 harg7 arg8 harg8 arg9 harg9 arg10 harg10 hc0 x0 x1 x2 x3 x4 xo5 xo9 = lossBlk x0 x1 x2 x3 x4 xo5 := by
  unfold out0_B_5
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, View.ld_unit_zero (S := S256x2048) hz2, View.ld_unit_zero (S := S2048x2048) hz2, View.ld_unit_zero (S := S1x2048) hz2, View.ld_unit_zero (S := S8x128) hz2, shapeCast_self]
  rw [View.read_writes_junk_eq_canon, View.canon_unit_zero hz2]

theorem out_B9 (hc0 : ¬cond0_0 i) (q : Fin 2048) : out0_B_9 c i arg1 harg1 arg2 harg2 arg3 harg3 arg4 harg4 arg5 harg5 arg6 harg6 arg7 harg7 arg8 harg8 arg9 harg9 arg10 harg10 hc0 x0 x1 x2 x3 x4 xo5 xo9 (ix2 0 q) = gainBlk x0 x1 x2 x3 x4 (View.ld xo9 row0) (ix2 0 q) := by
  unfold out0_B_9
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, View.ld_unit_zero (S := S256x2048) hz2, View.ld_unit_zero (S := S2048x2048) hz2, View.ld_unit_zero (S := S1x2048) hz2, View.ld_unit_zero (S := S8x128) hz2, shapeCast_self]

  generalize hw : k0_pay4 (F := Ideal) _ _ _ = w
  refine (View.read_writes_cons_hit_of_coords _ _ row0 _ _ (ix2 (0 : Fin 1) q) _ fun a => ?_).trans (congrFun hw.symm _)
  fin_cases a
  · rfl
  · show q.val = 0 + 1 * q.val
    omega

theorem out_B9' (hc0 : ¬cond0_0 i) (p : Fin 8) (hp : p ≠ 0) (q : Fin 2048) : out0_B_9 c i arg1 harg1 arg2 harg2 arg3 harg3 arg4 harg4 arg5 harg5 arg6 harg6 arg7 harg7 arg8 harg8 arg9 harg9 arg10 harg10 hc0 x0 x1 x2 x3 x4 xo5 xo9 (ix2 p q) = xo9 (ix2 p q) := by
  unfold out0_B_9
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, View.ld_unit_zero (S := S256x2048) hz2, View.ld_unit_zero (S := S2048x2048) hz2, View.ld_unit_zero (S := S1x2048) hz2, View.ld_unit_zero (S := S8x128) hz2, shapeCast_self]
  refine (View.read_writes_cons_miss_of_axis _ _ _ _ _ 0 0 1 rfl rfl rfl (Or.inr ?_)).trans ?_
  · show 0 + 1 ≤ p.val
    have := Fin.val_ne_of_ne hp
    simp only [Fin.val_zero] at this
    omega
  · exact congrFun (harg10.read_unread xo9) _

end Point

end Cert.Out

end
-- ==== Proof.OutArrays.lean ====
module

public import proofs.«01_k».proof.Proof.OutKernel
public import Idealize.ShloMosaic.Lib.ValueLayout
public import Idealize.ShloMosaic.Lib.Pipeline.ValueKit.Geometry

@[expose] public section

noncomputable section

/-! # The arrays of the loss and post-norm call, index by index -/

namespace Cert.Out

open Idealize.ShloMosaic Idealize.ShloMosaic.TcCoe Idealize.SL.Sem
open Idealize.ShloMosaic.Pipeline (Dat)
open Cert.Kernel3Ideal Cert.Kernel3Ideal.Gen Cert.Common

/-! ## One row -/

/-- One part in 2048, and half of it, as the call writes them. -/
abbrev inv2048 : EReal := Ideal.ofBits .f32 973078528#32
abbrev inv4096 : EReal := Ideal.ofBits .f32 964689920#32

section Row

variable (O X T G : Fin 2048 → EReal) (q : Fin 2048)

/-- A row's error, the gradients of its residual and of its product, and its squares summed; `O` is the row of the product, `X` that of the residual, `T` the target, `G` the gain. -/
def errRow : EReal := X q + O q * rr O * G q - T q
def resRow : EReal := errRow O X T G q * inv2048
def doRow : EReal := rr O * (resRow O X T G q * G q - O q * rr O * Ideal.div (∑ x, resRow O X T G x * G x * (O x * rr O)) lit2048)
def sqRow : EReal := ∑ x, errRow O X T G x * errRow O X T G x

end Row

/-! ## One tile -/

section Tile

variable (x0 : Vec Ideal S256x2048 .bf16) (x1 : Vec Ideal S2048x2048 .bf16) (x2 x3 : Vec Ideal S256x2048 .f32) (x4 : Vec Ideal S1x2048 .f32)

/-- A row of the tile's product. -/
abbrev prodRow (r : Fin 256) (q : Fin 2048) : EReal := ∑ j : Fin 2048, x0 (ix2 r j) * x1 (ix2 j q)

theorem err_apply (r : Fin 256) (q : Fin 2048) : errBlk x0 x1 x2 x3 x4 (ix2 r q)
    = errRow (prodRow x0 x1 r) (fun k => x2 (ix2 r k)) (fun k => x3 (ix2 r k)) (fun k => x4 (ix2 0 k)) q := by
  unfold errBlk
  pointwise [k0_pay15, k0_pay14, k0_pay13, k0_pay12, k0_pay11, k0_pay10]
  rfl

theorem res_apply (r : Fin 256) (q : Fin 2048) : resBlk x0 x1 x2 x3 x4 (ix2 r q)
    = resRow (prodRow x0 x1 r) (fun k => x2 (ix2 r k)) (fun k => x3 (ix2 r k)) (fun k => x4 (ix2 0 k)) q := by
  unfold resRow
  rw [← err_apply]
  pointwise [k0_pay3, k0_pay2]

theorem do_apply (r : Fin 256) (q : Fin 2048) : doBlk x0 x1 x2 x3 x4 (ix2 r q)
    = doRow (prodRow x0 x1 r) (fun k => x2 (ix2 r k)) (fun k => x3 (ix2 r k)) (fun k => x4 (ix2 0 k)) q := by
  unfold doRow resRow
  simp only [← err_apply]
  unfold doBlk
  generalize errBlk x0 x1 x2 x3 x4 = e
  pointwise [k0_pay6, k0_pay5, k0_pay2, k0_pay14, k0_pay13, k0_pay12, k0_pay11, k0_pay10]
  rfl

theorem mix_apply (r : Fin 256) (q : Fin 2048) : mixBlk x0 x1 x2 x3 x4 (ix2 r q)
    = ∑ k, doRow (prodRow x0 x1 r) (fun k => x2 (ix2 r k)) (fun k => x3 (ix2 r k)) (fun k => x4 (ix2 0 k)) k * x1 (ix2 q k) := by
  simp only [← do_apply]
  unfold doBlk mixBlk
  generalize errBlk x0 x1 x2 x3 x4 = e
  generalize k0_pay13 (F := Ideal) x1 x0 = a
  generalize k0_pay12 (F := Ideal) x1 x0 = b
  pointwise [k0_pay7, k0_pay6, k0_pay10]

theorem gain_apply (a : Vec Ideal S1x2048 .f32) (q : Fin 2048) : gainBlk x0 x1 x2 x3 x4 a (ix2 0 q)
    = a (ix2 0 q) + ∑ r, resRow (prodRow x0 x1 r) (fun k => x2 (ix2 r k)) (fun k => x3 (ix2 r k)) (fun k => x4 (ix2 0 k)) q * (prodRow x0 x1 r q * rr (prodRow x0 x1 r)) := by
  unfold resRow
  simp only [← err_apply]
  unfold gainBlk
  generalize errBlk x0 x1 x2 x3 x4 = e
  pointwise [k0_pay4, k0_pay2, k0_pay13, k0_pay12, k0_pay11, k0_pay10]
  rfl

theorem loss_apply (a : Vec Ideal S8x128 .f32) (p : Fin 8) (q : Fin 128) : lossBlk x0 x1 x2 x3 x4 a (ix2 p q)
    = a (ix2 p q) + (∑ r, sqRow (prodRow x0 x1 r) (fun k => x2 (ix2 r k)) (fun k => x3 (ix2 r k)) (fun k => x4 (ix2 0 k))) * inv4096 := by
  unfold sqRow
  simp only [← err_apply]
  unfold lossBlk errBlk
  pointwise [k0_pay1, k0_pay16]

end Tile

/-! ## What the host hands over -/

variable (m : (ℓ : Loc nD τ sig) → Buf (Elt Ideal) ℓ) (c : Dev nD)

abbrev aM (R : Fin 4096) (j : Fin 2048) : EReal := m ((c : Thread nD τ).loc main_arg0) (ix2 R j)
abbrev aW (j q : Fin 2048) : EReal := m ((c : Thread nD τ).loc main_arg1) (ix2 j q)
abbrev aX (R : Fin 4096) (q : Fin 2048) : EReal := m ((c : Thread nD τ).loc main_arg2) (ix2 R q)
abbrev aT (R : Fin 4096) (q : Fin 2048) : EReal := m ((c : Thread nD τ).loc main_arg3) (ix2 R q)
abbrev aG (q : Fin 2048) : EReal := m ((c : Thread nD τ).loc main_arg4) (ix1 q)

theorem V_v0 (R : Fin 4096) (j : Fin 2048) : V m c main_v0 (ix2 R j) = aM m c R j := by
  unfold V
  after_results
  rfl

theorem V_v1 (j q : Fin 2048) : V m c main_v1 (ix2 j q) = aW m c j q := by
  unfold V
  after_results
  rfl

theorem V_v2 (q : Fin 2048) : V m c main_v2 (ix2 0 q) = aG m c q := by
  unfold V
  after_results
  pointwise

theorem ix_0 : ∀ t : Fin grid0.N, win0_0.index t 0 = t.val ∧ win0_0.index t 1 = 0 := by decide +kernel
theorem ix_1 : ∀ t : Fin grid0.N, win0_1.index t 0 = 0 ∧ win0_1.index t 1 = 0 := by decide +kernel
theorem ix_2 : ∀ t : Fin grid0.N, win0_2.index t 0 = t.val ∧ win0_2.index t 1 = 0 := by decide +kernel
theorem ix_3 : ∀ t : Fin grid0.N, win0_3.index t 0 = t.val ∧ win0_3.index t 1 = 0 := by decide +kernel
theorem ix_4 : ∀ t : Fin grid0.N, win0_4.index t 0 = 0 ∧ win0_4.index t 1 = 0 := by decide +kernel
theorem ix_5 : ∀ t : Fin grid0.N, win0_5.index t 0 = 0 ∧ win0_5.index t 1 = 0 := by decide +kernel
theorem ix_6 : ∀ t : Fin grid0.N, win0_6.index t 0 = t.val ∧ win0_6.index t 1 = 0 := by decide +kernel
theorem ix_7 : ∀ t : Fin grid0.N, win0_7.index t 0 = t.val ∧ win0_7.index t 1 = 0 := by decide +kernel
theorem ix_8 : ∀ t : Fin grid0.N, win0_8.index t 0 = t.val ∧ win0_8.index t 1 = 0 := by decide +kernel
theorem ix_9 : ∀ t : Fin grid0.N, win0_9.index t 0 = 0 ∧ win0_9.index t 1 = 0 := by decide +kernel

/-- Row `r` of block `t` of the arrays taken 256 rows at a time. -/
abbrev rowOf (t : Fin grid0.N) (r : Fin 256) : Fin 4096 := ⟨256 * t.val + r.val, by have := t.isLt; have := N_0; omega⟩

theorem iblk_0 (t : Fin cfg0.N) (r : Fin 256) (q : Fin 2048) : (iblk m c 0 t : Vec Ideal S256x2048 .bf16) (ix2 r q) = aM m c (rowOf t r) q := by
  rw [← V_v0 m c]
  unfold iblk
  rw [View.read_apply]
  show V m c main_v0 _ = _

  congr 1
  funext a
  apply Fin.ext
  fin_cases a
  · show win0_0.index t 0 * 256 + 1 * r.val = 256 * t.val + r.val
    rw [(ix_0 t).1]; omega
  · show win0_0.index t 1 * 2048 + 1 * q.val = q.val
    rw [(ix_0 t).2]; omega

theorem iblk_1 (t : Fin cfg0.N) (j q : Fin 2048) : (iblk m c 1 t : Vec Ideal S2048x2048 .bf16) (ix2 j q) = aW m c j q := by
  rw [← V_v1 m c]
  unfold iblk
  rw [View.read_apply]
  show V m c main_v1 _ = _

  congr 1
  funext a
  apply Fin.ext
  fin_cases a
  · show win0_1.index t 0 * 2048 + 1 * j.val = j.val
    rw [(ix_1 t).1]; omega
  · show win0_1.index t 1 * 2048 + 1 * q.val = q.val
    rw [(ix_1 t).2]; omega

theorem iblk_2 (t : Fin cfg0.N) (r : Fin 256) (q : Fin 2048) : (iblk m c 2 t : Vec Ideal S256x2048 .f32) (ix2 r q) = aX m c (rowOf t r) q := by
  unfold iblk
  rw [View.read_apply]
  show V m c main_arg2 _ = _
  rw [V_main_arg2]
  congr 1
  funext a
  apply Fin.ext
  fin_cases a
  · show win0_2.index t 0 * 256 + 1 * r.val = 256 * t.val + r.val
    rw [(ix_2 t).1]; omega
  · show win0_2.index t 1 * 2048 + 1 * q.val = q.val
    rw [(ix_2 t).2]; omega

theorem iblk_3 (t : Fin cfg0.N) (r : Fin 256) (q : Fin 2048) : (iblk m c 3 t : Vec Ideal S256x2048 .f32) (ix2 r q) = aT m c (rowOf t r) q := by
  unfold iblk
  rw [View.read_apply]
  show V m c main_arg3 _ = _
  rw [V_main_arg3]
  congr 1
  funext a
  apply Fin.ext
  fin_cases a
  · show win0_3.index t 0 * 256 + 1 * r.val = 256 * t.val + r.val
    rw [(ix_3 t).1]; omega
  · show win0_3.index t 1 * 2048 + 1 * q.val = q.val
    rw [(ix_3 t).2]; omega

theorem iblk_4 (t : Fin cfg0.N) (q : Fin 2048) : (iblk m c 4 t : Vec Ideal S1x2048 .f32) (ix2 0 q) = aG m c q := by
  rw [← V_v2 m c]
  unfold iblk
  rw [View.read_apply]
  show V m c main_v2 _ = _

  congr 1
  funext a
  apply Fin.ext
  fin_cases a
  · show win0_4.index t 0 * 1 + 1 * 0 = 0
    rw [(ix_4 t).1]
  · show win0_4.index t 1 * 2048 + 1 * q.val = q.val
    rw [(ix_4 t).2]; omega

/-! ## The result arrays -/

/-- A row of the product. -/
def oRow (R : Fin 4096) (q : Fin 2048) : EReal := ∑ j : Fin 2048, aM m c R j * aW m c j q

theorem prod_iblk (t : Fin cfg0.N) (r : Fin 256) : prodRow (iblk m c 0 t) (iblk m c 1 t) r = oRow m c (rowOf t r) := by
  funext q
  unfold prodRow oRow
  simp only [iblk_0, iblk_1]

abbrev eR (R : Fin 4096) (q : Fin 2048) : EReal := errRow (oRow m c R) (aX m c R) (aT m c R) (aG m c) q
abbrev rR (R : Fin 4096) (q : Fin 2048) : EReal := resRow (oRow m c R) (aX m c R) (aT m c R) (aG m c) q
abbrev dR (R : Fin 4096) (q : Fin 2048) : EReal := doRow (oRow m c R) (aX m c R) (aT m c R) (aG m c) q
abbrev sR (R : Fin 4096) : EReal := sqRow (oRow m c R) (aX m c R) (aT m c R) (aG m c)

/-- The loss a tile adds, and the term of the gain's gradient that a row adds. -/
def lTerm (t : Fin 16) : EReal := (∑ r : Fin 256, sR m c ⟨256 * t.val + r.val, by omega⟩) * inv4096
def gTerm (q : Fin 2048) (R : Fin 4096) : EReal := rR m c R q * (oRow m c R q * rr (oRow m c R))

/-- What the five result arrays end at. -/
def lossArr : Buf (Elt Ideal) ((c : Thread nD τ).loc main_v3_0) := fun _ => (∑ t, lTerm m c t : EReal)
def resArr : Buf (Elt Ideal) ((c : Thread nD τ).loc main_v3_1) := fun y => rR m c (y 0) (y 1)
def doArr : Buf (Elt Ideal) ((c : Thread nD τ).loc main_v3_2) := fun y => dR m c (y 0) (y 1)
def mixArr : Buf (Elt Ideal) ((c : Thread nD τ).loc main_v3_3) := fun y => (∑ k, dR m c (y 0) k * aW m c (y 1) k : EReal)
def gainArr : Buf (Elt Ideal) ((c : Thread nD τ).loc main_v3_4) := fun y => if (y 0).val = 0 then (∑ R, gTerm m c (y 1) R : EReal) else (0 : EReal)

section Iblk

variable (t : Fin cfg0.N)

theorem res_iblk (r : Fin 256) (q : Fin 2048) : resBlk (iblk m c 0 t) (iblk m c 1 t) (iblk m c 2 t) (iblk m c 3 t) (iblk m c 4 t) (ix2 r q) = rR m c (rowOf t r) q := by
  rw [res_apply]
  simp only [prod_iblk, iblk_2, iblk_3, iblk_4]

theorem do_iblk (r : Fin 256) (q : Fin 2048) : doBlk (iblk m c 0 t) (iblk m c 1 t) (iblk m c 2 t) (iblk m c 3 t) (iblk m c 4 t) (ix2 r q) = dR m c (rowOf t r) q := by
  rw [do_apply]
  simp only [prod_iblk, iblk_2, iblk_3, iblk_4]

theorem mix_iblk (r : Fin 256) (q : Fin 2048) : mixBlk (iblk m c 0 t) (iblk m c 1 t) (iblk m c 2 t) (iblk m c 3 t) (iblk m c 4 t) (ix2 r q) = ∑ k, dR m c (rowOf t r) k * aW m c q k := by
  rw [mix_apply]
  simp only [prod_iblk, iblk_1, iblk_2, iblk_3, iblk_4]

theorem loss_iblk (a : Vec Ideal S8x128 .f32) (p : Fin 8) (q : Fin 128) : lossBlk (iblk m c 0 t) (iblk m c 1 t) (iblk m c 2 t) (iblk m c 3 t) (iblk m c 4 t) a (ix2 p q)
    = a (ix2 p q) + lTerm m c ⟨t.val, lt_of_lt_of_eq t.isLt N_0⟩ := by
  rw [loss_apply]
  simp only [prod_iblk, iblk_2, iblk_3, iblk_4]
  rfl

theorem gain_iblk (a : Vec Ideal S1x2048 .f32) (q : Fin 2048) : gainBlk (iblk m c 0 t) (iblk m c 1 t) (iblk m c 2 t) (iblk m c 3 t) (iblk m c 4 t) a (ix2 0 q)
    = a (ix2 0 q) + ∑ r : Fin 256, gTerm m c q (rowOf t r) := by
  rw [gain_apply]
  simp only [iblk_2, iblk_3, iblk_4]
  refine congrArg₂ _ rfl (Finset.sum_congr rfl fun r _ => ?_)
  rw [prod_iblk m c t r]
  rfl

end Iblk

theorem out6 (t : Fin cfg0.N) : (outsAt0 m c t.val t.isLt).2.1 = resBlk (iblk m c 0 t) (iblk m c 1 t) (iblk m c 2 t) (iblk m c 3 t) (iblk m c 4 t) := by
  by_cases h : t.val % 16 = 0
  · rw [outsAt0_A m c t h]
    dsimp only
    rw [out_A6]
  · rw [outsAt0_B m c t h]
    dsimp only
    rw [out_B6]

theorem final6 : (dats m 0 c).arrAt 6 cfg0.N = resArr m c := by
  refine (dats m 0 c).arrAt_eq_of_covers 6 _ (by decide +kernel) fun t hf y => ?_
  blk_simp
  rw [after0_6, out6]
  obtain ⟨r, q, rfl⟩ : ∃ (r : Fin 256) (q : Fin 2048), y = ix2 r q := ⟨y 0, y 1, funext fun a => by fin_cases a <;> rfl⟩
  rw [res_iblk]
  have e0 : (win0_6.blk t).view.emb (ix2 r q) = ix2 (rowOf t r) q := by
    blk_ext [ix_6]
  rw [e0]
  rfl

theorem out7 (t : Fin cfg0.N) : (outsAt0 m c t.val t.isLt).2.2.1 = doBlk (iblk m c 0 t) (iblk m c 1 t) (iblk m c 2 t) (iblk m c 3 t) (iblk m c 4 t) := by
  by_cases h : t.val % 16 = 0
  · rw [outsAt0_A m c t h]
    dsimp only
    rw [out_A7]
  · rw [outsAt0_B m c t h]
    dsimp only
    rw [out_B7]

theorem final7 : (dats m 0 c).arrAt 7 cfg0.N = doArr m c := by
  refine (dats m 0 c).arrAt_eq_of_covers 7 _ (by decide +kernel) fun t hf y => ?_
  blk_simp
  rw [after0_7, out7]
  obtain ⟨r, q, rfl⟩ : ∃ (r : Fin 256) (q : Fin 2048), y = ix2 r q := ⟨y 0, y 1, funext fun a => by fin_cases a <;> rfl⟩
  rw [do_iblk]
  have e0 : (win0_7.blk t).view.emb (ix2 r q) = ix2 (rowOf t r) q := by
    blk_ext [ix_7]
  rw [e0]
  rfl

theorem out8 (t : Fin cfg0.N) : (outsAt0 m c t.val t.isLt).2.2.2.1 = mixBlk (iblk m c 0 t) (iblk m c 1 t) (iblk m c 2 t) (iblk m c 3 t) (iblk m c 4 t) := by
  by_cases h : t.val % 16 = 0
  · rw [outsAt0_A m c t h]
    dsimp only
    rw [out_A8]
  · rw [outsAt0_B m c t h]
    dsimp only
    rw [out_B8]

theorem final8 : (dats m 0 c).arrAt 8 cfg0.N = mixArr m c := by
  refine (dats m 0 c).arrAt_eq_of_covers 8 _ (by decide +kernel) fun t hf y => ?_
  blk_simp
  rw [after0_8, out8]
  obtain ⟨r, q, rfl⟩ : ∃ (r : Fin 256) (q : Fin 2048), y = ix2 r q := ⟨y 0, y 1, funext fun a => by fin_cases a <;> rfl⟩
  rw [mix_iblk]
  have e0 : (win0_8.blk t).view.emb (ix2 r q) = ix2 (rowOf t r) q := by
    blk_ext [ix_8]
  rw [e0]
  rfl

theorem ld_row0 (v : Vec Ideal S8x2048 .f32) (q : Fin 2048) : View.ld v row0 (ix2 0 q) = v (ix2 0 q) := by
  show v _ = v _
  congr 1
  funext a
  fin_cases a
  · rfl
  · exact Fin.ext (by show 0 + 1 * q.val = q.val; omega)

theorem loss_sum (n : Nat) (h : n < cfg0.N) (p : Fin 8) (q : Fin 128) :
    (outsAt0 m c n h).1 (ix2 p q) = ∑ k ∈ Finset.range (n + 1), ext (lTerm m c) k := by
  have hN : cfg0.N = 16 := N_0
  induction n with
  | zero =>
    rw [show (outsAt0 m c 0 h).1 = _ from congrArg Prod.fst (outsAt0_A m c ⟨0, h⟩ rfl)]
    dsimp only
    rw [out_A5, loss_iblk, Finset.sum_range_one]
    unfold ext
    rw [dif_pos (by omega), show k0_pay8 (F := Ideal) (ix2 p q) = (0 : EReal) from Ideal.ofBits_zero .f32, zero_add]
  | succ n ih =>
    rw [show (outsAt0 m c (n + 1) h).1 = _ from congrArg Prod.fst (outsAt0_B m c ⟨n + 1, h⟩ (by dsimp only; omega))]
    dsimp only
    rw [out_B5, loss_iblk, Finset.sum_range_succ]
    refine congrArg₂ (· + ·) (ih _) ?_
    unfold ext
    rw [dif_pos (by omega)]

theorem final5 : (dats m 0 c).arrAt 5 cfg0.N = lossArr m c := by
  refine (dats m 0 c).arrAt_eq_of_covers 5 _ (by decide +kernel) fun t hf y => ?_
  have ht := (flush0_5 t).mp hf
  have hN : t.val < 16 := lt_of_lt_of_eq t.isLt N_0
  blk_simp
  rw [after0_5]
  obtain ⟨p, q, rfl⟩ : ∃ (p : Fin 8) (q : Fin 128), y = ix2 p q := ⟨y 0, y 1, funext fun a => by fin_cases a <;> rfl⟩
  rw [loss_sum, show t.val + 1 = 16 by omega, sum_ext]
  rfl

theorem gain_sum (n : Nat) (h : n < cfg0.N) (q : Fin 2048) :
    (outsAt0 m c n h).2.2.2.2 (ix2 0 q) = ∑ k ∈ Finset.range (256 * (n + 1)), ext (gTerm m c q) k := by
  have hN : cfg0.N = 16 := N_0
  induction n with
  | zero =>
    rw [show (outsAt0 m c 0 h).2.2.2.2 = _ from congrArg (fun x => x.2.2.2.2) (outsAt0_A m c ⟨0, h⟩ rfl)]
    dsimp only
    rw [out_A9, gain_iblk, ← sum_ext_block (gTerm m c q) 0 256 (by omega), ld_row0]
    exact congrArg₂ (· + ·) (Ideal.ofBits_zero .f32) rfl
  | succ n ih =>
    rw [show (outsAt0 m c (n + 1) h).2.2.2.2 = _ from congrArg (fun x => x.2.2.2.2) (outsAt0_B m c ⟨n + 1, h⟩ (by dsimp only; omega))]
    dsimp only
    rw [out_B9, gain_iblk, show 256 * (n + 1 + 1) = 256 * (n + 1) + 256 by omega, ← sum_ext_block (gTerm m c q) (256 * (n + 1)) 256 (by omega)]
    exact congrArg₂ (· + ·) ((ld_row0 _ q).trans (ih _)) rfl

theorem gain_rest (n : Nat) (h : n < cfg0.N) (p : Fin 8) (hp : p ≠ 0) (q : Fin 2048) : (outsAt0 m c n h).2.2.2.2 (ix2 p q) = (0 : EReal) := by
  have hN : cfg0.N = 16 := N_0
  induction n with
  | zero =>
    rw [show (outsAt0 m c 0 h).2.2.2.2 = _ from congrArg (fun x => x.2.2.2.2) (outsAt0_A m c ⟨0, h⟩ rfl)]
    dsimp only
    rw [out_A9' (hp := hp)]
  | succ n ih =>
    rw [show (outsAt0 m c (n + 1) h).2.2.2.2 = _ from congrArg (fun x => x.2.2.2.2) (outsAt0_B m c ⟨n + 1, h⟩ (by dsimp only; omega))]
    dsimp only
    rw [out_B9' (hp := hp)]
    exact ih _

theorem final9 : (dats m 0 c).arrAt 9 cfg0.N = gainArr m c := by
  refine (dats m 0 c).arrAt_eq_of_covers 9 _ (by decide +kernel) fun t hf y => ?_
  have ht := (flush0_9 t).mp hf
  have hN : t.val < 16 := lt_of_lt_of_eq t.isLt N_0
  blk_simp
  rw [after0_9]
  obtain ⟨p, q, rfl⟩ : ∃ (p : Fin 8) (q : Fin 2048), y = ix2 p q := ⟨y 0, y 1, funext fun a => by fin_cases a <;> rfl⟩
  have e0 : (win0_9.blk t).view.emb (ix2 p q) = ix2 p q := by
    blk_ext [ix_9]
  rw [e0]
  by_cases hp : p = 0
  · subst hp
    rw [gain_sum, show 256 * (t.val + 1) = 4096 by omega, sum_ext]
    rfl
  · rw [gain_rest m c _ _ p hp]
    exact (if_neg (Fin.val_ne_of_ne hp)).symm

end Cert.Out

end
-- ==== Proof.OutReference.lean ====
module

public import proofs.«01_k».proof.Proof.Gen.Reference3Ideal.Read
public import proofs.«01_k».proof.Proof.OutArrays
public import Idealize.ShloMosaic.Lib.Pointwise

@[expose] public section

noncomputable section

/-! # The reference of the loss and post-norm call, index by index -/

namespace Cert.OutRef

open Idealize.ShloMosaic Idealize.ShloMosaic.TcCoe
open Cert.Reference3Ideal Cert.Reference3Ideal.Read Cert.Common Cert.Out

variable (x0 : (⟨S4096x2048, .f32⟩ : BufTy).Contents (Elt Ideal)) (x1 : (⟨S2048x2048, .f32⟩ : BufTy).Contents (Elt Ideal))
  (x2 x3 : (⟨S4096x2048, .f32⟩ : BufTy).Contents (Elt Ideal)) (x4 : (⟨S2048, .f32⟩ : BufTy).Contents (Elt Ideal))

/-- A row of the product. -/
abbrev prod (R : Fin 4096) (q : Fin 2048) : EReal := ∑ j : Fin 2048, x0 (ix2 R j) * x1 (ix2 j q)

/-- The factor the mean and the loss's half put before twice the error. -/
abbrev factor : EReal := Ideal.div (Ideal.ofBits .f32 1056964608#32) lit2048

abbrev err (R : Fin 4096) (q : Fin 2048) : EReal := errRow (prod x0 x1 R) (fun k => x2 (ix2 R k)) (fun k => x3 (ix2 R k)) (fun k => x4 (ix1 k)) q

theorem v18_apply (R : Fin 4096) (q : Fin 2048) : val_main_v18 x0 x1 x2 x3 x4 (ix2 R q) = err x0 x1 x2 x3 x4 R q := by
  pointwise [val_main_v18, val_main_v17, val_main_v16, val_main_v15, val_main_v14, val_main_v13, val_main_v12, val_main_v8, val_main_v7, val_main_v6, val_main_v5, val_main_v4, val_main_v3, val_main_v2, val_main_v1, val_main_v0, val_main_cst, val_main_cst_0, val_main_cst_1]
  rfl

theorem v32_apply (R : Fin 4096) (q : Fin 2048) : val_main_v32 x0 x1 x2 x3 x4 (ix2 R q) = factor * (Ideal.ofBits .f32 1073741824#32 * err x0 x1 x2 x3 x4 R q) := by
  rw [← v18_apply]
  pointwise [val_main_v32, val_main_v31, val_main_v30, val_main_v29, val_main_v28, val_main_v27, val_main_v21, val_main_v20, val_main_cst_3, val_main_cst_8, val_main_cst_9, val_main_cst_10]

theorem v54_apply (p : Fin 8) (q : Fin 128) : val_main_v54 x0 x1 x2 x3 x4 (ix2 p q)
    = Ideal.ofBits .f32 1056964608#32 * ∑ R, Ideal.div (∑ q, err x0 x1 x2 x3 x4 R q * err x0 x1 x2 x3 x4 R q) lit2048 := by
  simp only [← v18_apply]
  pointwise [val_main_v54, val_main_v26, val_main_v25, val_main_v24, val_main_v23, val_main_v22, val_main_v19, val_main_cst_4, val_main_cst_5, val_main_cst_6, val_main_cst_7]

theorem v38_apply (q : Fin 2048) : val_main_v38 x0 x1 x2 x3 x4 (ix1 q)
    = ∑ R, prod x0 x1 R q * rr (prod x0 x1 R) * (factor * (Ideal.ofBits .f32 1073741824#32 * err x0 x1 x2 x3 x4 R q)) := by
  simp only [← v32_apply]
  pointwise [val_main_v38, val_main_v35, val_main_v34, val_main_v33, val_main_v13, val_main_v12, val_main_v8, val_main_v7, val_main_v6, val_main_v5, val_main_v4, val_main_v3, val_main_v2, val_main_v1, val_main_v0, val_main_cst, val_main_cst_0, val_main_cst_1, val_main_cst_11, val_main_cst_12]
  rw [Fin.sum_univ_one]
  rfl

theorem v58_first (q : Fin 2048) : val_main_v58 x0 x1 x2 x3 x4 (ix2 0 q) = val_main_v38 x0 x1 x2 x3 x4 (ix1 q) := by
  unfold val_main_v58
  pointwise [val_main_v56]

theorem v58_rest (p : Fin 8) (hp : p ≠ 0) (q : Fin 2048) : val_main_v58 x0 x1 x2 x3 x4 (ix2 p q) = (0 : EReal) := by
  unfold val_main_v58
  pointwise [val_main_v57, val_main_cst_16]
  exact dif_neg fun h => hp (Fin.ext (by omega))

/-- The row of the gradient that comes into the normalisation. -/
abbrev inc (R : Fin 4096) (q : Fin 2048) : EReal := factor * (Ideal.ofBits .f32 1073741824#32 * err x0 x1 x2 x3 x4 R q) * x4 (ix1 q)

theorem v52_apply (R : Fin 4096) (q : Fin 2048) : val_main_v52 x0 x1 x2 x3 x4 (ix2 R q)
    = inc x0 x1 x2 x3 x4 R q * rr (prod x0 x1 R) + prod x0 x1 R q * msGrad (prod x0 x1 R) (inc x0 x1 x2 x3 x4 R) + msGrad (prod x0 x1 R) (inc x0 x1 x2 x3 x4 R) * prod x0 x1 R q := by
  unfold msGrad inc
  simp only [← v32_apply]
  pointwise [val_main_v52, val_main_v51, val_main_v50, val_main_v49, val_main_v48, val_main_v47, val_main_v46, val_main_v45, val_main_v44, val_main_v43, val_main_v42, val_main_v41, val_main_v40, val_main_v39, val_main_v37, val_main_v36, val_main_v14, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_13, val_main_cst_14, val_main_cst_15]
  rw [Fin.sum_univ_one]
  rfl

theorem v53_apply (R : Fin 4096) (q : Fin 2048) : val_main_v53 x0 x1 x2 x3 x4 (ix2 R q) = ∑ k, val_main_v52 x0 x1 x2 x3 x4 (ix2 R k) * x1 (ix2 q k) := by
  pointwise [val_main_v53]

theorem v55_apply (R : Fin 4096) (q : Fin 2048) : val_main_v55 x0 x1 x2 x3 x4 (ix2 R q) = val_main_v52 x0 x1 x2 x3 x4 (ix2 R q) := by
  pointwise [val_main_v55]

/-! ## The literals -/

theorem inv2048_eq : inv2048 = ((1 / 2048 : ℝ) : EReal) := by
  simp [inv2048, Ideal.ofBits, Ideal.ieee, -EReal.coe_mul]; norm_num
theorem inv4096_eq : inv4096 = ((1 / 4096 : ℝ) : EReal) := by
  simp [inv4096, Ideal.ofBits, Ideal.ieee, -EReal.coe_mul]; norm_num
theorem half_eq : Ideal.ofBits .f32 1056964608#32 = ((1 / 2 : ℝ) : EReal) := by
  simp [Ideal.ofBits, Ideal.ieee, -EReal.coe_mul]; norm_num
theorem two_eq : Ideal.ofBits .f32 1073741824#32 = ((2 : ℝ) : EReal) := by
  simp [Ideal.ofBits, Ideal.ieee, -EReal.coe_mul]; norm_num

/-- Half of one part in 2048, times twice the error, is the error times one part in 2048. -/
theorem factor_two (e : EReal) : factor * (Ideal.ofBits .f32 1073741824#32 * e) = e * inv2048 := by
  rw [← mul_assoc, mul_comm]
  congr 1
  rw [factor, half_eq, two_eq, inv2048_eq, lit2048_eq, div_real _ _ (by norm_num), ← EReal.coe_mul]
  congr 1
  norm_num

/-- The loss summed tile by tile is half the sum of the rows' means. -/
theorem loss_tiles (s : Fin 4096 → EReal) (hs : ∀ R, ∃ x : ℝ, s R = (x : EReal)) :
    Ideal.ofBits .f32 1056964608#32 * ∑ R, Ideal.div (s R) lit2048 = ∑ t : Fin 16, (∑ r : Fin 256, s ⟨256 * t.val + r.val, by omega⟩) * inv4096 := by
  choose x hx using hs
  rw [half_eq, lit2048_eq, inv4096_eq]
  simp only [hx]
  simp only [div_real _ (2048 : ℝ) (by norm_num), coe_sum, ← EReal.coe_mul]
  congr 1
  rw [← Finset.sum_mul, ← Finset.sum_div]
  have e : ∑ R, x R = ∑ t : Fin 16, ∑ r : Fin 256, x ⟨256 * t.val + r.val, by omega⟩ := by
    rw [← Fintype.sum_prod_type']
    refine (Fintype.sum_equiv (finProdFinEquiv (m := 16) (n := 256)) _ _ fun p => ?_).symm
    congr 1
    exact Fin.ext (by show 256 * p.1.val + p.2.val = p.2.val + 256 * p.1.val; omega)
  rw [← e]
  ring

/-! ## The kernel's arrays are the reference's -/

variable (m : (ℓ : Loc Cert.Kernel3Ideal.nD Cert.Kernel3Ideal.τ Cert.Kernel3Ideal.sig) → Buf (Elt Ideal) ℓ) (c : Dev Cert.Kernel3Ideal.nD)

/-- The launched arguments. -/
abbrev C0 : (⟨S4096x2048, .f32⟩ : BufTy).Contents (Elt Ideal) := m ((c.tc : Thread Cert.Kernel3Ideal.nD Cert.Kernel3Ideal.τ).loc Cert.Kernel3Ideal.main_arg0)
abbrev C1 : (⟨S2048x2048, .f32⟩ : BufTy).Contents (Elt Ideal) := m ((c.tc : Thread Cert.Kernel3Ideal.nD Cert.Kernel3Ideal.τ).loc Cert.Kernel3Ideal.main_arg1)
abbrev C2 : (⟨S4096x2048, .f32⟩ : BufTy).Contents (Elt Ideal) := m ((c.tc : Thread Cert.Kernel3Ideal.nD Cert.Kernel3Ideal.τ).loc Cert.Kernel3Ideal.main_arg2)
abbrev C3 : (⟨S4096x2048, .f32⟩ : BufTy).Contents (Elt Ideal) := m ((c.tc : Thread Cert.Kernel3Ideal.nD Cert.Kernel3Ideal.τ).loc Cert.Kernel3Ideal.main_arg3)
abbrev C4 : (⟨S2048, .f32⟩ : BufTy).Contents (Elt Ideal) := m ((c.tc : Thread Cert.Kernel3Ideal.nD Cert.Kernel3Ideal.τ).loc Cert.Kernel3Ideal.main_arg4)

theorem prod_real (f0 : ∀ i, ∃ x : ℝ, C0 m c i = (x : EReal)) (f1 : ∀ i, ∃ x : ℝ, C1 m c i = (x : EReal)) (R : Fin 4096) (q : Fin 2048) :
    ∃ x : ℝ, prod (C0 m c) (C1 m c) R q = (x : EReal) := by
  choose y0 h0 using f0
  choose y1 h1 using f1
  refine ⟨∑ j : Fin 2048, y0 (ix2 R j) * y1 (ix2 j q), ?_⟩
  simp only [prod, h0, h1, ← EReal.coe_mul, coe_sum]

theorem err_real (f0 : ∀ i, ∃ x : ℝ, C0 m c i = (x : EReal)) (f1 : ∀ i, ∃ x : ℝ, C1 m c i = (x : EReal)) (f2 : ∀ i, ∃ x : ℝ, C2 m c i = (x : EReal)) (f3 : ∀ i, ∃ x : ℝ, C3 m c i = (x : EReal)) (f4 : ∀ i, ∃ x : ℝ, C4 m c i = (x : EReal)) (R : Fin 4096) (q : Fin 2048) : ∃ x : ℝ, err (C0 m c) (C1 m c) (C2 m c) (C3 m c) (C4 m c) R q = (x : EReal) := by
  have hp := prod_real m c f0 f1
  choose o ho using hp
  obtain ⟨s, hs, hS⟩ := ms_real (prod (C0 m c) (C1 m c) R) (o R) (ho R)
  obtain ⟨y2, h2⟩ := f2 (ix2 R q)
  obtain ⟨y3, h3⟩ := f3 (ix2 R q)
  obtain ⟨y4, h4⟩ := f4 (ix1 q)
  refine ⟨y2 + o R q * (Real.sqrt s)⁻¹ * y4 - y3, ?_⟩
  simp only [err, errRow, rr, hS, rsqrt_real s hs, ho, h2, h3, h4, ← EReal.coe_mul, ← EReal.coe_add, ← EReal.coe_sub]

theorem res_eq : val_main_v32 (C0 m c) (C1 m c) (C2 m c) (C3 m c) (C4 m c) = resArr m c := by
  funext i
  obtain ⟨r, q, rfl⟩ : ∃ (r : Fin 4096) (q : Fin 2048), i = ix2 r q := ⟨i 0, i 1, funext fun a => by fin_cases a <;> rfl⟩
  rw [v32_apply, factor_two]
  rfl

theorem do_apply (f0 : ∀ i, ∃ x : ℝ, C0 m c i = (x : EReal)) (f1 : ∀ i, ∃ x : ℝ, C1 m c i = (x : EReal)) (f2 : ∀ i, ∃ x : ℝ, C2 m c i = (x : EReal)) (f3 : ∀ i, ∃ x : ℝ, C3 m c i = (x : EReal)) (f4 : ∀ i, ∃ x : ℝ, C4 m c i = (x : EReal)) (R : Fin 4096) (q : Fin 2048) : val_main_v52 (C0 m c) (C1 m c) (C2 m c) (C3 m c) (C4 m c) (ix2 R q) = dR m c R q := by
  rw [v52_apply]
  refine (rms_grad (prod (C0 m c) (C1 m c) R) (inc (C0 m c) (C1 m c) (C2 m c) (C3 m c) (C4 m c) R) (prod_real m c f0 f1 R) (fun k => ?_) q).symm.trans ?_
  · obtain ⟨e, he⟩ := err_real m c f0 f1 f2 f3 f4 R k
    obtain ⟨y4, h4⟩ := f4 (ix1 k)
    refine ⟨e * (1 / 2048) * y4, ?_⟩
    rw [inc, factor_two, he, h4, inv2048_eq, ← EReal.coe_mul, ← EReal.coe_mul]
  · simp only [inc, factor_two]
    rfl

theorem do_eq (f0 : ∀ i, ∃ x : ℝ, C0 m c i = (x : EReal)) (f1 : ∀ i, ∃ x : ℝ, C1 m c i = (x : EReal)) (f2 : ∀ i, ∃ x : ℝ, C2 m c i = (x : EReal)) (f3 : ∀ i, ∃ x : ℝ, C3 m c i = (x : EReal)) (f4 : ∀ i, ∃ x : ℝ, C4 m c i = (x : EReal)) : val_main_v55 (C0 m c) (C1 m c) (C2 m c) (C3 m c) (C4 m c) = doArr m c := by
  funext i
  obtain ⟨r, q, rfl⟩ : ∃ (r : Fin 4096) (q : Fin 2048), i = ix2 r q := ⟨i 0, i 1, funext fun a => by fin_cases a <;> rfl⟩
  rw [v55_apply, do_apply m c f0 f1 f2 f3 f4]
  rfl

theorem mix_eq (f0 : ∀ i, ∃ x : ℝ, C0 m c i = (x : EReal)) (f1 : ∀ i, ∃ x : ℝ, C1 m c i = (x : EReal)) (f2 : ∀ i, ∃ x : ℝ, C2 m c i = (x : EReal)) (f3 : ∀ i, ∃ x : ℝ, C3 m c i = (x : EReal)) (f4 : ∀ i, ∃ x : ℝ, C4 m c i = (x : EReal)) : val_main_v53 (C0 m c) (C1 m c) (C2 m c) (C3 m c) (C4 m c) = mixArr m c := by
  funext i
  obtain ⟨r, q, rfl⟩ : ∃ (r : Fin 4096) (q : Fin 2048), i = ix2 r q := ⟨i 0, i 1, funext fun a => by fin_cases a <;> rfl⟩
  rw [v53_apply]
  simp only [do_apply m c f0 f1 f2 f3 f4]
  rfl

theorem gain_eq : val_main_v58 (C0 m c) (C1 m c) (C2 m c) (C3 m c) (C4 m c) = gainArr m c := by
  funext i
  obtain ⟨p, q, rfl⟩ : ∃ (p : Fin 8) (q : Fin 2048), i = ix2 p q := ⟨i 0, i 1, funext fun a => by fin_cases a <;> rfl⟩
  by_cases hp : p = 0
  · subst hp
    rw [v58_first, v38_apply]
    simp only [factor_two]
    show _ = ∑ R, gTerm m c q R
    exact Finset.sum_congr rfl fun R _ => mul_comm _ _
  · rw [v58_rest _ _ _ _ _ p hp]
    exact (if_neg (Fin.val_ne_of_ne hp)).symm

theorem loss_eq (f0 : ∀ i, ∃ x : ℝ, C0 m c i = (x : EReal)) (f1 : ∀ i, ∃ x : ℝ, C1 m c i = (x : EReal)) (f2 : ∀ i, ∃ x : ℝ, C2 m c i = (x : EReal)) (f3 : ∀ i, ∃ x : ℝ, C3 m c i = (x : EReal)) (f4 : ∀ i, ∃ x : ℝ, C4 m c i = (x : EReal)) : val_main_v54 (C0 m c) (C1 m c) (C2 m c) (C3 m c) (C4 m c) = lossArr m c := by
  funext i
  obtain ⟨p, q, rfl⟩ : ∃ (p : Fin 8) (q : Fin 128), i = ix2 p q := ⟨i 0, i 1, funext fun a => by fin_cases a <;> rfl⟩
  rw [v54_apply]
  refine loss_tiles (fun R => ∑ q, err (C0 m c) (C1 m c) (C2 m c) (C3 m c) (C4 m c) R q * err (C0 m c) (C1 m c) (C2 m c) (C3 m c) (C4 m c) R q) fun R => ?_
  choose e he using err_real m c f0 f1 f2 f3 f4 R
  refine ⟨∑ q, e q * e q, ?_⟩
  simp only [he, ← EReal.coe_mul, coe_sum]

end Cert.OutRef

end
-- ==== Proof.ZohStages.lean ====
module

public import proofs.«01_k».proof.Proof.Common
public import proofs.«01_k».proof.Proof.Gen.Kernel4Ideal.Frame
public import proofs.«01_k».proof.Proof.Gen.Reference4Ideal.Read
public import Idealize.ShloMosaic.Lib.Pointwise
public import Idealize.ShloMosaic.Lib.MatmulPlain

@[expose] public section

noncomputable section

/-! # The discretisation's gradient: each value the kernel computes is a stage of the reference

The kernel lays B_re, B_im and their gradients out with the last two dimensions as one, and moves between the states and that layout by
products with a matrix of zeros and ones. -/

namespace Cert.Zoh

open Idealize.ShloMosaic Idealize.ShloMosaic.TcCoe Idealize.SL.Sem
open Cert.Kernel4Ideal Cert.Kernel4Ideal.Gen
open Cert.Reference4Ideal.Read

abbrev M := FVec Ideal S64x64 .f32
abbrev W := FVec Ideal S64x1024 .f32
abbrev T3 := FVec Ideal S64x64x16 .f32

/-- The last two dimensions as one. -/
def flat (y : T3) : W := shapeCast S64x1024 y shapeCasts_S64x64x16_S64x1024
/-- A vector as a column. -/
def col (l : FVec Ideal S64 .f32) : FVec Ideal S64x1 .f32 := shapeCast S64x1 l shapeCasts_S64_S64x1
/-- The state of each flat column. -/
def stateOf (j : Fin 1024) : Fin 64 := ⟨j.val / 16, by omega⟩
def chanOf (j : Fin 1024) : Fin 16 := ⟨j.val % 16, by omega⟩
/-- One where the flat column belongs to the state, zero elsewhere. -/
def spread : W := fun i => if (i 1).val / 16 = (i 0).val then 1 else 0

theorem ix2_eta {n k : Nat} (i : (⟨2, ![n, k]⟩ : Shape).Idx) : ∃ (r : Fin n) (q : Fin k), i = ix2 r q := ⟨i 0, i 1, funext fun a => by fin_cases a <;> rfl⟩

theorem flat_apply (y : T3) (g : Fin 64) (j : Fin 1024) : flat y (ix2 g j) = y (ix3 g (stateOf j) (chanOf j)) := by
  unfold flat
  rw [Pointwise.shapeCast_apply]
  refine congrArg y (Shape.reshapeEquiv_eq_of_vals _ _ _ _ _ (rowMajor_val3 _ 1024 16 rfl rfl) (rowMajor_val2 _ 1024 rfl) ?_)
  show g.val * 1024 + j.val / 16 * 16 + j.val % 16 = g.val * 1024 + j.val
  omega

theorem spread_apply (p : Fin 64) (j : Fin 1024) : spread (ix2 p j) = if stateOf j = p then 1 else 0 := by
  unfold spread stateOf
  exact if_congr (Fin.ext_iff (a := ⟨j.val / 16, _⟩)).symm rfl rfl

theorem neg_eq {s : Shape} (x : FVec Ideal s .f32) : subf (broadcast s (Scalar.ofBits .f32 0x00000000#32 : Ideal .f32)) x = Host.negf x := by
  funext i
  show (Ideal.ofBits .f32 0#32 : EReal) - x i = - x i
  rw [Ideal.ofBits_zero, zero_sub]

/-- The product with the matrix repeats each state's value along its channels. -/
theorem spread_mul (q : M) (y : T3) (hy : ∀ g p h, y (ix3 g p h) = q (ix2 g p)) :
    matmul dot_S64x64_S64x1024_S64x1024_1_0_0_1_n_n (some .fp32) q spread (constant S64x1024 .f32 0x00000000#32) = flat y := by
  funext i
  obtain ⟨g, j, rfl⟩ := ix2_eta (n := 64) (k := 1024) i
  rw [flat_apply, hy]
  refine (Ideal.matmul_plain_apply (some .fp32) q spread _ g j).trans ?_
  show (Ideal.ofBits .f32 0#32 : EReal) + ∑ k : Fin 64, q (ix2 g k) * spread (ix2 k j) = q (ix2 g (stateOf j))
  simp only [spread_apply, mul_ite, mul_one, mul_zero, Finset.sum_ite_eq, Finset.mem_univ, if_true]
  rw [Ideal.ofBits_zero, zero_add]

/-- The product with its transpose sums each state's channels. -/
theorem spread_mulT (y : T3) (s : M) (hs : ∀ g p, s (ix2 g p) = ∑ h : Fin 16, y (ix3 g p h)) :
    matmul dot_S64x1024_S64x1024_S64x64_1_1_0_0_n_n (some .fp32) (flat y) spread (constant S64x64 .f32 0x00000000#32) = s := by
  funext i
  obtain ⟨g, p, rfl⟩ := ix2_eta (n := 64) (k := 64) i
  rw [hs]
  refine (Ideal.matmul_transposedRhs_apply (some .fp32) (flat y) spread _ g p).trans ?_
  show (Ideal.ofBits .f32 0#32 : EReal) + ∑ k : Fin 1024, flat y (ix2 g k) * spread (ix2 p k) = _
  rw [Ideal.ofBits_zero, zero_add]
  rw [← Equiv.sum_comp (finProdFinEquiv (m := 64) (n := 16)) fun j : Fin 1024 => flat y (ix2 g j) * spread (ix2 p j), Fintype.sum_prod_type]
  rw [Finset.sum_eq_single p]
  · refine Finset.sum_congr rfl fun h _ => ?_
    rw [spread_apply, flat_apply]
    have e1 : stateOf (finProdFinEquiv (p, h)) = p := Fin.ext (by simp [stateOf, finProdFinEquiv]; omega)
    have e2 : chanOf (finProdFinEquiv (p, h)) = h := Fin.ext (by simp [chanOf, finProdFinEquiv])
    rw [e1, e2, if_pos rfl, mul_one]
  · intro p' _ hp
    refine Finset.sum_eq_zero fun h _ => ?_
    have e1 : stateOf (finProdFinEquiv (p', h)) = p' := Fin.ext (by simp [stateOf, finProdFinEquiv]; omega)
    rw [spread_apply, e1, if_neg hp, mul_zero]
  · exact fun h => absurd (Finset.mem_univ _) h

/-! ## The stages -/

section Stages

variable (a b : M) (l : FVec Ideal S64 .f32) (br bi : T3) (ga gb : M) (g7 g8 : T3)

theorem s1 : k0_pay4 (F := Ideal) (col l) = val_main_v1 (F := Ideal) l := by
  funext i
  obtain ⟨r, q, rfl⟩ := ix2_eta (n := 64) (k := 1) i
  unfold col
  pointwise [k0_pay4, val_main_v1, val_main_v0]

theorem s2 : broadcastTo S64x64 (k0_pay4 (F := Ideal) (col l)) broadcasts_S64x1_S64x64 = val_main_v2 (F := Ideal) l := by
  rw [s1]
  funext i
  obtain ⟨r, q, rfl⟩ := ix2_eta (n := 64) (k := 64) i
  unfold val_main_v2
  pointwise

theorem s4 : k0_pay5 (F := Ideal) a (col l) = val_main_v4 (F := Ideal) a l := by
  unfold k0_pay5; dsimp only; rw [s2]; rfl
theorem s6 : k0_pay6 (F := Ideal) b (col l) = val_main_v6 (F := Ideal) b l := by
  unfold k0_pay6; dsimp only; rw [s2]; rfl
theorem s7 : k0_pay7 (F := Ideal) b (col l) = val_main_v7 (F := Ideal) b l := by
  unfold k0_pay7; dsimp only; rw [s6]; rfl
theorem s8 : k0_pay8 (F := Ideal) b (col l) = val_main_v8 (F := Ideal) b l := by
  unfold k0_pay8; dsimp only; rw [s6]; rfl
theorem s11 : k0_pay9 (F := Ideal) b (col l) = val_main_v11 (F := Ideal) b l := s6 b l
theorem s12 : k0_pay10 (F := Ideal) b (col l) = val_main_v12 (F := Ideal) b l := by
  unfold k0_pay10; dsimp only; rw [s11]; rfl
theorem s13 : k0_pay11 (F := Ideal) b (col l) = val_main_v13 (F := Ideal) b l := by
  unfold k0_pay11; dsimp only; rw [s11]; rfl
theorem s14 : k0_pay12 (F := Ideal) a b (col l) = val_main_v14 (F := Ideal) a b l := by
  unfold k0_pay12; dsimp only; rw [s4, s12]; rfl
theorem s16 : k0_pay13 (F := Ideal) a b (col l) = val_main_v16 (F := Ideal) a b l := by
  unfold k0_pay13; dsimp only; rw [s4, s7]; rfl
theorem s19 : k0_pay14 (F := Ideal) a b = val_main_v19 (F := Ideal) a b := rfl
theorem s22 : k0_pay15 (F := Ideal) a b (col l) = val_main_v22 (F := Ideal) a b l := by
  unfold k0_pay15; dsimp only; rw [s16, s14]; rfl
theorem s26 : k0_pay16 (F := Ideal) a b = val_main_v26 (F := Ideal) a b := rfl
theorem s29 : k0_pay17 (F := Ideal) a b (col l) = val_main_v29 (F := Ideal) a b l := by
  unfold k0_pay17; dsimp only; rw [s16, s14]; rfl
theorem s30 : k0_pay18 (F := Ideal) a b (col l) = val_main_v30 (F := Ideal) a b l := by
  unfold k0_pay18; dsimp only; rw [s29]; rfl
theorem s33 : k0_pay19 (F := Ideal) a b = val_main_v33 (F := Ideal) a b := rfl

theorem s35 : k0_pay20 (F := Ideal) spread a b (col l) = flat (val_main_v35 (F := Ideal) a b l) := by
  unfold k0_pay20 k0_pay1; dsimp only; rw [s22, shapeCast_id]
  refine spread_mul _ _ fun g p h => ?_
  generalize hv : val_main_v23 (F := Ideal) a b l = v
  have e : divf (val_main_v22 (F := Ideal) a b l) (k0_pay14 (F := Ideal) a b) = v := hv
  rw [e]
  unfold val_main_v35 val_main_v34
  rw [hv]
  pointwise

theorem s38 : k0_pay21 (F := Ideal) spread (val_main_v30 (F := Ideal) a b l) = flat (val_main_v38 (F := Ideal) a b l) := by
  unfold k0_pay21; dsimp only
  refine spread_mul _ _ fun g p h => ?_
  unfold val_main_v38 val_main_v37
  generalize val_main_v30 (F := Ideal) a b l = v
  pointwise

theorem s66 : k0_pay25 (F := Ideal) spread (val_main_v30 (F := Ideal) a b l) (flat (val_main_v35 (F := Ideal) a b l)) (flat g7) (flat g8)
    = flat (val_main_v66 (F := Ideal) a b l g7 g8) := by
  unfold k0_pay25 k0_pay24 k0_pay23 k0_pay22; dsimp only
  rw [neg_eq, s38, shapeCast_id, shapeCast_id]
  unfold val_main_v66 val_main_v65 val_main_v57 val_main_v48
  rw [shapeCast_id]; rfl

theorem s74 : k0_pay26 (F := Ideal) spread (val_main_v30 (F := Ideal) a b l) (flat (val_main_v35 (F := Ideal) a b l)) (flat g7) (flat g8)
    = flat (val_main_v74 (F := Ideal) a b l g7 g8) := by
  unfold k0_pay26 k0_pay23 k0_pay22; dsimp only
  rw [s38, shapeCast_id, shapeCast_id]
  unfold val_main_v74 val_main_v73 val_main_v51 val_main_v49 val_main_v62
  rw [shapeCast_id, shapeCast_id]; rfl

theorem s71 : k0_pay27 (F := Ideal) spread (flat br) (flat bi) (flat g7) (flat g8) = val_main_v71 (F := Ideal) br bi g7 g8 := by
  unfold k0_pay27 k0_pay24 k0_pay23 k0_pay22; dsimp only
  rw [neg_eq, shapeCast_id, shapeCast_id]
  refine spread_mulT (addf (mulf g8 br) (mulf (Host.negf g7) bi)) _ fun g p => ?_
  pointwise [val_main_v71, val_main_v55, val_main_v54, val_main_v53, val_main_v52, val_main_v49, val_main_v70, val_main_v69, val_main_v68, val_main_v67, val_main_v63,
    val_main_cst_2, val_main_cst_3, val_main_cst_6, val_main_cst_7]
  simp only [Finset.sum_add_distrib, Fin.sum_univ_one]

theorem s79 : k0_pay28 (F := Ideal) spread (flat br) (flat bi) (flat g7) (flat g8) = val_main_v79 (F := Ideal) br bi g7 g8 := by
  unfold k0_pay28 k0_pay23 k0_pay22; dsimp only
  rw [shapeCast_id, shapeCast_id]
  refine spread_mulT (addf (mulf g8 bi) (mulf g7 br)) _ fun g p => ?_
  pointwise [val_main_v79, val_main_v61, val_main_v60, val_main_v59, val_main_v58, val_main_v48, val_main_v78, val_main_v77, val_main_v76, val_main_v75, val_main_v62,
    val_main_cst_4, val_main_cst_5, val_main_cst_8, val_main_cst_9]
  simp only [Finset.sum_add_distrib, Fin.sum_univ_one]

/-! The rest takes the stages above by name: `d` the denominator, `r` the real part less one, `i` the imaginary part. -/

theorem s83 : k0_pay29 (F := Ideal) spread (flat br) (flat bi) (val_main_v19 (F := Ideal) a b) (flat g7) (flat g8) = val_main_v83 (F := Ideal) a b br bi g7 g8 := by
  unfold k0_pay29; dsimp only; rw [s71]; rfl
theorem s84 : k0_pay30 (F := Ideal) spread (flat br) (flat bi) (val_main_v19 (F := Ideal) a b) (flat g7) (flat g8) = val_main_v84 (F := Ideal) a b br bi g7 g8 := by
  unfold k0_pay30; dsimp only; rw [s83, neg_eq]; rfl
theorem s87 : k0_pay31 (F := Ideal) spread b (flat br) (flat bi) (val_main_v19 (F := Ideal) a b) ga (flat g7) (flat g8) = val_main_v87 (F := Ideal) a b br bi ga g7 g8 := by
  unfold k0_pay31; dsimp only; rw [s84]; rfl
theorem s88 : k0_pay32 (F := Ideal) spread (flat br) (flat bi) (val_main_v14 (F := Ideal) a b l) (val_main_v19 (F := Ideal) a b) (flat g7) (flat g8)
    = val_main_v88 (F := Ideal) a b l br bi g7 g8 := by
  unfold k0_pay32; dsimp only; rw [s83]; rfl
theorem s90 : k0_pay33 (F := Ideal) spread a (flat br) (flat bi) (val_main_v19 (F := Ideal) a b) gb (flat g7) (flat g8) = val_main_v90 (F := Ideal) a b br bi gb g7 g8 := by
  unfold k0_pay33; dsimp only; rw [s83]; rfl
theorem s94 : k0_pay34 (F := Ideal) spread (flat br) (flat bi) (val_main_v22 (F := Ideal) a b l) (val_main_v26 (F := Ideal) a b) (val_main_v29 (F := Ideal) a b l)
      (val_main_v33 (F := Ideal) a b) (flat g7) (flat g8) = val_main_v94 (F := Ideal) a b l br bi g7 g8 := by
  unfold k0_pay34; dsimp only; rw [s71, s79, neg_eq, neg_eq]; rfl
theorem s95 : k0_pay35 (F := Ideal) spread (flat br) (flat bi) (val_main_v19 (F := Ideal) a b) (flat g7) (flat g8) = val_main_v95 (F := Ideal) a b br bi g7 g8 := by
  unfold k0_pay35; dsimp only; rw [s79]; rfl
theorem s97 : k0_pay36 (F := Ideal) spread (flat br) (flat bi) (val_main_v14 (F := Ideal) a b l) (val_main_v16 (F := Ideal) a b l) (val_main_v19 (F := Ideal) a b)
      (flat g7) (flat g8) = val_main_v97 (F := Ideal) a b l br bi g7 g8 := by
  unfold k0_pay36; dsimp only; rw [s84, s95]; rfl
theorem s98 : k0_pay37 (F := Ideal) spread b (flat br) (flat bi) (val_main_v19 (F := Ideal) a b) (flat g7) (flat g8) = val_main_v98 (F := Ideal) a b br bi g7 g8 := by
  unfold k0_pay37; dsimp only; rw [s95]; rfl
theorem s99 : k0_pay38 (F := Ideal) (val_main_v90 (F := Ideal) a b br bi gb g7 g8) (val_main_v98 (F := Ideal) a b br bi g7 g8)
    = val_main_v99 (F := Ideal) a b br bi gb g7 g8 := rfl
theorem s103 : k0_pay39 (F := Ideal) a (val_main_v87 (F := Ideal) a b br bi ga g7 g8) (val_main_v95 (F := Ideal) a b br bi g7 g8)
    = val_main_v103 (F := Ideal) a b br bi ga g7 g8 := rfl
theorem s114 : k0_pay40 (F := Ideal) (val_main_v4 (F := Ideal) a l) (val_main_v13 (F := Ideal) b l) (val_main_v90 (F := Ideal) a b br bi gb g7 g8)
      (val_main_v98 (F := Ideal) a b br bi g7 g8) = val_main_v114 (F := Ideal) a b l br bi gb g7 g8 := rfl
theorem s125 : k0_pay41 (F := Ideal) a (val_main_v4 (F := Ideal) a l) (val_main_v8 (F := Ideal) b l) (val_main_v87 (F := Ideal) a b br bi ga g7 g8)
      (val_main_v95 (F := Ideal) a b br bi g7 g8) = val_main_v125 (F := Ideal) a b l br bi ga g7 g8 := by
  unfold k0_pay41; dsimp only; rw [neg_eq]; rfl
theorem s132 : k0_pay42 (F := Ideal) a b (val_main_v1 (F := Ideal) l) (val_main_v4 (F := Ideal) a l) (val_main_v8 (F := Ideal) b l) (val_main_v13 (F := Ideal) b l)
      (val_main_v87 (F := Ideal) a b br bi ga g7 g8) (val_main_v90 (F := Ideal) a b br bi gb g7 g8) (val_main_v94 (F := Ideal) a b l br bi g7 g8)
      (val_main_v95 (F := Ideal) a b br bi g7 g8) (val_main_v97 (F := Ideal) a b l br bi g7 g8) (val_main_v98 (F := Ideal) a b br bi g7 g8)
    = val_main_v132 (F := Ideal) a b l br bi ga gb g7 g8 := by
  unfold k0_pay42; dsimp only; rw [s114, s125, ← s1, s2]; rfl
theorem s133 : k0_pay43 (F := Ideal) a (val_main_v4 (F := Ideal) a l) (val_main_v7 (F := Ideal) b l) (val_main_v12 (F := Ideal) b l)
      (val_main_v87 (F := Ideal) a b br bi ga g7 g8) (val_main_v90 (F := Ideal) a b br bi gb g7 g8) (val_main_v95 (F := Ideal) a b br bi g7 g8)
      (val_main_v98 (F := Ideal) a b br bi g7 g8) = val_main_v133 (F := Ideal) a b l br bi ga gb g7 g8 := rfl
theorem s140 : k0_pay44 (F := Ideal) a (val_main_v1 (F := Ideal) l) (val_main_v4 (F := Ideal) a l) (val_main_v7 (F := Ideal) b l) (val_main_v12 (F := Ideal) b l)
      (val_main_v16 (F := Ideal) a b l) (val_main_v87 (F := Ideal) a b br bi ga g7 g8) (val_main_v88 (F := Ideal) a b l br bi g7 g8)
      (val_main_v90 (F := Ideal) a b br bi gb g7 g8) (val_main_v94 (F := Ideal) a b l br bi g7 g8) (val_main_v95 (F := Ideal) a b br bi g7 g8)
      (val_main_v98 (F := Ideal) a b br bi g7 g8) = val_main_v140 (F := Ideal) a b l br bi ga gb g7 g8 := by
  unfold k0_pay44; dsimp only; rw [s133, ← s1, s2]; rfl

/-- A row's sum, as the kernel and as the reference take it. -/
theorem rowSum (x : M) (z : FVec Ideal S64 .f32) (hr : S64x64.ReducesTo [1] S64) (h0 : 0 < S_.numel) (hz : z = Host.reduceAdd x (constant (F := Ideal) S_ .f32 0x00000000#32) hr h0) :
    shapeCast S64x1 (multiReduction (F := Ideal) .add [1] S64 x 0x00000000#32 reduces_S64x64_S64 (.inl rfl) rfl) shapeCasts_S64_S64x1
      = shapeCast S64x1 z shapeCasts_S64_S64x1 := by
  subst hz
  refine congrArg (fun z => shapeCast S64x1 z shapeCasts_S64_S64x1) ?_
  funext i
  obtain ⟨r, rfl⟩ : ∃ r : Fin 64, i = ix1 r := ⟨i 0, funext fun a => by fin_cases a; rfl⟩
  pointwise

theorem s143 : k0_pay45 (F := Ideal) a b (val_main_v1 (F := Ideal) l) (val_main_v4 (F := Ideal) a l) (val_main_v7 (F := Ideal) b l) (val_main_v8 (F := Ideal) b l)
      (val_main_v12 (F := Ideal) b l) (val_main_v13 (F := Ideal) b l) (val_main_v87 (F := Ideal) a b br bi ga g7 g8)
      (val_main_v90 (F := Ideal) a b br bi gb g7 g8) (val_main_v95 (F := Ideal) a b br bi g7 g8) (val_main_v98 (F := Ideal) a b br bi g7 g8)
    = val_main_v143 (F := Ideal) a b l br bi ga gb g7 g8 := by
  have e : k0_pay45 (F := Ideal) a b (val_main_v1 (F := Ideal) l) (val_main_v4 (F := Ideal) a l) (val_main_v7 (F := Ideal) b l) (val_main_v8 (F := Ideal) b l)
      (val_main_v12 (F := Ideal) b l) (val_main_v13 (F := Ideal) b l) (val_main_v87 (F := Ideal) a b br bi ga g7 g8)
      (val_main_v90 (F := Ideal) a b br bi gb g7 g8) (val_main_v95 (F := Ideal) a b br bi g7 g8) (val_main_v98 (F := Ideal) a b br bi g7 g8)
      = mulf (val_main_v137 (F := Ideal) a b l br bi ga gb g7 g8) (val_main_v1 (F := Ideal) l) := by
    unfold k0_pay45; dsimp only
    rw [s114, s125, s133, rowSum (mulf b (val_main_v114 (F := Ideal) a b l br bi gb g7 g8)) (val_main_v116 (F := Ideal) a b l br bi gb g7 g8) (by decide) (by decide) rfl,
      rowSum (mulf b (val_main_v125 (F := Ideal) a b l br bi ga g7 g8)) (val_main_v127 (F := Ideal) a b l br bi ga g7 g8) (by decide) (by decide) rfl,
      rowSum (mulf a (val_main_v133 (F := Ideal) a b l br bi ga gb g7 g8)) (val_main_v135 (F := Ideal) a b l br bi ga gb g7 g8) (by decide) (by decide) rfl]
    rfl
  rw [e]
  unfold val_main_v143 val_main_v142 val_main_v141 val_main_v1
  generalize val_main_v137 (F := Ideal) a b l br bi ga gb g7 g8 = z
  generalize val_main_v0 (F := Ideal) l = y
  funext i
  obtain ⟨r, q, rfl⟩ := ix2_eta (n := 64) (k := 1) i
  obtain rfl : q = 0 := Subsingleton.elim _ _
  pointwise [val_main_cst_13]
  try simp only [Fin.sum_univ_one]

end Stages

end Cert.Zoh
-- ==== Proof.ZohArrays.lean ====
module

public import proofs.«01_k».proof.Proof.ZohStages
public import Idealize.ShloMosaic.Lib.WritesUnit
public import Idealize.ShloMosaic.Lib.Pipeline.ReadBack
public import Idealize.ShloMosaic.Lib.ValueLayout
public import Idealize.ShloMosaic.Lib.Pipeline.ValueKit.Geometry

@[expose] public section

noncomputable section

/-! # The discretisation's gradient: the arrays the kernel leaves -/

namespace Cert.Zoh

open Idealize.ShloMosaic Idealize.ShloMosaic.TcCoe Idealize.SL.Sem
open Idealize.ShloMosaic.Pipeline (Dat)
open Cert.Kernel4Ideal Cert.Kernel4Ideal.Gen
open Cert.Reference4Ideal.Read

/-! ## What the body leaves, over the blocks as the host lays them out -/

section Blocks

variable (a b : M) (l : FVec Ideal S64 .f32) (br bi : T3) (ga gb : M) (g7 g8 : T3)

theorem q1 (x : W) : k0_pay1 (F := Ideal) x = x := shapeCast_id _ _
theorem q2 (x : W) : k0_pay2 (F := Ideal) x = x := shapeCast_id _ _
theorem q3 (x : W) : k0_pay3 (F := Ideal) x = x := shapeCast_id _ _
theorem out10 : out0_10 (F := Ideal) a b (col l) (flat br) (flat bi) spread ga gb (flat g7) (flat g8) = val_main_v140 (F := Ideal) a b l br bi ga gb g7 g8 := by
  unfold_out out0_10
  simp only [View.ld_unit_zero (S := S64x64) Common.hz2, View.ld_unit_zero (S := S64x1) Common.hz2, View.ld_unit_zero (S := S64x1024) Common.hz2]
  rw [View.canon_unit_zero Common.hz2]
  simp only [q1, q2, q3, s1, s4, s7, s12, s14, s16, s19, s22, s26, s29, s33]
  rw [s87, s88, s90, s94, s95, s98, s140]
theorem out11 : out0_11 (F := Ideal) a b (col l) (flat br) (flat bi) spread ga gb (flat g7) (flat g8) = val_main_v132 (F := Ideal) a b l br bi ga gb g7 g8 := by
  unfold_out out0_11
  simp only [View.ld_unit_zero (S := S64x64) Common.hz2, View.ld_unit_zero (S := S64x1) Common.hz2, View.ld_unit_zero (S := S64x1024) Common.hz2]
  rw [View.canon_unit_zero Common.hz2]
  simp only [q1, q2, q3, s1, s4, s8, s13, s14, s16, s19, s22, s26, s29, s33]
  rw [s87, s90, s94, s95, s97, s98, s132]
theorem out12 : out0_12 (F := Ideal) a b (col l) (flat br) (flat bi) spread ga gb (flat g7) (flat g8) = val_main_v143 (F := Ideal) a b l br bi ga gb g7 g8 := by
  unfold_out out0_12
  simp only [View.ld_unit_zero (S := S64x64) Common.hz2, View.ld_unit_zero (S := S64x1) Common.hz2, View.ld_unit_zero (S := S64x1024) Common.hz2]
  rw [View.canon_unit_zero Common.hz2]
  simp only [q1, q2, q3, s1, s4, s7, s8, s12, s13, s19]
  rw [s87, s90, s95, s98, s143]
theorem out13 : out0_13 (F := Ideal) a b (col l) (flat br) (flat bi) spread ga gb (flat g7) (flat g8) = flat (val_main_v74 (F := Ideal) a b l g7 g8) := by
  unfold_out out0_13
  simp only [View.ld_unit_zero (S := S64x64) Common.hz2, View.ld_unit_zero (S := S64x1) Common.hz2, View.ld_unit_zero (S := S64x1024) Common.hz2]
  rw [View.canon_unit_zero Common.hz2]
  simp only [q1, s30, s35]
  rw [s74]
theorem out14 : out0_14 (F := Ideal) a b (col l) (flat br) (flat bi) spread ga gb (flat g7) (flat g8) = flat (val_main_v66 (F := Ideal) a b l g7 g8) := by
  unfold_out out0_14
  simp only [View.ld_unit_zero (S := S64x64) Common.hz2, View.ld_unit_zero (S := S64x1) Common.hz2, View.ld_unit_zero (S := S64x1024) Common.hz2]
  rw [View.canon_unit_zero Common.hz2]
  simp only [q1, s30, s35]
  rw [s66]
end Blocks

/-! ## The arrays the host prepares -/

variable (m : (ℓ : Loc nD τ sig) → Buf (Elt Ideal) ℓ) (c : Dev nD)
abbrev zA : M := m ((c : Thread nD τ).loc main_arg0)
abbrev zB : M := m ((c : Thread nD τ).loc main_arg1)
abbrev zL : FVec Ideal S64 .f32 := m ((c : Thread nD τ).loc main_arg2)
abbrev zBR : T3 := m ((c : Thread nD τ).loc main_arg3)
abbrev zBI : T3 := m ((c : Thread nD τ).loc main_arg4)
abbrev zGA : M := m ((c : Thread nD τ).loc main_arg5)
abbrev zGB : M := m ((c : Thread nD τ).loc main_arg6)
abbrev zG7 : T3 := m ((c : Thread nD τ).loc main_arg7)
abbrev zG8 : T3 := m ((c : Thread nD τ).loc main_arg8)
theorem V_main_v8 : V m c main_v8 = col (zL m c) := by
  unfold V
  after_results
  rfl
theorem V_main_v9 : V m c main_v9 = flat (zBR m c) := by
  unfold V
  after_results
  rfl
theorem V_main_v10 : V m c main_v10 = flat (zBI m c) := by
  unfold V
  after_results
  rfl

/-- One where the two indices agree, as the host writes it. -/
def eye : M := uitofp (F := Ideal) FTy.f32 (cmpi CmpIPredicate.eq
  (addi (iotaInDim S64x64 32 0) (broadcastInDim S64x64 ![] bcast_S_S64x64 (constantI S_ 32 0#32))) (iotaInDim S64x64 32 1))

theorem eye_apply (p s : Fin 64) : eye (ix2 p s) = if s = p then 1 else 0 := by
  show ((((BitVec.ofBool (BitVec.ofNat 32 p.val + 0#32 == BitVec.ofNat 32 s.val)).toNat : ℝ) : EReal)) = _
  have hp := p.isLt
  have hs := s.isLt
  rw [BitVec.add_zero]
  by_cases h : s = p
  · subst h
    simp
  · have h' : ¬ BitVec.ofNat 32 p.val = BitVec.ofNat 32 s.val := fun e => h (Fin.ext (by
      have := congrArg BitVec.toNat e
      simp only [BitVec.toNat_ofNat] at this
      omega))
    simp [h, h']

theorem spread_eq : flat (broadcastInDim S64x64x16 ![0, 1] bcast_S64x64_S64x64x16_0_1 eye) = spread := by
  funext i
  obtain ⟨p, j, rfl⟩ := ix2_eta (n := 64) (k := 1024) i
  rw [spread_apply, flat_apply]
  generalize he : eye = e
  pointwise
  rw [← he]
  exact eye_apply p (stateOf j)

theorem V_main_v7 : V m c main_v7 = spread := by
  rw [← spread_eq]
  unfold V
  after_results
  rfl
theorem V_main_v11 : V m c main_v11 = flat (zG7 m c) := by
  unfold V
  after_results
  rfl
theorem V_main_v12 : V m c main_v12 = flat (zG8 m c) := by
  unfold V
  after_results
  rfl

/-! ## Each window holds its whole array -/
theorem ix_0 : ∀ t : Fin grid0.N, win0_0.index t 0 = 0 ∧ win0_0.index t 1 = 0 := by decide +kernel
theorem ix_1 : ∀ t : Fin grid0.N, win0_1.index t 0 = 0 ∧ win0_1.index t 1 = 0 := by decide +kernel
theorem ix_2 : ∀ t : Fin grid0.N, win0_2.index t 0 = 0 ∧ win0_2.index t 1 = 0 := by decide +kernel
theorem ix_3 : ∀ t : Fin grid0.N, win0_3.index t 0 = 0 ∧ win0_3.index t 1 = 0 := by decide +kernel
theorem ix_4 : ∀ t : Fin grid0.N, win0_4.index t 0 = 0 ∧ win0_4.index t 1 = 0 := by decide +kernel
theorem ix_5 : ∀ t : Fin grid0.N, win0_5.index t 0 = 0 ∧ win0_5.index t 1 = 0 := by decide +kernel
theorem ix_6 : ∀ t : Fin grid0.N, win0_6.index t 0 = 0 ∧ win0_6.index t 1 = 0 := by decide +kernel
theorem ix_7 : ∀ t : Fin grid0.N, win0_7.index t 0 = 0 ∧ win0_7.index t 1 = 0 := by decide +kernel
theorem ix_8 : ∀ t : Fin grid0.N, win0_8.index t 0 = 0 ∧ win0_8.index t 1 = 0 := by decide +kernel
theorem ix_9 : ∀ t : Fin grid0.N, win0_9.index t 0 = 0 ∧ win0_9.index t 1 = 0 := by decide +kernel
theorem ix_10 : ∀ t : Fin grid0.N, win0_10.index t 0 = 0 ∧ win0_10.index t 1 = 0 := by decide +kernel
theorem ix_11 : ∀ t : Fin grid0.N, win0_11.index t 0 = 0 ∧ win0_11.index t 1 = 0 := by decide +kernel
theorem ix_12 : ∀ t : Fin grid0.N, win0_12.index t 0 = 0 ∧ win0_12.index t 1 = 0 := by decide +kernel
theorem ix_13 : ∀ t : Fin grid0.N, win0_13.index t 0 = 0 ∧ win0_13.index t 1 = 0 := by decide +kernel
theorem ix_14 : ∀ t : Fin grid0.N, win0_14.index t 0 = 0 ∧ win0_14.index t 1 = 0 := by decide +kernel

theorem iblk_0 (t : Fin cfg0.N) : (iblk m c 0 t : Vec Ideal S64x64 .f32) = zA m c := by
  refine Eq.trans ?_ (V_main_arg0 m c)
  funext y
  obtain ⟨r, q, rfl⟩ := ix2_eta (n := 64) (k := 64) y
  unfold iblk
  rw [View.read_apply]
  show V m c main_arg0 _ = _
  congr 1
  blk_ext [ix_0]

theorem iblk_1 (t : Fin cfg0.N) : (iblk m c 1 t : Vec Ideal S64x64 .f32) = zB m c := by
  refine Eq.trans ?_ (V_main_arg1 m c)
  funext y
  obtain ⟨r, q, rfl⟩ := ix2_eta (n := 64) (k := 64) y
  unfold iblk
  rw [View.read_apply]
  show V m c main_arg1 _ = _
  congr 1
  blk_ext [ix_1]

theorem iblk_2 (t : Fin cfg0.N) : (iblk m c 2 t : Vec Ideal S64x1 .f32) = col (zL m c) := by
  refine Eq.trans ?_ (V_main_v8 m c)
  funext y
  obtain ⟨r, q, rfl⟩ := ix2_eta (n := 64) (k := 1) y
  unfold iblk
  rw [View.read_apply]
  show V m c main_v8 _ = _
  congr 1
  blk_ext [ix_2]

theorem iblk_3 (t : Fin cfg0.N) : (iblk m c 3 t : Vec Ideal S64x1024 .f32) = flat (zBR m c) := by
  refine Eq.trans ?_ (V_main_v9 m c)
  funext y
  obtain ⟨r, q, rfl⟩ := ix2_eta (n := 64) (k := 1024) y
  unfold iblk
  rw [View.read_apply]
  show V m c main_v9 _ = _
  congr 1
  blk_ext [ix_3]

theorem iblk_4 (t : Fin cfg0.N) : (iblk m c 4 t : Vec Ideal S64x1024 .f32) = flat (zBI m c) := by
  refine Eq.trans ?_ (V_main_v10 m c)
  funext y
  obtain ⟨r, q, rfl⟩ := ix2_eta (n := 64) (k := 1024) y
  unfold iblk
  rw [View.read_apply]
  show V m c main_v10 _ = _
  congr 1
  blk_ext [ix_4]

theorem iblk_5 (t : Fin cfg0.N) : (iblk m c 5 t : Vec Ideal S64x1024 .f32) = spread := by
  refine Eq.trans ?_ (V_main_v7 m c)
  funext y
  obtain ⟨r, q, rfl⟩ := ix2_eta (n := 64) (k := 1024) y
  unfold iblk
  rw [View.read_apply]
  show V m c main_v7 _ = _
  congr 1
  blk_ext [ix_5]

theorem iblk_6 (t : Fin cfg0.N) : (iblk m c 6 t : Vec Ideal S64x64 .f32) = zGA m c := by
  refine Eq.trans ?_ (V_main_arg5 m c)
  funext y
  obtain ⟨r, q, rfl⟩ := ix2_eta (n := 64) (k := 64) y
  unfold iblk
  rw [View.read_apply]
  show V m c main_arg5 _ = _
  congr 1
  blk_ext [ix_6]

theorem iblk_7 (t : Fin cfg0.N) : (iblk m c 7 t : Vec Ideal S64x64 .f32) = zGB m c := by
  refine Eq.trans ?_ (V_main_arg6 m c)
  funext y
  obtain ⟨r, q, rfl⟩ := ix2_eta (n := 64) (k := 64) y
  unfold iblk
  rw [View.read_apply]
  show V m c main_arg6 _ = _
  congr 1
  blk_ext [ix_7]

theorem iblk_8 (t : Fin cfg0.N) : (iblk m c 8 t : Vec Ideal S64x1024 .f32) = flat (zG7 m c) := by
  refine Eq.trans ?_ (V_main_v11 m c)
  funext y
  obtain ⟨r, q, rfl⟩ := ix2_eta (n := 64) (k := 1024) y
  unfold iblk
  rw [View.read_apply]
  show V m c main_v11 _ = _
  congr 1
  blk_ext [ix_8]

theorem iblk_9 (t : Fin cfg0.N) : (iblk m c 9 t : Vec Ideal S64x1024 .f32) = flat (zG8 m c) := by
  refine Eq.trans ?_ (V_main_v12 m c)
  funext y
  obtain ⟨r, q, rfl⟩ := ix2_eta (n := 64) (k := 1024) y
  unfold iblk
  rw [View.read_apply]
  show V m c main_v12 _ = _
  congr 1
  blk_ext [ix_9]

/-! ## The results -/

def res10 : FVec Ideal S64x64 .f32 := val_main_v140 (F := Ideal) (zA m c) (zB m c) (zL m c) (zBR m c) (zBI m c) (zGA m c) (zGB m c) (zG7 m c) (zG8 m c)

theorem ref10 : val_main_v140 (F := Ideal) (zA m c) (zB m c) (zL m c) (zBR m c) (zBI m c) (zGA m c) (zGB m c) (zG7 m c) (zG8 m c) = res10 m c := rfl

theorem final10 : (dats m 0 c).arrAt 10 cfg0.N = res10 m c := by
  refine (dats m 0 c).arrAt_eq_of_covers 10 _ (by decide +kernel) fun t hf y => ?_
  blk_simp
  rw [after0_10, iblk_0, iblk_1, iblk_2, iblk_3, iblk_4, iblk_5, iblk_6, iblk_7, iblk_8, iblk_9, out10, ← res10]
  obtain ⟨r, q, rfl⟩ := ix2_eta (n := 64) (k := 64) y
  have e0 : (win0_10.blk t).view.emb (ix2 r q) = ix2 r q := by
    blk_ext [ix_10]
  rw [e0]

def res11 : FVec Ideal S64x64 .f32 := val_main_v132 (F := Ideal) (zA m c) (zB m c) (zL m c) (zBR m c) (zBI m c) (zGA m c) (zGB m c) (zG7 m c) (zG8 m c)

theorem ref11 : val_main_v132 (F := Ideal) (zA m c) (zB m c) (zL m c) (zBR m c) (zBI m c) (zGA m c) (zGB m c) (zG7 m c) (zG8 m c) = res11 m c := rfl

theorem final11 : (dats m 0 c).arrAt 11 cfg0.N = res11 m c := by
  refine (dats m 0 c).arrAt_eq_of_covers 11 _ (by decide +kernel) fun t hf y => ?_
  blk_simp
  rw [after0_11, iblk_0, iblk_1, iblk_2, iblk_3, iblk_4, iblk_5, iblk_6, iblk_7, iblk_8, iblk_9, out11, ← res11]
  obtain ⟨r, q, rfl⟩ := ix2_eta (n := 64) (k := 64) y
  have e0 : (win0_11.blk t).view.emb (ix2 r q) = ix2 r q := by
    blk_ext [ix_11]
  rw [e0]

def res12 : FVec Ideal S64x1 .f32 := val_main_v143 (F := Ideal) (zA m c) (zB m c) (zL m c) (zBR m c) (zBI m c) (zGA m c) (zGB m c) (zG7 m c) (zG8 m c)

theorem ref12 : val_main_v143 (F := Ideal) (zA m c) (zB m c) (zL m c) (zBR m c) (zBI m c) (zGA m c) (zGB m c) (zG7 m c) (zG8 m c) = res12 m c := rfl

theorem final12 : (dats m 0 c).arrAt 12 cfg0.N = res12 m c := by
  refine (dats m 0 c).arrAt_eq_of_covers 12 _ (by decide +kernel) fun t hf y => ?_
  blk_simp
  rw [after0_12, iblk_0, iblk_1, iblk_2, iblk_3, iblk_4, iblk_5, iblk_6, iblk_7, iblk_8, iblk_9, out12, ← res12]
  obtain ⟨r, q, rfl⟩ := ix2_eta (n := 64) (k := 1) y
  have e0 : (win0_12.blk t).view.emb (ix2 r q) = ix2 r q := by
    blk_ext [ix_12]
  rw [e0]

def res13 : FVec Ideal S64x1024 .f32 := flat (val_main_v74 (F := Ideal) (zA m c) (zB m c) (zL m c) (zG7 m c) (zG8 m c))

theorem ref13 : val_main_v144 (F := Ideal) (zA m c) (zB m c) (zL m c) (zG7 m c) (zG8 m c) = res13 m c := rfl

theorem final13 : (dats m 0 c).arrAt 13 cfg0.N = res13 m c := by
  refine (dats m 0 c).arrAt_eq_of_covers 13 _ (by decide +kernel) fun t hf y => ?_
  blk_simp
  rw [after0_13, iblk_0, iblk_1, iblk_2, iblk_3, iblk_4, iblk_5, iblk_6, iblk_7, iblk_8, iblk_9, out13, ← res13]
  obtain ⟨r, q, rfl⟩ := ix2_eta (n := 64) (k := 1024) y
  have e0 : (win0_13.blk t).view.emb (ix2 r q) = ix2 r q := by
    blk_ext [ix_13]
  rw [e0]

def res14 : FVec Ideal S64x1024 .f32 := flat (val_main_v66 (F := Ideal) (zA m c) (zB m c) (zL m c) (zG7 m c) (zG8 m c))

theorem ref14 : val_main_v145 (F := Ideal) (zA m c) (zB m c) (zL m c) (zG7 m c) (zG8 m c) = res14 m c := rfl

theorem final14 : (dats m 0 c).arrAt 14 cfg0.N = res14 m c := by
  refine (dats m 0 c).arrAt_eq_of_covers 14 _ (by decide +kernel) fun t hf y => ?_
  blk_simp
  rw [after0_14, iblk_0, iblk_1, iblk_2, iblk_3, iblk_4, iblk_5, iblk_6, iblk_7, iblk_8, iblk_9, out14, ← res14]
  obtain ⟨r, q, rfl⟩ := ix2_eta (n := 64) (k := 1024) y
  have e0 : (win0_14.blk t).view.emb (ix2 r q) = ix2 r q := by
    blk_ext [ix_14]
  rw [e0]

end Cert.Zoh
-- ==== Proof.Prenorm.lean ====
module

public import proofs.«01_k».proof.Proof.Common
public import proofs.«01_k».proof.Proof.Gen.Kernel5Ideal.Frame
public import proofs.«01_k».proof.Proof.Gen.Reference5Ideal.Read
public import Idealize.ShloMosaic.Lib.Pointwise
public import Idealize.ShloMosaic.Lib.WritesUnit
public import Idealize.ShloMosaic.Lib.Pipeline.ReadBack
public import Idealize.ShloMosaic.Lib.ValueLayout
public import Idealize.ShloMosaic.Lib.Pipeline.ValueKit.Geometry

@[expose] public section

noncomputable section

/-! # The pre-norm -/

namespace Cert.Prenorm

open Idealize.ShloMosaic Idealize.ShloMosaic.TcCoe Idealize.SL.Sem
open Idealize.ShloMosaic.Pipeline (Dat)
open Cert.Kernel5Ideal Cert.Kernel5Ideal.Gen Cert.Common
open Cert.Reference5Ideal.Read

/-- One row normalised, times the gain. -/
def normRow (X G : Fin 2048 → EReal) (q : Fin 2048) : EReal := X q * rr X * G q

theorem pay_apply (x : Vec Ideal S512x2048 .f32) (g : Vec Ideal S1x2048 .f32) (r : Fin 512) (q : Fin 2048) :
    k0_pay1 (F := Ideal) x g (ix2 r q) = normRow (fun k => x (ix2 r k)) (fun k => g (ix2 0 k)) q := by
  pointwise [k0_pay1]
  rfl

theorem out2 (x : Vec Ideal S512x2048 .f32) (g : Vec Ideal S1x2048 .f32) : out0_2 (F := Ideal) x g = k0_pay1 x g := by
  unfold out0_2
  rw [View.ld_unit_zero (S := S512x2048) hz2, View.ld_unit_zero (S := S1x2048) hz2, View.canon_unit_zero hz2]

variable (m : (ℓ : Loc nD τ sig) → Buf (Elt Ideal) ℓ) (c : Dev nD)

abbrev aX (R : Fin 4096) (q : Fin 2048) : EReal := m ((c : Thread nD τ).loc main_arg0) (ix2 R q)
abbrev aG (q : Fin 2048) : EReal := m ((c : Thread nD τ).loc main_arg1) (ix1 q)

theorem V_gain (q : Fin 2048) : V m c main_v0 (ix2 0 q) = aG m c q := by
  unfold V
  after_results
  pointwise

theorem ix_0 : ∀ t : Fin grid0.N, win0_0.index t 0 = t.val ∧ win0_0.index t 1 = 0 := by decide +kernel
theorem ix_1 : ∀ t : Fin grid0.N, win0_1.index t 0 = 0 ∧ win0_1.index t 1 = 0 := by decide +kernel
theorem ix_2 : ∀ t : Fin grid0.N, win0_2.index t 0 = t.val ∧ win0_2.index t 1 = 0 := by decide +kernel

/-- Row `r` of block `t` of the arrays taken 512 rows at a time. -/
abbrev rowOf (t : Fin grid0.N) (r : Fin 512) : Fin 4096 := ⟨512 * t.val + r.val, by have := t.isLt; have := N_0; omega⟩

theorem iblk_0 (t : Fin cfg0.N) (r : Fin 512) (q : Fin 2048) : (iblk m c 0 t : Vec Ideal S512x2048 .f32) (ix2 r q) = aX m c (rowOf t r) q := by
  refine Eq.trans ?_ (congrFun (V_main_arg0 m c) (ix2 (rowOf t r) q))
  unfold iblk
  rw [View.read_apply]
  show V m c main_arg0 _ = _
  congr 1
  funext a
  apply Fin.ext
  fin_cases a
  · show win0_0.index t 0 * 512 + 1 * r.val = 512 * t.val + r.val
    rw [(ix_0 t).1]; omega
  · show win0_0.index t 1 * 2048 + 1 * q.val = q.val
    rw [(ix_0 t).2]; omega

theorem iblk_1 (t : Fin cfg0.N) (q : Fin 2048) : (iblk m c 1 t : Vec Ideal S1x2048 .f32) (ix2 0 q) = aG m c q := by
  rw [← V_gain m c]
  unfold iblk
  rw [View.read_apply]
  show V m c main_v0 _ = _
  congr 1
  funext a
  apply Fin.ext
  fin_cases a
  · show win0_1.index t 0 * 1 + 1 * 0 = 0
    rw [(ix_1 t).1]
  · show win0_1.index t 1 * 2048 + 1 * q.val = q.val
    rw [(ix_1 t).2]; omega

/-- The normalised array. -/
def res : FVec Ideal S4096x2048 .bf16 := fun i => normRow (aX m c (i 0)) (aG m c) (i 1)

theorem final2 : (dats m 0 c).arrAt 2 cfg0.N = res m c := by
  refine (dats m 0 c).arrAt_eq_of_covers 2 _ (by decide +kernel) fun t hf y => ?_
  blk_simp
  rw [after0_2, out2]
  obtain ⟨r, q, rfl⟩ : ∃ (r : Fin 512) (q : Fin 2048), y = ix2 r q := ⟨y 0, y 1, funext fun a => by fin_cases a <;> rfl⟩
  rw [pay_apply]
  have e0 : (win0_2.blk t).view.emb (ix2 r q) = ix2 (rowOf t r) q := by
    blk_ext [ix_2]
  rw [e0]
  show normRow _ _ q = normRow (aX m c (rowOf t r)) (aG m c) q
  congr 1
  · funext k
    exact iblk_0 m c t r k
  · funext k
    exact iblk_1 m c t k

theorem ref (x : FVec Ideal S4096x2048 .f32) (g : FVec Ideal S2048 .f32) (i : S4096x2048.Idx) :
    val_main_v13 (F := Ideal) x g i = normRow (fun k => x (ix2 (i 0) k)) (fun k => g (ix1 k)) (i 1) := by
  obtain ⟨r, q, rfl⟩ : ∃ (r : Fin 4096) (q : Fin 2048), i = ix2 r q := ⟨i 0, i 1, funext fun a => by fin_cases a <;> rfl⟩
  pointwise [val_main_v13, val_main_v12, val_main_v11, val_main_v10, val_main_v9, val_main_v8, val_main_v7, val_main_v6, val_main_v5, val_main_v4, val_main_v3, val_main_v2,
    val_main_v1, val_main_v0, val_main_cst, val_main_cst_0, val_main_cst_1]
  rfl

theorem ref_res : val_main_v13 (F := Ideal) (m ((c : Thread nD τ).loc main_arg0)) (m ((c : Thread nD τ).loc main_arg1)) = res m c := funext fun i => ref _ _ i

end Cert.Prenorm
-- ==== Proof.ZohForward.lean ====
module

public import proofs.«01_k».proof.Proof.ZohArrays
public import proofs.«01_k».proof.Proof.Gen.Kernel6Ideal.Frame
public import proofs.«01_k».proof.Proof.Gen.Reference6Ideal.Read

@[expose] public section

noncomputable section

/-! # The discretisation -/

namespace Cert.ZohFwd

open Idealize.ShloMosaic Idealize.ShloMosaic.TcCoe Idealize.SL.Sem
open Idealize.ShloMosaic.Pipeline (Dat)
open Cert.Kernel6Ideal Cert.Kernel6Ideal.Gen
open Cert.Reference6Ideal.Read
open Cert.Zoh (M W T3 flat col spread ix2_eta spread_mul eye spread_eq)

/-! ## Each value the kernel computes is a stage of the reference -/

section Stages

variable (a b : M) (l : FVec Ideal S64 .f32) (br bi : T3)

theorem q5 (x : FVec Ideal S64x1 .f32) : k0_pay5 (F := Ideal) x = x := shapeCast_id _ _
theorem q6 (x : W) : k0_pay6 (F := Ideal) x = x := shapeCast_id _ _
theorem q7 (x : W) : k0_pay7 (F := Ideal) x = x := shapeCast_id _ _
theorem q8 (x : W) : k0_pay8 (F := Ideal) x = x := shapeCast_id _ _

theorem s1 : k0_pay9 (F := Ideal) (col l) = val_main_v1 (F := Ideal) l := by
  unfold k0_pay9; dsimp only; rw [q5]
  funext i
  obtain ⟨r, q, rfl⟩ := ix2_eta (n := 64) (k := 1) i
  unfold col
  pointwise [val_main_v1, val_main_v0]

theorem s2 : broadcastTo S64x64 (k0_pay9 (F := Ideal) (col l)) broadcasts_S64x1_S64x64 = val_main_v2 (F := Ideal) l := by
  rw [s1]
  funext i
  obtain ⟨r, q, rfl⟩ := ix2_eta (n := 64) (k := 64) i
  unfold val_main_v2
  pointwise

theorem s4 : k0_pay10 (F := Ideal) a (col l) = val_main_v4 (F := Ideal) a l := by
  unfold k0_pay10; dsimp only; rw [s2]; rfl
theorem s8 : k0_pay11 (F := Ideal) a b (col l) = val_main_v8 (F := Ideal) a b l := by
  unfold k0_pay11; dsimp only; rw [s2, s4]; rfl
theorem s12 : k0_pay12 (F := Ideal) a b (col l) = val_main_v12 (F := Ideal) a b l := by
  unfold k0_pay12; dsimp only; rw [s2, s4]; rfl
theorem s14 : k0_pay13 (F := Ideal) a b (col l) = val_main_v14 (F := Ideal) a b l := by
  unfold k0_pay13; dsimp only; rw [s8]; rfl

theorem s27 : k0_pay15 (F := Ideal) a b (col l) spread = flat (val_main_v27 (F := Ideal) a b l) := by
  unfold k0_pay15; dsimp only; rw [s14, s12, q8]
  refine spread_mul _ _ fun g p h => ?_
  generalize hv : val_main_v21 (F := Ideal) a b l = v
  have e : divf (addf (mulf (val_main_v14 (F := Ideal) a b l) a) (mulf (val_main_v12 (F := Ideal) a b l) b)) (k0_pay14 (F := Ideal) a b) = v := hv
  rw [e]
  unfold val_main_v27 val_main_v26
  rw [hv]
  pointwise

theorem s30 : k0_pay16 (F := Ideal) a b (col l) spread = flat (val_main_v30 (F := Ideal) a b l) := by
  unfold k0_pay16; dsimp only; rw [s14, s12, q8]
  refine spread_mul _ _ fun g p h => ?_
  generalize hv : val_main_v25 (F := Ideal) a b l = v
  have e : divf (subf (mulf (val_main_v12 (F := Ideal) a b l) a) (mulf (val_main_v14 (F := Ideal) a b l) b)) (k0_pay14 (F := Ideal) a b) = v := hv
  rw [e]
  unfold val_main_v30 val_main_v29
  rw [hv]
  pointwise

theorem s58 : k0_pay17 (F := Ideal) a b (col l) (flat br) (flat bi) spread = val_main_v58 (F := Ideal) a b l br bi := by
  unfold k0_pay17; dsimp only; rw [s27, s30, q6, q7]; rfl
theorem s59 : k0_pay18 (F := Ideal) a b (col l) (flat br) (flat bi) spread = val_main_v59 (F := Ideal) a b l br bi := by
  unfold k0_pay18; dsimp only; rw [s27, s30, q6, q7]; rfl

/-- Thirty-two steps' length, from either side of the product. -/
theorem s43 : k0_pay1 (F := Ideal) (col l) = val_main_v43 (F := Ideal) l := by
  funext i
  obtain ⟨r, q, rfl⟩ := ix2_eta (n := 64) (k := 1) i
  unfold col
  pointwise [k0_pay1, val_main_v43, val_main_v42, val_main_v41, val_main_v40, val_main_cst_0]
  exact mul_comm _ _

theorem s44 : broadcastTo S64x64 (k0_pay1 (F := Ideal) (col l)) broadcasts_S64x1_S64x64 = val_main_v44 (F := Ideal) l := by
  rw [s43]
  funext i
  obtain ⟨r, q, rfl⟩ := ix2_eta (n := 64) (k := 64) i
  unfold val_main_v44
  pointwise

theorem s46 : k0_pay2 (F := Ideal) a (col l) = val_main_v46 (F := Ideal) a l := by
  unfold k0_pay2; dsimp only; rw [s44]; rfl
theorem s50 : k0_pay3 (F := Ideal) a b (col l) = shapeCast S1x64x64 (val_main_v50 (F := Ideal) a b l) shapeCasts_S64x64_S1x64x64 := by
  unfold k0_pay3; dsimp only; rw [s44, s46]; rfl
theorem s54 : k0_pay4 (F := Ideal) a b (col l) = shapeCast S1x64x64 (val_main_v54 (F := Ideal) a b l) shapeCasts_S64x64_S1x64x64 := by
  unfold k0_pay4; dsimp only; rw [s44, s46]; rfl

/-- The two planes of the long step. -/
theorem planes (y z : M) (x : S2x64x64.Idx) (v : FVec Ideal S2x64x64 .f32)
    (hv : v = concatenate S2x64x64 0 [⟨S1x64x64, broadcastInDim S1x64x64 ![1, 2] Cert.Reference6Ideal.Gen.bcast_S64x64_S1x64x64_1_2 y⟩,
      ⟨S1x64x64, broadcastInDim S1x64x64 ![1, 2] Cert.Reference6Ideal.Gen.bcast_S64x64_S1x64x64_1_2 z⟩]
      Cert.Reference6Ideal.Gen.concatenates_S1x64x64_S1x64x64_S2x64x64_d0) :
    (View.canon (Val := Elt Ideal) (e := .f32) [⟨r0_4, shapeCast S1x64x64 z shapeCasts_S64x64_S1x64x64⟩, ⟨r0_3, shapeCast S1x64x64 y shapeCasts_S64x64_S1x64x64⟩] : FVec Ideal S2x64x64 .f32) x = v x := by
  refine View.canon_apply_of_pieces (Val := Elt Ideal) (e := .f32) v _ ?_ x (cover0_10 _ _ x)
  intro p hp u
  rcases List.mem_cons.mp hp with rfl | hp
  · obtain ⟨r, q, rfl⟩ : ∃ (r : Fin 64) (q : Fin 64), u = ix3 0 r q := ⟨u 1, u 2, funext fun a => by fin_cases a <;> first | rfl | exact Subsingleton.elim (α := Fin 1) _ _⟩
    have e : r0_4.emb (ix3 0 r q) = ix3 1 r q := by
      funext a; apply Fin.ext; fin_cases a
      · rfl
      · show 0 + 1 * r.val = r.val; omega
      · show 0 + 1 * q.val = q.val; omega
    show shapeCast S1x64x64 z _ (ix3 0 r q) = v (r0_4.emb (ix3 0 r q))
    rw [e, hv]
    pointwise
  · obtain rfl := List.mem_singleton.mp hp
    obtain ⟨r, q, rfl⟩ : ∃ (r : Fin 64) (q : Fin 64), u = ix3 0 r q := ⟨u 1, u 2, funext fun a => by fin_cases a <;> first | rfl | exact Subsingleton.elim (α := Fin 1) _ _⟩
    have e : r0_3.emb (ix3 0 r q) = ix3 0 r q := by
      funext a; apply Fin.ext; fin_cases a
      · rfl
      · show 0 + 1 * r.val = r.val; omega
      · show 0 + 1 * q.val = q.val; omega
    show shapeCast S1x64x64 y _ (ix3 0 r q) = v (r0_3.emb (ix3 0 r q))
    rw [e, hv]
    pointwise
theorem out6 : out0_6 (F := Ideal) a b (col l) (flat br) (flat bi) spread = val_main_v8 (F := Ideal) a b l := by
  unfold_out out0_6
  simp only [View.ld_unit_zero (S := S64x64) Common.hz2, View.ld_unit_zero (S := S64x1) Common.hz2, View.ld_unit_zero (S := S64x1024) Common.hz2]
  rw [View.canon_unit_zero Common.hz2, s8]
theorem out7 : out0_7 (F := Ideal) a b (col l) (flat br) (flat bi) spread = val_main_v12 (F := Ideal) a b l := by
  unfold_out out0_7
  simp only [View.ld_unit_zero (S := S64x64) Common.hz2, View.ld_unit_zero (S := S64x1) Common.hz2, View.ld_unit_zero (S := S64x1024) Common.hz2]
  rw [View.canon_unit_zero Common.hz2, s12]
theorem out8 : out0_8 (F := Ideal) a b (col l) (flat br) (flat bi) spread = val_main_v58 (F := Ideal) a b l br bi := by
  unfold_out out0_8
  simp only [View.ld_unit_zero (S := S64x64) Common.hz2, View.ld_unit_zero (S := S64x1) Common.hz2, View.ld_unit_zero (S := S64x1024) Common.hz2]
  rw [View.canon_unit_zero Common.hz2, s58]
theorem out9 : out0_9 (F := Ideal) a b (col l) (flat br) (flat bi) spread = val_main_v59 (F := Ideal) a b l br bi := by
  unfold_out out0_9
  simp only [View.ld_unit_zero (S := S64x64) Common.hz2, View.ld_unit_zero (S := S64x1) Common.hz2, View.ld_unit_zero (S := S64x1024) Common.hz2]
  rw [View.canon_unit_zero Common.hz2, s59]
theorem out10 : out0_10 (F := Ideal) a b (col l) (flat br) (flat bi) spread = val_main_v57 (F := Ideal) a b l := by
  unfold_out out0_10
  simp only [View.ld_unit_zero (S := S64x64) Common.hz2, View.ld_unit_zero (S := S64x1) Common.hz2]
  rw [q5, s50, s54]
  funext x
  exact planes _ _ x _ rfl

end Stages

/-! ## The arrays the host prepares -/

variable (m : (ℓ : Loc nD τ sig) → Buf (Elt Ideal) ℓ) (c : Dev nD)

abbrev zA : M := m ((c : Thread nD τ).loc main_arg0)
abbrev zB : M := m ((c : Thread nD τ).loc main_arg1)
abbrev zL : FVec Ideal S64 .f32 := m ((c : Thread nD τ).loc main_arg2)
abbrev zBR : T3 := m ((c : Thread nD τ).loc main_arg3)
abbrev zBI : T3 := m ((c : Thread nD τ).loc main_arg4)

theorem V_main_v8 : V m c main_v8 = col (zL m c) := by
  unfold V
  after_results
  rfl
theorem V_main_v9 : V m c main_v9 = flat (zBR m c) := by
  unfold V
  after_results
  rfl
theorem V_main_v10 : V m c main_v10 = flat (zBI m c) := by
  unfold V
  after_results
  rfl
theorem V_main_v7 : V m c main_v7 = spread := by
  rw [← spread_eq]
  unfold V
  after_results
  rfl

/-! ## Each window holds its whole array -/
theorem ix_0 : ∀ t : Fin grid0.N, win0_0.index t 0 = 0 ∧ win0_0.index t 1 = 0 := by decide +kernel
theorem ix_1 : ∀ t : Fin grid0.N, win0_1.index t 0 = 0 ∧ win0_1.index t 1 = 0 := by decide +kernel
theorem ix_2 : ∀ t : Fin grid0.N, win0_2.index t 0 = 0 ∧ win0_2.index t 1 = 0 := by decide +kernel
theorem ix_3 : ∀ t : Fin grid0.N, win0_3.index t 0 = 0 ∧ win0_3.index t 1 = 0 := by decide +kernel
theorem ix_4 : ∀ t : Fin grid0.N, win0_4.index t 0 = 0 ∧ win0_4.index t 1 = 0 := by decide +kernel
theorem ix_5 : ∀ t : Fin grid0.N, win0_5.index t 0 = 0 ∧ win0_5.index t 1 = 0 := by decide +kernel
theorem ix_6 : ∀ t : Fin grid0.N, win0_6.index t 0 = 0 ∧ win0_6.index t 1 = 0 := by decide +kernel
theorem ix_7 : ∀ t : Fin grid0.N, win0_7.index t 0 = 0 ∧ win0_7.index t 1 = 0 := by decide +kernel
theorem ix_8 : ∀ t : Fin grid0.N, win0_8.index t 0 = 0 ∧ win0_8.index t 1 = 0 := by decide +kernel
theorem ix_9 : ∀ t : Fin grid0.N, win0_9.index t 0 = 0 ∧ win0_9.index t 1 = 0 := by decide +kernel
theorem ix_10 : ∀ t : Fin grid0.N, win0_10.index t 0 = 0 ∧ win0_10.index t 1 = 0 ∧ win0_10.index t 2 = 0 := by decide +kernel

theorem iblk_0 (t : Fin cfg0.N) : (iblk m c 0 t : Vec Ideal S64x64 .f32) = zA m c := by
  refine Eq.trans ?_ (V_main_arg0 m c)
  funext y
  obtain ⟨r, q, rfl⟩ := ix2_eta (n := 64) (k := 64) y
  unfold iblk
  rw [View.read_apply]
  show V m c main_arg0 _ = _
  congr 1
  blk_ext [ix_0]

theorem iblk_1 (t : Fin cfg0.N) : (iblk m c 1 t : Vec Ideal S64x64 .f32) = zB m c := by
  refine Eq.trans ?_ (V_main_arg1 m c)
  funext y
  obtain ⟨r, q, rfl⟩ := ix2_eta (n := 64) (k := 64) y
  unfold iblk
  rw [View.read_apply]
  show V m c main_arg1 _ = _
  congr 1
  blk_ext [ix_1]

theorem iblk_2 (t : Fin cfg0.N) : (iblk m c 2 t : Vec Ideal S64x1 .f32) = col (zL m c) := by
  refine Eq.trans ?_ (V_main_v8 m c)
  funext y
  obtain ⟨r, q, rfl⟩ := ix2_eta (n := 64) (k := 1) y
  unfold iblk
  rw [View.read_apply]
  show V m c main_v8 _ = _
  congr 1
  blk_ext [ix_2]

theorem iblk_3 (t : Fin cfg0.N) : (iblk m c 3 t : Vec Ideal S64x1024 .f32) = flat (zBR m c) := by
  refine Eq.trans ?_ (V_main_v9 m c)
  funext y
  obtain ⟨r, q, rfl⟩ := ix2_eta (n := 64) (k := 1024) y
  unfold iblk
  rw [View.read_apply]
  show V m c main_v9 _ = _
  congr 1
  blk_ext [ix_3]

theorem iblk_4 (t : Fin cfg0.N) : (iblk m c 4 t : Vec Ideal S64x1024 .f32) = flat (zBI m c) := by
  refine Eq.trans ?_ (V_main_v10 m c)
  funext y
  obtain ⟨r, q, rfl⟩ := ix2_eta (n := 64) (k := 1024) y
  unfold iblk
  rw [View.read_apply]
  show V m c main_v10 _ = _
  congr 1
  blk_ext [ix_4]

theorem iblk_5 (t : Fin cfg0.N) : (iblk m c 5 t : Vec Ideal S64x1024 .f32) = spread := by
  refine Eq.trans ?_ (V_main_v7 m c)
  funext y
  obtain ⟨r, q, rfl⟩ := ix2_eta (n := 64) (k := 1024) y
  unfold iblk
  rw [View.read_apply]
  show V m c main_v7 _ = _
  congr 1
  blk_ext [ix_5]

/-! ## The results -/

def res6 : FVec Ideal S64x64 .f32 := val_main_v8 (F := Ideal) (zA m c) (zB m c) (zL m c)

theorem ref6 : val_main_v8 (F := Ideal) (zA m c) (zB m c) (zL m c) = res6 m c := rfl

theorem final6 : (dats m 0 c).arrAt 6 cfg0.N = res6 m c := by
  refine (dats m 0 c).arrAt_eq_of_covers 6 _ (by decide +kernel) fun t hf y => ?_
  blk_simp
  rw [after0_6, iblk_0, iblk_1, iblk_2, iblk_3, iblk_4, iblk_5, out6, ← res6]
  obtain ⟨r, q, rfl⟩ := ix2_eta (n := 64) (k := 64) y
  have e0 : (win0_6.blk t).view.emb (ix2 r q) = ix2 r q := by
    blk_ext [ix_6]
  rw [e0]

def res7 : FVec Ideal S64x64 .f32 := val_main_v12 (F := Ideal) (zA m c) (zB m c) (zL m c)

theorem ref7 : val_main_v12 (F := Ideal) (zA m c) (zB m c) (zL m c) = res7 m c := rfl

theorem final7 : (dats m 0 c).arrAt 7 cfg0.N = res7 m c := by
  refine (dats m 0 c).arrAt_eq_of_covers 7 _ (by decide +kernel) fun t hf y => ?_
  blk_simp
  rw [after0_7, iblk_0, iblk_1, iblk_2, iblk_3, iblk_4, iblk_5, out7, ← res7]
  obtain ⟨r, q, rfl⟩ := ix2_eta (n := 64) (k := 64) y
  have e0 : (win0_7.blk t).view.emb (ix2 r q) = ix2 r q := by
    blk_ext [ix_7]
  rw [e0]

def res8 : FVec Ideal S64x1024 .f32 := val_main_v58 (F := Ideal) (zA m c) (zB m c) (zL m c) (zBR m c) (zBI m c)

theorem ref8 : val_main_v58 (F := Ideal) (zA m c) (zB m c) (zL m c) (zBR m c) (zBI m c) = res8 m c := rfl

theorem final8 : (dats m 0 c).arrAt 8 cfg0.N = res8 m c := by
  refine (dats m 0 c).arrAt_eq_of_covers 8 _ (by decide +kernel) fun t hf y => ?_
  blk_simp
  rw [after0_8, iblk_0, iblk_1, iblk_2, iblk_3, iblk_4, iblk_5, out8, ← res8]
  obtain ⟨r, q, rfl⟩ := ix2_eta (n := 64) (k := 1024) y
  have e0 : (win0_8.blk t).view.emb (ix2 r q) = ix2 r q := by
    blk_ext [ix_8]
  rw [e0]

def res9 : FVec Ideal S64x1024 .f32 := val_main_v59 (F := Ideal) (zA m c) (zB m c) (zL m c) (zBR m c) (zBI m c)

theorem ref9 : val_main_v59 (F := Ideal) (zA m c) (zB m c) (zL m c) (zBR m c) (zBI m c) = res9 m c := rfl

theorem final9 : (dats m 0 c).arrAt 9 cfg0.N = res9 m c := by
  refine (dats m 0 c).arrAt_eq_of_covers 9 _ (by decide +kernel) fun t hf y => ?_
  blk_simp
  rw [after0_9, iblk_0, iblk_1, iblk_2, iblk_3, iblk_4, iblk_5, out9, ← res9]
  obtain ⟨r, q, rfl⟩ := ix2_eta (n := 64) (k := 1024) y
  have e0 : (win0_9.blk t).view.emb (ix2 r q) = ix2 r q := by
    blk_ext [ix_9]
  rw [e0]

def res10 : FVec Ideal S2x64x64 .f32 := val_main_v57 (F := Ideal) (zA m c) (zB m c) (zL m c)

theorem ref10 : val_main_v57 (F := Ideal) (zA m c) (zB m c) (zL m c) = res10 m c := rfl

theorem final10 : (dats m 0 c).arrAt 10 cfg0.N = res10 m c := by
  refine (dats m 0 c).arrAt_eq_of_covers 10 _ (by decide +kernel) fun t hf y => ?_
  blk_simp
  rw [after0_10, iblk_0, iblk_1, iblk_2, iblk_3, iblk_4, iblk_5, out10, ← res10]
  obtain ⟨p, r, q, rfl⟩ : ∃ (p : Fin 2) (r : Fin 64) (q : Fin 64), y = ix3 p r q := ⟨y 0, y 1, y 2, funext fun a => by fin_cases a <;> rfl⟩
  have e0 : (win0_10.blk t).view.emb (ix3 p r q) = ix3 p r q := by
    blk_ext [ix_10]
  rw [e0]

end Cert.ZohFwd
-- ==== Proof.GateForward.lean ====
module

public import proofs.«01_k».proof.Proof.GateKernel
public import proofs.«01_k».proof.Proof.GateMath
public import proofs.«01_k».proof.Proof.Gen.Kernel7Ideal.Frame
public import Idealize.ShloMosaic.Lib.ValueLayout
public import Idealize.ShloMosaic.Lib.Pipeline.ValueKit.Geometry

@[expose] public section

noncomputable section

/-! # The gates of the forward pass -/

namespace Cert.GateFwd

open Idealize.ShloMosaic Idealize.ShloMosaic.TcCoe Idealize.SL.Sem
open Idealize.ShloMosaic.Pipeline (Dat)
open Cert.Kernel7Ideal Cert.Kernel7Ideal.Gen Cert.Common
open Cert.Gate (down down_ge down_lt rows256 rows8 hit256 hit8 miss256 readCov_down gel glu sil cin prev conv cc)

theorem ix2_ext {n k : Nat} (e : (⟨2, ![n, k]⟩ : Shape).Idx) (r : Fin n) (q : Fin k) (h0 : (e 0).val = r.val) (h1 : (e 1).val = q.val) : e = ix2 r q :=
  funext fun a => Fin.ext (by fin_cases a; exacts [h0, h1])

/-! ## The carried buffer and the two halves of a tile -/

section Buffers

variable (C : Vec Ideal S256x1024 .f32) (K : Vec Ideal S8x1024 .f32)

abbrev firstRows : Rect S264x1024 := rows8 0 inb_S264x1024_S8x1024_0_0

/-- The tile's last eight rows. -/
def bot : Vec Ideal S8x1024 .f32 := fun y => C (ix2 ⟨248 + (y 0).val, by have : (y 0).val < 8 := (y 0).isLt; omega⟩ (y 1))

variable {V : View sig .tc .vmem S264x1024 .f32} (f : V.ty.Contents (Elt Ideal))

theorem ld_down (x : Vec Ideal S264x1024 .f32) (hx : View.read (Elt Ideal) V f = x) (s : Nat) (hs : s ≤ 8) (h) :
    View.ld (View.read (Elt Ideal) V (V.writes (Elt Ideal) f [⟨rows256 8 inb_S264x1024_S256x1024_8_0, C⟩])) (rows256 (8 - s) h)
      = down C (View.ld x firstRows) s hs := by
  funext y
  obtain ⟨r, q, rfl⟩ : ∃ (r : Fin 256) (q : Fin 1024), y = ix2 r q := ⟨y 0, y 1, funext fun a => by fin_cases a <;> rfl⟩
  show View.read (Elt Ideal) V (V.writes (Elt Ideal) f _) ((rows256 (8 - s) h).emb (ix2 r q)) = _
  have e0 : ((rows256 (8 - s) h).emb (ix2 r q) 0).val = 8 - s + 1 * r.val := rfl
  have e1 : ((rows256 (8 - s) h).emb (ix2 r q) 1).val = 0 + 1 * q.val := rfl
  by_cases hr : s ≤ r.val
  · rw [down_ge _ _ _ _ _ _ hr]
    exact hit256 _ _ _ _ _ _ _ _ (by rw [e0]; show _ = 8 + (r.val - s); omega) (by rw [e1]; omega)
  · rw [down_lt _ _ _ _ _ _ hr, miss256 _ _ _ _ _ _ (Or.inl (by rw [e0]; omega))]
    refine (congrFun hx _).trans (congrArg x (funext fun a => Fin.ext ?_))
    fin_cases a
    · show 8 - s + 1 * r.val = 0 + 1 * (8 - s + r.val)
      omega
    · rfl

theorem read_bot (L : List (View.Piece (Elt Ideal) S264x1024 .f32)) (h) :
    View.ld (View.read (Elt Ideal) V (V.writes (Elt Ideal) f (⟨rows256 8 inb_S264x1024_S256x1024_8_0, C⟩ :: L))) (rows8 256 h) = bot C := by
  funext y
  obtain ⟨r, q, rfl⟩ : ∃ (r : Fin 8) (q : Fin 1024), y = ix2 r q := ⟨y 0, y 1, funext fun a => by fin_cases a <;> rfl⟩
  exact hit256 _ _ _ _ _ _ (⟨248 + r.val, by omega⟩ : Fin 256) _ (by show 256 + 1 * r.val = 8 + (248 + r.val); omega) (by show 0 + 1 * q.val = q.val; omega)

theorem readCov_bot (L : List (View.Piece (Elt Ideal) S264x1024 .f32)) (h) :
    V.readCov (Val := Elt Ideal) (⟨rows256 8 inb_S264x1024_S256x1024_8_0, C⟩ :: L) (rows8 256 h).toLoadRect = bot C := read_bot C V.junk L h

theorem ld_first (L : List (View.Piece (Elt Ideal) S264x1024 .f32)) (h) :
    View.ld (View.read (Elt Ideal) V (V.writes (Elt Ideal) f (⟨rows8 0 h, K⟩ :: L))) firstRows = K := by
  funext y
  obtain ⟨r, q, rfl⟩ : ∃ (r : Fin 8) (q : Fin 1024), y = ix2 r q := ⟨y 0, y 1, funext fun a => by fin_cases a <;> rfl⟩
  exact hit8 _ _ _ _ _ _ _ _ (by show 0 + 1 * r.val = 0 + r.val; omega) (by show 0 + 1 * q.val = q.val; omega)

/-- Two tiles side by side. -/
def pair (a b : Vec Ideal S256x1024 .bf16) : Vec Ideal S256x2048 .bf16 := fun y =>
  if h : (y 1).val < 1024 then a (ix2 (y 0) ⟨(y 1).val, h⟩)
  else b (ix2 (y 0) ⟨(y 1).val - 1024, by have : (y 1).val < 2048 := (y 1).isLt; omega⟩)

theorem pair_fst (a b : Vec Ideal S256x1024 .bf16) (r : Fin 256) (q : Fin 1024) : pair a b (ix2 r ⟨q.val, by omega⟩) = a (ix2 r q) := dif_pos q.isLt
theorem pair_snd (a b : Vec Ideal S256x1024 .bf16) (r : Fin 256) (q : Fin 1024) : pair a b (ix2 r ⟨1024 + q.val, by omega⟩) = b (ix2 r q) :=
  (dif_neg (show ¬1024 + q.val < 1024 by omega)).trans (congrArg (fun k => b (ix2 r k)) (Fin.ext (Nat.add_sub_cancel_left _ _)))

abbrev half0 : Rect S256x2048 := Rect.unit ![0, 0] ![256, 1024] inb_S256x2048_S256x1024_0_0
abbrev half1 : Rect S256x2048 := Rect.unit ![0, 1024] ![256, 1024] inb_S256x2048_S256x1024_0_1024

theorem read_pair {V : View sig .tc .vmem S256x2048 .bf16} (f : V.ty.Contents (Elt Ideal)) (a b : Vec Ideal S256x1024 .bf16) :
    View.read (Elt Ideal) V (V.writes (Elt Ideal) f [⟨half1, b⟩, ⟨half0, a⟩]) = pair a b := by
  funext y
  refine View.read_writes_apply_of_pieces V f _ _ (fun p hp x => ?_) y ?_
  · simp only [List.mem_cons, List.not_mem_nil, or_false] at hp
    rcases hp with rfl | rfl
    all_goals obtain ⟨r, q, rfl⟩ : ∃ (r : Fin 256) (q : Fin 1024), x = ix2 r q := ⟨x 0, x 1, funext fun a => by fin_cases a <;> rfl⟩
    · refine (pair_snd a b r q).symm.trans (congrArg (pair a b) (ix2_ext _ _ _ ?_ ?_).symm)
      · show 0 + 1 * r.val = r.val
        omega
      · show 1024 + 1 * q.val = 1024 + q.val
        omega
    · refine (pair_fst a b r q).symm.trans (congrArg (pair a b) (ix2_ext _ _ _ ?_ ?_).symm)
      · show 0 + 1 * r.val = r.val
        omega
      · show 0 + 1 * q.val = q.val
        omega
  · have h0 : (y 0).val < 256 := (y 0).isLt
    have hy : (y 1).val < 2048 := (y 1).isLt
    simp only [List.exists_mem_cons_iff, List.not_mem_nil, false_and, exists_false, or_false]
    by_cases h1 : 1024 ≤ (y 1).val
    · refine Or.inl ?_
      rw [Rect.mem_set_unit]
      intro a
      fin_cases a
      exacts [⟨Nat.zero_le _, h0⟩, ⟨h1, hy⟩]
    · refine Or.inr ?_
      rw [Rect.mem_set_unit]
      intro a
      fin_cases a
      exacts [⟨Nat.zero_le _, h0⟩, ⟨Nat.zero_le _, show (y 1).val < 0 + 1024 by omega⟩]

end Buffers

/-! ## What one point stores -/

section Tile

variable (x0 : Vec Ideal S256x1024 .f32) (x1 : Vec Ideal S256x1024 .f32) (x2 : Vec Ideal S256x1024 .f32) (x3 : Vec Ideal S256x1024 .f32) (x4 : Vec Ideal S256x1024 .f32) (x5 : Vec Ideal S256x1024 .f32) (x6 : Vec Ideal S3x1024 .f32) (x7 : Vec Ideal S1x1024 .f32) (x8 : Vec Ideal S1024x1024 .bf16) (x9 : Vec Ideal S1x1024 .f32) (H : Vec Ideal S8x1024 .f32)

abbrev w0 : Vec Ideal S1x1024 .f32 := View.ld x6 (Rect.unit ![0, 0] ![1, 1024] inb_S3x1024_S1x1024_0_0)
abbrev w1 : Vec Ideal S1x1024 .f32 := View.ld x6 (Rect.unit ![1, 0] ![1, 1024] inb_S3x1024_S1x1024_1_0)
abbrev w2 : Vec Ideal S1x1024 .f32 := View.ld x6 (Rect.unit ![2, 0] ![1, 1024] inb_S3x1024_S1x1024_2_0)

/-- The tile of the mixed branches, the eight rows `H` standing before the tile. -/
def mixBlk : Vec Ideal S256x2048 .bf16 := pair
  (k0_pay6 (k0_pay5 x1 x2 x7 (w2 x6) (w1 x6) (down (k0_pay4 x1 x2) H 1 (by decide)) (w0 x6) (down (k0_pay4 x1 x2) H 2 (by decide)) x3 x0))
  (k0_pay1 (k0_pay8 x5 x8 x9 x4))

end Tile

section Point

variable (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S3x1024 .f32) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S256x2048 .bf16) (harg11 : arg11.IsWhole) (arg12 : Memref sig .tc .vmem S264x1024 .f32) (harg12 : arg12.IsWhole)
  (x0 : Vec Ideal S256x1024 .f32) (x1 : Vec Ideal S256x1024 .f32) (x2 : Vec Ideal S256x1024 .f32) (x3 : Vec Ideal S256x1024 .f32) (x4 : Vec Ideal S256x1024 .f32) (x5 : Vec Ideal S256x1024 .f32) (x6 : Vec Ideal S3x1024 .f32) (x7 : Vec Ideal S1x1024 .f32) (x8 : Vec Ideal S1024x1024 .bf16) (x9 : Vec Ideal S1x1024 .f32) (xs0 : Vec Ideal S264x1024 .f32)

theorem out_A (hc0 : cond0_0 i) : out0_A_10 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 x9 = mixBlk x0 x1 x2 x3 x4 x5 x6 x7 x8 x9 (k0_pay2 (F := Ideal)) := by
  unfold out0_A_10
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, View.ld_unit_zero (S := S256x1024) hz2, View.ld_unit_zero (S := S1x1024) hz2, View.ld_unit_zero (S := S1024x1024) hz2, shapeCast_self]
  rw [read_pair]
  unfold mixBlk
  simp only [readCov_down _ _ 1 (by decide), readCov_down _ _ 2 (by decide)]

theorem out_B (hc0 : ¬cond0_0 i) : out0_B_10 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 x9 xs0 = mixBlk x0 x1 x2 x3 x4 x5 x6 x7 x8 x9 (View.ld xs0 firstRows) := by
  unfold out0_B_10
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, View.ld_unit_zero (S := S256x1024) hz2, View.ld_unit_zero (S := S1x1024) hz2, View.ld_unit_zero (S := S1024x1024) hz2, shapeCast_self]
  rw [read_pair]
  unfold mixBlk
  rw [ld_down _ _ xs0 (harg12.read_unread _) 1 (by decide), ld_down _ _ xs0 (harg12.read_unread _) 2 (by decide)]

theorem sout_A (hc0 : cond0_0 i) : View.ld (sout0_A_0 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 x9) firstRows = bot (k0_pay4 x1 x2) := by
  unfold sout0_A_0
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, View.ld_unit_zero (S := S256x1024) hz2, View.ld_unit_zero (S := S1x1024) hz2, View.ld_unit_zero (S := S1024x1024) hz2, shapeCast_self]
  rw [ld_first, readCov_bot]
  exact shapeCast_self _ _

theorem sout_B (hc0 : ¬cond0_0 i) : View.ld (sout0_B_0 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 x9 xs0) firstRows = bot (k0_pay4 x1 x2) := by
  unfold sout0_B_0
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, View.ld_unit_zero (S := S256x1024) hz2, View.ld_unit_zero (S := S1x1024) hz2, View.ld_unit_zero (S := S1024x1024) hz2, shapeCast_self]
  rw [ld_first, readCov_bot]
  exact shapeCast_self _ _

end Point

/-! ## Entry by entry -/

theorem named_c : (Named.named κ "c" 0x3D372713#32 : Ideal .f32) = cc := rfl

section Pay
variable (x0 x1 x2 x3 x4 x5 : Vec Ideal S256x1024 .f32) (x7 : Vec Ideal S1x1024 .f32) (x8 : Vec Ideal S1024x1024 .bf16) (x9 u v w : Vec Ideal S1x1024 .f32)
  (D1 D2 : Vec Ideal S256x1024 .f32) (r : Fin 256) (q : Fin 1024) (p : Fin 8)

theorem pay5_apply : k0_pay6 (k0_pay5 x1 x2 x7 w v D1 u D2 x3 x0) (ix2 r q)
    = x0 (ix2 r q) * (x7 (ix2 0 q) + w (ix2 0 q) * (x1 (ix2 r q) * x2 (ix2 r q)) + v (ix2 0 q) * D1 (ix2 r q) + u (ix2 0 q) * D2 (ix2 r q)) * sil (x3 (ix2 r q)) := by
  pointwise [k0_pay6, k0_pay5, k0_pay3]
  rfl

theorem pay8_apply : k0_pay1 (k0_pay8 x5 x8 x9 x4) (ix2 r q)
    = gel (x5 (ix2 r q)) * glu (fun k => x5 (ix2 r k)) (fun k l => x8 (ix2 k l)) (fun k => x9 (ix2 0 k)) q * sil (x4 (ix2 r q)) := by
  pointwise [k0_pay1, k0_pay8]
  rfl

theorem pay4_apply : k0_pay4 x1 x2 (ix2 r q) = x1 (ix2 r q) * x2 (ix2 r q) := by
  pointwise [k0_pay4, k0_pay3]

theorem pay2_apply : k0_pay2 (F := Ideal) (ix2 p q) = (0 : EReal) := by
  pointwise [k0_pay2]
end Pay

/-! ## The arguments and the tiles -/

variable (m : (ℓ : Loc nD τ sig) → Buf (Elt Ideal) ℓ) (c : Dev nD)

abbrev aP (k : Fin 6) (R : Fin 4096) (q : Fin 1024) : EReal := m ((c : Thread nD τ).loc main_arg0) (ix2 R ⟨1024 * k.val + q.val, by omega⟩)
abbrev aY (R : Fin 4096) (q : Fin 1024) : EReal := m ((c : Thread nD τ).loc main_arg1) (ix2 R q)
abbrev aW (k : Fin 3) (q : Fin 1024) : EReal := m ((c : Thread nD τ).loc main_arg2) (ix2 k q)
abbrev aB (q : Fin 1024) : EReal := m ((c : Thread nD τ).loc main_arg3) (ix1 q)
abbrev aG (j q : Fin 1024) : EReal := m ((c : Thread nD τ).loc main_arg4) (ix2 j q)
abbrev aE (q : Fin 1024) : EReal := m ((c : Thread nD τ).loc main_arg5) (ix1 q)

theorem V_v0 (q : Fin 1024) : V m c main_v0 (ix2 0 q) = aB m c q := by
  unfold V
  after_results
  pointwise

theorem V_v1 (j q : Fin 1024) : V m c main_v1 (ix2 j q) = aG m c j q := by
  unfold V
  after_results
  rfl

theorem V_v2 (q : Fin 1024) : V m c main_v2 (ix2 0 q) = aE m c q := by
  unfold V
  after_results
  pointwise

theorem ix_0 : ∀ t : Fin grid0.N, win0_0.index t 0 = t.val ∧ win0_0.index t 1 = 0 := by decide +kernel
theorem ix_1 : ∀ t : Fin grid0.N, win0_1.index t 0 = t.val ∧ win0_1.index t 1 = 1 := by decide +kernel
theorem ix_2 : ∀ t : Fin grid0.N, win0_2.index t 0 = t.val ∧ win0_2.index t 1 = 2 := by decide +kernel
theorem ix_3 : ∀ t : Fin grid0.N, win0_3.index t 0 = t.val ∧ win0_3.index t 1 = 3 := by decide +kernel
theorem ix_4 : ∀ t : Fin grid0.N, win0_4.index t 0 = t.val ∧ win0_4.index t 1 = 5 := by decide +kernel
theorem ix_5 : ∀ t : Fin grid0.N, win0_5.index t 0 = t.val ∧ win0_5.index t 1 = 0 := by decide +kernel
theorem ix_10 : ∀ t : Fin grid0.N, win0_10.index t 0 = t.val ∧ win0_10.index t 1 = 0 := by decide +kernel
theorem ix_6 : ∀ t : Fin grid0.N, win0_6.index t 0 = 0 ∧ win0_6.index t 1 = 0 := by decide +kernel
theorem ix_7 : ∀ t : Fin grid0.N, win0_7.index t 0 = 0 ∧ win0_7.index t 1 = 0 := by decide +kernel
theorem ix_8 : ∀ t : Fin grid0.N, win0_8.index t 0 = 0 ∧ win0_8.index t 1 = 0 := by decide +kernel
theorem ix_9 : ∀ t : Fin grid0.N, win0_9.index t 0 = 0 ∧ win0_9.index t 1 = 0 := by decide +kernel

/-- Row `r` of the tile of point `t`. -/
abbrev rowOf (t : Fin grid0.N) (r : Fin 256) : Fin 4096 := ⟨256 * t.val + r.val, by have := t.isLt; have := N_0; omega⟩

theorem iblk_0 (t : Fin cfg0.N) (r : Fin 256) (q : Fin 1024) : (iblk m c 0 t : Vec Ideal S256x1024 .f32) (ix2 r q) = aP m c 0 (rowOf t r) q := by
  refine Eq.trans ?_ (congrFun (V_main_arg0 m c) (ix2 (rowOf t r) ⟨1024 * 0 + q.val, by omega⟩))
  refine (View.read_apply ..).trans (congrArg (V m c main_arg0) ?_)
  refine ix2_ext _ _ _ ?_ ?_
  · show win0_0.index t 0 * 256 + 1 * r.val = 256 * t.val + r.val
    rw [(ix_0 t).1]; omega
  · show win0_0.index t 1 * 1024 + 1 * q.val = 1024 * 0 + q.val
    rw [(ix_0 t).2]; omega

theorem iblk_1 (t : Fin cfg0.N) (r : Fin 256) (q : Fin 1024) : (iblk m c 1 t : Vec Ideal S256x1024 .f32) (ix2 r q) = aP m c 1 (rowOf t r) q := by
  refine Eq.trans ?_ (congrFun (V_main_arg0 m c) (ix2 (rowOf t r) ⟨1024 * 1 + q.val, by omega⟩))
  refine (View.read_apply ..).trans (congrArg (V m c main_arg0) ?_)
  refine ix2_ext _ _ _ ?_ ?_
  · show win0_1.index t 0 * 256 + 1 * r.val = 256 * t.val + r.val
    rw [(ix_1 t).1]; omega
  · show win0_1.index t 1 * 1024 + 1 * q.val = 1024 * 1 + q.val
    rw [(ix_1 t).2]; omega

theorem iblk_2 (t : Fin cfg0.N) (r : Fin 256) (q : Fin 1024) : (iblk m c 2 t : Vec Ideal S256x1024 .f32) (ix2 r q) = aP m c 2 (rowOf t r) q := by
  refine Eq.trans ?_ (congrFun (V_main_arg0 m c) (ix2 (rowOf t r) ⟨1024 * 2 + q.val, by omega⟩))
  refine (View.read_apply ..).trans (congrArg (V m c main_arg0) ?_)
  refine ix2_ext _ _ _ ?_ ?_
  · show win0_2.index t 0 * 256 + 1 * r.val = 256 * t.val + r.val
    rw [(ix_2 t).1]; omega
  · show win0_2.index t 1 * 1024 + 1 * q.val = 1024 * 2 + q.val
    rw [(ix_2 t).2]; omega

theorem iblk_3 (t : Fin cfg0.N) (r : Fin 256) (q : Fin 1024) : (iblk m c 3 t : Vec Ideal S256x1024 .f32) (ix2 r q) = aP m c 3 (rowOf t r) q := by
  refine Eq.trans ?_ (congrFun (V_main_arg0 m c) (ix2 (rowOf t r) ⟨1024 * 3 + q.val, by omega⟩))
  refine (View.read_apply ..).trans (congrArg (V m c main_arg0) ?_)
  refine ix2_ext _ _ _ ?_ ?_
  · show win0_3.index t 0 * 256 + 1 * r.val = 256 * t.val + r.val
    rw [(ix_3 t).1]; omega
  · show win0_3.index t 1 * 1024 + 1 * q.val = 1024 * 3 + q.val
    rw [(ix_3 t).2]; omega

theorem iblk_4 (t : Fin cfg0.N) (r : Fin 256) (q : Fin 1024) : (iblk m c 4 t : Vec Ideal S256x1024 .f32) (ix2 r q) = aP m c 5 (rowOf t r) q := by
  refine Eq.trans ?_ (congrFun (V_main_arg0 m c) (ix2 (rowOf t r) ⟨1024 * 5 + q.val, by omega⟩))
  refine (View.read_apply ..).trans (congrArg (V m c main_arg0) ?_)
  refine ix2_ext _ _ _ ?_ ?_
  · show win0_4.index t 0 * 256 + 1 * r.val = 256 * t.val + r.val
    rw [(ix_4 t).1]; omega
  · show win0_4.index t 1 * 1024 + 1 * q.val = 1024 * 5 + q.val
    rw [(ix_4 t).2]; omega

theorem iblk_5 (t : Fin cfg0.N) (r : Fin 256) (q : Fin 1024) : (iblk m c 5 t : Vec Ideal S256x1024 .f32) (ix2 r q) = aY m c (rowOf t r) q := by
  refine Eq.trans ?_ (congrFun (V_main_arg1 m c) (ix2 (rowOf t r) q))
  refine (View.read_apply ..).trans (congrArg (V m c main_arg1) ?_)
  refine ix2_ext _ _ _ ?_ ?_
  · show win0_5.index t 0 * 256 + 1 * r.val = 256 * t.val + r.val
    rw [(ix_5 t).1]; omega
  · show win0_5.index t 1 * 1024 + 1 * q.val = q.val
    rw [(ix_5 t).2]; omega

theorem iblk_6 (t : Fin cfg0.N) (p : Fin 3) (q : Fin 1024) : (iblk m c 6 t : Vec Ideal S3x1024 .f32) (ix2 p q) = aW m c p q := by
  refine Eq.trans ?_ (congrFun (V_main_arg2 m c) (ix2 p q))
  refine (View.read_apply ..).trans (congrArg (V m c main_arg2) ?_)
  refine ix2_ext _ _ _ ?_ ?_
  · show win0_6.index t 0 * 3 + 1 * p.val = p.val
    rw [(ix_6 t).1]; omega
  · show win0_6.index t 1 * 1024 + 1 * q.val = q.val
    rw [(ix_6 t).2]; omega

theorem iblk_7 (t : Fin cfg0.N)  (q : Fin 1024) : (iblk m c 7 t : Vec Ideal S1x1024 .f32) (ix2 0 q) = aB m c q := by
  refine Eq.trans ?_ (V_v0 m c q)
  refine (View.read_apply ..).trans (congrArg (V m c main_v0) ?_)
  refine ix2_ext _ _ _ ?_ ?_
  · show win0_7.index t 0 * 1 + 1 * 0 = 0
    rw [(ix_7 t).1]
  · show win0_7.index t 1 * 1024 + 1 * q.val = q.val
    rw [(ix_7 t).2]; omega

theorem iblk_8 (t : Fin cfg0.N) (p : Fin 1024) (q : Fin 1024) : (iblk m c 8 t : Vec Ideal S1024x1024 .bf16) (ix2 p q) = aG m c p q := by
  refine Eq.trans ?_ (V_v1 m c p q)
  refine (View.read_apply ..).trans (congrArg (V m c main_v1) ?_)
  refine ix2_ext _ _ _ ?_ ?_
  · show win0_8.index t 0 * 1024 + 1 * p.val = p.val
    rw [(ix_8 t).1]; omega
  · show win0_8.index t 1 * 1024 + 1 * q.val = q.val
    rw [(ix_8 t).2]; omega

theorem iblk_9 (t : Fin cfg0.N)  (q : Fin 1024) : (iblk m c 9 t : Vec Ideal S1x1024 .f32) (ix2 0 q) = aE m c q := by
  refine Eq.trans ?_ (V_v2 m c q)
  refine (View.read_apply ..).trans (congrArg (V m c main_v2) ?_)
  refine ix2_ext _ _ _ ?_ ?_
  · show win0_9.index t 0 * 1 + 1 * 0 = 0
    rw [(ix_9 t).1]
  · show win0_9.index t 1 * 1024 + 1 * q.val = q.val
    rw [(ix_9 t).2]; omega

theorem row_w (t : Fin cfg0.N) (o : Nat) (h) (k : Fin 3) (hk : k.val = o) (q : Fin 1024) :
    View.ld (iblk m c 6 t : Vec Ideal S3x1024 .f32) (Rect.unit ![o, 0] ![1, 1024] h) (ix2 0 q) = aW m c k q := by
  rw [← iblk_6 m c t k q]
  refine congrArg (iblk m c 6 t : Vec Ideal S3x1024 .f32) (ix2_ext _ _ _ ?_ ?_)
  · show o + 1 * 0 = k.val
    omega
  · show 0 + 1 * q.val = q.val
    omega

/-! ## The rows before a tile -/

/-- The eight rows standing before the tile of point `n`: the convolution's input there, zero before the first row. -/
def IsHalo (n : Nat) (h : n < cfg0.N) (H : Vec Ideal S8x1024 .f32) : Prop := ∀ (p : Fin 8) (q : Fin 1024),
  H (ix2 p q) = if h8 : 8 ≤ 256 * n + p.val then cin (aP m c) ⟨256 * n + p.val - 8, by have := lt_of_lt_of_eq h N_0; omega⟩ q else 0

theorem cin_iblk (t : Fin cfg0.N) (r : Fin 256) (q : Fin 1024) : k0_pay4 (F := Ideal) (iblk m c 1 t) (iblk m c 2 t) (ix2 r q) = cin (aP m c) (rowOf t r) q := by
  refine (pay4_apply ..).trans ?_
  rw [iblk_1, iblk_2]
  rfl

theorem carry (n : Nat) (h : n < cfg0.N) : View.ld (outsAt0 m c n h).2 firstRows = bot (k0_pay4 (iblk m c 1 ⟨n, h⟩) (iblk m c 2 ⟨n, h⟩)) := by
  by_cases h0 : n % 16 = 0
  · rw [show outsAt0 m c n h = _ from outsAt0_A m c ⟨n, h⟩ h0]
    dsimp only
    rw [sout_A]
  · rw [show outsAt0 m c n h = _ from outsAt0_B m c ⟨n, h⟩ h0]
    dsimp only
    rw [sout_B]

/-- The rows a point starts from: zero at the first, what the point before left after it. -/
def carried : (n : Nat) → n < cfg0.N → Vec Ideal S8x1024 .f32
  | 0, _ => k0_pay2 (F := Ideal)
  | n + 1, h => View.ld (outsAt0 m c n (by omega)).2 firstRows

theorem isHalo (n : Nat) (h : n < cfg0.N) : IsHalo m c n h (carried m c n h) := fun p q => by
  cases n with
  | zero =>
    rw [dif_neg (by omega)]
    exact pay2_apply q p
  | succ n =>
    rw [dif_pos (by omega)]
    refine (congrFun (carry m c n (by omega)) (ix2 p q)).trans ?_
    refine (cin_iblk m c ⟨n, by omega⟩ ⟨248 + p.val, by omega⟩ q).trans (congrArg (fun R => cin (aP m c) R q) (Fin.ext ?_))
    show 256 * n + (248 + p.val) = 256 * (n + 1) + p.val - 8
    omega

/-- The convolution's input `s` rows earlier, out of the tile and the rows before it. -/
theorem down_iblk (t : Fin cfg0.N) (s : Nat) (hs : s ≤ 8) (r : Fin 256) (q : Fin 1024) :
    down (k0_pay4 (F := Ideal) (iblk m c 1 t) (iblk m c 2 t)) (carried m c t.val t.isLt) s hs (ix2 r q) = prev (aP m c) s (rowOf t r) q := by
  have hr := r.isLt
  unfold prev
  by_cases h : s ≤ r.val
  · rw [down_ge _ _ _ _ _ _ h, dif_pos (show s ≤ 256 * t.val + r.val by omega), cin_iblk]
    refine congrArg (fun R => cin (aP m c) R q) (Fin.ext ?_)
    show 256 * t.val + (r.val - s) = 256 * t.val + r.val - s
    omega
  · rw [down_lt _ _ _ _ _ _ h, isHalo m c t.val t.isLt]
    by_cases h8 : s ≤ 256 * t.val + r.val
    · rw [dif_pos h8, dif_pos (show 8 ≤ 256 * t.val + (8 - s + r.val) by omega)]
      refine congrArg (fun R => cin (aP m c) R q) (Fin.ext ?_)
      show 256 * t.val + (8 - s + r.val) - 8 = 256 * t.val + r.val - s
      omega
    · rw [dif_neg h8, dif_neg (show ¬8 ≤ 256 * t.val + (8 - s + r.val) by omega)]

theorem out10 (n : Nat) (h : n < cfg0.N) : (outsAt0 m c n h).1 = mixBlk (iblk m c 0 ⟨n, h⟩) (iblk m c 1 ⟨n, h⟩) (iblk m c 2 ⟨n, h⟩) (iblk m c 3 ⟨n, h⟩) (iblk m c 4 ⟨n, h⟩) (iblk m c 5 ⟨n, h⟩) (iblk m c 6 ⟨n, h⟩) (iblk m c 7 ⟨n, h⟩) (iblk m c 8 ⟨n, h⟩) (iblk m c 9 ⟨n, h⟩) (carried m c n h) := by
  have hN : cfg0.N = 16 := N_0
  cases n with
  | zero =>
    rw [show outsAt0 m c 0 h = _ from outsAt0_A m c ⟨0, h⟩ rfl]
    dsimp only
    rw [out_A]
    rfl
  | succ n =>
    rw [show outsAt0 m c (n + 1) h = _ from outsAt0_B m c ⟨n + 1, h⟩ (by dsimp only; omega)]
    dsimp only
    rw [out_B]
    rfl

/-! ## The array -/

/-- One entry of the branch with the convolution and one of the branch with the scan's output. -/
def mixC (P : Fin 6 → Fin 4096 → Fin 1024 → EReal) (W : Fin 3 → Fin 1024 → EReal) (b : Fin 1024 → EReal) (R : Fin 4096) (q : Fin 1024) : EReal :=
  P 0 R q * conv P W b R q * sil (P 3 R q)
def mixS (P : Fin 6 → Fin 4096 → Fin 1024 → EReal) (Y : Fin 4096 → Fin 1024 → EReal) (G : Fin 1024 → Fin 1024 → EReal) (e : Fin 1024 → EReal) (R : Fin 4096) (q : Fin 1024) : EReal :=
  gel (Y R q) * glu (Y R) G e q * sil (P 5 R q)

/-- The two branches side by side. -/
def res : FVec Ideal S4096x2048 .bf16 := fun i =>
  if h : (i 1).val < 1024 then mixC (aP m c) (aW m c) (aB m c) (i 0) ⟨(i 1).val, h⟩
  else mixS (aP m c) (aY m c) (aG m c) (aE m c) (i 0) ⟨(i 1).val - 1024, by have : (i 1).val < 2048 := (i 1).isLt; omega⟩

theorem res_fst (R : Fin 4096) (q : Fin 1024) : res m c (ix2 R ⟨q.val, by omega⟩) = mixC (aP m c) (aW m c) (aB m c) R q := dif_pos q.isLt
theorem res_snd (R : Fin 4096) (q : Fin 1024) : res m c (ix2 R ⟨1024 + q.val, by omega⟩) = mixS (aP m c) (aY m c) (aG m c) (aE m c) R q :=
  (dif_neg (show ¬1024 + q.val < 1024 by omega)).trans (congrArg (mixS (aP m c) (aY m c) (aG m c) (aE m c) R) (Fin.ext (Nat.add_sub_cancel_left _ _)))

/-- A column of the result is one of the first half or one of the second. -/
theorem halves (k : Fin 2048) : (∃ (q : Fin 1024) (h : q.val < 2048), k = ⟨q.val, h⟩) ∨ ∃ (q : Fin 1024) (h : 1024 + q.val < 2048), k = ⟨1024 + q.val, h⟩ := by
  by_cases h : k.val < 1024
  · exact Or.inl ⟨⟨k.val, h⟩, k.isLt, rfl⟩
  · exact Or.inr ⟨⟨k.val - 1024, by omega⟩, by show 1024 + (k.val - 1024) < 2048; omega, Fin.ext (show k.val = 1024 + (k.val - 1024) by omega)⟩

theorem final10 : (dats m 0 c).arrAt 10 cfg0.N = res m c := by
  refine (dats m 0 c).arrAt_eq_of_covers 10 _ (by decide +kernel) fun t hf y => ?_
  blk_simp
  rw [after0_10, out10]
  obtain ⟨r, k, rfl⟩ : ∃ (r : Fin 256) (k : Fin 2048), y = ix2 r k := ⟨y 0, y 1, funext fun a => by fin_cases a <;> rfl⟩
  have e0 : (win0_10.blk t).view.emb (ix2 r k) = ix2 (rowOf t r) k := by
    blk_ext [ix_10]
  rw [e0]
  unfold mixBlk
  rcases halves k with ⟨q, hq, rfl⟩ | ⟨q, hq, rfl⟩
  · rw [pair_fst, res_fst]
    refine (pay5_apply ..).trans ?_
    unfold w0 w1 w2
    rw [down_iblk m c t 1, down_iblk m c t 2, row_w m c t 0 _ 0 rfl, row_w m c t 1 _ 1 rfl, row_w m c t 2 _ 2 rfl, iblk_0, iblk_1, iblk_2, iblk_3, iblk_7]
    rfl
  · rw [pair_snd, res_snd]
    refine (pay8_apply ..).trans ?_
    simp only [iblk_4, iblk_5, iblk_8, iblk_9]
    rfl

end Cert.GateFwd

end
-- ==== Proof.GateForwardRef.lean ====
module

public import proofs.«01_k».proof.Proof.Gen.Reference7Ideal.Read
public import proofs.«01_k».proof.Proof.GateForward
public import proofs.«01_k».proof.Proof.GateReference
public import Idealize.ShloMosaic.Lib.Pointwise

@[expose] public section

noncomputable section

/-! # The reference of the gates of the forward pass, entry by entry -/

namespace Cert.GateFwdRef

open Idealize.ShloMosaic Idealize.ShloMosaic.TcCoe
open Cert.Reference7Ideal Cert.Reference7Ideal.Read Cert.Common Cert.Gate Cert.GateFwd

section Stages
variable (x0 : (⟨S4096x6144, .f32⟩ : BufTy).Contents (Elt Ideal)) (x1 : (⟨S4096x1024, .f32⟩ : BufTy).Contents (Elt Ideal))
  (x2 : (⟨S3x1024, .f32⟩ : BufTy).Contents (Elt Ideal)) (x3 : (⟨S1024, .f32⟩ : BufTy).Contents (Elt Ideal))
  (x4 : (⟨S1024x1024, .f32⟩ : BufTy).Contents (Elt Ideal)) (x5 : (⟨S1024, .f32⟩ : BufTy).Contents (Elt Ideal))

abbrev rP (k : Fin 6) (R : Fin 4096) (q : Fin 1024) : EReal := x0 (ix2 R ⟨1024 * k.val + q.val, by omega⟩)
abbrev rY (R : Fin 4096) (q : Fin 1024) : EReal := x1 (ix2 R q)
abbrev rW (k : Fin 3) (q : Fin 1024) : EReal := x2 (ix2 k q)
abbrev rB (q : Fin 1024) : EReal := x3 (ix1 q)
abbrev rG (j q : Fin 1024) : EReal := x4 (ix2 j q)
abbrev rE (q : Fin 1024) : EReal := x5 (ix1 q)

variable (r : Fin 4096) (q : Fin 1024)

/-! ## The branch with the convolution -/

theorem s0 : val_main_v0 x0 (ix2 r q) = rP x0 0 r q := by
  pointwise [val_main_v0]
  refine congrArg (fun k => x0 (ix2 r k)) (Fin.ext ?_)
  show q.val = 1024 * 0 + q.val
  omega

theorem s6 : val_main_v6 x0 (ix2 r q) = cin (rP x0) r q := by
  pointwise [val_main_v6, val_main_v1, val_main_v2]
  rfl

theorem s26 : val_main_v26 x0 (ix2 r q) = prev (rP x0) 1 r q := by
  pointwise [val_main_v26, val_main_v24, val_main_v23, val_main_cst_1]
  unfold prev
  by_cases h : r.val < 1
  · rw [dif_pos h, dif_neg (by omega)]
  · rw [dif_neg h, dif_pos (by omega), s6]

theorem s13 : val_main_v13 x0 (ix2 r q) = prev (rP x0) 1 r q := by
  refine Eq.trans ?_ (s26 x0 r q)
  rfl

theorem s17 : val_main_v17 x0 (ix2 r q) = prev (rP x0) 2 r q := by
  pointwise [val_main_v17, val_main_v15, val_main_v14, val_main_cst_0]
  by_cases h : r.val < 1
  · unfold prev
    rw [dif_pos h, dif_neg (by omega)]
  · rw [dif_neg h, s13]
    unfold prev
    by_cases h' : r.val < 2
    · rw [dif_neg (show ¬1 ≤ r.val - 1 by omega), dif_neg (by omega)]
    · rw [dif_pos (show 1 ≤ r.val - 1 by omega), dif_pos (by omega)]
      exact congrArg (fun R => cin (rP x0) R q) (Fin.ext (show r.val - 1 - 1 = r.val - 2 by omega))

theorem s32 : val_main_v32 x0 x2 x3 (ix2 r q) = conv (rP x0) (rW x2) (rB x3) r q := by
  pointwise [val_main_v32, val_main_v31, val_main_v30, val_main_v29, val_main_v28, val_main_v27, val_main_v22, val_main_v21, val_main_v20, val_main_v19, val_main_v18, val_main_v9, val_main_v8, val_main_v7]
  rw [s6, s17, s26]
  exact Cert.GateRef.add_swap _ _ _ _

theorem s34 : val_main_v34 x0 (ix2 r q) = sil (rP x0 3 r q) := by
  pointwise [val_main_v34, val_main_v3, val_main_call0_v5, val_main_call0_v4, val_main_call0_v3, val_main_call0_v2, val_main_call0_v1, val_main_call0_v0, val_main_call0_cst, val_main_call0_cst_0]
  rfl

theorem s35 : val_main_v35 x0 x2 x3 (ix2 r q) = mixC (rP x0) (rW x2) (rB x3) r q := by
  pointwise [val_main_v35, val_main_v33]
  rw [s0, s32, s34]
  rfl

/-! ## The branch with the scan's output -/

theorem s49 : val_main_v49 x1 (ix2 r q) = gel (rY x1 r q) := by
  pointwise [val_main_v49, val_main_v48, val_main_v47, val_main_v46, val_main_v45, val_main_v44, val_main_v43, val_main_v42, val_main_v41, val_main_v40, val_main_v39, val_main_v38, val_main_v37, val_main_v36, val_main_cst_2, val_main_cst_3, val_main_cst_4, val_main_cst_5, val_main_cst_6]
  rw [Cert.GateRef.cc_eq]
  unfold gel gth
  rw [← mul_assoc, mul_comm (x1 (ix2 r q)) (Ideal.ofBits _ _), ← mul_assoc cc, ← mul_assoc cc]

theorem s59 : val_main_v59 x1 x4 x5 (ix2 r q) = glu (rY x1 r) (rG x4) (rE x5) q := by
  pointwise [val_main_v59, val_main_v58, val_main_v57, val_main_v56, val_main_v55, val_main_v54, val_main_v53, val_main_v52, val_main_v51, val_main_v50, val_main_cst_7, val_main_cst_8]
  simp only [s49]
  rfl

theorem s61 : val_main_v61 x0 (ix2 r q) = sil (rP x0 5 r q) := by
  pointwise [val_main_v61, val_main_v5, val_main_call1_v5, val_main_call1_v4, val_main_call1_v3, val_main_call1_v2, val_main_call1_v1, val_main_call1_v0, val_main_call1_cst, val_main_call1_cst_0]
  rfl

theorem s62 : val_main_v62 x0 x1 x4 x5 (ix2 r q) = mixS (rP x0) (rY x1) (rG x4) (rE x5) r q := by
  pointwise [val_main_v62, val_main_v60]
  rw [s49, s59, s61]
  rfl

end Stages

end Cert.GateFwdRef

namespace Cert.GateFwdRef

open Idealize.ShloMosaic Idealize.ShloMosaic.TcCoe
open Cert.Kernel7Ideal Cert.Reference7Ideal.Read Cert.Common Cert.GateFwd

/-- On the arguments of the call, the reference's result is the mixed array. -/
theorem ref_res (m : (ℓ : Loc nD τ sig) → Buf (Elt Ideal) ℓ) (c : Dev nD) :
    val_main_v64 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) = res m c := by
  funext i
  obtain ⟨r, k, rfl⟩ : ∃ (r : Fin 4096) (k : Fin 2048), i = ix2 r k := ⟨i 0, i 1, funext fun a => by fin_cases a <;> rfl⟩
  have e : res m c (ix2 r k) = if h : k.val < 1024 then mixC (aP m c) (aW m c) (aB m c) r ⟨k.val, h⟩
      else mixS (aP m c) (aY m c) (aG m c) (aE m c) r ⟨k.val - 1024, by omega⟩ := rfl
  rw [e]
  pointwise [val_main_v64, val_main_v63]
  by_cases h : k.val < 1024
  · rw [dif_pos h, dif_pos h]
    exact s35 ..
  · rw [dif_neg h, dif_neg h]
    exact s62 ..

end Cert.GateFwdRef

end
-- ==== Proof.lean ====
module

public import proofs.«01_k».proof.Proof.MatmulTn
public import proofs.«01_k».proof.Proof.Adamw
public import proofs.«01_k».proof.Proof.Gen.Kernel8.Frame
public import proofs.«01_k».proof.Proof.Gen.Reference8Ideal.Run
public import proofs.«01_k».proof.Proof.Gen.Reference8Ideal.Read
public import proofs.«01_k».proof.Proof.Gen.Kernel9.Frame
public import proofs.«01_k».proof.Proof.Gen.Reference9Ideal.Run
public import proofs.«01_k».proof.Proof.Gen.Reference9Ideal.Read
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Reference2Ideal
public import proofs.«01_k».proof.Proof.Gen.Pre_finite_args
public import proofs.«01_k».proof.Proof.Gen.Pre_finite_gate_args
public import proofs.«01_k».proof.Proof.Gen.KernelIdeal.Value
public import proofs.«01_k».proof.Proof.Gen.ReferenceIdeal.Run
public import proofs.«01_k».proof.Proof.Gen.ReferenceIdeal.Read
public import proofs.«01_k».proof.Proof.Common
public import proofs.«01_k».proof.Proof.DhKernel
public import proofs.«01_k».proof.Proof.DhArrays
public import proofs.«01_k».proof.Proof.DhReference
public import proofs.«01_k».proof.Proof.GateFrame
public import proofs.«01_k».proof.Proof.Gen.Reference2Ideal.Run
public import proofs.«01_k».proof.Proof.Gen.Reference2Ideal.Read
public import proofs.«01_k».proof.Proof.GateBits
public import proofs.«01_k».proof.Proof.GateReference
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Reference7Ideal.Read
public import proofs.«01_k».proof.Proof.Gen.Pre_finite_out_args
public import proofs.«01_k».proof.Proof.OutReference
public import proofs.«01_k».proof.Proof.ZohArrays
public import proofs.«01_k».proof.Proof.Prenorm
public import proofs.«01_k».proof.Proof.ZohForward
public import proofs.«01_k».proof.Proof.GateForwardRef
public import Idealize.ShloMosaic.Adequacy
public import Idealize.ShloMosaic.Init

@[expose] public section

noncomputable section

namespace Cert.Proof

open Idealize.ShloMosaic Idealize.SL.Sem Cert.Kernel

/-- The norm-gradient call and the derivative of the normalised product end with equal results. -/
theorem dh_value : Cert.algebraic_KernelIdeal_ReferenceIdeal_pre_finite_args (hKernelIdeal := Cert.KernelIdeal.Gen.facts)
    (hReferenceIdeal := Cert.ReferenceIdeal.Gen.facts) (hPre_finite_args := Cert.Pre_finite_args.Gen.facts) := by
  intro m g m' g' hpre hag
  refine ⟨Cert.Dh.dxArr m, Cert.Dh.ggArr m, ?_, ?_⟩
  · refine (θ_run _ _ _).mono (fun r h c => ?_) (Cert.KernelIdeal.Value.run_blocks (F := Ideal) m g)
    obtain ⟨h5, h6, hr⟩ := h c
    exact ⟨h5.trans (Cert.Dh.final5 m c), h6.trans (Cert.Dh.final6 m c), hr⟩
  · refine (θ_run _ _ _).mono (fun r h c => ?_) (Cert.ReferenceIdeal.Value.run (F := Ideal) m' g')
    obtain ⟨h38, h41, hr⟩ := h c
    obtain ⟨p0, p1, p2, p3⟩ := hpre c
    obtain ⟨a0, a1, a2, a3, a4⟩ := hag c
    refine ⟨(h38.trans ((Cert.ReferenceIdeal.Read.val_main_v38_eq m' c).trans ?_)), (h41.trans ((Cert.ReferenceIdeal.Read.val_main_v41_eq _ _ _).trans ?_)), hr⟩
    · rw [a0, a1, a2, a3, a4]
      exact Cert.DhRef.dx_eq m c (Cert.Common.finite_apply _ _ p0) (Cert.Common.finite_apply _ _ p1) (Cert.Common.finite_apply _ _ p2) (Cert.Common.finite_apply _ _ p3)
    · rw [a0, a2, a3]
      exact Cert.DhRef.gg_eq m c

/-- The reference runs, leaves its arguments as they were, and declares no semaphore. -/
theorem reference_frame : Cert.quiescent_ReferenceIdeal (hReferenceIdeal := Cert.ReferenceIdeal.Gen.facts) := fun m g _ =>
  (θ_run Cert.ReferenceIdeal.defs _ _).mono (fun r h => And.intro (fun c => (h c).2.2) (sem_eq_zero_of_no_sems (by decide) r.2))
    (Cert.ReferenceIdeal.Value.run (F := Ideal) m g)

/-- The gates' reference likewise. -/
theorem reference2_frame : Cert.quiescent_Reference2Ideal (hReference2Ideal := Cert.Reference2Ideal.Gen.facts) := fun m g _ =>
  (θ_run Cert.Reference2Ideal.defs _ _).mono (fun r h => And.intro (fun c => (h c).2.2.2.2) (sem_eq_zero_of_no_sems (by decide) r.2))
    (Cert.Reference2Ideal.Value.run (F := Ideal) m g)

/-- The gates' gradient call and the derivative of the gated branches end with equal results. -/
theorem gate_value : Cert.algebraic_Kernel2Ideal_Reference2Ideal_pre_finite_gate_args (hKernel2Ideal := Cert.Kernel2Ideal.Gen.facts)
    (hReference2Ideal := Cert.Reference2Ideal.Gen.facts) (hPre_finite_gate_args := Cert.Pre_finite_gate_args.Gen.facts) := by
  intro m g m' g' hpre hag
  refine ⟨Cert.Gate.projArr m, Cert.Gate.dyArr m, Cert.Gate.rowsArr m, Cert.Gate.gluArr m, ?_, ?_⟩
  · refine (θ_run _ _ _).mono (fun r h c => ?_) (θ_run_and (Cert.Kernel2Ideal.Gen.run_arrays (F := Ideal) m g) (Cert.Kernel2Ideal.Gen.unchanged (F := Ideal) m g))
    obtain ⟨h13, h14, h15, h16⟩ := h.1 c
    exact ⟨h13.trans (Cert.Gate.final13 m c), h14.trans (Cert.Gate.final14 m c), h15.trans (Cert.Gate.final15 m c), h16.trans (Cert.Gate.final16 m c), h.2 c⟩
  · refine (θ_run _ _ _).mono (fun r h c => ?_) (Cert.Reference2Ideal.Value.run (F := Ideal) m' g')
    obtain ⟨h151, h104, h150, h90, hr⟩ := h c
    obtain ⟨p0, p1, p2, p3, p4, p5⟩ := hpre c
    obtain ⟨a0, a1, a2, a3, a4, a5, a6⟩ := hag c
    have f0 := Cert.Common.finite_apply _ _ p0
    have f1 := Cert.Common.finite_apply _ _ p1
    have f2 := Cert.Common.finite_apply _ _ p2
    refine ⟨h151.trans ((Cert.Reference2Ideal.Read.val_main_v151_eq _).trans ?_), h104.trans ((Cert.Reference2Ideal.Read.val_main_v104_eq _).trans ?_),
      h150.trans ((Cert.Reference2Ideal.Read.val_main_v150_eq _).trans ?_), h90.trans ((Cert.Reference2Ideal.Read.val_main_v90_eq _).trans ?_), hr⟩
    · refine Eq.trans ?_ (Cert.GateRef.proj_eq m c f0 f1 f2 (Cert.Common.finite_apply _ _ p3) (Cert.Common.finite_apply _ _ p4))
      exact congr (congr (congr (congr (congr (congr (congrArg Cert.Reference2Ideal.Read.val_main_v151 a0) a1) a2) a3) a4) a5) a6
    · refine Eq.trans ?_ (Cert.GateRef.dy_eq m c f0 f1 f2 (Cert.Common.finite_apply _ _ p5))
      exact congr (congr (congr (congr (congrArg Cert.Reference2Ideal.Read.val_main_v104 a0) a1) a2) a5) a6
    · refine Eq.trans ?_ (Cert.GateRef.rows_eq m c)
      exact congr (congr (congr (congr (congrArg Cert.Reference2Ideal.Read.val_main_v150 a0) a1) a2) a5) a6
    · refine Eq.trans ?_ (Cert.GateRef.glu_eq m c)
      exact congr (congr (congr (congr (congrArg Cert.Reference2Ideal.Read.val_main_v90 a0) a1) a2) a5) a6

/-- The loss call's reference likewise. -/
theorem reference3_frame : Cert.quiescent_Reference3Ideal (hReference3Ideal := Cert.Reference3Ideal.Gen.facts) := fun m g _ =>
  (θ_run Cert.Reference3Ideal.defs _ _).mono (fun r h => And.intro (fun c => (h c).2.2.2.2.2) (sem_eq_zero_of_no_sems (by decide) r.2))
    (Cert.Reference3Ideal.Value.run (F := Ideal) m g)

/-- The loss call and the loss with its derivatives end with equal results. -/
theorem out_value : Cert.algebraic_Kernel3Ideal_Reference3Ideal_pre_finite_out_args (hKernel3Ideal := Cert.Kernel3Ideal.Gen.facts)
    (hReference3Ideal := Cert.Reference3Ideal.Gen.facts) (hPre_finite_out_args := Cert.Pre_finite_out_args.Gen.facts) := by
  intro m g m' g' hpre hag
  refine ⟨Cert.Out.lossArr m, Cert.Out.resArr m, Cert.Out.doArr m, Cert.Out.mixArr m, Cert.Out.gainArr m, ?_, ?_⟩
  · refine (θ_run _ _ _).mono (fun r h c => ?_) (Cert.Kernel3Ideal.Value.run_blocks (F := Ideal) m g)
    obtain ⟨h5, h6, h7, h8, h9, hr⟩ := h c
    exact ⟨h5.trans (Cert.Out.final5 m c), h6.trans (Cert.Out.final6 m c), h7.trans (Cert.Out.final7 m c), h8.trans (Cert.Out.final8 m c), h9.trans (Cert.Out.final9 m c), hr⟩
  · refine (θ_run _ _ _).mono (fun r h c => ?_) (Cert.Reference3Ideal.Value.run (F := Ideal) m' g')
    obtain ⟨h54, h32, h55, h53, h58, hr⟩ := h c
    obtain ⟨p0, p1, p2, p3, p4⟩ := hpre c
    obtain ⟨a0, a1, a2, a3, a4⟩ := hag c
    have f0 := Cert.Common.finite_apply _ _ p0
    have f1 := Cert.Common.finite_apply _ _ p1
    have f2 := Cert.Common.finite_apply _ _ p2
    have f3 := Cert.Common.finite_apply _ _ p3
    have f4 := Cert.Common.finite_apply _ _ p4
    refine ⟨h54.trans ((Cert.Reference3Ideal.Read.val_main_v54_eq _ _ _ _ _).trans ?_), h32.trans ((Cert.Reference3Ideal.Read.val_main_v32_eq _ _ _ _ _).trans ?_),
      h55.trans ((Cert.Reference3Ideal.Read.val_main_v55_eq m' c).trans ?_), h53.trans ((Cert.Reference3Ideal.Read.val_main_v53_eq m' c).trans ?_),
      h58.trans ((Cert.Reference3Ideal.Read.val_main_v58_eq _ _ _ _ _).trans ?_), hr⟩
    · exact (congr (congr (congr (congr (congrArg Cert.Reference3Ideal.Read.val_main_v54 a0) a1) a2) a3) a4).trans (Cert.OutRef.loss_eq m c f0 f1 f2 f3 f4)
    · exact (congr (congr (congr (congr (congrArg Cert.Reference3Ideal.Read.val_main_v32 a0) a1) a2) a3) a4).trans (Cert.OutRef.res_eq m c)
    · exact (congr (congr (congr (congr (congrArg Cert.Reference3Ideal.Read.val_main_v55 a0) a1) a2) a3) a4).trans (Cert.OutRef.do_eq m c f0 f1 f2 f3 f4)
    · exact (congr (congr (congr (congr (congrArg Cert.Reference3Ideal.Read.val_main_v53 a0) a1) a2) a3) a4).trans (Cert.OutRef.mix_eq m c f0 f1 f2 f3 f4)
    · exact (congr (congr (congr (congr (congrArg Cert.Reference3Ideal.Read.val_main_v58 a0) a1) a2) a3) a4).trans (Cert.OutRef.gain_eq m c)

/-- The discretisation gradient's reference likewise. -/
theorem reference4_frame : Cert.quiescent_Reference4Ideal (hReference4Ideal := Cert.Reference4Ideal.Gen.facts) := fun m g _ =>
  (θ_run Cert.Reference4Ideal.defs _ _).mono (fun r h => And.intro (fun c => (h c).2.2.2.2.2) (sem_eq_zero_of_no_sems (by decide) r.2))
    (Cert.Reference4Ideal.Value.run (F := Ideal) m g)

/-- The discretisation's gradient call and the derivative of the discretisation end with equal results, whatever the arguments. -/
theorem zoh_value : Cert.algebraic_Kernel4Ideal_Reference4Ideal (hKernel4Ideal := Cert.Kernel4Ideal.Gen.facts)
    (hReference4Ideal := Cert.Reference4Ideal.Gen.facts) := by
  intro m g m' g' _ hag
  refine ⟨Cert.Zoh.res10 m, Cert.Zoh.res11 m, Cert.Zoh.res12 m, Cert.Zoh.res13 m, Cert.Zoh.res14 m, ?_, ?_⟩
  · refine (θ_run _ _ _).mono (fun r h c => ?_) (θ_run_and (Cert.Kernel4Ideal.Gen.run_main (F := Ideal) m g) (Cert.Kernel4Ideal.Gen.unchanged (F := Ideal) m g))
    exact ⟨((h.1 c).1 10).trans (Cert.Zoh.final10 m c), ((h.1 c).1 11).trans (Cert.Zoh.final11 m c), ((h.1 c).1 12).trans (Cert.Zoh.final12 m c),
      ((h.1 c).1 13).trans (Cert.Zoh.final13 m c), ((h.1 c).1 14).trans (Cert.Zoh.final14 m c), h.2 c⟩
  · refine (θ_run _ _ _).mono (fun r h c => ?_) (Cert.Reference4Ideal.Value.run (F := Ideal) m' g')
    obtain ⟨h140, h132, h143, h144, h145, hr⟩ := h c
    obtain ⟨a0, a1, a2, a3, a4, a5, a6, a7, a8⟩ := hag c
    refine ⟨h140.trans ((Cert.Reference4Ideal.Read.val_main_v140_eq m' c).trans ?_), h132.trans ((Cert.Reference4Ideal.Read.val_main_v132_eq m' c).trans ?_),
      h143.trans ((Cert.Reference4Ideal.Read.val_main_v143_eq m' c).trans ?_), h144.trans ((Cert.Reference4Ideal.Read.val_main_v144_eq _ _ _ _ _).trans ?_),
      h145.trans ((Cert.Reference4Ideal.Read.val_main_v145_eq _ _ _ _ _).trans ?_), hr⟩
    · exact (congr (congr (congr (congr (congr (congr (congr (congr (congrArg Cert.Reference4Ideal.Read.val_main_v140 a0) a1) a2) a3) a4) a5) a6) a7) a8).trans (Cert.Zoh.ref10 m c)
    · exact (congr (congr (congr (congr (congr (congr (congr (congr (congrArg Cert.Reference4Ideal.Read.val_main_v132 a0) a1) a2) a3) a4) a5) a6) a7) a8).trans (Cert.Zoh.ref11 m c)
    · exact (congr (congr (congr (congr (congr (congr (congr (congr (congrArg Cert.Reference4Ideal.Read.val_main_v143 a0) a1) a2) a3) a4) a5) a6) a7) a8).trans (Cert.Zoh.ref12 m c)
    · exact (congr (congr (congr (congr (congrArg Cert.Reference4Ideal.Read.val_main_v144 a0) a1) a2) a7) a8).trans (Cert.Zoh.ref13 m c)
    · exact (congr (congr (congr (congr (congrArg Cert.Reference4Ideal.Read.val_main_v145 a0) a1) a2) a7) a8).trans (Cert.Zoh.ref14 m c)

/-- The pre-norm's reference likewise. -/
theorem reference5_frame : Cert.quiescent_Reference5Ideal (hReference5Ideal := Cert.Reference5Ideal.Gen.facts) := fun m g _ =>
  (θ_run Cert.Reference5Ideal.defs _ _).mono (fun r h => And.intro (fun c => (h c).2) (sem_eq_zero_of_no_sems (by decide) r.2))
    (Cert.Reference5Ideal.Value.run (F := Ideal) m g)

/-- The pre-norm call and the pre-norm end with equal results, whatever the arguments. -/
theorem prenorm_value : Cert.algebraic_Kernel5Ideal_Reference5Ideal (hKernel5Ideal := Cert.Kernel5Ideal.Gen.facts)
    (hReference5Ideal := Cert.Reference5Ideal.Gen.facts) := by
  intro m g m' g' _ hag
  refine ⟨Cert.Prenorm.res m, ?_, ?_⟩
  · refine (θ_run _ _ _).mono (fun r h c => ?_) (θ_run_and (Cert.Kernel5Ideal.Gen.run_main (F := Ideal) m g) (Cert.Kernel5Ideal.Gen.unchanged (F := Ideal) m g))
    exact ⟨((h.1 c).1 2).trans (Cert.Prenorm.final2 m c), h.2 c⟩
  · refine (θ_run _ _ _).mono (fun r h c => ?_) (Cert.Reference5Ideal.Value.run (F := Ideal) m' g')
    obtain ⟨h13, hr⟩ := h c
    obtain ⟨a0, a1⟩ := hag c
    exact ⟨(h13.trans (Cert.Reference5Ideal.Read.val_main_v13_eq _ _)).trans ((congr (congrArg Cert.Reference5Ideal.Read.val_main_v13 a0) a1).trans (Cert.Prenorm.ref_res m c)), hr⟩

/-- The discretisation's reference likewise. -/
theorem reference6_frame : Cert.quiescent_Reference6Ideal (hReference6Ideal := Cert.Reference6Ideal.Gen.facts) := fun m g _ =>
  (θ_run Cert.Reference6Ideal.defs _ _).mono (fun r h => And.intro (fun c => (h c).2.2.2.2.2) (sem_eq_zero_of_no_sems (by decide) r.2))
    (Cert.Reference6Ideal.Value.run (F := Ideal) m g)

/-- The discretisation call and the discretisation end with equal results, whatever the arguments. -/
theorem zoh_fwd_value : Cert.algebraic_Kernel6Ideal_Reference6Ideal (hKernel6Ideal := Cert.Kernel6Ideal.Gen.facts)
    (hReference6Ideal := Cert.Reference6Ideal.Gen.facts) := by
  intro m g m' g' _ hag
  refine ⟨Cert.ZohFwd.res6 m, Cert.ZohFwd.res7 m, Cert.ZohFwd.res8 m, Cert.ZohFwd.res9 m, Cert.ZohFwd.res10 m, ?_, ?_⟩
  · refine (θ_run _ _ _).mono (fun r h c => ?_) (θ_run_and (Cert.Kernel6Ideal.Gen.run_main (F := Ideal) m g) (Cert.Kernel6Ideal.Gen.unchanged (F := Ideal) m g))
    exact ⟨((h.1 c).1 6).trans (Cert.ZohFwd.final6 m c), ((h.1 c).1 7).trans (Cert.ZohFwd.final7 m c), ((h.1 c).1 8).trans (Cert.ZohFwd.final8 m c), ((h.1 c).1 9).trans (Cert.ZohFwd.final9 m c), ((h.1 c).1 10).trans (Cert.ZohFwd.final10 m c), h.2 c⟩
  · refine (θ_run _ _ _).mono (fun r h c => ?_) (Cert.Reference6Ideal.Value.run (F := Ideal) m' g')
    obtain ⟨h8, h12, h58, h59, h57, hr⟩ := h c
    obtain ⟨a0, a1, a2, a3, a4⟩ := hag c
    refine ⟨(h8.trans (Cert.Reference6Ideal.Read.val_main_v8_eq _ _ _)).trans ?_, (h12.trans (Cert.Reference6Ideal.Read.val_main_v12_eq _ _ _)).trans ?_, (h58.trans (Cert.Reference6Ideal.Read.val_main_v58_eq _ _ _ _ _)).trans ?_, (h59.trans (Cert.Reference6Ideal.Read.val_main_v59_eq _ _ _ _ _)).trans ?_, (h57.trans (Cert.Reference6Ideal.Read.val_main_v57_eq _ _ _)).trans ?_, hr⟩
    · exact (congr (congr (congrArg Cert.Reference6Ideal.Read.val_main_v8 a0) a1) a2).trans (Cert.ZohFwd.ref6 m c)
    · exact (congr (congr (congrArg Cert.Reference6Ideal.Read.val_main_v12 a0) a1) a2).trans (Cert.ZohFwd.ref7 m c)
    · exact (congr (congr (congr (congr (congrArg Cert.Reference6Ideal.Read.val_main_v58 a0) a1) a2) a3) a4).trans (Cert.ZohFwd.ref8 m c)
    · exact (congr (congr (congr (congr (congrArg Cert.Reference6Ideal.Read.val_main_v59 a0) a1) a2) a3) a4).trans (Cert.ZohFwd.ref9 m c)
    · exact (congr (congr (congrArg Cert.Reference6Ideal.Read.val_main_v57 a0) a1) a2).trans (Cert.ZohFwd.ref10 m c)

/-- The gates's reference likewise. -/
theorem reference7_frame : Cert.quiescent_Reference7Ideal (hReference7Ideal := Cert.Reference7Ideal.Gen.facts) := fun m g _ =>
  (θ_run Cert.Reference7Ideal.defs _ _).mono (fun r h => And.intro (fun c => (h c).2) (sem_eq_zero_of_no_sems (by decide) r.2))
    (Cert.Reference7Ideal.Value.run (F := Ideal) m g)

/-- The gates' call and the gates end with equal results, whatever the arguments. -/
theorem gate_fwd_value : Cert.algebraic_Kernel7Ideal_Reference7Ideal (hKernel7Ideal := Cert.Kernel7Ideal.Gen.facts)
    (hReference7Ideal := Cert.Reference7Ideal.Gen.facts) := by
  intro m g m' g' _ hag
  refine ⟨Cert.GateFwd.res m, ?_, ?_⟩
  · refine (θ_run _ _ _).mono (fun r h c => ?_) (θ_run_and (Cert.Kernel7Ideal.Gen.run_main (F := Ideal) m g) (Cert.Kernel7Ideal.Gen.unchanged (F := Ideal) m g))
    exact ⟨((h.1 c).1 10).trans (Cert.GateFwd.final10 m c), h.2 c⟩
  · refine (θ_run _ _ _).mono (fun r h c => ?_) (Cert.Reference7Ideal.Value.run (F := Ideal) m' g')
    obtain ⟨h64, hr⟩ := h c
    obtain ⟨a0, a1, a2, a3, a4, a5⟩ := hag c
    exact ⟨(h64.trans (Cert.Reference7Ideal.Read.val_main_v64_eq m' c)).trans ((congr (congr (congr (congr (congr (congrArg Cert.Reference7Ideal.Read.val_main_v64 a0) a1) a2) a3) a4) a5).trans (Cert.GateFwdRef.ref_res m c)), hr⟩

/-- The transposed product's reference likewise. -/
theorem reference8_frame : Cert.quiescent_Reference8Ideal (hReference8Ideal := Cert.Reference8Ideal.Gen.facts) := fun m g _ =>
  (θ_run Cert.Reference8Ideal.defs _ _).mono (fun r h => And.intro (fun c => (h c).2.2) (sem_eq_zero_of_no_sems (by decide) r.2))
    (Cert.Reference8Ideal.Value.run (F := Ideal) m g)

/-- The transposed product's call and the product end with equal results, whatever the arguments. -/
theorem tn_value : Cert.algebraic_Kernel8Ideal_Reference8Ideal (hKernel8Ideal := Cert.Kernel8Ideal.Gen.facts)
    (hReference8Ideal := Cert.Reference8Ideal.Gen.facts) := by
  intro m g m' g' _ hag
  refine ⟨Cert.Tn.res m, Cert.Tn.res' m, ?_, ?_⟩
  · refine (θ_run _ _ _).mono (fun r h c => ?_) (θ_run_and (Cert.Kernel8Ideal.Gen.run_main (F := Ideal) m g) (Cert.Kernel8Ideal.Gen.unchanged (F := Ideal) m g))
    exact ⟨((h.1 c).1 2).trans (Cert.Tn.final2 m c), ((h.1 c).1 3).trans (Cert.Tn.final3 m c), h.2 c⟩
  · refine (θ_run _ _ _).mono (fun r h c => ?_) (Cert.Reference8Ideal.Value.run (F := Ideal) m' g')
    obtain ⟨h3, h4, hr⟩ := h c
    obtain ⟨a0, a1⟩ := hag c
    refine ⟨(h3.trans (Cert.Reference8Ideal.Read.val_main_v3_eq _ _)).trans ?_, (h4.trans (Cert.Reference8Ideal.Read.val_main_v4_eq _ _)).trans ?_, hr⟩
    · exact (congr (congrArg Cert.Reference8Ideal.Read.val_main_v3 a0) a1).trans (Cert.Tn.ref_res m c)
    · exact (congr (congrArg Cert.Reference8Ideal.Read.val_main_v4 a0) a1).trans (Cert.Tn.ref_res' m c)

/-- The optimiser's reference likewise. -/
theorem reference9_frame : Cert.quiescent_Reference9Ideal (hReference9Ideal := Cert.Reference9Ideal.Gen.facts) := fun m g _ =>
  (θ_run Cert.Reference9Ideal.defs _ _).mono (fun r h => And.intro (fun c => (h c).2.2.2) (sem_eq_zero_of_no_sems (by decide) r.2))
    (Cert.Reference9Ideal.Value.run (F := Ideal) m g)

/-- The optimiser's call and the optimiser end with equal results, whatever the arguments. -/
theorem adamw_value : Cert.algebraic_Kernel9Ideal_Reference9Ideal (hKernel9Ideal := Cert.Kernel9Ideal.Gen.facts)
    (hReference9Ideal := Cert.Reference9Ideal.Gen.facts) := by
  intro m g m' g' _ hag
  refine ⟨Cert.Adamw.resDelta m, Cert.Adamw.resMom m, Cert.Adamw.resVel m, ?_, ?_⟩
  · refine (θ_run _ _ _).mono (fun r h c => ?_) (θ_run_and (Cert.Kernel9Ideal.Gen.run_main (F := Ideal) m g) (Cert.Kernel9Ideal.Gen.unchanged (F := Ideal) m g))
    exact ⟨((h.1 c).1 4).trans (Cert.Adamw.final4 m c), ((h.1 c).1 5).trans (Cert.Adamw.final5 m c), ((h.1 c).1 6).trans (Cert.Adamw.final6 m c), h.2 c⟩
  · refine (θ_run _ _ _).mono (fun r h c => ?_) (Cert.Reference9Ideal.Value.run (F := Ideal) m' g')
    obtain ⟨h23, h4, h10, hr⟩ := h c
    obtain ⟨a0, a1, a2, a3⟩ := hag c
    refine ⟨(h23.trans (Cert.Reference9Ideal.Read.val_main_v23_eq _ _ _ _)).trans ?_, (h4.trans (Cert.Reference9Ideal.Read.val_main_v4_eq _ _)).trans ?_, (h10.trans (Cert.Reference9Ideal.Read.val_main_v10_eq _ _)).trans ?_, hr⟩
    · exact (congr (congr (congr (congrArg Cert.Reference9Ideal.Read.val_main_v23 a0) a1) a2) a3).trans (Cert.Adamw.ref_res_delta m c)
    · exact (congr (congrArg Cert.Reference9Ideal.Read.val_main_v4 a1) a2).trans (Cert.Adamw.ref_res_mom m c)
    · exact (congr (congrArg Cert.Reference9Ideal.Read.val_main_v10 a1) a3).trans (Cert.Adamw.ref_res_vel m c)

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Pre_finite_args.Gen.facts, Cert.Pre_finite_gate_args.Gen.facts, Cert.Pre_finite_out_args.Gen.facts,
  fun m g _ => Cert.Kernel.Gen.frame m g, fun m g _ => Cert.KernelIdeal.Gen.frame m g, fun m g _ => Cert.KernelIdeal.Gen.frame m g,
  fun m g _ => reference_frame m g trivial, fun m g _ => reference_frame m g trivial,
  fun m g _ => Cert.Gate.kernel2_frame m g trivial, fun m g _ => Cert.Kernel2Ideal.Gen.frame m g, fun m g _ => Cert.Kernel2Ideal.Gen.frame m g,
  fun m g _ => reference2_frame m g trivial, fun m g _ => reference2_frame m g trivial,
  fun m g _ => Cert.Kernel3.Gen.frame m g, fun m g _ => Cert.Kernel3Ideal.Gen.frame m g, fun m g _ => Cert.Kernel3Ideal.Gen.frame m g,
  fun m g _ => reference3_frame m g trivial, fun m g _ => reference3_frame m g trivial,
  fun m g _ => Cert.Kernel4.Gen.frame m g, fun m g _ => Cert.Kernel4Ideal.Gen.frame m g, reference4_frame,
  fun m g _ => Cert.Kernel5.Gen.frame m g, fun m g _ => Cert.Kernel5Ideal.Gen.frame m g, reference5_frame,
  fun m g _ => Cert.Kernel6.Gen.frame m g, fun m g _ => Cert.Kernel6Ideal.Gen.frame m g, reference6_frame,
  fun m g _ => Cert.Kernel7.Gen.frame m g, fun m g _ => Cert.Kernel7Ideal.Gen.frame m g, reference7_frame,
  fun m g _ => Cert.Kernel8.Gen.frame m g, fun m g _ => Cert.Kernel8Ideal.Gen.frame m g, reference8_frame,
  fun m g _ => Cert.Kernel9.Gen.frame m g, fun m g _ => Cert.Kernel9Ideal.Gen.frame m g, reference9_frame,
  trivial, dh_value,
  ⟨IdealRules.named_const.statement Cert.Kernel2Ideal.κ "c" .f32 0x3D372713#32 ((8943 / 200000 : ℝ) : EReal) rfl,
    IdealRules.named_const.statement Cert.Kernel2Ideal.κ "c3" .f32 0x3E095D4F#32 ((26829 / 200000 : ℝ) : EReal) rfl⟩, gate_value, trivial, out_value, trivial, zoh_value, trivial, prenorm_value, trivial, zoh_fwd_value,
  IdealRules.named_const.statement Cert.Kernel7Ideal.κ "c" .f32 0x3D372713#32 ((8943 / 200000 : ℝ) : EReal) rfl, gate_fwd_value,
  trivial, tn_value, trivial, adamw_value⟩

end Cert.Proof

end
